-- ==== Defs.lean ====
def Pre_Matmul (m : (ℓ : Loc Cert.Matmul.nD Cert.Matmul.τ Cert.Matmul.sig) → Buf (Elt Bits) ℓ) : Prop :=
  True

def Pre_MatmulIdeal (m : (ℓ : Loc Cert.MatmulIdeal.nD Cert.MatmulIdeal.τ Cert.MatmulIdeal.sig) → Buf (Elt Ideal) ℓ) : Prop :=
  True

def Pre_MatmulReferenceIdeal (m : (ℓ : Loc Cert.MatmulReferenceIdeal.nD Cert.MatmulReferenceIdeal.τ Cert.MatmulReferenceIdeal.sig) → Buf (Elt Ideal) ℓ) : Prop :=
  True

def Pre_AmaxX (m : (ℓ : Loc Cert.AmaxX.nD Cert.AmaxX.τ Cert.AmaxX.sig) → Buf (Elt Bits) ℓ) : Prop :=
  True

def Pre_AmaxXIdeal (m : (ℓ : Loc Cert.AmaxXIdeal.nD Cert.AmaxXIdeal.τ Cert.AmaxXIdeal.sig) → Buf (Elt Ideal) ℓ) : Prop :=
  True

def Pre_AmaxXIdeal_lengths_of_sequences [hPre_lengths_of_sequences : Cert.Pre_lengths_of_sequences.Facts] (m : (ℓ : Loc Cert.AmaxXIdeal.nD Cert.AmaxXIdeal.τ Cert.AmaxXIdeal.sig) → Buf (Elt Ideal) ℓ) : Prop :=
  ∀ c : Dev Cert.AmaxXIdeal.nD,
    (Cert.Pre_lengths_of_sequences.fn (F := Ideal) (m ((c.tc : Thread Cert.AmaxXIdeal.nD Cert.AmaxXIdeal.τ).loc Cert.AmaxXIdeal.main_arg0)) (m ((c.tc : Thread Cert.AmaxXIdeal.nD Cert.AmaxXIdeal.τ).loc Cert.AmaxXIdeal.main_arg1)) (m ((c.tc : Thread Cert.AmaxXIdeal.nD Cert.AmaxXIdeal.τ).loc Cert.AmaxXIdeal.main_arg2))) = (fun _ => 1#1)

def Pre_AmaxXReferenceIdeal (m : (ℓ : Loc Cert.AmaxXReferenceIdeal.nD Cert.AmaxXReferenceIdeal.τ Cert.AmaxXReferenceIdeal.sig) → Buf (Elt Ideal) ℓ) : Prop :=
  True

def Pre_AmaxXReferenceIdeal_lengths_of_sequences [hPre_lengths_of_sequences : Cert.Pre_lengths_of_sequences.Facts] (m : (ℓ : Loc Cert.AmaxXReferenceIdeal.nD Cert.AmaxXReferenceIdeal.τ Cert.AmaxXReferenceIdeal.sig) → Buf (Elt Ideal) ℓ) : Prop :=
  ∀ c : Dev Cert.AmaxXReferenceIdeal.nD,
    (Cert.Pre_lengths_of_sequences.fn (F := Ideal) (m ((c.tc : Thread Cert.AmaxXReferenceIdeal.nD Cert.AmaxXReferenceIdeal.τ).loc Cert.AmaxXReferenceIdeal.main_arg0)) (m ((c.tc : Thread Cert.AmaxXReferenceIdeal.nD Cert.AmaxXReferenceIdeal.τ).loc Cert.AmaxXReferenceIdeal.main_arg1)) (m ((c.tc : Thread Cert.AmaxXReferenceIdeal.nD Cert.AmaxXReferenceIdeal.τ).loc Cert.AmaxXReferenceIdeal.main_arg2))) = (fun _ => 1#1)

def Pre_AmaxDy (m : (ℓ : Loc Cert.AmaxDy.nD Cert.AmaxDy.τ Cert.AmaxDy.sig) → Buf (Elt Bits) ℓ) : Prop :=
  True

def Pre_AmaxDyIdeal (m : (ℓ : Loc Cert.AmaxDyIdeal.nD Cert.AmaxDyIdeal.τ Cert.AmaxDyIdeal.sig) → Buf (Elt Ideal) ℓ) : Prop :=
  True

def Pre_AmaxDyIdeal_lengths_of_dy_sequences [hPre_lengths_of_dy_sequences : Cert.Pre_lengths_of_dy_sequences.Facts] (m : (ℓ : Loc Cert.AmaxDyIdeal.nD Cert.AmaxDyIdeal.τ Cert.AmaxDyIdeal.sig) → Buf (Elt Ideal) ℓ) : Prop :=
  ∀ c : Dev Cert.AmaxDyIdeal.nD,
    (Cert.Pre_lengths_of_dy_sequences.fn (F := Ideal) (m ((c.tc : Thread Cert.AmaxDyIdeal.nD Cert.AmaxDyIdeal.τ).loc Cert.AmaxDyIdeal.main_arg0)) (m ((c.tc : Thread Cert.AmaxDyIdeal.nD Cert.AmaxDyIdeal.τ).loc Cert.AmaxDyIdeal.main_arg1)) (m ((c.tc : Thread Cert.AmaxDyIdeal.nD Cert.AmaxDyIdeal.τ).loc Cert.AmaxDyIdeal.main_arg2))) = (fun _ => 1#1)

def Pre_AmaxDyReferenceIdeal (m : (ℓ : Loc Cert.AmaxDyReferenceIdeal.nD Cert.AmaxDyReferenceIdeal.τ Cert.AmaxDyReferenceIdeal.sig) → Buf (Elt Ideal) ℓ) : Prop :=
  True

def Pre_AmaxDyReferenceIdeal_lengths_of_dy_sequences [hPre_lengths_of_dy_sequences : Cert.Pre_lengths_of_dy_sequences.Facts] (m : (ℓ : Loc Cert.AmaxDyReferenceIdeal.nD Cert.AmaxDyReferenceIdeal.τ Cert.AmaxDyReferenceIdeal.sig) → Buf (Elt Ideal) ℓ) : Prop :=
  ∀ c : Dev Cert.AmaxDyReferenceIdeal.nD,
    (Cert.Pre_lengths_of_dy_sequences.fn (F := Ideal) (m ((c.tc : Thread Cert.AmaxDyReferenceIdeal.nD Cert.AmaxDyReferenceIdeal.τ).loc Cert.AmaxDyReferenceIdeal.main_arg0)) (m ((c.tc : Thread Cert.AmaxDyReferenceIdeal.nD Cert.AmaxDyReferenceIdeal.τ).loc Cert.AmaxDyReferenceIdeal.main_arg1)) (m ((c.tc : Thread Cert.AmaxDyReferenceIdeal.nD Cert.AmaxDyReferenceIdeal.τ).loc Cert.AmaxDyReferenceIdeal.main_arg2))) = (fun _ => 1#1)

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_finite_of_sequences [hPre_finite_of_sequences : Cert.Pre_finite_of_sequences.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_finite_of_sequences.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1)) (m ((c.tc : Thread Cert.QuantXIdeal.nD Cert.QuantXIdeal.τ).loc Cert.QuantXIdeal.main_arg2)) (m ((c.tc : Thread Cert.QuantXIdeal.nD Cert.QuantXIdeal.τ).loc Cert.QuantXIdeal.main_arg3))).1 = (fun _ => 1#1)
    ∧ (Cert.Pre_finite_of_sequences.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1)) (m ((c.tc : Thread Cert.QuantXIdeal.nD Cert.QuantXIdeal.τ).loc Cert.QuantXIdeal.main_arg2)) (m ((c.tc : Thread Cert.QuantXIdeal.nD Cert.QuantXIdeal.τ).loc Cert.QuantXIdeal.main_arg3))).2.1 = (fun _ => 1#1)
    ∧ (Cert.Pre_finite_of_sequences.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1)) (m ((c.tc : Thread Cert.QuantXIdeal.nD Cert.QuantXIdeal.τ).loc Cert.QuantXIdeal.main_arg2)) (m ((c.tc : Thread Cert.QuantXIdeal.nD Cert.QuantXIdeal.τ).loc Cert.QuantXIdeal.main_arg3))).2.2.1 = (fun _ => 1#1)
    ∧ (Cert.Pre_finite_of_sequences.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1)) (m ((c.tc : Thread Cert.QuantXIdeal.nD Cert.QuantXIdeal.τ).loc Cert.QuantXIdeal.main_arg2)) (m ((c.tc : Thread Cert.QuantXIdeal.nD Cert.QuantXIdeal.τ).loc Cert.QuantXIdeal.main_arg3))).2.2.2 = (fun _ => 1#1)

def Pre_QuantXReferenceIdeal (m : (ℓ : Loc Cert.QuantXReferenceIdeal.nD Cert.QuantXReferenceIdeal.τ Cert.QuantXReferenceIdeal.sig) → Buf (Elt Ideal) ℓ) : Prop :=
  True

def Pre_QuantXReferenceIdeal_finite_of_sequences [hPre_finite_of_sequences : Cert.Pre_finite_of_sequences.Facts] (m : (ℓ : Loc Cert.QuantXReferenceIdeal.nD Cert.QuantXReferenceIdeal.τ Cert.QuantXReferenceIdeal.sig) → Buf (Elt Ideal) ℓ) : Prop :=
  ∀ c : Dev Cert.QuantXReferenceIdeal.nD,
    (Cert.Pre_finite_of_sequences.fn (F := Ideal) (m ((c.tc : Thread Cert.QuantXReferenceIdeal.nD Cert.QuantXReferenceIdeal.τ).loc Cert.QuantXReferenceIdeal.main_arg0)) (m ((c.tc : Thread Cert.QuantXReferenceIdeal.nD Cert.QuantXReferenceIdeal.τ).loc Cert.QuantXReferenceIdeal.main_arg1)) (m ((c.tc : Thread Cert.QuantXReferenceIdeal.nD Cert.QuantXReferenceIdeal.τ).loc Cert.QuantXReferenceIdeal.main_arg2)) (m ((c.tc : Thread Cert.QuantXReferenceIdeal.nD Cert.QuantXReferenceIdeal.τ).loc Cert.QuantXReferenceIdeal.main_arg3))).1 = (fun _ => 1#1)
    ∧ (Cert.Pre_finite_of_sequences.fn (F := Ideal) (m ((c.tc : Thread Cert.QuantXReferenceIdeal.nD Cert.QuantXReferenceIdeal.τ).loc Cert.QuantXReferenceIdeal.main_arg0)) (m ((c.tc : Thread Cert.QuantXReferenceIdeal.nD Cert.QuantXReferenceIdeal.τ).loc Cert.QuantXReferenceIdeal.main_arg1)) (m ((c.tc : Thread Cert.QuantXReferenceIdeal.nD Cert.QuantXReferenceIdeal.τ).loc Cert.QuantXReferenceIdeal.main_arg2)) (m ((c.tc : Thread Cert.QuantXReferenceIdeal.nD Cert.QuantXReferenceIdeal.τ).loc Cert.QuantXReferenceIdeal.main_arg3))).2.1 = (fun _ => 1#1)
    ∧ (Cert.Pre_finite_of_sequences.fn (F := Ideal) (m ((c.tc : Thread Cert.QuantXReferenceIdeal.nD Cert.QuantXReferenceIdeal.τ).loc Cert.QuantXReferenceIdeal.main_arg0)) (m ((c.tc : Thread Cert.QuantXReferenceIdeal.nD Cert.QuantXReferenceIdeal.τ).loc Cert.QuantXReferenceIdeal.main_arg1)) (m ((c.tc : Thread Cert.QuantXReferenceIdeal.nD Cert.QuantXReferenceIdeal.τ).loc Cert.QuantXReferenceIdeal.main_arg2)) (m ((c.tc : Thread Cert.QuantXReferenceIdeal.nD Cert.QuantXReferenceIdeal.τ).loc Cert.QuantXReferenceIdeal.main_arg3))).2.2.1 = (fun _ => 1#1)
    ∧ (Cert.Pre_finite_of_sequences.fn (F := Ideal) (m ((c.tc : Thread Cert.QuantXReferenceIdeal.nD Cert.QuantXReferenceIdeal.τ).loc Cert.QuantXReferenceIdeal.main_arg0)) (m ((c.tc : Thread Cert.QuantXReferenceIdeal.nD Cert.QuantXReferenceIdeal.τ).loc Cert.QuantXReferenceIdeal.main_arg1)) (m ((c.tc : Thread Cert.QuantXReferenceIdeal.nD Cert.QuantXReferenceIdeal.τ).loc Cert.QuantXReferenceIdeal.main_arg2)) (m ((c.tc : Thread Cert.QuantXReferenceIdeal.nD Cert.QuantXReferenceIdeal.τ).loc Cert.QuantXReferenceIdeal.main_arg3))).2.2.2 = (fun _ => 1#1)

def Pre_QuantDy (m : (ℓ : Loc Cert.QuantDy.nD Cert.QuantDy.τ Cert.QuantDy.sig) → Buf (Elt Bits) ℓ) : Prop :=
  True

def Pre_QuantDyIdeal (m : (ℓ : Loc Cert.QuantDyIdeal.nD Cert.QuantDyIdeal.τ Cert.QuantDyIdeal.sig) → Buf (Elt Ideal) ℓ) : Prop :=
  True

def Pre_QuantDyIdeal_finite_dy_of_sequences [hPre_finite_dy_of_sequences : Cert.Pre_finite_dy_of_sequences.Facts] (m : (ℓ : Loc Cert.QuantDyIdeal.nD Cert.QuantDyIdeal.τ Cert.QuantDyIdeal.sig) → Buf (Elt Ideal) ℓ) : Prop :=
  ∀ c : Dev Cert.QuantDyIdeal.nD,
    (Cert.Pre_finite_dy_of_sequences.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).1 = (fun _ => 1#1)
    ∧ (Cert.Pre_finite_dy_of_sequences.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).2.1 = (fun _ => 1#1)
    ∧ (Cert.Pre_finite_dy_of_sequences.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).2.2.1 = (fun _ => 1#1)
    ∧ (Cert.Pre_finite_dy_of_sequences.fn (F := Ideal) (m ((c.tc : Thread Cert.QuantDyIdeal.nD Cert.QuantDyIdeal.τ).loc Cert.QuantDyIdeal.main_arg0)) (m ((c.tc : Thread Cert.QuantDyIdeal.nD Cert.QuantDyIdeal.τ).loc Cert.QuantDyIdeal.main_arg1)) (m ((c.tc : Thread Cert.QuantDyIdeal.nD Cert.QuantDyIdeal.τ).loc Cert.QuantDyIdeal.main_arg2)) (m ((c.tc : Thread Cert.QuantDyIdeal.nD Cert.QuantDyIdeal.τ).loc Cert.QuantDyIdeal.main_arg3))).2.2.2 = (fun _ => 1#1)

def Pre_QuantDyReferenceIdeal (m : (ℓ : Loc Cert.QuantDyReferenceIdeal.nD Cert.QuantDyReferenceIdeal.τ Cert.QuantDyReferenceIdeal.sig) → Buf (Elt Ideal) ℓ) : Prop :=
  True

def Pre_QuantDyReferenceIdeal_finite_dy_of_sequences [hPre_finite_dy_of_sequences : Cert.Pre_finite_dy_of_sequences.Facts] (m : (ℓ : Loc Cert.QuantDyReferenceIdeal.nD Cert.QuantDyReferenceIdeal.τ Cert.QuantDyReferenceIdeal.sig) → Buf (Elt Ideal) ℓ) : Prop :=
  ∀ c : Dev Cert.QuantDyReferenceIdeal.nD,
    (Cert.Pre_finite_dy_of_sequences.fn (F := Ideal) (m ((c.tc : Thread Cert.QuantDyReferenceIdeal.nD Cert.QuantDyReferenceIdeal.τ).loc Cert.QuantDyReferenceIdeal.main_arg0)) (m ((c.tc : Thread Cert.QuantDyReferenceIdeal.nD Cert.QuantDyReferenceIdeal.τ).loc Cert.QuantDyReferenceIdeal.main_arg1)) (m ((c.tc : Thread Cert.QuantDyReferenceIdeal.nD Cert.QuantDyReferenceIdeal.τ).loc Cert.QuantDyReferenceIdeal.main_arg2)) (m ((c.tc : Thread Cert.QuantDyReferenceIdeal.nD Cert.QuantDyReferenceIdeal.τ).loc Cert.QuantDyReferenceIdeal.main_arg3))).1 = (fun _ => 1#1)
    ∧ (Cert.Pre_finite_dy_of_sequences.fn (F := Ideal) (m ((c.tc : Thread Cert.QuantDyReferenceIdeal.nD Cert.QuantDyReferenceIdeal.τ).loc Cert.QuantDyReferenceIdeal.main_arg0)) (m ((c.tc : Thread Cert.QuantDyReferenceIdeal.nD Cert.QuantDyReferenceIdeal.τ).loc Cert.QuantDyReferenceIdeal.main_arg1)) (m ((c.tc : Thread Cert.QuantDyReferenceIdeal.nD Cert.QuantDyReferenceIdeal.τ).loc Cert.QuantDyReferenceIdeal.main_arg2)) (m ((c.tc : Thread Cert.QuantDyReferenceIdeal.nD Cert.QuantDyReferenceIdeal.τ).loc Cert.QuantDyReferenceIdeal.main_arg3))).2.1 = (fun _ => 1#1)
    ∧ (Cert.Pre_finite_dy_of_sequences.fn (F := Ideal) (m ((c.tc : Thread Cert.QuantDyReferenceIdeal.nD Cert.QuantDyReferenceIdeal.τ).loc Cert.QuantDyReferenceIdeal.main_arg0)) (m ((c.tc : Thread Cert.QuantDyReferenceIdeal.nD Cert.QuantDyReferenceIdeal.τ).loc Cert.QuantDyReferenceIdeal.main_arg1)) (m ((c.tc : Thread Cert.QuantDyReferenceIdeal.nD Cert.QuantDyReferenceIdeal.τ).loc Cert.QuantDyReferenceIdeal.main_arg2)) (m ((c.tc : Thread Cert.QuantDyReferenceIdeal.nD Cert.QuantDyReferenceIdeal.τ).loc Cert.QuantDyReferenceIdeal.main_arg3))).2.2.1 = (fun _ => 1#1)
    ∧ (Cert.Pre_finite_dy_of_sequences.fn (F := Ideal) (m ((c.tc : Thread Cert.QuantDyReferenceIdeal.nD Cert.QuantDyReferenceIdeal.τ).loc Cert.QuantDyReferenceIdeal.main_arg0)) (m ((c.tc : Thread Cert.QuantDyReferenceIdeal.nD Cert.QuantDyReferenceIdeal.τ).loc Cert.QuantDyReferenceIdeal.main_arg1)) (m ((c.tc : Thread Cert.QuantDyReferenceIdeal.nD Cert.QuantDyReferenceIdeal.τ).loc Cert.QuantDyReferenceIdeal.main_arg2)) (m ((c.tc : Thread Cert.QuantDyReferenceIdeal.nD Cert.QuantDyReferenceIdeal.τ).loc Cert.QuantDyReferenceIdeal.main_arg3))).2.2.2 = (fun _ => 1#1)

def quiescent_Matmul [hMatmul : Cert.Matmul.Facts] : Prop :=
  ∀ (m : (ℓ : Loc Cert.Matmul.nD Cert.Matmul.τ Cert.Matmul.sig) → Buf (Elt Bits) ℓ) (g : Dev Cert.Matmul.nD → PrngReg), Pre_Matmul m →
    θ_run (Cert.Matmul.defs (F := Bits)) (onTc (τ := Cert.Matmul.τ) (Cert.Matmul.main (F := Bits))) ⟨m, fun _ => 0, g⟩ (fun r => (∀ c : Dev Cert.Matmul.nD,
      r.2.mem ((c.tc : Thread Cert.Matmul.nD Cert.Matmul.τ).loc Cert.Matmul.main_arg0) = m ((c.tc : Thread Cert.Matmul.nD Cert.Matmul.τ).loc Cert.Matmul.main_arg0)
      ∧ r.2.mem ((c.tc : Thread Cert.Matmul.nD Cert.Matmul.τ).loc Cert.Matmul.main_arg1) = m ((c.tc : Thread Cert.Matmul.nD Cert.Matmul.τ).loc Cert.Matmul.main_arg1)
      ∧ r.2.mem ((c.tc : Thread Cert.Matmul.nD Cert.Matmul.τ).loc Cert.Matmul.main_arg2) = m ((c.tc : Thread Cert.Matmul.nD Cert.Matmul.τ).loc Cert.Matmul.main_arg2)
      ∧ r.2.mem ((c.tc : Thread Cert.Matmul.nD Cert.Matmul.τ).loc Cert.Matmul.main_arg3) = m ((c.tc : Thread Cert.Matmul.nD Cert.Matmul.τ).loc Cert.Matmul.main_arg3))
      ∧ r.2.sem = fun _ => 0)

def quiescent_MatmulIdeal [hMatmulIdeal : Cert.MatmulIdeal.Facts] : Prop :=
  ∀ (m : (ℓ : Loc Cert.MatmulIdeal.nD Cert.MatmulIdeal.τ Cert.MatmulIdeal.sig) → Buf (Elt Ideal) ℓ) (g : Dev Cert.MatmulIdeal.nD → PrngReg), Pre_MatmulIdeal m →
    θ_run (Cert.MatmulIdeal.defs (F := Ideal)) (onTc (τ := Cert.MatmulIdeal.τ) (Cert.MatmulIdeal.main (F := Ideal))) ⟨m, fun _ => 0, g⟩ (fun r => (∀ c : Dev Cert.MatmulIdeal.nD,
      r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
      ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
      ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
      ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ r.2.sem = fun _ => 0)

def quiescent_MatmulReferenceIdeal [hMatmulReferenceIdeal : Cert.MatmulReferenceIdeal.Facts] : Prop :=
  ∀ (m : (ℓ : Loc Cert.MatmulReferenceIdeal.nD Cert.MatmulReferenceIdeal.τ Cert.MatmulReferenceIdeal.sig) → Buf (Elt Ideal) ℓ) (g : Dev Cert.MatmulReferenceIdeal.nD → PrngReg), Pre_MatmulReferenceIdeal m →
    θ_run (Cert.MatmulReferenceIdeal.defs (F := Ideal)) (onTc (τ := Cert.MatmulReferenceIdeal.τ) (Cert.MatmulReferenceIdeal.main (F := Ideal))) ⟨m, fun _ => 0, g⟩ (fun r => (∀ c : Dev Cert.MatmulReferenceIdeal.nD,
      r.2.mem ((c.tc : Thread Cert.MatmulReferenceIdeal.nD Cert.MatmulReferenceIdeal.τ).loc Cert.MatmulReferenceIdeal.main_arg0) = m ((c.tc : Thread Cert.MatmulReferenceIdeal.nD Cert.MatmulReferenceIdeal.τ).loc Cert.MatmulReferenceIdeal.main_arg0)
      ∧ r.2.mem ((c.tc : Thread Cert.MatmulReferenceIdeal.nD Cert.MatmulReferenceIdeal.τ).loc Cert.MatmulReferenceIdeal.main_arg1) = m ((c.tc : Thread Cert.MatmulReferenceIdeal.nD Cert.MatmulReferenceIdeal.τ).loc Cert.MatmulReferenceIdeal.main_arg1)
      ∧ r.2.mem ((c.tc : Thread Cert.MatmulReferenceIdeal.nD Cert.MatmulReferenceIdeal.τ).loc Cert.MatmulReferenceIdeal.main_arg2) = m ((c.tc : Thread Cert.MatmulReferenceIdeal.nD Cert.MatmulReferenceIdeal.τ).loc Cert.MatmulReferenceIdeal.main_arg2)
      ∧ r.2.mem ((c.tc : Thread Cert.MatmulReferenceIdeal.nD Cert.MatmulReferenceIdeal.τ).loc Cert.MatmulReferenceIdeal.main_arg3) = m ((c.tc : Thread Cert.MatmulReferenceIdeal.nD Cert.MatmulReferenceIdeal.τ).loc Cert.MatmulReferenceIdeal.main_arg3))
      ∧ r.2.sem = fun _ => 0)

def quiescent_AmaxX [hAmaxX : Cert.AmaxX.Facts] : Prop :=
  ∀ (m : (ℓ : Loc Cert.AmaxX.nD Cert.AmaxX.τ Cert.AmaxX.sig) → Buf (Elt Bits) ℓ) (g : Dev Cert.AmaxX.nD → PrngReg), Pre_AmaxX m →
    θ_run (Cert.AmaxX.defs (F := Bits)) (onTc (τ := Cert.AmaxX.τ) (Cert.AmaxX.main (F := Bits))) ⟨m, fun _ => 0, g⟩ (fun r => (∀ c : Dev Cert.AmaxX.nD,
      r.2.mem ((c.tc : Thread Cert.AmaxX.nD Cert.AmaxX.τ).loc Cert.AmaxX.main_arg0) = m ((c.tc : Thread Cert.AmaxX.nD Cert.AmaxX.τ).loc Cert.AmaxX.main_arg0)
      ∧ r.2.mem ((c.tc : Thread Cert.AmaxX.nD Cert.AmaxX.τ).loc Cert.AmaxX.main_arg1) = m ((c.tc : Thread Cert.AmaxX.nD Cert.AmaxX.τ).loc Cert.AmaxX.main_arg1)
      ∧ r.2.mem ((c.tc : Thread Cert.AmaxX.nD Cert.AmaxX.τ).loc Cert.AmaxX.main_arg2) = m ((c.tc : Thread Cert.AmaxX.nD Cert.AmaxX.τ).loc Cert.AmaxX.main_arg2))
      ∧ r.2.sem = fun _ => 0)

def quiescent_AmaxXIdeal [hAmaxXIdeal : Cert.AmaxXIdeal.Facts] : Prop :=
  ∀ (m : (ℓ : Loc Cert.AmaxXIdeal.nD Cert.AmaxXIdeal.τ Cert.AmaxXIdeal.sig) → Buf (Elt Ideal) ℓ) (g : Dev Cert.AmaxXIdeal.nD → PrngReg), Pre_AmaxXIdeal m →
    θ_run (Cert.AmaxXIdeal.defs (F := Ideal)) (onTc (τ := Cert.AmaxXIdeal.τ) (Cert.AmaxXIdeal.main (F := Ideal))) ⟨m, fun _ => 0, g⟩ (fun r => (∀ c : Dev Cert.AmaxXIdeal.nD,
      r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0)
      ∧ r.2.mem ((c.tc : Thread Cert.AmaxXIdeal.nD Cert.AmaxXIdeal.τ).loc Cert.AmaxXIdeal.main_arg1) = m ((c.tc : Thread Cert.AmaxXIdeal.nD Cert.AmaxXIdeal.τ).loc Cert.AmaxXIdeal.main_arg1)
      ∧ r.2.mem ((c.tc : Thread Cert.AmaxXIdeal.nD Cert.AmaxXIdeal.τ).loc Cert.AmaxXIdeal.main_arg2) = m ((c.tc : Thread Cert.AmaxXIdeal.nD Cert.AmaxXIdeal.τ).loc Cert.AmaxXIdeal.main_arg2))
      ∧ r.2.sem = fun _ => 0)

def quiescent_AmaxXIdeal_pre_lengths_of_sequences [hAmaxXIdeal : Cert.AmaxXIdeal.Facts] [hPre_lengths_of_sequences : Cert.Pre_lengths_of_sequences.Facts] : Prop :=
  ∀ (m : (ℓ : Loc Cert.AmaxXIdeal.nD Cert.AmaxXIdeal.τ Cert.AmaxXIdeal.sig) → Buf (Elt Ideal) ℓ) (g : Dev Cert.AmaxXIdeal.nD → PrngReg), Pre_AmaxXIdeal_lengths_of_sequences m →
    θ_run (Cert.AmaxXIdeal.defs (F := Ideal)) (onTc (τ := Cert.AmaxXIdeal.τ) (Cert.AmaxXIdeal.main (F := Ideal))) ⟨m, fun _ => 0, g⟩ (fun r => (∀ c : Dev Cert.AmaxXIdeal.nD,
      r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0)
      ∧ r.2.mem ((c.tc : Thread Cert.AmaxXIdeal.nD Cert.AmaxXIdeal.τ).loc Cert.AmaxXIdeal.main_arg1) = m ((c.tc : Thread Cert.AmaxXIdeal.nD Cert.AmaxXIdeal.τ).loc Cert.AmaxXIdeal.main_arg1)
      ∧ r.2.mem ((c.tc : Thread Cert.AmaxXIdeal.nD Cert.AmaxXIdeal.τ).loc Cert.AmaxXIdeal.main_arg2) = m ((c.tc : Thread Cert.AmaxXIdeal.nD Cert.AmaxXIdeal.τ).loc Cert.AmaxXIdeal.main_arg2))
      ∧ r.2.sem = fun _ => 0)

def quiescent_AmaxXReferenceIdeal [hAmaxXReferenceIdeal : Cert.AmaxXReferenceIdeal.Facts] : Prop :=
  ∀ (m : (ℓ : Loc Cert.AmaxXReferenceIdeal.nD Cert.AmaxXReferenceIdeal.τ Cert.AmaxXReferenceIdeal.sig) → Buf (Elt Ideal) ℓ) (g : Dev Cert.AmaxXReferenceIdeal.nD → PrngReg), Pre_AmaxXReferenceIdeal m →
    θ_run (Cert.AmaxXReferenceIdeal.defs (F := Ideal)) (onTc (τ := Cert.AmaxXReferenceIdeal.τ) (Cert.AmaxXReferenceIdeal.main (F := Ideal))) ⟨m, fun _ => 0, g⟩ (fun r => (∀ c : Dev Cert.AmaxXReferenceIdeal.nD,
      r.2.mem ((c.tc : Thread Cert.AmaxXReferenceIdeal.nD Cert.AmaxXReferenceIdeal.τ).loc Cert.AmaxXReferenceIdeal.main_arg0) = m ((c.tc : Thread Cert.AmaxXReferenceIdeal.nD Cert.AmaxXReferenceIdeal.τ).loc Cert.AmaxXReferenceIdeal.main_arg0)
      ∧ r.2.mem ((c.tc : Thread Cert.AmaxXReferenceIdeal.nD Cert.AmaxXReferenceIdeal.τ).loc Cert.AmaxXReferenceIdeal.main_arg1) = m ((c.tc : Thread Cert.AmaxXReferenceIdeal.nD Cert.AmaxXReferenceIdeal.τ).loc Cert.AmaxXReferenceIdeal.main_arg1)
      ∧ r.2.mem ((c.tc : Thread Cert.AmaxXReferenceIdeal.nD Cert.AmaxXReferenceIdeal.τ).loc Cert.AmaxXReferenceIdeal.main_arg2) = m ((c.tc : Thread Cert.AmaxXReferenceIdeal.nD Cert.AmaxXReferenceIdeal.τ).loc Cert.AmaxXReferenceIdeal.main_arg2))
      ∧ r.2.sem = fun _ => 0)

def quiescent_AmaxXReferenceIdeal_pre_lengths_of_sequences [hAmaxXReferenceIdeal : Cert.AmaxXReferenceIdeal.Facts] [hPre_lengths_of_sequences : Cert.Pre_lengths_of_sequences.Facts] : Prop :=
  ∀ (m : (ℓ : Loc Cert.AmaxXReferenceIdeal.nD Cert.AmaxXReferenceIdeal.τ Cert.AmaxXReferenceIdeal.sig) → Buf (Elt Ideal) ℓ) (g : Dev Cert.AmaxXReferenceIdeal.nD → PrngReg), Pre_AmaxXReferenceIdeal_lengths_of_sequences m →
    θ_run (Cert.AmaxXReferenceIdeal.defs (F := Ideal)) (onTc (τ := Cert.AmaxXReferenceIdeal.τ) (Cert.AmaxXReferenceIdeal.main (F := Ideal))) ⟨m, fun _ => 0, g⟩ (fun r => (∀ c : Dev Cert.AmaxXReferenceIdeal.nD,
      r.2.mem ((c.tc : Thread Cert.AmaxXReferenceIdeal.nD Cert.AmaxXReferenceIdeal.τ).loc Cert.AmaxXReferenceIdeal.main_arg0) = m ((c.tc : Thread Cert.AmaxXReferenceIdeal.nD Cert.AmaxXReferenceIdeal.τ).loc Cert.AmaxXReferenceIdeal.main_arg0)
      ∧ r.2.mem ((c.tc : Thread Cert.AmaxXReferenceIdeal.nD Cert.AmaxXReferenceIdeal.τ).loc Cert.AmaxXReferenceIdeal.main_arg1) = m ((c.tc : Thread Cert.AmaxXReferenceIdeal.nD Cert.AmaxXReferenceIdeal.τ).loc Cert.AmaxXReferenceIdeal.main_arg1)
      ∧ r.2.mem ((c.tc : Thread Cert.AmaxXReferenceIdeal.nD Cert.AmaxXReferenceIdeal.τ).loc Cert.AmaxXReferenceIdeal.main_arg2) = m ((c.tc : Thread Cert.AmaxXReferenceIdeal.nD Cert.AmaxXReferenceIdeal.τ).loc Cert.AmaxXReferenceIdeal.main_arg2))
      ∧ r.2.sem = fun _ => 0)

def quiescent_AmaxDy [hAmaxDy : Cert.AmaxDy.Facts] : Prop :=
  ∀ (m : (ℓ : Loc Cert.AmaxDy.nD Cert.AmaxDy.τ Cert.AmaxDy.sig) → Buf (Elt Bits) ℓ) (g : Dev Cert.AmaxDy.nD → PrngReg), Pre_AmaxDy m →
    θ_run (Cert.AmaxDy.defs (F := Bits)) (onTc (τ := Cert.AmaxDy.τ) (Cert.AmaxDy.main (F := Bits))) ⟨m, fun _ => 0, g⟩ (fun r => (∀ c : Dev Cert.AmaxDy.nD,
      r.2.mem ((c.tc : Thread Cert.AmaxDy.nD Cert.AmaxDy.τ).loc Cert.AmaxDy.main_arg0) = m ((c.tc : Thread Cert.AmaxDy.nD Cert.AmaxDy.τ).loc Cert.AmaxDy.main_arg0)
      ∧ r.2.mem ((c.tc : Thread Cert.AmaxDy.nD Cert.AmaxDy.τ).loc Cert.AmaxDy.main_arg1) = m ((c.tc : Thread Cert.AmaxDy.nD Cert.AmaxDy.τ).loc Cert.AmaxDy.main_arg1)
      ∧ r.2.mem ((c.tc : Thread Cert.AmaxDy.nD Cert.AmaxDy.τ).loc Cert.AmaxDy.main_arg2) = m ((c.tc : Thread Cert.AmaxDy.nD Cert.AmaxDy.τ).loc Cert.AmaxDy.main_arg2))
      ∧ r.2.sem = fun _ => 0)

def quiescent_AmaxDyIdeal [hAmaxDyIdeal : Cert.AmaxDyIdeal.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg), Pre_AmaxDyIdeal m →
    θ_run (Cert.AmaxDyIdeal.defs (F := Ideal)) (onTc (τ := Cert.AmaxDyIdeal.τ) (Cert.AmaxDyIdeal.main (F := Ideal))) ⟨m, fun _ => 0, g⟩ (fun r => (∀ c : Dev Cert.AmaxDyIdeal.nD,
      r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0)
      ∧ r.2.mem ((c.tc : Thread Cert.AmaxDyIdeal.nD Cert.AmaxDyIdeal.τ).loc Cert.AmaxDyIdeal.main_arg1) = m ((c.tc : Thread Cert.AmaxDyIdeal.nD Cert.AmaxDyIdeal.τ).loc Cert.AmaxDyIdeal.main_arg1)
      ∧ r.2.mem ((c.tc : Thread Cert.AmaxDyIdeal.nD Cert.AmaxDyIdeal.τ).loc Cert.AmaxDyIdeal.main_arg2) = m ((c.tc : Thread Cert.AmaxDyIdeal.nD Cert.AmaxDyIdeal.τ).loc Cert.AmaxDyIdeal.main_arg2))
      ∧ r.2.sem = fun _ => 0)

def quiescent_AmaxDyIdeal_pre_lengths_of_dy_sequences [hAmaxDyIdeal : Cert.AmaxDyIdeal.Facts] [hPre_lengths_of_dy_sequences : Cert.Pre_lengths_of_dy_sequences.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg), Pre_AmaxDyIdeal_lengths_of_dy_sequences m →
    θ_run (Cert.AmaxDyIdeal.defs (F := Ideal)) (onTc (τ := Cert.AmaxDyIdeal.τ) (Cert.AmaxDyIdeal.main (F := Ideal))) ⟨m, fun _ => 0, g⟩ (fun r => (∀ c : Dev Cert.AmaxDyIdeal.nD,
      r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0)
      ∧ r.2.mem ((c.tc : Thread Cert.AmaxDyIdeal.nD Cert.AmaxDyIdeal.τ).loc Cert.AmaxDyIdeal.main_arg1) = m ((c.tc : Thread Cert.AmaxDyIdeal.nD Cert.AmaxDyIdeal.τ).loc Cert.AmaxDyIdeal.main_arg1)
      ∧ r.2.mem ((c.tc : Thread Cert.AmaxDyIdeal.nD Cert.AmaxDyIdeal.τ).loc Cert.AmaxDyIdeal.main_arg2) = m ((c.tc : Thread Cert.AmaxDyIdeal.nD Cert.AmaxDyIdeal.τ).loc Cert.AmaxDyIdeal.main_arg2))
      ∧ r.2.sem = fun _ => 0)

def quiescent_AmaxDyReferenceIdeal [hAmaxDyReferenceIdeal : Cert.AmaxDyReferenceIdeal.Facts] : Prop :=
  ∀ (m : (ℓ : Loc Cert.AmaxDyReferenceIdeal.nD Cert.AmaxDyReferenceIdeal.τ Cert.AmaxDyReferenceIdeal.sig) → Buf (Elt Ideal) ℓ) (g : Dev Cert.AmaxDyReferenceIdeal.nD → PrngReg), Pre_AmaxDyReferenceIdeal m →
    θ_run (Cert.AmaxDyReferenceIdeal.defs (F := Ideal)) (onTc (τ := Cert.AmaxDyReferenceIdeal.τ) (Cert.AmaxDyReferenceIdeal.main (F := Ideal))) ⟨m, fun _ => 0, g⟩ (fun r => (∀ c : Dev Cert.AmaxDyReferenceIdeal.nD,
      r.2.mem ((c.tc : Thread Cert.AmaxDyReferenceIdeal.nD Cert.AmaxDyReferenceIdeal.τ).loc Cert.AmaxDyReferenceIdeal.main_arg0) = m ((c.tc : Thread Cert.AmaxDyReferenceIdeal.nD Cert.AmaxDyReferenceIdeal.τ).loc Cert.AmaxDyReferenceIdeal.main_arg0)
      ∧ r.2.mem ((c.tc : Thread Cert.AmaxDyReferenceIdeal.nD Cert.AmaxDyReferenceIdeal.τ).loc Cert.AmaxDyReferenceIdeal.main_arg1) = m ((c.tc : Thread Cert.AmaxDyReferenceIdeal.nD Cert.AmaxDyReferenceIdeal.τ).loc Cert.AmaxDyReferenceIdeal.main_arg1)
      ∧ r.2.mem ((c.tc : Thread Cert.AmaxDyReferenceIdeal.nD Cert.AmaxDyReferenceIdeal.τ).loc Cert.AmaxDyReferenceIdeal.main_arg2) = m ((c.tc : Thread Cert.AmaxDyReferenceIdeal.nD Cert.AmaxDyReferenceIdeal.τ).loc Cert.AmaxDyReferenceIdeal.main_arg2))
      ∧ r.2.sem = fun _ => 0)

def quiescent_AmaxDyReferenceIdeal_pre_lengths_of_dy_sequences [hAmaxDyReferenceIdeal : Cert.AmaxDyReferenceIdeal.Facts] [hPre_lengths_of_dy_sequences : Cert.Pre_lengths_of_dy_sequences.Facts] : Prop :=
  ∀ (m : (ℓ : Loc Cert.AmaxDyReferenceIdeal.nD Cert.AmaxDyReferenceIdeal.τ Cert.AmaxDyReferenceIdeal.sig) → Buf (Elt Ideal) ℓ) (g : Dev Cert.AmaxDyReferenceIdeal.nD → PrngReg), Pre_AmaxDyReferenceIdeal_lengths_of_dy_sequences m →
    θ_run (Cert.AmaxDyReferenceIdeal.defs (F := Ideal)) (onTc (τ := Cert.AmaxDyReferenceIdeal.τ) (Cert.AmaxDyReferenceIdeal.main (F := Ideal))) ⟨m, fun _ => 0, g⟩ (fun r => (∀ c : Dev Cert.AmaxDyReferenceIdeal.nD,
      r.2.mem ((c.tc : Thread Cert.AmaxDyReferenceIdeal.nD Cert.AmaxDyReferenceIdeal.τ).loc Cert.AmaxDyReferenceIdeal.main_arg0) = m ((c.tc : Thread Cert.AmaxDyReferenceIdeal.nD Cert.AmaxDyReferenceIdeal.τ).loc Cert.AmaxDyReferenceIdeal.main_arg0)
      ∧ r.2.mem ((c.tc : Thread Cert.AmaxDyReferenceIdeal.nD Cert.AmaxDyReferenceIdeal.τ).loc Cert.AmaxDyReferenceIdeal.main_arg1) = m ((c.tc : Thread Cert.AmaxDyReferenceIdeal.nD Cert.AmaxDyReferenceIdeal.τ).loc Cert.AmaxDyReferenceIdeal.main_arg1)
      ∧ r.2.mem ((c.tc : Thread Cert.AmaxDyReferenceIdeal.nD Cert.AmaxDyReferenceIdeal.τ).loc Cert.AmaxDyReferenceIdeal.main_arg2) = m ((c.tc : Thread Cert.AmaxDyReferenceIdeal.nD Cert.AmaxDyReferenceIdeal.τ).loc Cert.AmaxDyReferenceIdeal.main_arg2))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1)
      ∧ r.2.mem ((c.tc : Thread Cert.QuantX.nD Cert.QuantX.τ).loc Cert.QuantX.main_arg2) = m ((c.tc : Thread Cert.QuantX.nD Cert.QuantX.τ).loc Cert.QuantX.main_arg2)
      ∧ r.2.mem ((c.tc : Thread Cert.QuantX.nD Cert.QuantX.τ).loc Cert.QuantX.main_arg3) = m ((c.tc : Thread Cert.QuantX.nD Cert.QuantX.τ).loc Cert.QuantX.main_arg3))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2)
      ∧ r.2.mem ((c.tc : Thread Cert.QuantXIdeal.nD Cert.QuantXIdeal.τ).loc Cert.QuantXIdeal.main_arg3) = m ((c.tc : Thread Cert.QuantXIdeal.nD Cert.QuantXIdeal.τ).loc Cert.QuantXIdeal.main_arg3))
      ∧ r.2.sem = fun _ => 0)

def quiescent_QuantXIdeal_pre_finite_of_sequences [hQuantXIdeal : Cert.QuantXIdeal.Facts] [hPre_finite_of_sequences : Cert.Pre_finite_of_sequences.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_finite_of_sequences m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
      ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2)
      ∧ r.2.mem ((c.tc : Thread Cert.QuantXIdeal.nD Cert.QuantXIdeal.τ).loc Cert.QuantXIdeal.main_arg3) = m ((c.tc : Thread Cert.QuantXIdeal.nD Cert.QuantXIdeal.τ).loc Cert.QuantXIdeal.main_arg3))
      ∧ r.2.sem = fun _ => 0)

def quiescent_QuantXReferenceIdeal [hQuantXReferenceIdeal : Cert.QuantXReferenceIdeal.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0)
      ∧ r.2.mem ((c.tc : Thread Cert.QuantXReferenceIdeal.nD Cert.QuantXReferenceIdeal.τ).loc Cert.QuantXReferenceIdeal.main_arg1) = m ((c.tc : Thread Cert.QuantXReferenceIdeal.nD Cert.QuantXReferenceIdeal.τ).loc Cert.QuantXReferenceIdeal.main_arg1)
      ∧ r.2.mem ((c.tc : Thread Cert.QuantXReferenceIdeal.nD Cert.QuantXReferenceIdeal.τ).loc Cert.QuantXReferenceIdeal.main_arg2) = m ((c.tc : Thread Cert.QuantXReferenceIdeal.nD Cert.QuantXReferenceIdeal.τ).loc Cert.QuantXReferenceIdeal.main_arg2)
      ∧ r.2.mem ((c.tc : Thread Cert.QuantXReferenceIdeal.nD Cert.QuantXReferenceIdeal.τ).loc Cert.QuantXReferenceIdeal.main_arg3) = m ((c.tc : Thread Cert.QuantXReferenceIdeal.nD Cert.QuantXReferenceIdeal.τ).loc Cert.QuantXReferenceIdeal.main_arg3))
      ∧ r.2.sem = fun _ => 0)

def quiescent_QuantXReferenceIdeal_pre_finite_of_sequences [hQuantXReferenceIdeal : Cert.QuantXReferenceIdeal.Facts] [hPre_finite_of_sequences : Cert.Pre_finite_of_sequences.Facts] : Prop :=
  ∀ (m : (ℓ : Loc Cert.QuantXReferenceIdeal.nD Cert.QuantXReferenceIdeal.τ Cert.QuantXReferenceIdeal.sig) → Buf (Elt Ideal) ℓ) (g : Dev Cert.QuantXReferenceIdeal.nD → PrngReg), Pre_QuantXReferenceIdeal_finite_of_sequences m →
    θ_run (Cert.QuantXReferenceIdeal.defs (F := Ideal)) (onTc (τ := Cert.QuantXReferenceIdeal.τ) (Cert.QuantXReferenceIdeal.main (F := Ideal))) ⟨m, fun _ => 0, g⟩ (fun r => (∀ c : Dev Cert.QuantXReferenceIdeal.nD,
      r.2.mem ((c.tc : Thread Cert.QuantXReferenceIdeal.nD Cert.QuantXReferenceIdeal.τ).loc Cert.QuantXReferenceIdeal.main_arg0) = m ((c.tc : Thread Cert.QuantXReferenceIdeal.nD Cert.QuantXReferenceIdeal.τ).loc Cert.QuantXReferenceIdeal.main_arg0)
      ∧ r.2.mem ((c.tc : Thread Cert.QuantXReferenceIdeal.nD Cert.QuantXReferenceIdeal.τ).loc Cert.QuantXReferenceIdeal.main_arg1) = m ((c.tc : Thread Cert.QuantXReferenceIdeal.nD Cert.QuantXReferenceIdeal.τ).loc Cert.QuantXReferenceIdeal.main_arg1)
      ∧ r.2.mem ((c.tc : Thread Cert.QuantXReferenceIdeal.nD Cert.QuantXReferenceIdeal.τ).loc Cert.QuantXReferenceIdeal.main_arg2) = m ((c.tc : Thread Cert.QuantXReferenceIdeal.nD Cert.QuantXReferenceIdeal.τ).loc Cert.QuantXReferenceIdeal.main_arg2)
      ∧ r.2.mem ((c.tc : Thread Cert.QuantXReferenceIdeal.nD Cert.QuantXReferenceIdeal.τ).loc Cert.QuantXReferenceIdeal.main_arg3) = m ((c.tc : Thread Cert.QuantXReferenceIdeal.nD Cert.QuantXReferenceIdeal.τ).loc Cert.QuantXReferenceIdeal.main_arg3))
      ∧ r.2.sem = fun _ => 0)

def quiescent_QuantDy [hQuantDy : Cert.QuantDy.Facts] : Prop :=
  ∀ (m : (ℓ : Loc Cert.QuantDy.nD Cert.QuantDy.τ Cert.QuantDy.sig) → Buf (Elt Bits) ℓ) (g : Dev Cert.QuantDy.nD → PrngReg), Pre_QuantDy m →
    θ_run (Cert.QuantDy.defs (F := Bits)) (onTc (τ := Cert.QuantDy.τ) (Cert.QuantDy.main (F := Bits))) ⟨m, fun _ => 0, g⟩ (fun r => (∀ c : Dev Cert.QuantDy.nD,
      r.2.mem ((c.tc : Thread Cert.QuantDy.nD Cert.QuantDy.τ).loc Cert.QuantDy.main_arg0) = m ((c.tc : Thread Cert.QuantDy.nD Cert.QuantDy.τ).loc Cert.QuantDy.main_arg0)
      ∧ r.2.mem ((c.tc : Thread Cert.QuantDy.nD Cert.QuantDy.τ).loc Cert.QuantDy.main_arg1) = m ((c.tc : Thread Cert.QuantDy.nD Cert.QuantDy.τ).loc Cert.QuantDy.main_arg1)
      ∧ r.2.mem ((c.tc : Thread Cert.QuantDy.nD Cert.QuantDy.τ).loc Cert.QuantDy.main_arg2) = m ((c.tc : Thread Cert.QuantDy.nD Cert.QuantDy.τ).loc Cert.QuantDy.main_arg2)
      ∧ r.2.mem ((c.tc : Thread Cert.QuantDy.nD Cert.QuantDy.τ).loc Cert.QuantDy.main_arg3) = m ((c.tc : Thread Cert.QuantDy.nD Cert.QuantDy.τ).loc Cert.QuantDy.main_arg3))
      ∧ r.2.sem = fun _ => 0)

def quiescent_QuantDyIdeal [hQuantDyIdeal : Cert.QuantDyIdeal.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_QuantDyIdeal_pre_finite_dy_of_sequences [hQuantDyIdeal : Cert.QuantDyIdeal.Facts] [hPre_finite_dy_of_sequences : Cert.Pre_finite_dy_of_sequences.Facts] : Prop :=
  ∀ (m : (ℓ : Loc Cert.QuantDyIdeal.nD Cert.QuantDyIdeal.τ Cert.QuantDyIdeal.sig) → Buf (Elt Ideal) ℓ) (g : Dev Cert.QuantDyIdeal.nD → PrngReg), Pre_QuantDyIdeal_finite_dy_of_sequences m →
    θ_run (Cert.QuantDyIdeal.defs (F := Ideal)) (onTc (τ := Cert.QuantDyIdeal.τ) (Cert.QuantDyIdeal.main (F := Ideal))) ⟨m, fun _ => 0, g⟩ (fun r => (∀ c : Dev Cert.QuantDyIdeal.nD,
      r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
      ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
      ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
      ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ r.2.sem = fun _ => 0)

def quiescent_QuantDyReferenceIdeal [hQuantDyReferenceIdeal : Cert.QuantDyReferenceIdeal.Facts] : Prop :=
  ∀ (m : (ℓ : Loc Cert.QuantDyReferenceIdeal.nD Cert.QuantDyReferenceIdeal.τ Cert.QuantDyReferenceIdeal.sig) → Buf (Elt Ideal) ℓ) (g : Dev Cert.QuantDyReferenceIdeal.nD → PrngReg), Pre_QuantDyReferenceIdeal m →
    θ_run (Cert.QuantDyReferenceIdeal.defs (F := Ideal)) (onTc (τ := Cert.QuantDyReferenceIdeal.τ) (Cert.QuantDyReferenceIdeal.main (F := Ideal))) ⟨m, fun _ => 0, g⟩ (fun r => (∀ c : Dev Cert.QuantDyReferenceIdeal.nD,
      r.2.mem ((c.tc : Thread Cert.QuantDyReferenceIdeal.nD Cert.QuantDyReferenceIdeal.τ).loc Cert.QuantDyReferenceIdeal.main_arg0) = m ((c.tc : Thread Cert.QuantDyReferenceIdeal.nD Cert.QuantDyReferenceIdeal.τ).loc Cert.QuantDyReferenceIdeal.main_arg0)
      ∧ r.2.mem ((c.tc : Thread Cert.QuantDyReferenceIdeal.nD Cert.QuantDyReferenceIdeal.τ).loc Cert.QuantDyReferenceIdeal.main_arg1) = m ((c.tc : Thread Cert.QuantDyReferenceIdeal.nD Cert.QuantDyReferenceIdeal.τ).loc Cert.QuantDyReferenceIdeal.main_arg1)
      ∧ r.2.mem ((c.tc : Thread Cert.QuantDyReferenceIdeal.nD Cert.QuantDyReferenceIdeal.τ).loc Cert.QuantDyReferenceIdeal.main_arg2) = m ((c.tc : Thread Cert.QuantDyReferenceIdeal.nD Cert.QuantDyReferenceIdeal.τ).loc Cert.QuantDyReferenceIdeal.main_arg2)
      ∧ r.2.mem ((c.tc : Thread Cert.QuantDyReferenceIdeal.nD Cert.QuantDyReferenceIdeal.τ).loc Cert.QuantDyReferenceIdeal.main_arg3) = m ((c.tc : Thread Cert.QuantDyReferenceIdeal.nD Cert.QuantDyReferenceIdeal.τ).loc Cert.QuantDyReferenceIdeal.main_arg3))
      ∧ r.2.sem = fun _ => 0)

def quiescent_QuantDyReferenceIdeal_pre_finite_dy_of_sequences [hQuantDyReferenceIdeal : Cert.QuantDyReferenceIdeal.Facts] [hPre_finite_dy_of_sequences : Cert.Pre_finite_dy_of_sequences.Facts] : Prop :=
  ∀ (m : (ℓ : Loc Cert.QuantDyReferenceIdeal.nD Cert.QuantDyReferenceIdeal.τ Cert.QuantDyReferenceIdeal.sig) → Buf (Elt Ideal) ℓ) (g : Dev Cert.QuantDyReferenceIdeal.nD → PrngReg), Pre_QuantDyReferenceIdeal_finite_dy_of_sequences m →
    θ_run (Cert.QuantDyReferenceIdeal.defs (F := Ideal)) (onTc (τ := Cert.QuantDyReferenceIdeal.τ) (Cert.QuantDyReferenceIdeal.main (F := Ideal))) ⟨m, fun _ => 0, g⟩ (fun r => (∀ c : Dev Cert.QuantDyReferenceIdeal.nD,
      r.2.mem ((c.tc : Thread Cert.QuantDyReferenceIdeal.nD Cert.QuantDyReferenceIdeal.τ).loc Cert.QuantDyReferenceIdeal.main_arg0) = m ((c.tc : Thread Cert.QuantDyReferenceIdeal.nD Cert.QuantDyReferenceIdeal.τ).loc Cert.QuantDyReferenceIdeal.main_arg0)
      ∧ r.2.mem ((c.tc : Thread Cert.QuantDyReferenceIdeal.nD Cert.QuantDyReferenceIdeal.τ).loc Cert.QuantDyReferenceIdeal.main_arg1) = m ((c.tc : Thread Cert.QuantDyReferenceIdeal.nD Cert.QuantDyReferenceIdeal.τ).loc Cert.QuantDyReferenceIdeal.main_arg1)
      ∧ r.2.mem ((c.tc : Thread Cert.QuantDyReferenceIdeal.nD Cert.QuantDyReferenceIdeal.τ).loc Cert.QuantDyReferenceIdeal.main_arg2) = m ((c.tc : Thread Cert.QuantDyReferenceIdeal.nD Cert.QuantDyReferenceIdeal.τ).loc Cert.QuantDyReferenceIdeal.main_arg2)
      ∧ r.2.mem ((c.tc : Thread Cert.QuantDyReferenceIdeal.nD Cert.QuantDyReferenceIdeal.τ).loc Cert.QuantDyReferenceIdeal.main_arg3) = m ((c.tc : Thread Cert.QuantDyReferenceIdeal.nD Cert.QuantDyReferenceIdeal.τ).loc Cert.QuantDyReferenceIdeal.main_arg3))
      ∧ r.2.sem = fun _ => 0)

def preserves_Matmul_MatmulIdeal : Prop :=
  True

def algebraic_MatmulIdeal_MatmulReferenceIdeal [hMatmulIdeal : Cert.MatmulIdeal.Facts] [hMatmulReferenceIdeal : Cert.MatmulReferenceIdeal.Facts] : Prop :=
  ∀ (m : (ℓ : Loc Cert.MatmulIdeal.nD Cert.MatmulIdeal.τ Cert.MatmulIdeal.sig) → Buf (Elt Ideal) ℓ) (g : Dev Cert.MatmulIdeal.nD → PrngReg)
    (m' : (ℓ : Loc Cert.MatmulReferenceIdeal.nD Cert.MatmulReferenceIdeal.τ Cert.MatmulReferenceIdeal.sig) → Buf (Elt Ideal) ℓ) (g' : Dev Cert.MatmulReferenceIdeal.nD → PrngReg), Pre_MatmulIdeal m →
    (∀ c : Dev Cert.MatmulIdeal.nD,
      m' ((c.tc : Thread Cert.MatmulReferenceIdeal.nD Cert.MatmulReferenceIdeal.τ).loc Cert.MatmulReferenceIdeal.main_arg0) = m ((c.tc : Thread Cert.MatmulIdeal.nD Cert.MatmulIdeal.τ).loc Cert.MatmulIdeal.main_arg0)
      ∧ m' ((c.tc : Thread Cert.MatmulReferenceIdeal.nD Cert.MatmulReferenceIdeal.τ).loc Cert.MatmulReferenceIdeal.main_arg1) = m ((c.tc : Thread Cert.MatmulIdeal.nD Cert.MatmulIdeal.τ).loc Cert.MatmulIdeal.main_arg1)
      ∧ m' ((c.tc : Thread Cert.MatmulReferenceIdeal.nD Cert.MatmulReferenceIdeal.τ).loc Cert.MatmulReferenceIdeal.main_arg2) = m ((c.tc : Thread Cert.MatmulIdeal.nD Cert.MatmulIdeal.τ).loc Cert.MatmulIdeal.main_arg2)
      ∧ m' ((c.tc : Thread Cert.MatmulReferenceIdeal.nD Cert.MatmulReferenceIdeal.τ).loc Cert.MatmulReferenceIdeal.main_arg3) = m ((c.tc : Thread Cert.MatmulIdeal.nD Cert.MatmulIdeal.τ).loc Cert.MatmulIdeal.main_arg3)) →
    ∃ (v0 : (c : Dev Cert.MatmulIdeal.nD) → Buf (Elt Ideal) ((c.tc : Thread Cert.MatmulIdeal.nD Cert.MatmulIdeal.τ).loc Cert.MatmulIdeal.main_v0)),
      θ_run (Cert.MatmulIdeal.defs (F := Ideal)) (onTc (τ := Cert.MatmulIdeal.τ) (Cert.MatmulIdeal.main (F := Ideal))) ⟨m, fun _ => 0, g⟩ (fun r => ∀ c : Dev Cert.MatmulIdeal.nD,
          r.2.mem ((c.tc : Thread Cert.MatmulIdeal.nD Cert.MatmulIdeal.τ).loc Cert.MatmulIdeal.main_v0) = v0 c
          ∧ r.2.mem ((c.tc : Thread Cert.MatmulIdeal.nD Cert.MatmulIdeal.τ).loc Cert.MatmulIdeal.main_arg0) = m ((c.tc : Thread Cert.MatmulIdeal.nD Cert.MatmulIdeal.τ).loc Cert.MatmulIdeal.main_arg0)
          ∧ r.2.mem ((c.tc : Thread Cert.MatmulIdeal.nD Cert.MatmulIdeal.τ).loc Cert.MatmulIdeal.main_arg1) = m ((c.tc : Thread Cert.MatmulIdeal.nD Cert.MatmulIdeal.τ).loc Cert.MatmulIdeal.main_arg1)
          ∧ r.2.mem ((c.tc : Thread Cert.MatmulIdeal.nD Cert.MatmulIdeal.τ).loc Cert.MatmulIdeal.main_arg2) = m ((c.tc : Thread Cert.MatmulIdeal.nD Cert.MatmulIdeal.τ).loc Cert.MatmulIdeal.main_arg2)
          ∧ r.2.mem ((c.tc : Thread Cert.MatmulIdeal.nD Cert.MatmulIdeal.τ).loc Cert.MatmulIdeal.main_arg3) = m ((c.tc : Thread Cert.MatmulIdeal.nD Cert.MatmulIdeal.τ).loc Cert.MatmulIdeal.main_arg3))
      ∧ θ_run (Cert.MatmulReferenceIdeal.defs (F := Ideal)) (onTc (τ := Cert.MatmulReferenceIdeal.τ) (Cert.MatmulReferenceIdeal.main (F := Ideal))) ⟨m', fun _ => 0, g'⟩ (fun r => ∀ c : Dev Cert.MatmulReferenceIdeal.nD,
          r.2.mem ((c.tc : Thread Cert.MatmulReferenceIdeal.nD Cert.MatmulReferenceIdeal.τ).loc Cert.MatmulReferenceIdeal.main_v7) = v0 c
          ∧ r.2.mem ((c.tc : Thread Cert.MatmulReferenceIdeal.nD Cert.MatmulReferenceIdeal.τ).loc Cert.MatmulReferenceIdeal.main_arg0) = m' ((c.tc : Thread Cert.MatmulReferenceIdeal.nD Cert.MatmulReferenceIdeal.τ).loc Cert.MatmulReferenceIdeal.main_arg0)
          ∧ r.2.mem ((c.tc : Thread Cert.MatmulReferenceIdeal.nD Cert.MatmulReferenceIdeal.τ).loc Cert.MatmulReferenceIdeal.main_arg1) = m' ((c.tc : Thread Cert.MatmulReferenceIdeal.nD Cert.MatmulReferenceIdeal.τ).loc Cert.MatmulReferenceIdeal.main_arg1)
          ∧ r.2.mem ((c.tc : Thread Cert.MatmulReferenceIdeal.nD Cert.MatmulReferenceIdeal.τ).loc Cert.MatmulReferenceIdeal.main_arg2) = m' ((c.tc : Thread Cert.MatmulReferenceIdeal.nD Cert.MatmulReferenceIdeal.τ).loc Cert.MatmulReferenceIdeal.main_arg2)
          ∧ r.2.mem ((c.tc : Thread Cert.MatmulReferenceIdeal.nD Cert.MatmulReferenceIdeal.τ).loc Cert.MatmulReferenceIdeal.main_arg3) = m' ((c.tc : Thread Cert.MatmulReferenceIdeal.nD Cert.MatmulReferenceIdeal.τ).loc Cert.MatmulReferenceIdeal.main_arg3))

def preserves_AmaxX_AmaxXIdeal : Prop :=
  True

def algebraic_AmaxXIdeal_AmaxXReferenceIdeal_pre_lengths_of_sequences [hAmaxXIdeal : Cert.AmaxXIdeal.Facts] [hAmaxXReferenceIdeal : Cert.AmaxXReferenceIdeal.Facts] [hPre_lengths_of_sequences : Cert.Pre_lengths_of_sequences.Facts] : Prop :=
  ∀ (m : (ℓ : Loc Cert.AmaxXIdeal.nD Cert.AmaxXIdeal.τ Cert.AmaxXIdeal.sig) → Buf (Elt Ideal) ℓ) (g : Dev Cert.AmaxXIdeal.nD → PrngReg)
    (m' : (ℓ : Loc Cert.AmaxXReferenceIdeal.nD Cert.AmaxXReferenceIdeal.τ Cert.AmaxXReferenceIdeal.sig) → Buf (Elt Ideal) ℓ) (g' : Dev Cert.AmaxXReferenceIdeal.nD → PrngReg), Pre_AmaxXIdeal_lengths_of_sequences m →
    (∀ c : Dev Cert.AmaxXIdeal.nD,
      m' ((c.tc : Thread Cert.AmaxXReferenceIdeal.nD Cert.AmaxXReferenceIdeal.τ).loc Cert.AmaxXReferenceIdeal.main_arg0) = m ((c.tc : Thread Cert.AmaxXIdeal.nD Cert.AmaxXIdeal.τ).loc Cert.AmaxXIdeal.main_arg0)
      ∧ m' ((c.tc : Thread Cert.AmaxXReferenceIdeal.nD Cert.AmaxXReferenceIdeal.τ).loc Cert.AmaxXReferenceIdeal.main_arg1) = m ((c.tc : Thread Cert.AmaxXIdeal.nD Cert.AmaxXIdeal.τ).loc Cert.AmaxXIdeal.main_arg1)
      ∧ m' ((c.tc : Thread Cert.AmaxXReferenceIdeal.nD Cert.AmaxXReferenceIdeal.τ).loc Cert.AmaxXReferenceIdeal.main_arg2) = m ((c.tc : Thread Cert.AmaxXIdeal.nD Cert.AmaxXIdeal.τ).loc Cert.AmaxXIdeal.main_arg2)) →
    ∃ (v0 : (c : Dev Cert.AmaxXIdeal.nD) → Buf (Elt Ideal) ((c.tc : Thread Cert.AmaxXIdeal.nD Cert.AmaxXIdeal.τ).loc Cert.AmaxXIdeal.main_v29)),
      θ_run (Cert.AmaxXIdeal.defs (F := Ideal)) (onTc (τ := Cert.AmaxXIdeal.τ) (Cert.AmaxXIdeal.main (F := Ideal))) ⟨m, fun _ => 0, g⟩ (fun r => ∀ c : Dev Cert.AmaxXIdeal.nD,
          r.2.mem ((c.tc : Thread Cert.AmaxXIdeal.nD Cert.AmaxXIdeal.τ).loc Cert.AmaxXIdeal.main_v29) = v0 c
          ∧ r.2.mem ((c.tc : Thread Cert.AmaxXIdeal.nD Cert.AmaxXIdeal.τ).loc Cert.AmaxXIdeal.main_arg0) = m ((c.tc : Thread Cert.AmaxXIdeal.nD Cert.AmaxXIdeal.τ).loc Cert.AmaxXIdeal.main_arg0)
          ∧ r.2.mem ((c.tc : Thread Cert.AmaxXIdeal.nD Cert.AmaxXIdeal.τ).loc Cert.AmaxXIdeal.main_arg1) = m ((c.tc : Thread Cert.AmaxXIdeal.nD Cert.AmaxXIdeal.τ).loc Cert.AmaxXIdeal.main_arg1)
          ∧ r.2.mem ((c.tc : Thread Cert.AmaxXIdeal.nD Cert.AmaxXIdeal.τ).loc Cert.AmaxXIdeal.main_arg2) = m ((c.tc : Thread Cert.AmaxXIdeal.nD Cert.AmaxXIdeal.τ).loc Cert.AmaxXIdeal.main_arg2))
      ∧ θ_run (Cert.AmaxXReferenceIdeal.defs (F := Ideal)) (onTc (τ := Cert.AmaxXReferenceIdeal.τ) (Cert.AmaxXReferenceIdeal.main (F := Ideal))) ⟨m', fun _ => 0, g'⟩ (fun r => ∀ c : Dev Cert.AmaxXReferenceIdeal.nD,
          r.2.mem ((c.tc : Thread Cert.AmaxXReferenceIdeal.nD Cert.AmaxXReferenceIdeal.τ).loc Cert.AmaxXReferenceIdeal.main_v37) = v0 c
          ∧ r.2.mem ((c.tc : Thread Cert.AmaxXReferenceIdeal.nD Cert.AmaxXReferenceIdeal.τ).loc Cert.AmaxXReferenceIdeal.main_arg0) = m' ((c.tc : Thread Cert.AmaxXReferenceIdeal.nD Cert.AmaxXReferenceIdeal.τ).loc Cert.AmaxXReferenceIdeal.main_arg0)
          ∧ r.2.mem ((c.tc : Thread Cert.AmaxXReferenceIdeal.nD Cert.AmaxXReferenceIdeal.τ).loc Cert.AmaxXReferenceIdeal.main_arg1) = m' ((c.tc : Thread Cert.AmaxXReferenceIdeal.nD Cert.AmaxXReferenceIdeal.τ).loc Cert.AmaxXReferenceIdeal.main_arg1)
          ∧ r.2.mem ((c.tc : Thread Cert.AmaxXReferenceIdeal.nD Cert.AmaxXReferenceIdeal.τ).loc Cert.AmaxXReferenceIdeal.main_arg2) = m' ((c.tc : Thread Cert.AmaxXReferenceIdeal.nD Cert.AmaxXReferenceIdeal.τ).loc Cert.AmaxXReferenceIdeal.main_arg2))

def preserves_AmaxDy_AmaxDyIdeal : Prop :=
  True

def algebraic_AmaxDyIdeal_AmaxDyReferenceIdeal_pre_lengths_of_dy_sequences [hAmaxDyIdeal : Cert.AmaxDyIdeal.Facts] [hAmaxDyReferenceIdeal : Cert.AmaxDyReferenceIdeal.Facts] [hPre_lengths_of_dy_sequences : Cert.Pre_lengths_of_dy_sequences.Facts] : Prop :=
  ∀ (m : (ℓ : Loc Cert.AmaxDyIdeal.nD Cert.AmaxDyIdeal.τ Cert.AmaxDyIdeal.sig) → Buf (Elt Ideal) ℓ) (g : Dev Cert.AmaxDyIdeal.nD → PrngReg)
    (m' : (ℓ : Loc Cert.AmaxDyReferenceIdeal.nD Cert.AmaxDyReferenceIdeal.τ Cert.AmaxDyReferenceIdeal.sig) → Buf (Elt Ideal) ℓ) (g' : Dev Cert.AmaxDyReferenceIdeal.nD → PrngReg), Pre_AmaxDyIdeal_lengths_of_dy_sequences m →
    (∀ c : Dev Cert.AmaxDyIdeal.nD,
      m' ((c.tc : Thread Cert.AmaxDyReferenceIdeal.nD Cert.AmaxDyReferenceIdeal.τ).loc Cert.AmaxDyReferenceIdeal.main_arg0) = m ((c.tc : Thread Cert.AmaxDyIdeal.nD Cert.AmaxDyIdeal.τ).loc Cert.AmaxDyIdeal.main_arg0)
      ∧ m' ((c.tc : Thread Cert.AmaxDyReferenceIdeal.nD Cert.AmaxDyReferenceIdeal.τ).loc Cert.AmaxDyReferenceIdeal.main_arg1) = m ((c.tc : Thread Cert.AmaxDyIdeal.nD Cert.AmaxDyIdeal.τ).loc Cert.AmaxDyIdeal.main_arg1)
      ∧ m' ((c.tc : Thread Cert.AmaxDyReferenceIdeal.nD Cert.AmaxDyReferenceIdeal.τ).loc Cert.AmaxDyReferenceIdeal.main_arg2) = m ((c.tc : Thread Cert.AmaxDyIdeal.nD Cert.AmaxDyIdeal.τ).loc Cert.AmaxDyIdeal.main_arg2)) →
    ∃ (v0 : (c : Dev Cert.AmaxDyIdeal.nD) → Buf (Elt Ideal) ((c.tc : Thread Cert.AmaxDyIdeal.nD Cert.AmaxDyIdeal.τ).loc Cert.AmaxDyIdeal.main_v29)),
      θ_run (Cert.AmaxDyIdeal.defs (F := Ideal)) (onTc (τ := Cert.AmaxDyIdeal.τ) (Cert.AmaxDyIdeal.main (F := Ideal))) ⟨m, fun _ => 0, g⟩ (fun r => ∀ c : Dev Cert.AmaxDyIdeal.nD,
          r.2.mem ((c.tc : Thread Cert.AmaxDyIdeal.nD Cert.AmaxDyIdeal.τ).loc Cert.AmaxDyIdeal.main_v29) = v0 c
          ∧ r.2.mem ((c.tc : Thread Cert.AmaxDyIdeal.nD Cert.AmaxDyIdeal.τ).loc Cert.AmaxDyIdeal.main_arg0) = m ((c.tc : Thread Cert.AmaxDyIdeal.nD Cert.AmaxDyIdeal.τ).loc Cert.AmaxDyIdeal.main_arg0)
          ∧ r.2.mem ((c.tc : Thread Cert.AmaxDyIdeal.nD Cert.AmaxDyIdeal.τ).loc Cert.AmaxDyIdeal.main_arg1) = m ((c.tc : Thread Cert.AmaxDyIdeal.nD Cert.AmaxDyIdeal.τ).loc Cert.AmaxDyIdeal.main_arg1)
          ∧ r.2.mem ((c.tc : Thread Cert.AmaxDyIdeal.nD Cert.AmaxDyIdeal.τ).loc Cert.AmaxDyIdeal.main_arg2) = m ((c.tc : Thread Cert.AmaxDyIdeal.nD Cert.AmaxDyIdeal.τ).loc Cert.AmaxDyIdeal.main_arg2))
      ∧ θ_run (Cert.AmaxDyReferenceIdeal.defs (F := Ideal)) (onTc (τ := Cert.AmaxDyReferenceIdeal.τ) (Cert.AmaxDyReferenceIdeal.main (F := Ideal))) ⟨m', fun _ => 0, g'⟩ (fun r => ∀ c : Dev Cert.AmaxDyReferenceIdeal.nD,
          r.2.mem ((c.tc : Thread Cert.AmaxDyReferenceIdeal.nD Cert.AmaxDyReferenceIdeal.τ).loc Cert.AmaxDyReferenceIdeal.main_v37) = v0 c
          ∧ r.2.mem ((c.tc : Thread Cert.AmaxDyReferenceIdeal.nD Cert.AmaxDyReferenceIdeal.τ).loc Cert.AmaxDyReferenceIdeal.main_arg0) = m' ((c.tc : Thread Cert.AmaxDyReferenceIdeal.nD Cert.AmaxDyReferenceIdeal.τ).loc Cert.AmaxDyReferenceIdeal.main_arg0)
          ∧ r.2.mem ((c.tc : Thread Cert.AmaxDyReferenceIdeal.nD Cert.AmaxDyReferenceIdeal.τ).loc Cert.AmaxDyReferenceIdeal.main_arg1) = m' ((c.tc : Thread Cert.AmaxDyReferenceIdeal.nD Cert.AmaxDyReferenceIdeal.τ).loc Cert.AmaxDyReferenceIdeal.main_arg1)
          ∧ r.2.mem ((c.tc : Thread Cert.AmaxDyReferenceIdeal.nD Cert.AmaxDyReferenceIdeal.τ).loc Cert.AmaxDyReferenceIdeal.main_arg2) = m' ((c.tc : Thread Cert.AmaxDyReferenceIdeal.nD Cert.AmaxDyReferenceIdeal.τ).loc Cert.AmaxDyReferenceIdeal.main_arg2))

def preserves_QuantX_QuantXIdeal : Prop :=
  IdealRules.bf16_pair.BufferStatement Cert.QuantXIdeal.S256x2x128 Cert.QuantXIdeal.S256x1x128
  ∧ IdealRules.bf16_pair.Statement Cert.QuantXIdeal.S512x128 Cert.QuantXIdeal.S256x128
  ∧ IdealRules.bf16_pair.Statement Cert.QuantXIdeal.S256x2x128 Cert.QuantXIdeal.S256x1x128
  ∧ IdealRules.bf16_pair.SelectZeroStatement Cert.QuantXIdeal.S256x128
  ∧ IdealRules.bf16_pair.Statement Cert.QuantXIdeal.S8x2x128 Cert.QuantXIdeal.S8x1x128
  ∧ IdealRules.bf16_pair.Statement Cert.QuantXIdeal.S16x128 Cert.QuantXIdeal.S8x128
  ∧ IdealRules.bf16_pair.PackStatement Cert.QuantXIdeal.S8x128

def algebraic_QuantXIdeal_QuantXReferenceIdeal_pre_finite_of_sequences [hQuantXIdeal : Cert.QuantXIdeal.Facts] [hQuantXReferenceIdeal : Cert.QuantXReferenceIdeal.Facts] [hPre_finite_of_sequences : Cert.Pre_finite_of_sequences.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.QuantXReferenceIdeal.nD Cert.QuantXReferenceIdeal.τ Cert.QuantXReferenceIdeal.sig) → Buf (Elt Ideal) ℓ) (g' : Dev Cert.QuantXReferenceIdeal.nD → PrngReg), Pre_QuantXIdeal_finite_of_sequences m →
    (∀ c : Dev Cert.QuantXIdeal.nD,
      m' ((c.tc : Thread Cert.QuantXReferenceIdeal.nD Cert.QuantXReferenceIdeal.τ).loc Cert.QuantXReferenceIdeal.main_arg0) = m ((c.tc : Thread Cert.QuantXIdeal.nD Cert.QuantXIdeal.τ).loc Cert.QuantXIdeal.main_arg0)
      ∧ m' ((c.tc : Thread Cert.QuantXReferenceIdeal.nD Cert.QuantXReferenceIdeal.τ).loc Cert.QuantXReferenceIdeal.main_arg1) = m ((c.tc : Thread Cert.QuantXIdeal.nD Cert.QuantXIdeal.τ).loc Cert.QuantXIdeal.main_arg1)
      ∧ m' ((c.tc : Thread Cert.QuantXReferenceIdeal.nD Cert.QuantXReferenceIdeal.τ).loc Cert.QuantXReferenceIdeal.main_arg2) = m ((c.tc : Thread Cert.QuantXIdeal.nD Cert.QuantXIdeal.τ).loc Cert.QuantXIdeal.main_arg2)
      ∧ m' ((c.tc : Thread Cert.QuantXReferenceIdeal.nD Cert.QuantXReferenceIdeal.τ).loc Cert.QuantXReferenceIdeal.main_arg3) = m ((c.tc : Thread Cert.QuantXIdeal.nD Cert.QuantXIdeal.τ).loc Cert.QuantXIdeal.main_arg3)) →
    ∃ (v0 : (c : Dev Cert.QuantXIdeal.nD) → Buf (Elt Ideal) ((c.tc : Thread Cert.QuantXIdeal.nD Cert.QuantXIdeal.τ).loc Cert.QuantXIdeal.main_v27_1)) (v1 : (c : Dev Cert.QuantXIdeal.nD) → Buf (Elt Ideal) ((c.tc : Thread Cert.QuantXIdeal.nD Cert.QuantXIdeal.τ).loc Cert.QuantXIdeal.main_v27_2)) (v2 : (c : Dev Cert.QuantXIdeal.nD) → Buf (Elt Ideal) ((c.tc : Thread Cert.QuantXIdeal.nD Cert.QuantXIdeal.τ).loc Cert.QuantXIdeal.main_v27_3)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v27_1) = v0 c
          ∧ r.2.mem ((c.tc : Thread Cert.QuantXIdeal.nD Cert.QuantXIdeal.τ).loc Cert.QuantXIdeal.main_v27_2) = v1 c
          ∧ r.2.mem ((c.tc : Thread Cert.QuantXIdeal.nD Cert.QuantXIdeal.τ).loc Cert.QuantXIdeal.main_v27_3) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1)
          ∧ r.2.mem ((c.tc : Thread Cert.QuantXIdeal.nD Cert.QuantXIdeal.τ).loc Cert.QuantXIdeal.main_arg2) = m ((c.tc : Thread Cert.QuantXIdeal.nD Cert.QuantXIdeal.τ).loc Cert.QuantXIdeal.main_arg2)
          ∧ r.2.mem ((c.tc : Thread Cert.QuantXIdeal.nD Cert.QuantXIdeal.τ).loc Cert.QuantXIdeal.main_arg3) = m ((c.tc : Thread Cert.QuantXIdeal.nD Cert.QuantXIdeal.τ).loc Cert.QuantXIdeal.main_arg3))
      ∧ θ_run (Cert.QuantXReferenceIdeal.defs (F := Ideal)) (onTc (τ := Cert.QuantXReferenceIdeal.τ) (Cert.QuantXReferenceIdeal.main (F := Ideal))) ⟨m', fun _ => 0, g'⟩ (fun r => ∀ c : Dev Cert.QuantXReferenceIdeal.nD,
          r.2.mem ((c.tc : Thread Cert.QuantXReferenceIdeal.nD Cert.QuantXReferenceIdeal.τ).loc Cert.QuantXReferenceIdeal.main_v107) = v0 c
          ∧ r.2.mem ((c.tc : Thread Cert.QuantXReferenceIdeal.nD Cert.QuantXReferenceIdeal.τ).loc Cert.QuantXReferenceIdeal.main_v44) = v1 c
          ∧ r.2.mem ((c.tc : Thread Cert.QuantXReferenceIdeal.nD Cert.QuantXReferenceIdeal.τ).loc Cert.QuantXReferenceIdeal.main_v32) = v2 c
          ∧ r.2.mem ((c.tc : Thread Cert.QuantXReferenceIdeal.nD Cert.QuantXReferenceIdeal.τ).loc Cert.QuantXReferenceIdeal.main_arg0) = m' ((c.tc : Thread Cert.QuantXReferenceIdeal.nD Cert.QuantXReferenceIdeal.τ).loc Cert.QuantXReferenceIdeal.main_arg0)
          ∧ r.2.mem ((c.tc : Thread Cert.QuantXReferenceIdeal.nD Cert.QuantXReferenceIdeal.τ).loc Cert.QuantXReferenceIdeal.main_arg1) = m' ((c.tc : Thread Cert.QuantXReferenceIdeal.nD Cert.QuantXReferenceIdeal.τ).loc Cert.QuantXReferenceIdeal.main_arg1)
          ∧ r.2.mem ((c.tc : Thread Cert.QuantXReferenceIdeal.nD Cert.QuantXReferenceIdeal.τ).loc Cert.QuantXReferenceIdeal.main_arg2) = m' ((c.tc : Thread Cert.QuantXReferenceIdeal.nD Cert.QuantXReferenceIdeal.τ).loc Cert.QuantXReferenceIdeal.main_arg2)
          ∧ r.2.mem ((c.tc : Thread Cert.QuantXReferenceIdeal.nD Cert.QuantXReferenceIdeal.τ).loc Cert.QuantXReferenceIdeal.main_arg3) = m' ((c.tc : Thread Cert.QuantXReferenceIdeal.nD Cert.QuantXReferenceIdeal.τ).loc Cert.QuantXReferenceIdeal.main_arg3))

def preserves_QuantDy_QuantDyIdeal : Prop :=
  IdealRules.bf16_pair.BufferStatement Cert.QuantDyIdeal.S256x2x128 Cert.QuantDyIdeal.S256x1x128
  ∧ IdealRules.bf16_pair.Statement Cert.QuantDyIdeal.S512x128 Cert.QuantDyIdeal.S256x128
  ∧ IdealRules.bf16_pair.Statement Cert.QuantDyIdeal.S256x2x128 Cert.QuantDyIdeal.S256x1x128
  ∧ IdealRules.bf16_pair.SelectZeroStatement Cert.QuantDyIdeal.S256x128
  ∧ IdealRules.bf16_pair.Statement Cert.QuantDyIdeal.S8x2x128 Cert.QuantDyIdeal.S8x1x128
  ∧ IdealRules.bf16_pair.Statement Cert.QuantDyIdeal.S16x128 Cert.QuantDyIdeal.S8x128
  ∧ IdealRules.bf16_pair.PackStatement Cert.QuantDyIdeal.S8x128

def algebraic_QuantDyIdeal_QuantDyReferenceIdeal_pre_finite_dy_of_sequences [hQuantDyIdeal : Cert.QuantDyIdeal.Facts] [hQuantDyReferenceIdeal : Cert.QuantDyReferenceIdeal.Facts] [hPre_finite_dy_of_sequences : Cert.Pre_finite_dy_of_sequences.Facts] : Prop :=
  ∀ (m : (ℓ : Loc Cert.QuantDyIdeal.nD Cert.QuantDyIdeal.τ Cert.QuantDyIdeal.sig) → Buf (Elt Ideal) ℓ) (g : Dev Cert.QuantDyIdeal.nD → PrngReg)
    (m' : (ℓ : Loc Cert.QuantDyReferenceIdeal.nD Cert.QuantDyReferenceIdeal.τ Cert.QuantDyReferenceIdeal.sig) → Buf (Elt Ideal) ℓ) (g' : Dev Cert.QuantDyReferenceIdeal.nD → PrngReg), Pre_QuantDyIdeal_finite_dy_of_sequences m →
    (∀ c : Dev Cert.QuantDyIdeal.nD,
      m' ((c.tc : Thread Cert.QuantDyReferenceIdeal.nD Cert.QuantDyReferenceIdeal.τ).loc Cert.QuantDyReferenceIdeal.main_arg0) = m ((c.tc : Thread Cert.QuantDyIdeal.nD Cert.QuantDyIdeal.τ).loc Cert.QuantDyIdeal.main_arg0)
      ∧ m' ((c.tc : Thread Cert.QuantDyReferenceIdeal.nD Cert.QuantDyReferenceIdeal.τ).loc Cert.QuantDyReferenceIdeal.main_arg1) = m ((c.tc : Thread Cert.QuantDyIdeal.nD Cert.QuantDyIdeal.τ).loc Cert.QuantDyIdeal.main_arg1)
      ∧ m' ((c.tc : Thread Cert.QuantDyReferenceIdeal.nD Cert.QuantDyReferenceIdeal.τ).loc Cert.QuantDyReferenceIdeal.main_arg2) = m ((c.tc : Thread Cert.QuantDyIdeal.nD Cert.QuantDyIdeal.τ).loc Cert.QuantDyIdeal.main_arg2)
      ∧ m' ((c.tc : Thread Cert.QuantDyReferenceIdeal.nD Cert.QuantDyReferenceIdeal.τ).loc Cert.QuantDyReferenceIdeal.main_arg3) = m ((c.tc : Thread Cert.QuantDyIdeal.nD Cert.QuantDyIdeal.τ).loc Cert.QuantDyIdeal.main_arg3)) →
    ∃ (v0 : (c : Dev Cert.QuantDyIdeal.nD) → Buf (Elt Ideal) ((c.tc : Thread Cert.QuantDyIdeal.nD Cert.QuantDyIdeal.τ).loc Cert.QuantDyIdeal.main_v27_1)) (v1 : (c : Dev Cert.QuantDyIdeal.nD) → Buf (Elt Ideal) ((c.tc : Thread Cert.QuantDyIdeal.nD Cert.QuantDyIdeal.τ).loc Cert.QuantDyIdeal.main_v27_2)) (v2 : (c : Dev Cert.QuantDyIdeal.nD) → Buf (Elt Ideal) ((c.tc : Thread Cert.QuantDyIdeal.nD Cert.QuantDyIdeal.τ).loc Cert.QuantDyIdeal.main_v27_3)),
      θ_run (Cert.QuantDyIdeal.defs (F := Ideal)) (onTc (τ := Cert.QuantDyIdeal.τ) (Cert.QuantDyIdeal.main (F := Ideal))) ⟨m, fun _ => 0, g⟩ (fun r => ∀ c : Dev Cert.QuantDyIdeal.nD,
          r.2.mem ((c.tc : Thread Cert.QuantDyIdeal.nD Cert.QuantDyIdeal.τ).loc Cert.QuantDyIdeal.main_v27_1) = v0 c
          ∧ r.2.mem ((c.tc : Thread Cert.QuantDyIdeal.nD Cert.QuantDyIdeal.τ).loc Cert.QuantDyIdeal.main_v27_2) = v1 c
          ∧ r.2.mem ((c.tc : Thread Cert.QuantDyIdeal.nD Cert.QuantDyIdeal.τ).loc Cert.QuantDyIdeal.main_v27_3) = v2 c
          ∧ r.2.mem ((c.tc : Thread Cert.QuantDyIdeal.nD Cert.QuantDyIdeal.τ).loc Cert.QuantDyIdeal.main_arg0) = m ((c.tc : Thread Cert.QuantDyIdeal.nD Cert.QuantDyIdeal.τ).loc Cert.QuantDyIdeal.main_arg0)
          ∧ r.2.mem ((c.tc : Thread Cert.QuantDyIdeal.nD Cert.QuantDyIdeal.τ).loc Cert.QuantDyIdeal.main_arg1) = m ((c.tc : Thread Cert.QuantDyIdeal.nD Cert.QuantDyIdeal.τ).loc Cert.QuantDyIdeal.main_arg1)
          ∧ r.2.mem ((c.tc : Thread Cert.QuantDyIdeal.nD Cert.QuantDyIdeal.τ).loc Cert.QuantDyIdeal.main_arg2) = m ((c.tc : Thread Cert.QuantDyIdeal.nD Cert.QuantDyIdeal.τ).loc Cert.QuantDyIdeal.main_arg2)
          ∧ r.2.mem ((c.tc : Thread Cert.QuantDyIdeal.nD Cert.QuantDyIdeal.τ).loc Cert.QuantDyIdeal.main_arg3) = m ((c.tc : Thread Cert.QuantDyIdeal.nD Cert.QuantDyIdeal.τ).loc Cert.QuantDyIdeal.main_arg3))
      ∧ θ_run (Cert.QuantDyReferenceIdeal.defs (F := Ideal)) (onTc (τ := Cert.QuantDyReferenceIdeal.τ) (Cert.QuantDyReferenceIdeal.main (F := Ideal))) ⟨m', fun _ => 0, g'⟩ (fun r => ∀ c : Dev Cert.QuantDyReferenceIdeal.nD,
          r.2.mem ((c.tc : Thread Cert.QuantDyReferenceIdeal.nD Cert.QuantDyReferenceIdeal.τ).loc Cert.QuantDyReferenceIdeal.main_v107) = v0 c
          ∧ r.2.mem ((c.tc : Thread Cert.QuantDyReferenceIdeal.nD Cert.QuantDyReferenceIdeal.τ).loc Cert.QuantDyReferenceIdeal.main_v44) = v1 c
          ∧ r.2.mem ((c.tc : Thread Cert.QuantDyReferenceIdeal.nD Cert.QuantDyReferenceIdeal.τ).loc Cert.QuantDyReferenceIdeal.main_v32) = v2 c
          ∧ r.2.mem ((c.tc : Thread Cert.QuantDyReferenceIdeal.nD Cert.QuantDyReferenceIdeal.τ).loc Cert.QuantDyReferenceIdeal.main_arg0) = m' ((c.tc : Thread Cert.QuantDyReferenceIdeal.nD Cert.QuantDyReferenceIdeal.τ).loc Cert.QuantDyReferenceIdeal.main_arg0)
          ∧ r.2.mem ((c.tc : Thread Cert.QuantDyReferenceIdeal.nD Cert.QuantDyReferenceIdeal.τ).loc Cert.QuantDyReferenceIdeal.main_arg1) = m' ((c.tc : Thread Cert.QuantDyReferenceIdeal.nD Cert.QuantDyReferenceIdeal.τ).loc Cert.QuantDyReferenceIdeal.main_arg1)
          ∧ r.2.mem ((c.tc : Thread Cert.QuantDyReferenceIdeal.nD Cert.QuantDyReferenceIdeal.τ).loc Cert.QuantDyReferenceIdeal.main_arg2) = m' ((c.tc : Thread Cert.QuantDyReferenceIdeal.nD Cert.QuantDyReferenceIdeal.τ).loc Cert.QuantDyReferenceIdeal.main_arg2)
          ∧ r.2.mem ((c.tc : Thread Cert.QuantDyReferenceIdeal.nD Cert.QuantDyReferenceIdeal.τ).loc Cert.QuantDyReferenceIdeal.main_arg3) = m' ((c.tc : Thread Cert.QuantDyReferenceIdeal.nD Cert.QuantDyReferenceIdeal.τ).loc Cert.QuantDyReferenceIdeal.main_arg3))

def Claim : Prop :=
  ∃ (hMatmul : Cert.Matmul.Facts) (hMatmulIdeal : Cert.MatmulIdeal.Facts) (hMatmulReferenceIdeal : Cert.MatmulReferenceIdeal.Facts) (hAmaxX : Cert.AmaxX.Facts) (hAmaxXIdeal : Cert.AmaxXIdeal.Facts) (hAmaxXReferenceIdeal : Cert.AmaxXReferenceIdeal.Facts) (hAmaxDy : Cert.AmaxDy.Facts) (hAmaxDyIdeal : Cert.AmaxDyIdeal.Facts) (hAmaxDyReferenceIdeal : Cert.AmaxDyReferenceIdeal.Facts) (hQuantX : Cert.QuantX.Facts) (hQuantXIdeal : Cert.QuantXIdeal.Facts) (hQuantXReferenceIdeal : Cert.QuantXReferenceIdeal.Facts) (hQuantDy : Cert.QuantDy.Facts) (hQuantDyIdeal : Cert.QuantDyIdeal.Facts) (hQuantDyReferenceIdeal : Cert.QuantDyReferenceIdeal.Facts) (hPre_lengths_of_sequences : Cert.Pre_lengths_of_sequences.Facts) (hPre_lengths_of_dy_sequences : Cert.Pre_lengths_of_dy_sequences.Facts) (hPre_finite_of_sequences : Cert.Pre_finite_of_sequences.Facts) (hPre_finite_dy_of_sequences : Cert.Pre_finite_dy_of_sequences.Facts),
    quiescent_Matmul (hMatmul := hMatmul)
    ∧ quiescent_MatmulIdeal (hMatmulIdeal := hMatmulIdeal)
    ∧ quiescent_MatmulReferenceIdeal (hMatmulReferenceIdeal := hMatmulReferenceIdeal)
    ∧ quiescent_AmaxX (hAmaxX := hAmaxX)
    ∧ quiescent_AmaxXIdeal (hAmaxXIdeal := hAmaxXIdeal)
    ∧ quiescent_AmaxXIdeal_pre_lengths_of_sequences (hAmaxXIdeal := hAmaxXIdeal) (hPre_lengths_of_sequences := hPre_lengths_of_sequences)
    ∧ quiescent_AmaxXReferenceIdeal (hAmaxXReferenceIdeal := hAmaxXReferenceIdeal)
    ∧ quiescent_AmaxXReferenceIdeal_pre_lengths_of_sequences (hAmaxXReferenceIdeal := hAmaxXReferenceIdeal) (hPre_lengths_of_sequences := hPre_lengths_of_sequences)
    ∧ quiescent_AmaxDy (hAmaxDy := hAmaxDy)
    ∧ quiescent_AmaxDyIdeal (hAmaxDyIdeal := hAmaxDyIdeal)
    ∧ quiescent_AmaxDyIdeal_pre_lengths_of_dy_sequences (hAmaxDyIdeal := hAmaxDyIdeal) (hPre_lengths_of_dy_sequences := hPre_lengths_of_dy_sequences)
    ∧ quiescent_AmaxDyReferenceIdeal (hAmaxDyReferenceIdeal := hAmaxDyReferenceIdeal)
    ∧ quiescent_AmaxDyReferenceIdeal_pre_lengths_of_dy_sequences (hAmaxDyReferenceIdeal := hAmaxDyReferenceIdeal) (hPre_lengths_of_dy_sequences := hPre_lengths_of_dy_sequences)
    ∧ quiescent_QuantX (hQuantX := hQuantX)
    ∧ quiescent_QuantXIdeal (hQuantXIdeal := hQuantXIdeal)
    ∧ quiescent_QuantXIdeal_pre_finite_of_sequences (hQuantXIdeal := hQuantXIdeal) (hPre_finite_of_sequences := hPre_finite_of_sequences)
    ∧ quiescent_QuantXReferenceIdeal (hQuantXReferenceIdeal := hQuantXReferenceIdeal)
    ∧ quiescent_QuantXReferenceIdeal_pre_finite_of_sequences (hQuantXReferenceIdeal := hQuantXReferenceIdeal) (hPre_finite_of_sequences := hPre_finite_of_sequences)
    ∧ quiescent_QuantDy (hQuantDy := hQuantDy)
    ∧ quiescent_QuantDyIdeal (hQuantDyIdeal := hQuantDyIdeal)
    ∧ quiescent_QuantDyIdeal_pre_finite_dy_of_sequences (hQuantDyIdeal := hQuantDyIdeal) (hPre_finite_dy_of_sequences := hPre_finite_dy_of_sequences)
    ∧ quiescent_QuantDyReferenceIdeal (hQuantDyReferenceIdeal := hQuantDyReferenceIdeal)
    ∧ quiescent_QuantDyReferenceIdeal_pre_finite_dy_of_sequences (hQuantDyReferenceIdeal := hQuantDyReferenceIdeal) (hPre_finite_dy_of_sequences := hPre_finite_dy_of_sequences)
    ∧ preserves_Matmul_MatmulIdeal
    ∧ algebraic_MatmulIdeal_MatmulReferenceIdeal (hMatmulIdeal := hMatmulIdeal) (hMatmulReferenceIdeal := hMatmulReferenceIdeal)
    ∧ preserves_AmaxX_AmaxXIdeal
    ∧ algebraic_AmaxXIdeal_AmaxXReferenceIdeal_pre_lengths_of_sequences (hAmaxXIdeal := hAmaxXIdeal) (hAmaxXReferenceIdeal := hAmaxXReferenceIdeal) (hPre_lengths_of_sequences := hPre_lengths_of_sequences)
    ∧ preserves_AmaxDy_AmaxDyIdeal
    ∧ algebraic_AmaxDyIdeal_AmaxDyReferenceIdeal_pre_lengths_of_dy_sequences (hAmaxDyIdeal := hAmaxDyIdeal) (hAmaxDyReferenceIdeal := hAmaxDyReferenceIdeal) (hPre_lengths_of_dy_sequences := hPre_lengths_of_dy_sequences)
    ∧ preserves_QuantX_QuantXIdeal
    ∧ algebraic_QuantXIdeal_QuantXReferenceIdeal_pre_finite_of_sequences (hQuantXIdeal := hQuantXIdeal) (hQuantXReferenceIdeal := hQuantXReferenceIdeal) (hPre_finite_of_sequences := hPre_finite_of_sequences)
    ∧ preserves_QuantDy_QuantDyIdeal
    ∧ algebraic_QuantDyIdeal_QuantDyReferenceIdeal_pre_finite_dy_of_sequences (hQuantDyIdeal := hQuantDyIdeal) (hQuantDyReferenceIdeal := hQuantDyReferenceIdeal) (hPre_finite_dy_of_sequences := hPre_finite_dy_of_sequences)
-- ==== Pre_finite_dy_of_sequences.lean ====
abbrev S4x2048x18944 : Shape := ⟨3, ![4, 2048, 18944]⟩
abbrev S16 : Shape := ⟨1, ![16]⟩
abbrev S4 : Shape := ⟨1, ![4]⟩
abbrev S8x128 : Shape := ⟨2, ![8, 128]⟩
abbrev S_ : Shape := ⟨0, ![]⟩
abbrev S1x1 : Shape := ⟨2, ![1, 1]⟩

class Facts : Prop where
  bcast_S_S4x2048x18944 : S_.BroadcastsInDim S4x2048x18944 (![] : Fin 0 → Fin S4x2048x18944.rank)
  bcast_S_S16 : S_.BroadcastsInDim S16 (![] : Fin 0 → Fin S16.rank)
  bcast_S_S4 : S_.BroadcastsInDim S4 (![] : Fin 0 → Fin S4.rank)
  slices_S8x128_S1x1_0_0 : S8x128.Slices ![0, 0] S1x1
  bcast_S1x1_S8x128_0_1 : S1x1.BroadcastsInDim S8x128 (![0, 1] : Fin 2 → Fin S8x128.rank)

variable [Facts]

def fn {F : FTy → Type} [FloatOps F] (main_arg0 : FVec F S4x2048x18944 .bf16) (main_arg1 : FVec F S16 .f32) (main_arg2 : IVec S4 32) (main_arg3 : FVec F S8x128 .f32) : IVec S4x2048x18944 1 × IVec S16 1 × IVec S4 1 × IVec S8x128 1 :=
  let main_v0 : FVec F S4x2048x18944 .bf16 := Host.absf main_arg0
  let main_cst : FVec F S_ .bf16 := constant S_ .bf16 0x7F80#16
  let main_v1 : FVec F S4x2048x18944 .bf16 := broadcastInDim S4x2048x18944 ![] bcast_S_S4x2048x18944 main_cst
  let main_v2 : IVec S4x2048x18944 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_c : IVec S_ 32 := constantI S_ 32 0#32
  let main_v6 : IVec S4 32 := broadcastInDim S4 ![] bcast_S_S4 main_c
  let main_v7 : IVec S4 1 := cmpi .sge main_arg2 main_v6
  let main_v8 : FVec F S1x1 .f32 := (extractStridedSlice S1x1 ![0, 0] · slices_S8x128_S1x1_0_0) main_arg3
  let main_v9 : FVec F S8x128 .f32 := broadcastInDim S8x128 ![0, 1] bcast_S1x1_S8x128_0_1 main_v8
  let main_v10 : IVec S8x128 1 := cmpf .oeq main_arg3 main_v9
  (main_v2, main_v5, main_v7, main_v10)
-- ==== Pre_finite_of_sequences.lean ====
abbrev S4x2048x3584 : Shape := ⟨3, ![4, 2048, 3584]⟩
abbrev S16 : Shape := ⟨1, ![16]⟩
abbrev S4 : Shape := ⟨1, ![4]⟩
abbrev S8x128 : Shape := ⟨2, ![8, 128]⟩
abbrev S_ : Shape := ⟨0, ![]⟩
abbrev S1x1 : Shape := ⟨2, ![1, 1]⟩

class Facts : Prop where
  bcast_S_S4x2048x3584 : S_.BroadcastsInDim S4x2048x3584 (![] : Fin 0 → Fin S4x2048x3584.rank)
  bcast_S_S16 : S_.BroadcastsInDim S16 (![] : Fin 0 → Fin S16.rank)
  bcast_S_S4 : S_.BroadcastsInDim S4 (![] : Fin 0 → Fin S4.rank)
  slices_S8x128_S1x1_0_0 : S8x128.Slices ![0, 0] S1x1
  bcast_S1x1_S8x128_0_1 : S1x1.BroadcastsInDim S8x128 (![0, 1] : Fin 2 → Fin S8x128.rank)

variable [Facts]

def fn {F : FTy → Type} [FloatOps F] (main_arg0 : FVec F S4x2048x3584 .bf16) (main_arg1 : FVec F S16 .f32) (main_arg2 : IVec S4 32) (main_arg3 : FVec F S8x128 .f32) : IVec S4x2048x3584 1 × IVec S16 1 × IVec S4 1 × IVec S8x128 1 :=
  let main_v0 : FVec F S4x2048x3584 .bf16 := Host.absf main_arg0
  let main_cst : FVec F S_ .bf16 := constant S_ .bf16 0x7F80#16
  let main_v1 : FVec F S4x2048x3584 .bf16 := broadcastInDim S4x2048x3584 ![] bcast_S_S4x2048x3584 main_cst
  let main_v2 : IVec S4x2048x3584 1 := cmpf .olt main_v0 main_v1
  let main_v3 : FVec F S16 .f32 := Host.absf main_arg1
  let main_cst_0 : FVec F S_ .f32 := constant S_ .f32 0x7F800000#32
  let main_v4 : FVec F S16 .f32 := broadcastInDim S16 ![] bcast_S_S16 main_cst_0
  let main_v5 : IVec S16 1 := cmpf .olt main_v3 main_v4
  let main_c : IVec S_ 32 := constantI S_ 32 0#32
  let main_v6 : IVec S4 32 := broadcastInDim S4 ![] bcast_S_S4 main_c
  let main_v7 : IVec S4 1 := cmpi .sge main_arg2 main_v6
  let main_v8 : FVec F S1x1 .f32 := (extractStridedSlice S1x1 ![0, 0] · slices_S8x128_S1x1_0_0) main_arg3
  let main_v9 : FVec F S8x128 .f32 := broadcastInDim S8x128 ![0, 1] bcast_S1x1_S8x128_0_1 main_v8
  let main_v10 : IVec S8x128 1 := cmpf .oeq main_arg3 main_v9
  (main_v2, main_v5, main_v7, main_v10)
-- ==== Pre_lengths_of_dy_sequences.lean ====
abbrev S4x2048x18944 : Shape := ⟨3, ![4, 2048, 18944]⟩
abbrev S16 : Shape := ⟨1, ![16]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x18944 .bf16) (main_arg1 : FVec F S16 .f32) (main_arg2 : IVec S4 32) : IVec S4 1 :=
  let main_c : IVec S_ 32 := constantI S_ 32 0#32
  let main_v0 : IVec S4 32 := broadcastInDim S4 ![] bcast_S_S4 main_c
  let main_v1 : IVec S4 1 := cmpi .sge main_arg2 main_v0
  main_v1
-- ==== Pre_lengths_of_sequences.lean ====
abbrev S4x2048x3584 : Shape := ⟨3, ![4, 2048, 3584]⟩
abbrev S16 : Shape := ⟨1, ![16]⟩
abbrev S4 : Shape := ⟨1, ![4]⟩
abbrev S_ : Shape := ⟨0, ![]⟩

class Facts : Prop where
  bcast_S_S4 : S_.BroadcastsInDim S4 (![] : Fin 0 → Fin S4.rank)

variable [Facts]

def fn {F : FTy → Type} [FloatOps F] (main_arg0 : FVec F S4x2048x3584 .bf16) (main_arg1 : FVec F S16 .f32) (main_arg2 : IVec S4 32) : IVec S4 1 :=
  let main_c : IVec S_ 32 := constantI S_ 32 0#32
  let main_v0 : IVec S4 32 := broadcastInDim S4 ![] bcast_S_S4 main_c
  let main_v1 : IVec S4 1 := cmpi .sge main_arg2 main_v0
  main_v1
-- ==== Matmul.lean ====
abbrev S3584x8192 : Shape := ⟨2, ![3584, 8192]⟩
abbrev S8192x18944 : Shape := ⟨2, ![8192, 18944]⟩
abbrev S8x128 : Shape := ⟨2, ![8, 128]⟩
abbrev S3584x18944 : Shape := ⟨2, ![3584, 18944]⟩
abbrev S1792x2048 : Shape := ⟨2, ![1792, 2048]⟩
abbrev S2048x512 : Shape := ⟨2, ![2048, 512]⟩
abbrev S1792x512 : Shape := ⟨2, ![1792, 512]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S3584x8192, .bf16⟩
  | .hbm, ⟨1, _⟩ => ⟨S8192x18944, .bf16⟩
  | .hbm, ⟨2, _⟩ => ⟨S8x128, .f32⟩
  | .hbm, ⟨3, _⟩ => ⟨S8x128, .f32⟩
  | .hbm, ⟨4, _⟩ => ⟨S3584x18944, .f32⟩
  | .local _ .vmem, ⟨0, _⟩ => ⟨S1792x2048, .bf16⟩
  | .local _ .vmem, ⟨1, _⟩ => ⟨S1792x2048, .bf16⟩
  | .local _ .vmem, ⟨2, _⟩ => ⟨S2048x512, .bf16⟩
  | .local _ .vmem, ⟨3, _⟩ => ⟨S2048x512, .bf16⟩
  | .local _ .vmem, ⟨4, _⟩ => ⟨S1792x512, .f32⟩
  | .local _ .vmem, ⟨5, _⟩ => ⟨S1792x512, .f32⟩
  | .local _ .smem, ⟨0, _⟩ => ⟨S8x128, .f32⟩
  | .local _ .smem, ⟨1, _⟩ => ⟨S8x128, .f32⟩
  | _, _ => ⟨S3584x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![37, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .smem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1792x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1792x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== MatmulReferenceIdeal.lean ====
abbrev S3584x8192 : Shape := ⟨2, ![3584, 8192]⟩
abbrev S8192x18944 : Shape := ⟨2, ![8192, 18944]⟩
abbrev S8x128 : Shape := ⟨2, ![8, 128]⟩
abbrev S3584x18944 : Shape := ⟨2, ![3584, 18944]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S3584x8192, .bf16⟩
  | .hbm, ⟨1, _⟩ => ⟨S8192x18944, .bf16⟩
  | .hbm, ⟨2, _⟩ => ⟨S8x128, .f32⟩
  | .hbm, ⟨3, _⟩ => ⟨S8x128, .f32⟩
  | .hbm, ⟨4, _⟩ => ⟨S3584x18944, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S3584x18944, .f32⟩
  | .hbm, ⟨11, _⟩ => ⟨S3584x18944, .f32⟩
  | _, _ => ⟨S3584x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== AmaxX.lean ====
abbrev S4x2048x3584 : Shape := ⟨3, ![4, 2048, 3584]⟩
abbrev S16 : Shape := ⟨1, ![16]⟩
abbrev S4 : Shape := ⟨1, ![4]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S8192x3584 : Shape := ⟨2, ![8192, 3584]⟩
abbrev S8x128 : Shape := ⟨2, ![8, 128]⟩
abbrev S256x512 : Shape := ⟨2, ![256, 512]⟩
abbrev S1 : Shape := ⟨1, ![1]⟩
abbrev S32x8x512 : Shape := ⟨3, ![32, 8, 512]⟩
abbrev S8x512 : Shape := ⟨2, ![8, 512]⟩
abbrev S1x8x128 : Shape := ⟨3, ![1, 8, 128]⟩
abbrev S1x1x1 : Shape := ⟨3, ![1, 1, 1]⟩
abbrev S1x1 : Shape := ⟨2, ![1, 1]⟩

abbrev nBuf : Space → Nat
  | .hbm => 43
  | .vmem => 5
  | .smem => 1
  | _ => 0

abbrev bufTy : (tb : Table) → Fin (tcTables nBuf tb) → BufTy
  | .hbm, ⟨0, _⟩ => ⟨S4x2048x3584, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .bf16⟩
  | .hbm, ⟨16, _⟩ => ⟨S_, .i32⟩
  | .hbm, ⟨17, _⟩ => ⟨S16x16, .i32⟩
  | .hbm, ⟨18, _⟩ => ⟨S16x16, .i1⟩
  | .hbm, ⟨19, _⟩ => ⟨S1x16, .bf16⟩
  | .hbm, ⟨20, _⟩ => ⟨S1x16, .bf16⟩
  | .hbm, ⟨21, _⟩ => ⟨S1x16, .bf16⟩
  | .hbm, ⟨22, _⟩ => ⟨S16x16, .bf16⟩
  | .hbm, ⟨23, _⟩ => ⟨S16x16, .bf16⟩
  | .hbm, ⟨24, _⟩ => ⟨S16x16, .bf16⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S16x16, .bf16⟩
  | .hbm, ⟨32, _⟩ => ⟨S16x1x16x1, .bf16⟩
  | .hbm, ⟨33, _⟩ => ⟨S1x16x1x16, .bf16⟩
  | .hbm, ⟨34, _⟩ => ⟨S16x16x16x16, .bf16⟩
  | .hbm, ⟨35, _⟩ => ⟨S16x16x16x16, .bf16⟩
  | .hbm, ⟨36, _⟩ => ⟨S16x16x16x16, .bf16⟩
  | .hbm, ⟨37, _⟩ => ⟨S256x256, .bf16⟩
  | .hbm, ⟨38, _⟩ => ⟨S16, .f32⟩
  | .hbm, ⟨39, _⟩ => ⟨S8192x3584, .bf16⟩
  | .hbm, ⟨40, _⟩ => ⟨S8x128, .f32⟩
  | .hbm, ⟨41, _⟩ => ⟨S1x1, .f32⟩
  | .hbm, ⟨42, _⟩ => ⟨S1, .f32⟩
  | .local _ .vmem, ⟨0, _⟩ => ⟨S256x256, .bf16⟩
  | .local _ .vmem, ⟨1, _⟩ => ⟨S256x512, .bf16⟩
  | .local _ .vmem, ⟨2, _⟩ => ⟨S256x512, .bf16⟩
  | .local _ .vmem, ⟨3, _⟩ => ⟨S8x128, .f32⟩
  | .local _ .vmem, ⟨4, _⟩ => ⟨S8x128, .f32⟩
  | .local _ .smem, ⟨0, _⟩ => ⟨S4, .i32⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![32, 7], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c8_i32 : BitVec 32 := 8#32
  let c0_i32_4 : BitVec 32 := 0#32
  let v11 : BitVec 1 := Scalar.cmpi .sgt c8_i32 c0_i32_4
  let v12 : BitVec 32 := Scalar.extui v11
  let c0_i32_5 : BitVec 32 := 0#32
  let v13 : BitVec 1 := Scalar.cmpi .slt c8_i32 c0_i32_5
  let v14 : BitVec 32 := Scalar.extui v13
  let v15 : BitVec 32 := Scalar.subi v12 v14
  let v16 : BitVec 1 := Scalar.cmpi .ne v10 v15
  let v17 : BitVec 32 := Scalar.remsi arg0 c8_i32
  let c0_i32_6 : BitVec 32 := 0#32
  let v18 : BitVec 1 := Scalar.cmpi .ne v17 c0_i32_6
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let v22 : Index := Scalar.indexCast v21
  ![v22.toNat]
def k0_cond3 (i : grid0.Coords) : BitVec 1 :=
  let arg0 : BitVec 32 := BitVec.ofNat 32 (i 0).val
  let c31_i32 : BitVec 32 := 31#32
  let v39 : BitVec 1 := Scalar.cmpi .eq arg0 c31_i32
  let arg1 : BitVec 32 := BitVec.ofNat 32 (i 1).val
  let c6_i32 : BitVec 32 := 6#32
  let v40 : BitVec 1 := Scalar.cmpi .eq arg1 c6_i32
  let v41 : BitVec 1 := Scalar.andi v39 v40
  let v42 : BitVec 32 := Scalar.extui v41
  let c0_i32_15 : BitVec 32 := 0#32
  let v43 : BitVec 1 := Scalar.cmpi .ne v42 c0_i32_15
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== AmaxXReferenceIdeal.lean ====
abbrev S4x2048x3584 : Shape := ⟨3, ![4, 2048, 3584]⟩
abbrev S16 : Shape := ⟨1, ![16]⟩
abbrev S4 : Shape := ⟨1, ![4]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S2048 : Shape := ⟨1, ![2048]⟩
abbrev S1x2048 : Shape := ⟨2, ![1, 2048]⟩
abbrev S4x1 : Shape := ⟨2, ![4, 1]⟩
abbrev S4x2048 : Shape := ⟨2, ![4, 2048]⟩
abbrev S4x2048x1 : Shape := ⟨3, ![4, 2048, 1]⟩
abbrev S512x16x3584 : Shape := ⟨3, ![512, 16, 3584]⟩
abbrev S512x3584x16 : Shape := ⟨3, ![512, 3584, 16]⟩
abbrev S512x3584 : Shape := ⟨2, ![512, 3584]⟩
abbrev S1 : Shape := ⟨1, ![1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x3584, .bf16⟩
  | .hbm, ⟨1, _⟩ => ⟨S16, .f32⟩
  | .hbm, ⟨2, _⟩ => ⟨S4, .i32⟩
  | .hbm, ⟨3, _⟩ => ⟨S16, .i32⟩
  | .hbm, ⟨4, _⟩ => ⟨S16x1, .i32⟩
  | .hbm, ⟨5, _⟩ => ⟨S16, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i1⟩
  | .hbm, ⟨17, _⟩ => ⟨S_, .f32⟩
  | .hbm, ⟨18, _⟩ => ⟨S_, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S1x16, .f32⟩
  | .hbm, ⟨24, _⟩ => ⟨S16x16, .f32⟩
  | .hbm, ⟨25, _⟩ => ⟨S16x16, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S2048, .i32⟩
  | .hbm, ⟨30, _⟩ => ⟨S1x2048, .i32⟩
  | .hbm, ⟨31, _⟩ => ⟨S4x1, .i32⟩
  | .hbm, ⟨32, _⟩ => ⟨S4x2048, .i32⟩
  | .hbm, ⟨33, _⟩ => ⟨S4x2048, .i32⟩
  | .hbm, ⟨34, _⟩ => ⟨S4x2048, .i1⟩
  | .hbm, ⟨35, _⟩ => ⟨S4x2048x1, .i1⟩
  | .hbm, ⟨36, _⟩ => ⟨S_, .bf16⟩
  | .hbm, ⟨37, _⟩ => ⟨S4x2048x3584, .i1⟩
  | .hbm, ⟨38, _⟩ => ⟨S4x2048x3584, .bf16⟩
  | .hbm, ⟨39, _⟩ => ⟨S4x2048x3584, .bf16⟩
  | .hbm, ⟨40, _⟩ => ⟨S512x16x3584, .bf16⟩
  | .hbm, ⟨41, _⟩ => ⟨S16x16, .bf16⟩
  | .hbm, ⟨42, _⟩ => ⟨S512x3584x16, .f32⟩
  | .hbm, ⟨43, _⟩ => ⟨S512x16x3584, .f32⟩
  | .hbm, ⟨44, _⟩ => ⟨S512x16x3584, .f32⟩
  | .hbm, ⟨45, _⟩ => ⟨S_, .f32⟩
  | .hbm, ⟨46, _⟩ => ⟨S512x3584, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | _, _ => ⟨S4x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_call2_v0 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== AmaxDy.lean ====
abbrev S4x2048x18944 : Shape := ⟨3, ![4, 2048, 18944]⟩
abbrev S16 : Shape := ⟨1, ![16]⟩
abbrev S4 : Shape := ⟨1, ![4]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S8192x18944 : Shape := ⟨2, ![8192, 18944]⟩
abbrev S8x128 : Shape := ⟨2, ![8, 128]⟩
abbrev S256x512 : Shape := ⟨2, ![256, 512]⟩
abbrev S1 : Shape := ⟨1, ![1]⟩
abbrev S32x8x512 : Shape := ⟨3, ![32, 8, 512]⟩
abbrev S8x512 : Shape := ⟨2, ![8, 512]⟩
abbrev S1x8x128 : Shape := ⟨3, ![1, 8, 128]⟩
abbrev S1x1x1 : Shape := ⟨3, ![1, 1, 1]⟩
abbrev S1x1 : Shape := ⟨2, ![1, 1]⟩

abbrev nBuf : Space → Nat
  | .hbm => 43
  | .vmem => 5
  | .smem => 1
  | _ => 0

abbrev bufTy : (tb : Table) → Fin (tcTables nBuf tb) → BufTy
  | .hbm, ⟨0, _⟩ => ⟨S4x2048x18944, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .bf16⟩
  | .hbm, ⟨16, _⟩ => ⟨S_, .i32⟩
  | .hbm, ⟨17, _⟩ => ⟨S16x16, .i32⟩
  | .hbm, ⟨18, _⟩ => ⟨S16x16, .i1⟩
  | .hbm, ⟨19, _⟩ => ⟨S1x16, .bf16⟩
  | .hbm, ⟨20, _⟩ => ⟨S1x16, .bf16⟩
  | .hbm, ⟨21, _⟩ => ⟨S1x16, .bf16⟩
  | .hbm, ⟨22, _⟩ => ⟨S16x16, .bf16⟩
  | .hbm, ⟨23, _⟩ => ⟨S16x16, .bf16⟩
  | .hbm, ⟨24, _⟩ => ⟨S16x16, .bf16⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S16x16, .bf16⟩
  | .hbm, ⟨32, _⟩ => ⟨S16x1x16x1, .bf16⟩
  | .hbm, ⟨33, _⟩ => ⟨S1x16x1x16, .bf16⟩
  | .hbm, ⟨34, _⟩ => ⟨S16x16x16x16, .bf16⟩
  | .hbm, ⟨35, _⟩ => ⟨S16x16x16x16, .bf16⟩
  | .hbm, ⟨36, _⟩ => ⟨S16x16x16x16, .bf16⟩
  | .hbm, ⟨37, _⟩ => ⟨S256x256, .bf16⟩
  | .hbm, ⟨38, _⟩ => ⟨S16, .f32⟩
  | .hbm, ⟨39, _⟩ => ⟨S8192x18944, .bf16⟩
  | .hbm, ⟨40, _⟩ => ⟨S8x128, .f32⟩
  | .hbm, ⟨41, _⟩ => ⟨S1x1, .f32⟩
  | .hbm, ⟨42, _⟩ => ⟨S1, .f32⟩
  | .local _ .vmem, ⟨0, _⟩ => ⟨S256x256, .bf16⟩
  | .local _ .vmem, ⟨1, _⟩ => ⟨S256x512, .bf16⟩
  | .local _ .vmem, ⟨2, _⟩ => ⟨S256x512, .bf16⟩
  | .local _ .vmem, ⟨3, _⟩ => ⟨S8x128, .f32⟩
  | .local _ .vmem, ⟨4, _⟩ => ⟨S8x128, .f32⟩
  | .local _ .smem, ⟨0, _⟩ => ⟨S4, .i32⟩
  | _, _ => ⟨S4x2048x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨2, ![32, 37], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c0_i32_2 : BitVec 32 := 0#32
  let v6 : BitVec 1 := Scalar.cmpi .sgt arg0 c0_i32_2
  let v7 : BitVec 32 := Scalar.extui v6
  let c0_i32_3 : BitVec 32 := 0#32
  let v8 : BitVec 1 := Scalar.cmpi .slt arg0 c0_i32_3
  let v9 : BitVec 32 := Scalar.extui v8
  let v10 : BitVec 32 := Scalar.subi v7 v9
  let c8_i32 : BitVec 32 := 8#32
  let c0_i32_4 : BitVec 32 := 0#32
  let v11 : BitVec 1 := Scalar.cmpi .sgt c8_i32 c0_i32_4
  let v12 : BitVec 32 := Scalar.extui v11
  let c0_i32_5 : BitVec 32 := 0#32
  let v13 : BitVec 1 := Scalar.cmpi .slt c8_i32 c0_i32_5
  let v14 : BitVec 32 := Scalar.extui v13
  let v15 : BitVec 32 := Scalar.subi v12 v14
  let v16 : BitVec 1 := Scalar.cmpi .ne v10 v15
  let v17 : BitVec 32 := Scalar.remsi arg0 c8_i32
  let c0_i32_6 : BitVec 32 := 0#32
  let v18 : BitVec 1 := Scalar.cmpi .ne v17 c0_i32_6
  let v19 : BitVec 1 := Scalar.andi v16 v18
  let v5 : BitVec 32 := Scalar.divsi arg0 c8_i32
  let c1_i32 : BitVec 32 := 1#32
  let v20 : BitVec 32 := Scalar.subi v5 c1_i32
  let v21 : BitVec 32 := Scalar.select v19 v20 v5
  let v22 : Index := Scalar.indexCast v21
  ![v22.toNat]
def k0_cond3 (i : grid0.Coords) : BitVec 1 :=
  let arg0 : BitVec 32 := BitVec.ofNat 32 (i 0).val
  let c31_i32 : BitVec 32 := 31#32
  let v39 : BitVec 1 := Scalar.cmpi .eq arg0 c31_i32
  let arg1 : BitVec 32 := BitVec.ofNat 32 (i 1).val
  let c36_i32 : BitVec 32 := 36#32
  let v40 : BitVec 1 := Scalar.cmpi .eq arg1 c36_i32
  let v41 : BitVec 1 := Scalar.andi v39 v40
  let v42 : BitVec 32 := Scalar.extui v41
  let c0_i32_15 : BitVec 32 := 0#32
  let v43 : BitVec 1 := Scalar.cmpi .ne v42 c0_i32_15
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== AmaxDyReferenceIdeal.lean ====
abbrev S4x2048x18944 : Shape := ⟨3, ![4, 2048, 18944]⟩
abbrev S16 : Shape := ⟨1, ![16]⟩
abbrev S4 : Shape := ⟨1, ![4]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S2048 : Shape := ⟨1, ![2048]⟩
abbrev S1x2048 : Shape := ⟨2, ![1, 2048]⟩
abbrev S4x1 : Shape := ⟨2, ![4, 1]⟩
abbrev S4x2048 : Shape := ⟨2, ![4, 2048]⟩
abbrev S4x2048x1 : Shape := ⟨3, ![4, 2048, 1]⟩
abbrev S512x16x18944 : Shape := ⟨3, ![512, 16, 18944]⟩
abbrev S512x18944x16 : Shape := ⟨3, ![512, 18944, 16]⟩
abbrev S512x18944 : Shape := ⟨2, ![512, 18944]⟩
abbrev S1 : Shape := ⟨1, ![1]⟩

abbrev nBuf : Space → Nat
  | .hbm => 57
  | .vmem => 0
  | .smem => 0
  | _ => 0

abbrev bufTy : (tb : Table) → Fin (tcTables nBuf tb) → BufTy
  | .hbm, ⟨0, _⟩ => ⟨S4x2048x18944, .bf16⟩
  | .hbm, ⟨1, _⟩ => ⟨S16, .f32⟩
  | .hbm, ⟨2, _⟩ => ⟨S4, .i32⟩
  | .hbm, ⟨3, _⟩ => ⟨S16, .i32⟩
  | .hbm, ⟨4, _⟩ => ⟨S16x1, .i32⟩
  | .hbm, ⟨5, _⟩ => ⟨S16, .i32⟩
  | .hbm, ⟨6, _⟩ => ⟨S1x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S16x16, .i32⟩
  | .hbm, ⟨11, _⟩ => ⟨S_, .i32⟩
  | .hbm, ⟨12, _⟩ => ⟨S16x16, .i32⟩
  | .hbm, ⟨13, _⟩ => ⟨S16x16, .i32⟩
  | .hbm, ⟨14, _⟩ => ⟨S_, .i32⟩
  | .hbm, ⟨15, _⟩ => ⟨S16x16, .i32⟩
  | .hbm, ⟨16, _⟩ => ⟨S16x16, .i1⟩
  | .hbm, ⟨17, _⟩ => ⟨S_, .f32⟩
  | .hbm, ⟨18, _⟩ => ⟨S_, .f32⟩
  | .hbm, ⟨19, _⟩ => ⟨S16x16, .f32⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S1x16, .f32⟩
  | .hbm, ⟨24, _⟩ => ⟨S16x16, .f32⟩
  | .hbm, ⟨25, _⟩ => ⟨S16x16, .f32⟩
  | .hbm, ⟨26, _⟩ => ⟨S_, .f32⟩
  | .hbm, ⟨27, _⟩ => ⟨S16x16, .f32⟩
  | .hbm, ⟨28, _⟩ => ⟨S16x16, .f32⟩
  | .hbm, ⟨29, _⟩ => ⟨S2048, .i32⟩
  | .hbm, ⟨30, _⟩ => ⟨S1x2048, .i32⟩
  | .hbm, ⟨31, _⟩ => ⟨S4x1, .i32⟩
  | .hbm, ⟨32, _⟩ => ⟨S4x2048, .i32⟩
  | .hbm, ⟨33, _⟩ => ⟨S4x2048, .i32⟩
  | .hbm, ⟨34, _⟩ => ⟨S4x2048, .i1⟩
  | .hbm, ⟨35, _⟩ => ⟨S4x2048x1, .i1⟩
  | .hbm, ⟨36, _⟩ => ⟨S_, .bf16⟩
  | .hbm, ⟨37, _⟩ => ⟨S4x2048x18944, .i1⟩
  | .hbm, ⟨38, _⟩ => ⟨S4x2048x18944, .bf16⟩
  | .hbm, ⟨39, _⟩ => ⟨S4x2048x18944, .bf16⟩
  | .hbm, ⟨40, _⟩ => ⟨S512x16x18944, .bf16⟩
  | .hbm, ⟨41, _⟩ => ⟨S16x16, .bf16⟩
  | .hbm, ⟨42, _⟩ => ⟨S512x18944x16, .f32⟩
  | .hbm, ⟨43, _⟩ => ⟨S512x16x18944, .f32⟩
  | .hbm, ⟨44, _⟩ => ⟨S512x16x18944, .f32⟩
  | .hbm, ⟨45, _⟩ => ⟨S_, .f32⟩
  | .hbm, ⟨46, _⟩ => ⟨S512x18944, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1, .f32⟩
  | _, _ => ⟨S4x2048x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_call2_v0 : Ref sig .tc := ⟨.hbm, 54, rfl⟩
abbrev main_v36 : Ref sig .tc := ⟨.hbm, 55, rfl⟩
abbrev main_v37 : Ref sig .tc := ⟨.hbm, 56, rfl⟩

abbrev nD : Nat := 1
abbrev τ : Topo := Topo.v7x

variable {F : FTy → Type} [FloatOps F]
-- ==== QuantX.lean ====
abbrev S4x2048x3584 : Shape := ⟨3, ![4, 2048, 3584]⟩
abbrev S16 : Shape := ⟨1, ![16]⟩
abbrev S4 : Shape := ⟨1, ![4]⟩
abbrev S8x128 : Shape := ⟨2, ![8, 128]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S8192x3584 : Shape := ⟨2, ![8192, 3584]⟩
abbrev S3584x8192 : Shape := ⟨2, ![3584, 8192]⟩
abbrev S4096x3584 : Shape := ⟨2, ![4096, 3584]⟩
abbrev S512x3584 : Shape := ⟨2, ![512, 3584]⟩
abbrev S512x128 : Shape := ⟨2, ![512, 128]⟩
abbrev S128x512 : Shape := ⟨2, ![128, 512]⟩
abbrev S256x128 : Shape := ⟨2, ![256, 128]⟩
abbrev S32x128 : Shape := ⟨2, ![32, 128]⟩
abbrev S64x128 : Shape := ⟨2, ![64, 128]⟩
abbrev S1 : Shape := ⟨1, ![1]⟩
abbrev S16x128 : Shape := ⟨2, ![16, 128]⟩
abbrev S128x128 : Shape := ⟨2, ![128, 128]⟩

abbrev nBuf : Space → Nat
  | .hbm => 45
  | .vmem => 13
  | .smem => 2
  | _ => 0

abbrev bufTy : (tb : Table) → Fin (tcTables nBuf tb) → BufTy
  | .hbm, ⟨0, _⟩ => ⟨S4x2048x3584, .bf16⟩
  | .hbm, ⟨1, _⟩ => ⟨S16, .f32⟩
  | .hbm, ⟨2, _⟩ => ⟨S8x128, .f32⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .bf16⟩
  | .hbm, ⟨17, _⟩ => ⟨S_, .i32⟩
  | .hbm, ⟨18, _⟩ => ⟨S16x16, .i32⟩
  | .hbm, ⟨19, _⟩ => ⟨S16x16, .i1⟩
  | .hbm, ⟨20, _⟩ => ⟨S1x16, .bf16⟩
  | .hbm, ⟨21, _⟩ => ⟨S1x16, .bf16⟩
  | .hbm, ⟨22, _⟩ => ⟨S1x16, .bf16⟩
  | .hbm, ⟨23, _⟩ => ⟨S16x16, .bf16⟩
  | .hbm, ⟨24, _⟩ => ⟨S16x16, .bf16⟩
  | .hbm, ⟨25, _⟩ => ⟨S16x16, .bf16⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i1⟩
  | .hbm, ⟨32, _⟩ => ⟨S16x16, .bf16⟩
  | .hbm, ⟨33, _⟩ => ⟨S16x1x16x1, .bf16⟩
  | .hbm, ⟨34, _⟩ => ⟨S1x16x1x16, .bf16⟩
  | .hbm, ⟨35, _⟩ => ⟨S16x16x16x16, .bf16⟩
  | .hbm, ⟨36, _⟩ => ⟨S16x16x16x16, .bf16⟩
  | .hbm, ⟨37, _⟩ => ⟨S16x16x16x16, .bf16⟩
  | .hbm, ⟨38, _⟩ => ⟨S256x256, .bf16⟩
  | .hbm, ⟨39, _⟩ => ⟨S16, .f32⟩
  | .hbm, ⟨40, _⟩ => ⟨S8192x3584, .bf16⟩
  | .hbm, ⟨41, _⟩ => ⟨S3584x8192, .bf16⟩
  | .hbm, ⟨42, _⟩ => ⟨S4096x3584, .i8⟩
  | .hbm, ⟨43, _⟩ => ⟨S512x3584, .fp8e4m3⟩
  | .hbm, ⟨44, _⟩ => ⟨S512x3584, .f32⟩
  | .local _ .vmem, ⟨0, _⟩ => ⟨S8x128, .f32⟩
  | .local _ .vmem, ⟨1, _⟩ => ⟨S512x128, .bf16⟩
  | .local _ .vmem, ⟨2, _⟩ => ⟨S512x128, .bf16⟩
  | .local _ .vmem, ⟨3, _⟩ => ⟨S128x512, .bf16⟩
  | .local _ .vmem, ⟨4, _⟩ => ⟨S128x512, .bf16⟩
  | .local _ .vmem, ⟨5, _⟩ => ⟨S256x128, .i8⟩
  | .local _ .vmem, ⟨6, _⟩ => ⟨S256x128, .i8⟩
  | .local _ .vmem, ⟨7, _⟩ => ⟨S32x128, .fp8e4m3⟩
  | .local _ .vmem, ⟨8, _⟩ => ⟨S32x128, .fp8e4m3⟩
  | .local _ .vmem, ⟨9, _⟩ => ⟨S32x128, .f32⟩
  | .local _ .vmem, ⟨10, _⟩ => ⟨S32x128, .f32⟩
  | .local _ .vmem, ⟨11, _⟩ => ⟨S256x128, .i32⟩
  | .local _ .vmem, ⟨12, _⟩ => ⟨S64x128, .i32⟩
  | .local _ .smem, ⟨0, _⟩ => ⟨S4, .i32⟩
  | .local _ .smem, ⟨1, _⟩ => ⟨S16, .f32⟩
  | _, _ => ⟨S4x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_arg2 : Ref sig .tc := ⟨.smem, 0, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![28, 16], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v17 : Index := Scalar.indexCast v16
  ![v17.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QuantXIdeal.lean ====
abbrev S256x2x128 : Shape := ⟨3, ![256, 2, 128]⟩
abbrev S256x1x128 : Shape := ⟨3, ![256, 1, 128]⟩
abbrev S8x2x128 : Shape := ⟨3, ![8, 2, 128]⟩
abbrev S8x1x128 : Shape := ⟨3, ![8, 1, 128]⟩
  | .local _ .vmem, ⟨11, _⟩ => ⟨S256x2x128, .bf16⟩
variable {F : FTy → Type} [FloatOps F]
-- ==== QuantXReferenceIdeal.lean ====
abbrev S4x2048x3584 : Shape := ⟨3, ![4, 2048, 3584]⟩
abbrev S16 : Shape := ⟨1, ![16]⟩
abbrev S4 : Shape := ⟨1, ![4]⟩
abbrev S8x128 : Shape := ⟨2, ![8, 128]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S2048 : Shape := ⟨1, ![2048]⟩
abbrev S1x2048 : Shape := ⟨2, ![1, 2048]⟩
abbrev S4x1 : Shape := ⟨2, ![4, 1]⟩
abbrev S4x2048 : Shape := ⟨2, ![4, 2048]⟩
abbrev S4x2048x1 : Shape := ⟨3, ![4, 2048, 1]⟩
abbrev S512x16x3584 : Shape := ⟨3, ![512, 16, 3584]⟩
abbrev S512x3584x16 : Shape := ⟨3, ![512, 3584, 16]⟩
abbrev S512x3584 : Shape := ⟨2, ![512, 3584]⟩
abbrev S1x1 : Shape := ⟨2, ![1, 1]⟩
abbrev S1 : Shape := ⟨1, ![1]⟩
abbrev S512x1x3584 : Shape := ⟨3, ![512, 1, 3584]⟩
abbrev S8192x3584 : Shape := ⟨2, ![8192, 3584]⟩
abbrev S4096x2x3584 : Shape := ⟨3, ![4096, 2, 3584]⟩
abbrev S4096x1x3584 : Shape := ⟨3, ![4096, 1, 3584]⟩
abbrev S4096x3584 : Shape := ⟨2, ![4096, 3584]⟩

abbrev nBuf : Space → Nat
  | .hbm => 166
  | .vmem => 2
  | .smem => 0
  | _ => 0

abbrev hbmTy0_0 (i : Nat) : BufTy := match i % 128 with
  | 0 => ⟨S4x2048x3584, .bf16⟩
  | 1 => ⟨S16, .f32⟩
  | 2 => ⟨S4, .i32⟩
  | 3 => ⟨S8x128, .f32⟩
  | 4 => ⟨S16, .i32⟩
  | 5 => ⟨S16x1, .i32⟩
  | 6 => ⟨S16, .i32⟩
  | 7 => ⟨S1x16, .i32⟩
  | 8 => ⟨S16x16, .i32⟩
  | 9 => ⟨S16x16, .i32⟩
  | 10 => ⟨S16x16, .i32⟩
  | 11 => ⟨S16x16, .i32⟩
  | 12 => ⟨S_, .i32⟩
  | 13 => ⟨S16x16, .i32⟩
  | 14 => ⟨S16x16, .i32⟩
  | 15 => ⟨S_, .i32⟩
  | 16 => ⟨S16x16, .i32⟩
  | 17 => ⟨S16x16, .i1⟩
  | 18 => ⟨S_, .f32⟩
  | 19 => ⟨S_, .f32⟩
  | 20 => ⟨S16x16, .f32⟩
  | 21 => ⟨S16x16, .f32⟩
  | 22 => ⟨S16x16, .f32⟩
  | 23 => ⟨S16x16, .f32⟩
  | 24 => ⟨S1x16, .f32⟩
  | 25 => ⟨S16x16, .f32⟩
  | 26 => ⟨S16x16, .f32⟩
  | 27 => ⟨S_, .f32⟩
  | 28 => ⟨S16x16, .f32⟩
  | 29 => ⟨S16x16, .f32⟩
  | 30 => ⟨S2048, .i32⟩
  | 31 => ⟨S1x2048, .i32⟩
  | 32 => ⟨S4x1, .i32⟩
  | 33 => ⟨S4x2048, .i32⟩
  | 34 => ⟨S4x2048, .i32⟩
  | 35 => ⟨S4x2048, .i1⟩
  | 36 => ⟨S4x2048x1, .i1⟩
  | 37 => ⟨S_, .bf16⟩
  | 38 => ⟨S4x2048x3584, .i1⟩
  | 39 => ⟨S4x2048x3584, .bf16⟩
  | 40 => ⟨S4x2048x3584, .bf16⟩
  | 41 => ⟨S512x16x3584, .bf16⟩
  | 42 => ⟨S16x16, .bf16⟩
  | 43 => ⟨S512x3584x16, .f32⟩
  | 44 => ⟨S512x16x3584, .f32⟩
  | 45 => ⟨S512x16x3584, .f32⟩
  | 46 => ⟨S_, .f32⟩
  | 47 => ⟨S512x3584, .f32⟩
  | 48 => ⟨S1x1, .f32⟩
  | 49 => ⟨S_, .f32⟩
  | 50 => ⟨S1, .f32⟩
  | 51 => ⟨S_, .f32⟩
  | 52 => ⟨S512x3584, .f32⟩
  | 53 => ⟨S512x3584, .f32⟩
  | 54 => ⟨S_, .f32⟩
  | 55 => ⟨S512x3584, .f32⟩
  | 56 => ⟨S512x3584, .f32⟩
  | 57 => ⟨S1x1, .f32⟩
  | 58 => ⟨S512x3584, .f32⟩
  | 59 => ⟨S512x3584, .f32⟩
  | 60 => ⟨S_, .f32⟩
  | 61 => ⟨S_, .f32⟩
  | 62 => ⟨S_, .f32⟩
  | 63 => ⟨S512x3584, .f32⟩
  | 64 => ⟨S512x3584, .f32⟩
  | 65 => ⟨S_, .f32⟩
  | 66 => ⟨S512x3584, .f32⟩
  | 67 => ⟨S512x3584, .f32⟩
  | 68 => ⟨S512x3584, .fp8e4m3⟩
  | 69 => ⟨S512x3584, .f32⟩
  | 70 => ⟨S1x1, .f32⟩
  | 71 => ⟨S512x3584, .f32⟩
  | 72 => ⟨S512x3584, .f32⟩
  | 73 => ⟨S_, .f32⟩
  | 74 => ⟨S512x3584, .f32⟩
  | 75 => ⟨S512x3584, .i1⟩
  | 76 => ⟨S512x1x3584, .i1⟩
  | 77 => ⟨S_, .f32⟩
  | 78 => ⟨S_, .f32⟩
  | 79 => ⟨S512x3584, .f32⟩
  | 80 => ⟨S512x3584, .f32⟩
  | 81 => ⟨S512x1x3584, .f32⟩
  | 82 => ⟨S512x16x3584, .f32⟩
  | 83 => ⟨S512x16x3584, .f32⟩
  | 84 => ⟨S_, .f32⟩
  | 85 => ⟨S_, .f32⟩
  | 86 => ⟨S512x16x3584, .i1⟩
  | 87 => ⟨S512x16x3584, .f32⟩
  | 88 => ⟨S512x16x3584, .f32⟩
  | 89 => ⟨S_, .f32⟩
  | 90 => ⟨S_, .f32⟩
  | 91 => ⟨S_, .f32⟩
  | 92 => ⟨S512x16x3584, .f32⟩
  | 93 => ⟨S512x16x3584, .f32⟩
  | 94 => ⟨S_, .f32⟩
  | 95 => ⟨S512x16x3584, .f32⟩
  | 96 => ⟨S512x16x3584, .f32⟩
  | 97 => ⟨S512x16x3584, .f32⟩
  | 98 => ⟨S_, .f32⟩
  | 99 => ⟨S512x16x3584, .f32⟩
  | 100 => ⟨S512x16x3584, .i1⟩
  | 101 => ⟨S_, .f32⟩
  | 102 => ⟨S512x16x3584, .f32⟩
  | 103 => ⟨S512x16x3584, .f32⟩
  | 104 => ⟨S512x16x3584, .f32⟩
  | 105 => ⟨S_, .f32⟩
  | 106 => ⟨S512x16x3584, .f32⟩
  | 107 => ⟨S512x16x3584, .f32⟩
  | 108 => ⟨S_, .f32⟩
  | 109 => ⟨S512x16x3584, .f32⟩
  | 110 => ⟨S512x16x3584, .i1⟩
  | 111 => ⟨S512x16x3584, .f32⟩
  | 112 => ⟨S_, .f32⟩
  | 113 => ⟨S512x16x3584, .f32⟩
  | 114 => ⟨S512x16x3584, .f32⟩
  | 115 => ⟨S512x16x3584, .f32⟩
  | 116 => ⟨S_, .f32⟩
  | 117 => ⟨S512x16x3584, .f32⟩
  | 118 => ⟨S512x16x3584, .f32⟩
  | 119 => ⟨S512x16x3584, .f32⟩
  | 120 => ⟨S512x16x3584, .f32⟩
  | 121 => ⟨S_, .f32⟩
  | 122 => ⟨S512x16x3584, .f32⟩
  | 123 => ⟨S512x16x3584, .i1⟩
  | 124 => ⟨S_, .f32⟩
  | 125 => ⟨S512x16x3584, .f32⟩
  | 126 => ⟨S512x16x3584, .f32⟩
  | 127 => ⟨S_, .f32⟩
  | _ => ⟨S4x2048x3584, .bf16⟩

abbrev hbmTy0_1 (i : Nat) : BufTy := match i % 128 with
  | 0 => ⟨S512x16x3584, .f32⟩
  | 1 => ⟨S512x16x3584, .i1⟩
  | 2 => ⟨S_, .f32⟩
  | 3 => ⟨S512x16x3584, .f32⟩
  | 4 => ⟨S512x16x3584, .f32⟩
  | 5 => ⟨S_, .f32⟩
  | 6 => ⟨S512x16x3584, .f32⟩
  | 7 => ⟨S512x16x3584, .f32⟩
  | 8 => ⟨S_, .f32⟩
  | 9 => ⟨S512x16x3584, .f32⟩
  | 10 => ⟨S512x16x3584, .f32⟩
  | 11 => ⟨S512x16x3584, .f32⟩
  | 12 => ⟨S512x16x3584, .f32⟩
  | 13 => ⟨S_, .f32⟩
  | 14 => ⟨S512x16x3584, .f32⟩
  | 15 => ⟨S512x16x3584, .i1⟩
  | 16 => ⟨S_, .f32⟩
  | 17 => ⟨S512x16x3584, .f32⟩
  | 18 => ⟨S512x16x3584, .i1⟩
  | 19 => ⟨S512x16x3584, .i1⟩
  | 20 => ⟨S512x16x3584, .i32⟩
  | 21 => ⟨S_, .i32⟩
  | 22 => ⟨S_, .i32⟩
  | 23 => ⟨S512x16x3584, .i32⟩
  | 24 => ⟨S512x16x3584, .i32⟩
  | 25 => ⟨S512x16x3584, .i32⟩
  | 26 => ⟨S512x16x3584, .i32⟩
  | 27 => ⟨S8192x3584, .i32⟩
  | 28 => ⟨S4096x2x3584, .i32⟩
  | 29 => ⟨S4096x1x3584, .i32⟩
  | 30 => ⟨S4096x3584, .i32⟩
  | 31 => ⟨S4096x1x3584, .i32⟩
  | 32 => ⟨S4096x3584, .i32⟩
  | 33 => ⟨S_, .i32⟩
  | 34 => ⟨S4096x3584, .i32⟩
  | 35 => ⟨S4096x3584, .i32⟩
  | 36 => ⟨S4096x3584, .i32⟩
  | 37 => ⟨S4096x3584, .i8⟩
  | _ => ⟨S4x2048x3584, .bf16⟩

abbrev hbmTy (i : Nat) : BufTy := match i / 128 with
  | 0 => hbmTy0_0 i
  | 1 => hbmTy0_1 i
  | _ => ⟨S4x2048x3584, .bf16⟩

abbrev bufTy : (tb : Table) → Fin (tcTables nBuf tb) → BufTy
  | .hbm, ⟨i, _⟩ => hbmTy i
  | .local _ .vmem, ⟨0, _⟩ => ⟨S512x3584, .fp8e4m3⟩
  | .local _ .vmem, ⟨1, _⟩ => ⟨S512x3584, .f32⟩
  | _, _ => ⟨S4x2048x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v56 : Ref sig .tc := ⟨.hbm, 88, rfl⟩
abbrev main_cst_12 : Ref sig .tc := ⟨.hbm, 89, rfl⟩
abbrev main_cst_13 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_v57 : Ref sig .tc := ⟨.hbm, 96, rfl⟩
abbrev main_v58 : Ref sig .tc := ⟨.hbm, 97, rfl⟩
abbrev main_cst_14 : Ref sig .tc := ⟨.hbm, 98, rfl⟩
abbrev main_v59 : Ref sig .tc := ⟨.hbm, 99, rfl⟩
abbrev main_v60 : Ref sig .tc := ⟨.hbm, 100, rfl⟩
abbrev main_cst_15 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_v64 : Ref sig .tc := ⟨.hbm, 106, rfl⟩
abbrev main_v65 : Ref sig .tc := ⟨.hbm, 107, rfl⟩
abbrev main_cst_17 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_18 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_19 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_20 : Ref sig .tc := ⟨.hbm, 121, rfl⟩
abbrev main_v76 : Ref sig .tc := ⟨.hbm, 122, rfl⟩
abbrev main_v77 : Ref sig .tc := ⟨.hbm, 123, rfl⟩
abbrev main_cst_21 : Ref sig .tc := ⟨.hbm, 124, rfl⟩
abbrev main_v78 : Ref sig .tc := ⟨.hbm, 125, rfl⟩
abbrev main_v79 : Ref sig .tc := ⟨.hbm, 126, rfl⟩
abbrev main_cst_22 : Ref sig .tc := ⟨.hbm, 127, rfl⟩
abbrev main_v80 : Ref sig .tc := ⟨.hbm, 128, rfl⟩
abbrev main_v81 : Ref sig .tc := ⟨.hbm, 129, rfl⟩
abbrev main_cst_23 : Ref sig .tc := ⟨.hbm, 130, rfl⟩
abbrev main_v82 : Ref sig .tc := ⟨.hbm, 131, rfl⟩
abbrev main_v83 : Ref sig .tc := ⟨.hbm, 132, rfl⟩
abbrev main_cst_24 : Ref sig .tc := ⟨.hbm, 133, rfl⟩
abbrev main_v84 : Ref sig .tc := ⟨.hbm, 134, rfl⟩
abbrev main_v85 : Ref sig .tc := ⟨.hbm, 135, rfl⟩
abbrev main_cst_25 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_26 : Ref sig .tc := ⟨.hbm, 141, rfl⟩
abbrev main_v90 : Ref sig .tc := ⟨.hbm, 142, rfl⟩
abbrev main_v91 : Ref sig .tc := ⟨.hbm, 143, rfl⟩
abbrev main_cst_27 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_28 : Ref sig .tc := ⟨.hbm, 149, rfl⟩
abbrev main_c_29 : Ref sig .tc := ⟨.hbm, 150, rfl⟩
abbrev main_call13_v0 : Ref sig .tc := ⟨.hbm, 151, rfl⟩
abbrev main_call13_v1 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_30 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S512x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== QuantDy.lean ====
abbrev S4x2048x18944 : Shape := ⟨3, ![4, 2048, 18944]⟩
abbrev S16 : Shape := ⟨1, ![16]⟩
abbrev S4 : Shape := ⟨1, ![4]⟩
abbrev S8x128 : Shape := ⟨2, ![8, 128]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S16x1x16x1 : Shape := ⟨4, ![16, 1, 16, 1]⟩
abbrev S1x16x1x16 : Shape := ⟨4, ![1, 16, 1, 16]⟩
abbrev S16x16x16x16 : Shape := ⟨4, ![16, 16, 16, 16]⟩
abbrev S256x256 : Shape := ⟨2, ![256, 256]⟩
abbrev S8192x18944 : Shape := ⟨2, ![8192, 18944]⟩
abbrev S4096x18944 : Shape := ⟨2, ![4096, 18944]⟩
abbrev S512x18944 : Shape := ⟨2, ![512, 18944]⟩
abbrev S512x128 : Shape := ⟨2, ![512, 128]⟩
abbrev S256x128 : Shape := ⟨2, ![256, 128]⟩
abbrev S32x128 : Shape := ⟨2, ![32, 128]⟩
abbrev S64x128 : Shape := ⟨2, ![64, 128]⟩
abbrev S1 : Shape := ⟨1, ![1]⟩
abbrev S16x128 : Shape := ⟨2, ![16, 128]⟩
abbrev S128x128 : Shape := ⟨2, ![128, 128]⟩

abbrev nBuf : Space → Nat
  | .hbm => 45
  | .vmem => 13
  | .smem => 2
  | _ => 0

abbrev bufTy : (tb : Table) → Fin (tcTables nBuf tb) → BufTy
  | .hbm, ⟨0, _⟩ => ⟨S4x2048x18944, .bf16⟩
  | .hbm, ⟨1, _⟩ => ⟨S16, .f32⟩
  | .hbm, ⟨2, _⟩ => ⟨S8x128, .f32⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S16, .bf16⟩
  | .hbm, ⟨17, _⟩ => ⟨S_, .i32⟩
  | .hbm, ⟨18, _⟩ => ⟨S16x16, .i32⟩
  | .hbm, ⟨19, _⟩ => ⟨S16x16, .i1⟩
  | .hbm, ⟨20, _⟩ => ⟨S1x16, .bf16⟩
  | .hbm, ⟨21, _⟩ => ⟨S1x16, .bf16⟩
  | .hbm, ⟨22, _⟩ => ⟨S1x16, .bf16⟩
  | .hbm, ⟨23, _⟩ => ⟨S16x16, .bf16⟩
  | .hbm, ⟨24, _⟩ => ⟨S16x16, .bf16⟩
  | .hbm, ⟨25, _⟩ => ⟨S16x16, .bf16⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i1⟩
  | .hbm, ⟨32, _⟩ => ⟨S16x16, .bf16⟩
  | .hbm, ⟨33, _⟩ => ⟨S16x1x16x1, .bf16⟩
  | .hbm, ⟨34, _⟩ => ⟨S1x16x1x16, .bf16⟩
  | .hbm, ⟨35, _⟩ => ⟨S16x16x16x16, .bf16⟩
  | .hbm, ⟨36, _⟩ => ⟨S16x16x16x16, .bf16⟩
  | .hbm, ⟨37, _⟩ => ⟨S16x16x16x16, .bf16⟩
  | .hbm, ⟨38, _⟩ => ⟨S256x256, .bf16⟩
  | .hbm, ⟨39, _⟩ => ⟨S16, .f32⟩
  | .hbm, ⟨40, _⟩ => ⟨S8192x18944, .bf16⟩
  | .hbm, ⟨41, _⟩ => ⟨S8192x18944, .bf16⟩
  | .hbm, ⟨42, _⟩ => ⟨S4096x18944, .i8⟩
  | .hbm, ⟨43, _⟩ => ⟨S512x18944, .fp8e4m3⟩
  | .hbm, ⟨44, _⟩ => ⟨S512x18944, .f32⟩
  | .local _ .vmem, ⟨0, _⟩ => ⟨S8x128, .f32⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S256x128, .i8⟩
  | .local _ .vmem, ⟨6, _⟩ => ⟨S256x128, .i8⟩
  | .local _ .vmem, ⟨7, _⟩ => ⟨S32x128, .fp8e4m3⟩
  | .local _ .vmem, ⟨8, _⟩ => ⟨S32x128, .fp8e4m3⟩
  | .local _ .vmem, ⟨9, _⟩ => ⟨S32x128, .f32⟩
  | .local _ .vmem, ⟨10, _⟩ => ⟨S32x128, .f32⟩
  | .local _ .vmem, ⟨11, _⟩ => ⟨S256x128, .i32⟩
  | .local _ .vmem, ⟨12, _⟩ => ⟨S64x128, .i32⟩
  | .local _ .smem, ⟨0, _⟩ => ⟨S4, .i32⟩
  | .local _ .smem, ⟨1, _⟩ => ⟨S16, .f32⟩
  | _, _ => ⟨S4x2048x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_arg2 : Ref sig .tc := ⟨.smem, 0, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [BitOps F]

abbrev grid0 : Pipeline.Grid := ⟨2, ![148, 16], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let v17 : Index := Scalar.indexCast v16
  ![v17.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== QuantDyIdeal.lean ====
abbrev S256x2x128 : Shape := ⟨3, ![256, 2, 128]⟩
abbrev S256x1x128 : Shape := ⟨3, ![256, 1, 128]⟩
abbrev S8x2x128 : Shape := ⟨3, ![8, 2, 128]⟩
abbrev S8x1x128 : Shape := ⟨3, ![8, 1, 128]⟩
  | .local _ .vmem, ⟨11, _⟩ => ⟨S256x2x128, .bf16⟩
variable {F : FTy → Type} [FloatOps F]
-- ==== QuantDyReferenceIdeal.lean ====
abbrev S4x2048x18944 : Shape := ⟨3, ![4, 2048, 18944]⟩
abbrev S16 : Shape := ⟨1, ![16]⟩
abbrev S4 : Shape := ⟨1, ![4]⟩
abbrev S8x128 : Shape := ⟨2, ![8, 128]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S2048 : Shape := ⟨1, ![2048]⟩
abbrev S1x2048 : Shape := ⟨2, ![1, 2048]⟩
abbrev S4x1 : Shape := ⟨2, ![4, 1]⟩
abbrev S4x2048 : Shape := ⟨2, ![4, 2048]⟩
abbrev S4x2048x1 : Shape := ⟨3, ![4, 2048, 1]⟩
abbrev S512x16x18944 : Shape := ⟨3, ![512, 16, 18944]⟩
abbrev S512x18944x16 : Shape := ⟨3, ![512, 18944, 16]⟩
abbrev S512x18944 : Shape := ⟨2, ![512, 18944]⟩
abbrev S1x1 : Shape := ⟨2, ![1, 1]⟩
abbrev S1 : Shape := ⟨1, ![1]⟩
abbrev S512x1x18944 : Shape := ⟨3, ![512, 1, 18944]⟩
abbrev S8192x18944 : Shape := ⟨2, ![8192, 18944]⟩
abbrev S4096x2x18944 : Shape := ⟨3, ![4096, 2, 18944]⟩
abbrev S4096x1x18944 : Shape := ⟨3, ![4096, 1, 18944]⟩
abbrev S4096x18944 : Shape := ⟨2, ![4096, 18944]⟩

abbrev nBuf : Space → Nat
  | .hbm => 166
  | .vmem => 2
  | .smem => 0
  | _ => 0

abbrev hbmTy0_0 (i : Nat) : BufTy := match i % 128 with
  | 0 => ⟨S4x2048x18944, .bf16⟩
  | 1 => ⟨S16, .f32⟩
  | 2 => ⟨S4, .i32⟩
  | 3 => ⟨S8x128, .f32⟩
  | 4 => ⟨S16, .i32⟩
  | 5 => ⟨S16x1, .i32⟩
  | 6 => ⟨S16, .i32⟩
  | 7 => ⟨S1x16, .i32⟩
  | 8 => ⟨S16x16, .i32⟩
  | 9 => ⟨S16x16, .i32⟩
  | 10 => ⟨S16x16, .i32⟩
  | 11 => ⟨S16x16, .i32⟩
  | 12 => ⟨S_, .i32⟩
  | 13 => ⟨S16x16, .i32⟩
  | 14 => ⟨S16x16, .i32⟩
  | 15 => ⟨S_, .i32⟩
  | 16 => ⟨S16x16, .i32⟩
  | 17 => ⟨S16x16, .i1⟩
  | 18 => ⟨S_, .f32⟩
  | 19 => ⟨S_, .f32⟩
  | 20 => ⟨S16x16, .f32⟩
  | 21 => ⟨S16x16, .f32⟩
  | 22 => ⟨S16x16, .f32⟩
  | 23 => ⟨S16x16, .f32⟩
  | 24 => ⟨S1x16, .f32⟩
  | 25 => ⟨S16x16, .f32⟩
  | 26 => ⟨S16x16, .f32⟩
  | 27 => ⟨S_, .f32⟩
  | 28 => ⟨S16x16, .f32⟩
  | 29 => ⟨S16x16, .f32⟩
  | 30 => ⟨S2048, .i32⟩
  | 31 => ⟨S1x2048, .i32⟩
  | 32 => ⟨S4x1, .i32⟩
  | 33 => ⟨S4x2048, .i32⟩
  | 34 => ⟨S4x2048, .i32⟩
  | 35 => ⟨S4x2048, .i1⟩
  | 36 => ⟨S4x2048x1, .i1⟩
  | 37 => ⟨S_, .bf16⟩
  | 38 => ⟨S4x2048x18944, .i1⟩
  | 39 => ⟨S4x2048x18944, .bf16⟩
  | 40 => ⟨S4x2048x18944, .bf16⟩
  | 41 => ⟨S512x16x18944, .bf16⟩
  | 42 => ⟨S16x16, .bf16⟩
  | 43 => ⟨S512x18944x16, .f32⟩
  | 44 => ⟨S512x16x18944, .f32⟩
  | 45 => ⟨S512x16x18944, .f32⟩
  | 46 => ⟨S_, .f32⟩
  | 47 => ⟨S512x18944, .f32⟩
  | 48 => ⟨S1x1, .f32⟩
  | 49 => ⟨S_, .f32⟩
  | 50 => ⟨S1, .f32⟩
  | 51 => ⟨S_, .f32⟩
  | 52 => ⟨S512x18944, .f32⟩
  | 53 => ⟨S512x18944, .f32⟩
  | 54 => ⟨S_, .f32⟩
  | 55 => ⟨S512x18944, .f32⟩
  | 56 => ⟨S512x18944, .f32⟩
  | 57 => ⟨S1x1, .f32⟩
  | 58 => ⟨S512x18944, .f32⟩
  | 59 => ⟨S512x18944, .f32⟩
  | 60 => ⟨S_, .f32⟩
  | 61 => ⟨S_, .f32⟩
  | 62 => ⟨S_, .f32⟩
  | 63 => ⟨S512x18944, .f32⟩
  | 64 => ⟨S512x18944, .f32⟩
  | 65 => ⟨S_, .f32⟩
  | 66 => ⟨S512x18944, .f32⟩
  | 67 => ⟨S512x18944, .f32⟩
  | 68 => ⟨S512x18944, .fp8e4m3⟩
  | 69 => ⟨S512x18944, .f32⟩
  | 70 => ⟨S1x1, .f32⟩
  | 71 => ⟨S512x18944, .f32⟩
  | 72 => ⟨S512x18944, .f32⟩
  | 73 => ⟨S_, .f32⟩
  | 74 => ⟨S512x18944, .f32⟩
  | 75 => ⟨S512x18944, .i1⟩
  | 76 => ⟨S512x1x18944, .i1⟩
  | 77 => ⟨S_, .f32⟩
  | 78 => ⟨S_, .f32⟩
  | 79 => ⟨S512x18944, .f32⟩
  | 80 => ⟨S512x18944, .f32⟩
  | 81 => ⟨S512x1x18944, .f32⟩
  | 82 => ⟨S512x16x18944, .f32⟩
  | 83 => ⟨S512x16x18944, .f32⟩
  | 84 => ⟨S_, .f32⟩
  | 85 => ⟨S_, .f32⟩
  | 86 => ⟨S512x16x18944, .i1⟩
  | 87 => ⟨S512x16x18944, .f32⟩
  | 88 => ⟨S512x16x18944, .f32⟩
  | 89 => ⟨S_, .f32⟩
  | 90 => ⟨S_, .f32⟩
  | 91 => ⟨S_, .f32⟩
  | 92 => ⟨S512x16x18944, .f32⟩
  | 93 => ⟨S512x16x18944, .f32⟩
  | 94 => ⟨S_, .f32⟩
  | 95 => ⟨S512x16x18944, .f32⟩
  | 96 => ⟨S512x16x18944, .f32⟩
  | 97 => ⟨S512x16x18944, .f32⟩
  | 98 => ⟨S_, .f32⟩
  | 99 => ⟨S512x16x18944, .f32⟩
  | 100 => ⟨S512x16x18944, .i1⟩
  | 101 => ⟨S_, .f32⟩
  | 102 => ⟨S512x16x18944, .f32⟩
  | 103 => ⟨S512x16x18944, .f32⟩
  | 104 => ⟨S512x16x18944, .f32⟩
  | 105 => ⟨S_, .f32⟩
  | 106 => ⟨S512x16x18944, .f32⟩
  | 107 => ⟨S512x16x18944, .f32⟩
  | 108 => ⟨S_, .f32⟩
  | 109 => ⟨S512x16x18944, .f32⟩
  | 110 => ⟨S512x16x18944, .i1⟩
  | 111 => ⟨S512x16x18944, .f32⟩
  | 112 => ⟨S_, .f32⟩
  | 113 => ⟨S512x16x18944, .f32⟩
  | 114 => ⟨S512x16x18944, .f32⟩
  | 115 => ⟨S512x16x18944, .f32⟩
  | 116 => ⟨S_, .f32⟩
  | 117 => ⟨S512x16x18944, .f32⟩
  | 118 => ⟨S512x16x18944, .f32⟩
  | 119 => ⟨S512x16x18944, .f32⟩
  | 120 => ⟨S512x16x18944, .f32⟩
  | 121 => ⟨S_, .f32⟩
  | 122 => ⟨S512x16x18944, .f32⟩
  | 123 => ⟨S512x16x18944, .i1⟩
  | 124 => ⟨S_, .f32⟩
  | 125 => ⟨S512x16x18944, .f32⟩
  | 126 => ⟨S512x16x18944, .f32⟩
  | 127 => ⟨S_, .f32⟩
  | _ => ⟨S4x2048x18944, .bf16⟩

abbrev hbmTy0_1 (i : Nat) : BufTy := match i % 128 with
  | 0 => ⟨S512x16x18944, .f32⟩
  | 1 => ⟨S512x16x18944, .i1⟩
  | 2 => ⟨S_, .f32⟩
  | 3 => ⟨S512x16x18944, .f32⟩
  | 4 => ⟨S512x16x18944, .f32⟩
  | 5 => ⟨S_, .f32⟩
  | 6 => ⟨S512x16x18944, .f32⟩
  | 7 => ⟨S512x16x18944, .f32⟩
  | 8 => ⟨S_, .f32⟩
  | 9 => ⟨S512x16x18944, .f32⟩
  | 10 => ⟨S512x16x18944, .f32⟩
  | 11 => ⟨S512x16x18944, .f32⟩
  | 12 => ⟨S512x16x18944, .f32⟩
  | 13 => ⟨S_, .f32⟩
  | 14 => ⟨S512x16x18944, .f32⟩
  | 15 => ⟨S512x16x18944, .i1⟩
  | 16 => ⟨S_, .f32⟩
  | 17 => ⟨S512x16x18944, .f32⟩
  | 18 => ⟨S512x16x18944, .i1⟩
  | 19 => ⟨S512x16x18944, .i1⟩
  | 20 => ⟨S512x16x18944, .i32⟩
  | 21 => ⟨S_, .i32⟩
  | 22 => ⟨S_, .i32⟩
  | 23 => ⟨S512x16x18944, .i32⟩
  | 24 => ⟨S512x16x18944, .i32⟩
  | 25 => ⟨S512x16x18944, .i32⟩
  | 26 => ⟨S512x16x18944, .i32⟩
  | 27 => ⟨S8192x18944, .i32⟩
  | 28 => ⟨S4096x2x18944, .i32⟩
  | 29 => ⟨S4096x1x18944, .i32⟩
  | 30 => ⟨S4096x18944, .i32⟩
  | 31 => ⟨S4096x1x18944, .i32⟩
  | 32 => ⟨S4096x18944, .i32⟩
  | 33 => ⟨S_, .i32⟩
  | 34 => ⟨S4096x18944, .i32⟩
  | 35 => ⟨S4096x18944, .i32⟩
  | 36 => ⟨S4096x18944, .i32⟩
  | 37 => ⟨S4096x18944, .i8⟩
  | _ => ⟨S4x2048x18944, .bf16⟩

abbrev hbmTy (i : Nat) : BufTy := match i / 128 with
  | 0 => hbmTy0_0 i
  | 1 => hbmTy0_1 i
  | _ => ⟨S4x2048x18944, .bf16⟩

abbrev bufTy : (tb : Table) → Fin (tcTables nBuf tb) → BufTy
  | .hbm, ⟨i, _⟩ => hbmTy i
  | .local _ .vmem, ⟨0, _⟩ => ⟨S512x18944, .fp8e4m3⟩
  | .local _ .vmem, ⟨1, _⟩ => ⟨S512x18944, .f32⟩
  | _, _ => ⟨S4x2048x18944, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_cst_8 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_call3_v0 : Ref sig .tc := ⟨.hbm, 78, rfl⟩
abbrev main_call3_v1 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_v56 : Ref sig .tc := ⟨.hbm, 88, rfl⟩
abbrev main_cst_12 : Ref sig .tc := ⟨.hbm, 89, rfl⟩
abbrev main_cst_13 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_call5_v3 : Ref sig .tc := ⟨.hbm, 94, rfl⟩
abbrev main_call5_v4 : Ref sig .tc := ⟨.hbm, 95, rfl⟩
abbrev main_v57 : Ref sig .tc := ⟨.hbm, 96, rfl⟩
abbrev main_v58 : Ref sig .tc := ⟨.hbm, 97, rfl⟩
abbrev main_cst_14 : Ref sig .tc := ⟨.hbm, 98, rfl⟩
abbrev main_v59 : Ref sig .tc := ⟨.hbm, 99, rfl⟩
abbrev main_v60 : Ref sig .tc := ⟨.hbm, 100, rfl⟩
abbrev main_cst_15 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_16 : Ref sig .tc := ⟨.hbm, 105, rfl⟩
abbrev main_v64 : Ref sig .tc := ⟨.hbm, 106, rfl⟩
abbrev main_v65 : Ref sig .tc := ⟨.hbm, 107, rfl⟩
abbrev main_cst_17 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_18 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_19 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_20 : Ref sig .tc := ⟨.hbm, 121, rfl⟩
abbrev main_v76 : Ref sig .tc := ⟨.hbm, 122, rfl⟩
abbrev main_v77 : Ref sig .tc := ⟨.hbm, 123, rfl⟩
abbrev main_cst_21 : Ref sig .tc := ⟨.hbm, 124, rfl⟩
abbrev main_v78 : Ref sig .tc := ⟨.hbm, 125, rfl⟩
abbrev main_v79 : Ref sig .tc := ⟨.hbm, 126, rfl⟩
abbrev main_cst_22 : Ref sig .tc := ⟨.hbm, 127, rfl⟩
abbrev main_v80 : Ref sig .tc := ⟨.hbm, 128, rfl⟩
abbrev main_v81 : Ref sig .tc := ⟨.hbm, 129, rfl⟩
abbrev main_cst_23 : Ref sig .tc := ⟨.hbm, 130, rfl⟩
abbrev main_v82 : Ref sig .tc := ⟨.hbm, 131, rfl⟩
abbrev main_v83 : Ref sig .tc := ⟨.hbm, 132, rfl⟩
abbrev main_cst_24 : Ref sig .tc := ⟨.hbm, 133, rfl⟩
abbrev main_v84 : Ref sig .tc := ⟨.hbm, 134, rfl⟩
abbrev main_v85 : Ref sig .tc := ⟨.hbm, 135, rfl⟩
abbrev main_cst_25 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_26 : Ref sig .tc := ⟨.hbm, 141, rfl⟩
abbrev main_v90 : Ref sig .tc := ⟨.hbm, 142, rfl⟩
abbrev main_v91 : Ref sig .tc := ⟨.hbm, 143, rfl⟩
abbrev main_cst_27 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_c_28 : Ref sig .tc := ⟨.hbm, 149, rfl⟩
abbrev main_c_29 : Ref sig .tc := ⟨.hbm, 150, rfl⟩
abbrev main_call13_v0 : Ref sig .tc := ⟨.hbm, 151, rfl⟩
abbrev main_call13_v1 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_c_30 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S512x18944 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x18944 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.MatmulValue.lean ====
/- What the matmul kernel computes over the extended reals: the accumulated block, and the whole result array. -/
module

public import proofs.«01_k».proof.Defs
public import proofs.«01_k».proof.Proof.Gen.MatmulIdeal.Frame
public import proofs.«01_k».proof.Proof.Gen.MatmulReferenceIdeal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MatmulIdeal.Value

open Cert.MatmulIdeal Cert.MatmulIdeal.Gen

variable (m : (ℓ : Loc nD τ sig) → Buf (Elt Ideal) ℓ)

/-- The reference's result as a function of the two operands and the two scale arrays. -/
def REF (X : FVec Ideal S3584x8192 .bf16) (Y : FVec Ideal S8192x18944 .bf16) (gx gy : FVec Ideal S8x128 .f32) :
    FVec Ideal S3584x18944 .f32 :=
  mulf (Host.dotGeneral Cert.MatmulReferenceIdeal.dot_S3584x8192_S8192x18944_S3584x18944_1_0_0_1_n_n none X Y)
    (broadcastInDim Cert.MatmulReferenceIdeal.S3584x18944 ![] Cert.MatmulReferenceIdeal.Gen.bcast_S_S3584x18944
      (mulf (shapeCast Cert.MatmulReferenceIdeal.S_ (extractStridedSlice Cert.MatmulReferenceIdeal.S1x1 ![0, 0] gx Cert.MatmulReferenceIdeal.Gen.slices_S8x128_S1x1_0_0) Cert.MatmulReferenceIdeal.Gen.shapeCasts_S1x1_S_)
        (shapeCast Cert.MatmulReferenceIdeal.S_ (extractStridedSlice Cert.MatmulReferenceIdeal.S1x1 ![0, 0] gy Cert.MatmulReferenceIdeal.Gen.slices_S8x128_S1x1_0_0) Cert.MatmulReferenceIdeal.Gen.shapeCasts_S1x1_S_)))

/-- An element of the reference: one sum over the 8192 tokens, times the product of the two scales. -/
theorem href (X : FVec Ideal S3584x8192 .bf16) (Y : FVec Ideal S8192x18944 .bf16) (gx gy : FVec Ideal S8x128 .f32)
    (j : S3584x18944.Idx) :
    REF X Y gx gy j = (∑ l : Fin 8192, X (ix2 (j 0) l) * Y (ix2 l (j 1))) * (gx (ix2 0 0) * gy (ix2 0 0)) := by
  pointwise [REF]

/-- The reset stores zero. -/
theorem hzero (j : S1792x512.Idx) : k0_pay1 (F := Ideal) j = 0 := by pointwise [k0_pay1]

/-- A step adds one block product to what the block held. -/
theorem hpay (acc : FVec Ideal S1792x512 .f32) (a : FVec Ideal S1792x2048 .bf16) (b : FVec Ideal S2048x512 .bf16)
    (j : S1792x512.Idx) :
    k0_pay2 acc a b j = acc j + ∑ k : Fin 2048, a (ix2 (j 0) k) * b (ix2 k (j 1)) := by pointwise [k0_pay2]

/-- The last step multiplies by the product of the two scales. -/
theorem hscale (acc : FVec Ideal S1792x512 .f32) (s s' : EReal) (j : S1792x512.Idx) :
    k0_pay3 (F := Ideal) acc s s' j = acc j * (s * s') := by pointwise [k0_pay3]

/-- The four windows' block indices at each of the 296 points. -/
theorem idx : ∀ t : Fin cfg0.N, win0_0.index t = ![0, 0] ∧ win0_1.index t = ![0, 0] ∧
    win0_2.index t = ![t.val / 4 % 2, t.val % 4] ∧ win0_3.index t = ![t.val % 4, t.val / 8] ∧
    win0_4.index t = ![t.val / 4 % 2, t.val / 8] :=
  (by decide +kernel : ∀ t : Fin grid0.N, _)

theorem outs_A (c : Dev nD) (t : Fin cfg0.N) (h0 : t.val % 4 = 0) (j : S1792x512.Idx) :
    outsAt0 m c t.val t.isLt j =
      0 + ∑ k : Fin 2048, (show FVec Ideal S1792x2048 .bf16 from iblk m c 2 t) (ix2 (j 0) k) * (show FVec Ideal S2048x512 .bf16 from iblk m c 3 t) (ix2 k (j 1)) := by
  rw [outsAt0_A m c t h0 (by omega)]; frame_out; rw [hpay, hzero]

theorem outs_B (c : Dev nD) (t : Fin cfg0.N) (h0 : ¬ t.val % 4 = 0) (h1 : ¬ t.val % 4 = 3) (j : S1792x512.Idx) :
    outsAt0 m c t.val t.isLt j = outsAt0 m c (t.val - 1) (Nat.lt_of_le_of_lt (Nat.sub_le _ _) t.isLt) j +
      ∑ k : Fin 2048, (show FVec Ideal S1792x2048 .bf16 from iblk m c 2 t) (ix2 (j 0) k) * (show FVec Ideal S2048x512 .bf16 from iblk m c 3 t) (ix2 k (j 1)) := by
  rw [outsAt0_B m c t h0 h1]; frame_out; rw [hpay]

theorem outs_C (c : Dev nD) (t : Fin cfg0.N) (h1 : t.val % 4 = 3) (j : S1792x512.Idx) :
    outsAt0 m c t.val t.isLt j = (outsAt0 m c (t.val - 1) (Nat.lt_of_le_of_lt (Nat.sub_le _ _) t.isLt) j +
      ∑ k : Fin 2048, (show FVec Ideal S1792x2048 .bf16 from iblk m c 2 t) (ix2 (j 0) k) * (show FVec Ideal S2048x512 .bf16 from iblk m c 3 t) (ix2 k (j 1)))
      * ((show FVec Ideal S8x128 .f32 from iblk m c 0 t) (ix2 0 0) * (show FVec Ideal S8x128 .f32 from iblk m c 1 t) (ix2 0 0)) := by
  rw [outsAt0_C m c t (by omega) h1]; frame_out
  rw [hscale, hpay]
  pointwise

/-- The first scale is read from its whole array at every point. -/
theorem sx_at (c : Dev nD) (t : Fin cfg0.N) : (show FVec Ideal S8x128 .f32 from iblk m c 0 t) (ix2 0 0) =
    (show FVec Ideal S8x128 .f32 from m ((c : Thread nD τ).loc main_arg2)) (ix2 0 0) := by
  blk_ext [iblk, V, idx t]
/-- The second scale is read from its whole array at every point. -/
theorem sy_at (c : Dev nD) (t : Fin cfg0.N) : (show FVec Ideal S8x128 .f32 from iblk m c 1 t) (ix2 0 0) =
    (show FVec Ideal S8x128 .f32 from m ((c : Thread nD τ).loc main_arg3)) (ix2 0 0) := by
  blk_ext [iblk, V, idx t]

/-- One product of a step at point `t'` of the run that ends at point `t`: the two arrays' elements that the reference
    multiplies at the token `l`. -/
theorem part_at (c : Dev nD) (t t' : Fin cfg0.N) (j : S1792x512.Idx) (k : Fin 2048) (l : Fin 8192)
    (ht : t'.val / 4 = t.val / 4) (hl : l.val = t'.val % 4 * 2048 + k.val) :
    (show FVec Ideal S1792x2048 .bf16 from iblk m c 2 t') (ix2 (j 0) k) *
        (show FVec Ideal S2048x512 .bf16 from iblk m c 3 t') (ix2 k (j 1)) =
      (show FVec Ideal S3584x8192 .bf16 from m ((c : Thread nD τ).loc main_arg0)) (ix2 (((cfg0.win 4).blk t).view.emb j 0) l) *
        (show FVec Ideal S8192x18944 .bf16 from m ((c : Thread nD τ).loc main_arg1)) (ix2 l (((cfg0.win 4).blk t).view.emb j 1)) := by
  have h8 : t'.val / 8 = t.val / 8 := by omega
  blk_point [iblk, V, idx t, idx t']

/-- The four points of one block's run leave the whole product of the block's row and column strips, scaled. -/
theorem outs_flush (c : Dev nD) (t : Fin cfg0.N) (h3 : t.val % 4 = 3) (j : S1792x512.Idx) :
    outsAt0 m c t.val t.isLt j = REF (m ((c : Thread nD τ).loc main_arg0)) (m ((c : Thread nD τ).loc main_arg1))
      (m ((c : Thread nD τ).loc main_arg2)) (m ((c : Thread nD τ).loc main_arg3)) (((cfg0.win 4).blk t).view.emb j) := by
  have hN : t.val < 296 := lt_of_lt_of_eq t.isLt N_0
  obtain ⟨q, hq⟩ : ∃ q, t.val = 4 * q + 3 := ⟨t.val / 4, by omega⟩
  have hlt : ∀ s : Fin 4, 4 * q + s.val < cfg0.N := fun s => by show _ < grid0.N; rw [N_0]; omega
  have e3 := outs_C m c t h3 j
  have e2 := outs_B m c ⟨4 * q + 2, hlt 2⟩ (by show ¬ (4 * q + 2) % 4 = 0; omega) (by show ¬ (4 * q + 2) % 4 = 3; omega) j
  have e1 := outs_B m c ⟨4 * q + 1, hlt 1⟩ (by show ¬ (4 * q + 1) % 4 = 0; omega) (by show ¬ (4 * q + 1) % 4 = 3; omega) j
  have e0 := outs_A m c ⟨4 * q, hlt 0⟩ (by show (4 * q) % 4 = 0; omega) j
  obtain rfl : t = ⟨4 * q + 3, hlt 3⟩ := Fin.ext hq
  rw [e3]
  refine (congrArg₂ (fun a b : EReal => (a + b) * _) e2 rfl).trans ?_
  refine (congrArg₂ (fun a b : EReal => ((a + b) + _) * _) e1 rfl).trans ?_
  refine (congrArg₂ (fun a b : EReal => (((a + b) + _) + _) * _) e0 rfl).trans ?_
  rw [href]
  have key : (∑ s : Fin 4, ∑ k : Fin 2048,
      (show FVec Ideal S1792x2048 .bf16 from iblk m c 2 ⟨4 * q + s.val, hlt s⟩) (ix2 (j 0) k) *
        (show FVec Ideal S2048x512 .bf16 from iblk m c 3 ⟨4 * q + s.val, hlt s⟩) (ix2 k (j 1))) =
      ∑ l : Fin 8192, (show FVec Ideal S3584x8192 .bf16 from m ((c : Thread nD τ).loc main_arg0))
          (ix2 (((cfg0.win 4).blk ⟨4 * q + 3, hlt 3⟩).view.emb j 0) l) *
        (show FVec Ideal S8192x18944 .bf16 from m ((c : Thread nD τ).loc main_arg1))
          (ix2 l (((cfg0.win 4).blk ⟨4 * q + 3, hlt 3⟩).view.emb j 1)) := by
    refine Fin.sum_mul_add_congr fun s k hl => ?_
    exact part_at m c ⟨4 * q + 3, hlt 3⟩ ⟨4 * q + s.val, hlt s⟩ j k ⟨s.val * 2048 + k.val, hl⟩
      (by show (4 * q + s.val) / 4 = (4 * q + 3) / 4; omega)
      (by show s.val * 2048 + k.val = (4 * q + s.val) % 4 * 2048 + k.val; omega)
  rw [Fin.sum_univ_four] at key
  refine Ideal.mul_congr ?_ (Ideal.mul_congr ?_ ?_)
  · refine Eq.trans ?_ key
    rw [zero_add]
    rfl
  · exact sx_at m c _
  · exact sy_at m c _

/-- The result array after the run is the reference's function of the arguments. -/
theorem final (c : Dev nD) : (dats m 0 c).arrAt 4 (cfgs 0).N =
    REF (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  blk_simp
  rw [after0_4]
  exact outs_flush m c t ((flush0_4 t).mp hf) y

end Cert.MatmulIdeal.Value

end
-- ==== Proof.Rotation.lean ====
/- The masked, signed Hadamard rotation over the extended reals, and the bounds of its absolute values. -/
module

public import Idealize.ShloMosaic.Lib.Pipeline.ValueKit
public import Idealize.ShloMosaic.Lib.Pointwise

@[expose] public section

set_option maxRecDepth 16384

noncomputable section

open Idealize.ShloMosaic

namespace Rht

/-- One where the number of places in which `r` and `i` both have a one is odd. -/
def odd (r i : Nat) : BitVec 1 :=
  IntOp.cmpi CmpIPredicate.eq (IntOp.andi (IntOp.ctpop (IntOp.andi (BitVec.ofNat 32 r) (BitVec.ofNat 32 i))) 1#32) 1#32

/-- The scaled, signed Hadamard matrix's entry. -/
def entry (S : Fin 16 → EReal) (r i : Fin 16) : EReal :=
  Scalar.select (odd r i) (Ideal.ofBits FTy.f32 3212836864#32) 1 * S i * Ideal.ofBits FTy.f32 1048576000#32

/-- One where token `s` of a sequence is within its length. -/
def valid (L : BitVec 32) (s : Nat) : BitVec 1 := IntOp.cmpi CmpIPredicate.slt (BitVec.ofNat 32 s) L

/-- Row `r` of the rotated group `g` of one column. -/
def rot (X : Fin 4 → Fin 2048 → EReal) (S : Fin 16 → EReal) (L : Fin 4 → BitVec 32) (g : Fin 512) (r : Fin 16) : EReal :=
  ∑ i : Fin 16, Scalar.select (valid (L ⟨g.val / 128, by omega⟩) (g.val % 128 * 16 + i.val))
    (X ⟨g.val / 128, by omega⟩ ⟨g.val % 128 * 16 + i.val, by omega⟩ * entry S r i) 0

theorem ofBits_neg_one : Ideal.ofBits FTy.f32 3212836864#32 = -1 := by
  simp [Ideal.ofBits, Ideal.ieee]
  rw [← EReal.coe_mul]; norm_num
theorem ofBits_neg_inf : Ideal.ofBits FTy.f32 4286578688#32 = ⊥ := by
  simp [Ideal.ofBits, Ideal.ieee]
theorem ofBits_quarter : Ideal.ofBits FTy.f32 1048576000#32 = ((1 / 4 : ℝ) : EReal) := by
  simp [Ideal.ofBits, Ideal.ieee]
  rw [← EReal.coe_mul]; norm_num

theorem entry_eq (S : Fin 16 → EReal) (r i : Fin 16) :
    Scalar.select (odd r i) (-(S i * Ideal.ofBits FTy.f32 1048576000#32)) (S i * Ideal.ofBits FTy.f32 1048576000#32) =
      entry S r i := by
  unfold entry Scalar.select
  split
  · rw [ofBits_neg_one, neg_mul, one_mul, neg_mul]
  · rw [one_mul]

/-- A sum over 256 places of which only one group of sixteen counts. -/
theorem sum_group (q : Fin 16) (f : Fin 256 → EReal) (hz : ∀ k : Fin 256, k.val / 16 ≠ q.val → f k = 0) :
    ∑ k, f k = ∑ i : Fin 16, f ⟨q.val * 16 + i.val, by omega⟩ := by
  rw [Fin.sum_univ_tiles 16 16 rfl f]
  rw [Finset.sum_eq_single q]
  · intro b _ hb
    refine Finset.sum_eq_zero fun t _ => hz _ ?_
    have : b.val ≠ q.val := fun h => hb (Fin.ext h)
    simp only []
    omega
  · intro h; exact absurd (Finset.mem_univ q) h

/-- The absolute value is below a bound. -/
abbrev below (x z : EReal) : Prop := FloatOps.absf (F := Ideal) (φ := .f32) x ≤ z

theorem absf_nonneg (x : EReal) : 0 ≤ FloatOps.absf (F := Ideal) (φ := .f32) x := by
  show 0 ≤ max x (-x)
  rcases le_total 0 x with h | h
  · exact le_max_of_le_left h
  · exact le_max_of_le_right (by simpa using EReal.neg_le_neg_iff.mpr h)

theorem absf_zero : FloatOps.absf (F := Ideal) (φ := .f32) (0 : EReal) = 0 := by
  show max (0 : EReal) (-0) = 0
  simp

/-- The greatest absolute value of the rotated groups, as the reference takes it. -/
def amax (n : Nat) (X : Fin 4 → Fin 2048 → Fin n → EReal) (S : Fin 16 → EReal) (L : Fin 4 → BitVec 32) : EReal :=
  Finset.fold max (Ideal.ofBits FTy.f32 4286578688#32) (fun x : Fin 512 × Fin n =>
    Finset.fold max (Ideal.ofBits FTy.f32 4286578688#32) (fun r : Fin 16 =>
      FloatOps.absf (F := Ideal) (φ := .f32) (rot (fun b s => X b s x.2) S L x.1 r)) Finset.univ) Finset.univ

/-- The scale made of a greatest absolute value. -/
def scaleOf (a : EReal) : EReal := if 0 < a then Ideal.div a (Ideal.ofBits FTy.f32 1160249344#32) else 1

theorem amax_le (n : Nat) (hn : 0 < n) (X : Fin 4 → Fin 2048 → Fin n → EReal) (S : Fin 16 → EReal) (L : Fin 4 → BitVec 32) (z : EReal) :
    amax n X S L ≤ z ↔ 0 ≤ z ∧ ∀ (g : Fin 512) (col : Fin n) (r : Fin 16), below (rot (fun b s => X b s col) S L g r) z := by
  unfold amax
  rw [ofBits_neg_inf]
  simp only [Finset.fold_max_le, bot_le, true_and, Finset.mem_univ, forall_true_left]
  constructor
  · intro h
    exact ⟨le_trans (absf_nonneg _) (h (0, ⟨0, hn⟩) 0), fun g col r => h (g, col) r⟩
  · rintro ⟨_, h⟩ ⟨g, col⟩ r
    exact h g col r

/-- The mask inside a block of tokens is the mask of the sequence. -/
theorem valid_sub (L : BitVec 32) (hL : 0 ≤ L.toInt) (off k : Nat) (ho : off < 2048) (hk : k < 2048) :
    IntOp.cmpi CmpIPredicate.slt (BitVec.ofNat 32 k) (L - BitVec.ofNat 32 off) = valid L (off + k) := by
  unfold valid IntOp.cmpi
  congr 1
  simp only [BitVec.slt]
  have h1 : (BitVec.ofNat 32 k).toInt = k := by
    rw [BitVec.toInt_eq_toNat_bmod, BitVec.toNat_ofNat, Int.bmod_def]; omega
  have h2 : (BitVec.ofNat 32 (off + k)).toInt = off + k := by
    rw [BitVec.toInt_eq_toNat_bmod, BitVec.toNat_ofNat, Int.bmod_def]; omega
  have h3 : (L - BitVec.ofNat 32 off).toInt = L.toInt - off := by
    have hb := BitVec.toInt_lt (x := L)
    have h4 : (BitVec.ofNat 32 off).toInt = off := by
      rw [BitVec.toInt_eq_toNat_bmod, BitVec.toNat_ofNat, Int.bmod_def]; omega
    rw [BitVec.toInt_sub, h4, Int.bmod_def]
    omega
  rw [h1, h2, h3]
  simp only [decide_eq_decide]
  omega

end Rht

end
-- ==== Proof.AmaxXValue.lean ====
/- What the amax kernel computes over the extended reals. -/
module

public import proofs.«01_k».proof.Defs
public import proofs.«01_k».proof.Proof.Rotation
public import proofs.«01_k».proof.Proof.Gen.AmaxXIdeal.Frame
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.AmaxXIdeal.Value

open Cert.AmaxXIdeal Cert.AmaxXIdeal.Gen

variable (m : (ℓ : Loc nD τ sig) → Buf (Elt Ideal) ℓ)

theorem ok : Ok m := by
  trivial

/-- One where two places are in the same group, zero elsewhere. -/
theorem same (a b : Fin 16) : (FloatOps.uitofp (F := Ideal) .bf16 (IntOp.cmpi CmpIPredicate.eq (IntOp.addi (BitVec.ofNat 32 a.val) 0#32) (BitVec.ofNat 32 b.val)) : EReal) =
    if a.val = b.val then 1 else 0 := by
  have h : IntOp.cmpi CmpIPredicate.eq (IntOp.addi (BitVec.ofNat 32 a.val) 0#32) (BitVec.ofNat 32 b.val) = if a.val = b.val then 1#1 else 0#1 := by
    revert a b; decide +kernel
  rw [h]
  split
  · show (((1#1 : BitVec 1).toNat : ℝ) : EReal) = 1
    simp
  · show (((0#1 : BitVec 1).toNat : ℝ) : EReal) = 0
    simp

/-- An element of the block-diagonal matrix that the kernel is given. -/
theorem hval (c : Dev nD) (a b : Fin 256) : V m c main_v24 (ix2 a b) =
    (if a.val / 16 = b.val / 16 then (1 : EReal) else 0) *
      Rht.entry (fun i => (show FVec Ideal S16 .f32 from m ((c : Thread nD τ).loc main_arg1)) (ix1 i)) ⟨a.val % 16, by omega⟩ ⟨b.val % 16, by omega⟩ := by
  simp only [V, V0, hostOps0, hostOps0_1, hostOps0_2, hostOps0_3, hostOps0_4, List.flatten_cons, List.flatten_nil, List.append_nil, List.cons_append, List.nil_append]
  after_reads_at
  rw [← Rht.entry_eq]
  refine congrArg₂ (fun a b : EReal => a * b) ?_ rfl
  exact same ⟨a.val / 16, by omega⟩ ⟨b.val / 16, by omega⟩

/-- An element of the tokens that the kernel is given. -/
theorem xval (c : Dev nD) (a : Fin 8192) (b : Fin 3584) : V m c main_v26 (ix2 a b) =
    (show FVec Ideal S4x2048x3584 .bf16 from m ((c : Thread nD τ).loc main_arg0)) (ix3 ⟨a.val / 2048, by omega⟩ ⟨a.val % 2048, by omega⟩ b) := by
  simp only [V, V0, hostOps0, hostOps0_1, hostOps0_2, hostOps0_3, hostOps0_4, List.flatten_cons, List.flatten_nil, List.append_nil, List.cons_append, List.nil_append]
  after_reads_at

theorem offs : ∀ t : Fin grid0.N, Scalar.muli
            (Scalar.select
              (Scalar.andi
                (Scalar.xori
                  (Scalar.cmpi CmpIPredicate.slt (Scalar.remsi (BitVec.ofNat 32 ↑(grid0.coords t 0)) 8#32) 0#32) 0#1)
                (Scalar.cmpi CmpIPredicate.ne (Scalar.remsi (BitVec.ofNat 32 ↑(grid0.coords t 0)) 8#32) 0#32))
              (Scalar.addi (Scalar.remsi (BitVec.ofNat 32 ↑(grid0.coords t 0)) 8#32) 8#32)
              (Scalar.remsi (BitVec.ofNat 32 ↑(grid0.coords t 0)) 8#32))
            256#32 = BitVec.ofNat 32 (t.val / 7 % 8 * 256) := by decide +kernel
theorem word_at : ∀ t : Fin grid0.N, k0_off1 (grid0.coords t) = ![t.val / 56] := by decide +kernel

theorem lt_N (hO : Ok m) (t : Fin (cfgM m hO).N) : t.val < 224 := lt_of_lt_of_eq t.isLt N_0

/-- The length word that a point reads. -/
abbrev lword (c : Dev nD) (t : Fin grid0.N) : BitVec 32 :=
  tbM0_0.view.readAt (Elt Ideal) (Rect.unit (s := S4) (k0_off1 (grid0.coords t)) S1.size (k0_off1_inb (grid0.coords t))).toLoadRect (tbl m 0) (Shape.Idx.first (numel1_S1.symm ▸ Nat.one_pos))

theorem word_gen (t : Fin grid0.N) (X : tbM0_0.view.ty.Contents (Elt Ideal)) :
    tbM0_0.view.readAt (Elt Ideal) (Rect.unit (s := S4) (k0_off1 (grid0.coords t)) S1.size (k0_off1_inb (grid0.coords t))).toLoadRect X (Shape.Idx.first (numel1_S1.symm ▸ Nat.one_pos)) =
      (show IVec S4 32 from X) (ix1 ⟨t.val / 56, by have := lt_of_lt_of_eq t.isLt N_0; omega⟩) := by
  rw [View.readAt_apply]
  refine congrArg (show IVec S4 32 from X) (funext fun a => Fin.ext ?_)
  have ha : a = (0 : Fin 1) := Subsingleton.elim (α := Fin 1) _ _
  subst ha
  refine Eq.trans ?_ (congrFun (word_at t) 0)
  simp

/-- The length of the sequence that the point's tokens belong to. -/
theorem word (c : Dev nD) (t : Fin grid0.N) : lword m c t =
   (show IVec S4 32 from m ((c : Thread nD τ).loc main_arg2)) (ix1 ⟨t.val / 56, by have := lt_of_lt_of_eq t.isLt N_0; omega⟩) := by
  obtain rfl : c = 0 := Subsingleton.elim _ _
  refine (word_gen t (tbl m 0)).trans ?_
  show (show IVec S4 32 from V m 0 main_arg2) _ = _
  simp only [V, V0, hostOps0, hostOps0_1, hostOps0_2, hostOps0_3, hostOps0_4, List.flatten_cons, List.flatten_nil, List.append_nil, List.cons_append, List.nil_append]
  after_reads_at

theorem idx0 : ∀ t : Fin grid0.N, cc0_transform_0 (grid0.coords t) = ![0, 0] := by decide +kernel
theorem idx1 : ∀ t : Fin grid0.N, cc0_transform_1 (grid0.coords t) = ![t.val / 7, t.val % 7] := by decide +kernel
theorem idx2 : ∀ t : Fin grid0.N, cc0_transform_2 (grid0.coords t) = ![0, 0] := by decide +kernel
theorem widx0 (hO : Ok m) (t : Fin (cfgM m hO).N) : ((pcfg0 (F := Ideal)).win (adm m hO) 0).index t = ![0, 0] := idx0 t
theorem widx1 (hO : Ok m) (t : Fin (cfgM m hO).N) : ((pcfg0 (F := Ideal)).win (adm m hO) 1).index t = ![t.val / 7, t.val % 7] := idx1 t
theorem widx2 (hO : Ok m) (t : Fin (cfgM m hO).N) : ((pcfg0 (F := Ideal)).win (adm m hO) 2).index t = ![0, 0] := idx2 t

theorem tok_lt {n : Nat} (h : n < 224) (k : Fin 256) : n / 7 * 256 + k.val < 8192 := by omega
theorem seq_lt {n : Nat} (h : n < 224) : n / 56 < 4 := by omega
theorem mod_ne {n : Nat} (h : n < 224) (h0 : n ≠ 0) : ¬ n % 224 = 0 := by omega
theorem col_lt (n : Nat) (k : Fin 512) : n % 7 * 512 + k.val < 3584 := by omega

theorem xblk (hO : Ok m) (c : Dev nD) (t : Fin (cfgM m hO).N) (k : Fin 256) (l : Fin 512) :
   (show FVec Ideal S256x512 .bf16 from iblk m hO c 1 t) (ix2 k l) = V m c main_v26 (ix2 ⟨t.val / 7 * 256 + k.val, tok_lt (lt_N m hO t) k⟩ ⟨t.val % 7 * 512 + l.val, col_lt t.val l⟩) := by
  blk_ext [iblk]
  · have e : ((pcfg0 (F := Ideal)).win (adm m hO) 1).index t 0 = t.val / 7 := congrFun (idx1 t) 0
    exact congrArg (· * 256 + k.val) e
  · have e : ((pcfg0 (F := Ideal)).win (adm m hO) 1).index t 1 = t.val % 7 := congrFun (idx1 t) 1
    exact congrArg (· * 512 + l.val) e
theorem hblk (hO : Ok m) (c : Dev nD) (t : Fin (cfgM m hO).N) (k : Fin 256) (l : Fin 256) :
   (show FVec Ideal S256x256 .bf16 from iblk m hO c 0 t) (ix2 k l) = V m c main_v24 (ix2 k l) := by
  blk_ext [iblk]
  · exact (congrArg (fun f : Fin 2 → Nat => f 0 * 256 + k.val) (idx0 t)).trans (by simp)
  · exact (congrArg (fun f : Fin 2 → Nat => f 1 * 256 + l.val) (idx0 t)).trans (by simp)

/-- The sum that a point takes for one row of the rotation and one column. -/
def D (n : BitVec 32) (V : Vec Ideal S256x512 .bf16) (H : Vec Ideal S256x256 .bf16) (R : Fin 256) (q : Fin 512) : EReal :=
  ∑ k : Fin 256, Scalar.select (IntOp.cmpi CmpIPredicate.slt (BitVec.ofNat 32 k.val) n) ((show FVec Ideal S256x256 .bf16 from H) (ix2 R k) * (show FVec Ideal S256x512 .bf16 from V) (ix2 k q)) 0

theorem pay3_at (n : BitVec 32) (V : Vec Ideal S256x512 .bf16) (H : Vec Ideal S256x256 .bf16) (s : Fin 8) (q : Fin 512) :
    k0_pay3 n V H (ix2 s q) = Finset.fold max (Ideal.ofBits FTy.f32 4286578688#32) (fun x : Fin 32 => FloatOps.absf (F := Ideal) (φ := .f32) (D n V H ⟨x.val * 8 + s.val, by omega⟩ q)) Finset.univ := by
  pointwise [k0_pay3, D]
theorem pay4_at (n : BitVec 32) (V : Vec Ideal S256x512 .bf16) (H : Vec Ideal S256x256 .bf16) (A : Vec Ideal S8x128 .f32) (s : Fin 8) (l : Fin 128) :
    k0_pay4 n V H A (ix2 s l) = max ((show FVec Ideal S8x128 .f32 from A) (ix2 s l)) (k0_pay3 n V H (ix2 s ⟨l.val, by omega⟩)) := by
  pointwise [k0_pay4]
theorem pay5_at (n : BitVec 32) (V : Vec Ideal S256x512 .bf16) (H : Vec Ideal S256x256 .bf16) (A : Vec Ideal S8x128 .f32) (s : Fin 8) (l : Fin 128) :
    k0_pay5 n V H A (ix2 s l) = max ((show FVec Ideal S8x128 .f32 from A) (ix2 s l)) (k0_pay3 n V H (ix2 s ⟨128 + l.val, by omega⟩)) := by
  pointwise [k0_pay5]
theorem pay6_at (n : BitVec 32) (V : Vec Ideal S256x512 .bf16) (H : Vec Ideal S256x256 .bf16) (A : Vec Ideal S8x128 .f32) (s : Fin 8) (l : Fin 128) :
    k0_pay6 n V H A (ix2 s l) = max ((show FVec Ideal S8x128 .f32 from A) (ix2 s l)) (k0_pay3 n V H (ix2 s ⟨256 + l.val, by omega⟩)) := by
  pointwise [k0_pay6]
theorem pay7_at (n : BitVec 32) (V : Vec Ideal S256x512 .bf16) (H : Vec Ideal S256x256 .bf16) (A : Vec Ideal S8x128 .f32) (s : Fin 8) (l : Fin 128) :
    k0_pay7 n V H A (ix2 s l) = max ((show FVec Ideal S8x128 .f32 from A) (ix2 s l)) (k0_pay3 n V H (ix2 s ⟨384 + l.val, by omega⟩)) := by
  pointwise [k0_pay7]
theorem pay8_at (s : Fin 8) (l : Fin 128) : k0_pay8 (F := Ideal) (ix2 s l) = 0 := by pointwise [k0_pay8]
theorem pay1_at (n : FVec Ideal S8x128 .f32) (s : Fin 8) (l : Fin 128) : k0_pay1 n (ix2 s l) = n (ix2 s l) := by pointwise [k0_pay1]
theorem pay2_at (n : Vec Ideal S8x128 .f32) (s : Fin 8) (l : Fin 128) : k0_pay2 n (ix2 s l) =
    Rht.scaleOf (Finset.fold max (Ideal.ofBits FTy.f32 4286578688#32) (fun x : Fin 8 × Fin 128 => (show FVec Ideal S8x128 .f32 from n) (ix2 x.1 x.2)) Finset.univ) := by
  pointwise [k0_pay2]
  rfl

theorem pay2_all (n : Vec Ideal S8x128 .f32) (z : EReal)
    (h : Finset.fold max (Ideal.ofBits FTy.f32 4286578688#32) (fun x : Fin 8 × Fin 128 => (show FVec Ideal S8x128 .f32 from n) (ix2 x.1 x.2)) Finset.univ = z)
    (y : S8x128.Idx) : (k0_pay2 (F := Ideal) n : FVec Ideal S8x128 .f32) y = Rht.scaleOf z := by
  have hy : y = ix2 (y 0) (y 1) := funext fun a => by match a with | 0 => rfl | 1 => rfl
  rw [hy]
  exact (pay2_at n (y 0) (y 1)).trans (congrArg Rht.scaleOf h)

/-- The accumulator after an active point. -/
def STEP (n : BitVec 32) (V : Vec Ideal S256x512 .bf16) (H : Vec Ideal S256x256 .bf16) (A : Vec Ideal S8x128 .f32) : FVec Ideal S8x128 .f32 :=
  k0_pay1 (k0_pay7 n V H (k0_pay6 n V H (k0_pay5 n V H (k0_pay4 n V H A))))

theorem pay3_le (n : BitVec 32) (V : Vec Ideal S256x512 .bf16) (H : Vec Ideal S256x256 .bf16) (s : Fin 8) (q : Fin 512) (z : EReal) :
    k0_pay3 n V H (ix2 s q) ≤ z ↔ ∀ x : Fin 32, Rht.below (D n V H ⟨x.val * 8 + s.val, by omega⟩ q) z := by
  rw [pay3_at, Rht.ofBits_neg_inf]
  simp only [Finset.fold_max_le, bot_le, true_and, Finset.mem_univ, forall_true_left]

theorem step_le (n : BitVec 32) (V : Vec Ideal S256x512 .bf16) (H : Vec Ideal S256x256 .bf16) (A : Vec Ideal S8x128 .f32) (s : Fin 8) (l : Fin 128) (z : EReal) :
    STEP n V H A (ix2 s l) ≤ z ↔ (show FVec Ideal S8x128 .f32 from A) (ix2 s l) ≤ z ∧
      ∀ (x : Fin 32) (i : Fin 4), Rht.below (D n V H ⟨x.val * 8 + s.val, by omega⟩ ⟨i.val * 128 + l.val, by omega⟩) z := by
  unfold STEP
  rw [pay1_at, pay7_at]
  show max (k0_pay6 n V H _ (ix2 s l)) _ ≤ z ↔ _
  rw [pay6_at]
  show max (max (k0_pay5 n V H _ (ix2 s l)) _) _ ≤ z ↔ _
  rw [pay5_at]
  show max (max (max (k0_pay4 n V H _ (ix2 s l)) _) _) _ ≤ z ↔ _
  rw [pay4_at]
  rw [max_le_iff, max_le_iff, max_le_iff, max_le_iff, pay3_le, pay3_le, pay3_le, pay3_le]
  constructor
  · rintro ⟨⟨⟨⟨ha, h0⟩, h1⟩, h2⟩, h3⟩
    refine ⟨ha, fun x i => ?_⟩
    have e : ∀ (q : Fin 512), q.val = i.val * 128 + l.val → Rht.below (D n V H ⟨x.val * 8 + s.val, by omega⟩ q) z →
        Rht.below (D n V H ⟨x.val * 8 + s.val, by omega⟩ ⟨i.val * 128 + l.val, by omega⟩) z := by
      intro q hq h
      rwa [show q = ⟨i.val * 128 + l.val, by omega⟩ from Fin.ext hq] at h
    rcases (by omega : i.val = 0 ∨ i.val = 1 ∨ i.val = 2 ∨ i.val = 3) with hi | hi | hi | hi
    · exact e _ (by simp only []; omega) (h0 x)
    · exact e _ (by simp only []; omega) (h1 x)
    · exact e _ (by simp only []; omega) (h2 x)
    · exact e _ (by simp only []; omega) (h3 x)
  · rintro ⟨ha, h⟩
    have e : ∀ (i : Fin 4) (q : Fin 512), q.val = i.val * 128 + l.val → ∀ x : Fin 32, Rht.below (D n V H ⟨x.val * 8 + s.val, by omega⟩ q) z := by
      intro i q hq x
      have := h x i
      rwa [show q = ⟨i.val * 128 + l.val, by omega⟩ from Fin.ext hq]
    exact ⟨⟨⟨⟨ha, e 0 _ (by simp)⟩, e 1 _ (by simp)⟩, e 2 _ (by simp)⟩, e 3 _ (by simp)⟩

theorem step_congr (n : BitVec 32) {V V' : Vec Ideal S256x512 .bf16} {H H' : Vec Ideal S256x256 .bf16} {A A' : Vec Ideal S8x128 .f32}
    (hV : V = V') (hH : H = H') (hA : A = A') : STEP n V H A = STEP n V' H' A' := by
  subst hV hH hA; rfl

/-- How many of the point's tokens count, as the kernel takes it. -/
abbrev nv (c : Dev nD) (t : Fin grid0.N) : BitVec 32 := Scalar.subi (lword m c t) (Scalar.muli
            (Scalar.select
              (Scalar.andi
                (Scalar.xori
                  (Scalar.cmpi CmpIPredicate.slt (Scalar.remsi (BitVec.ofNat 32 ↑(grid0.coords t 0)) 8#32) 0#32) 0#1)
                (Scalar.cmpi CmpIPredicate.ne (Scalar.remsi (BitVec.ofNat 32 ↑(grid0.coords t 0)) 8#32) 0#32))
              (Scalar.addi (Scalar.remsi (BitVec.ofNat 32 ↑(grid0.coords t 0)) 8#32) 8#32)
              (Scalar.remsi (BitVec.ofNat 32 ↑(grid0.coords t 0)) 8#32))
            256#32)

theorem nv_eq (c : Dev nD) (t : Fin grid0.N) : nv m c t =
    (show IVec S4 32 from m ((c : Thread nD τ).loc main_arg2)) (ix1 ⟨t.val / 56, by have := lt_of_lt_of_eq t.isLt N_0; omega⟩) - BitVec.ofNat 32 (t.val / 7 % 8 * 256) := by
  unfold nv
  rw [offs, word]
  rfl

theorem inactive (c : Dev nD) (t : Fin grid0.N) (h : ¬cond0_1 (grid0.coords t) (lword m c t)) (k : Fin 256) :
    IntOp.cmpi CmpIPredicate.slt (BitVec.ofNat 32 k.val) (nv m c t) = 0#1 := by
  replace h : ¬ (Scalar.cmpi .ne (Scalar.extui (Scalar.cmpi .sgt (nv m c t) 0#32)) 0#32 : BitVec 1) = 1#1 := h
  generalize nv m c t = n at h ⊢
  have hk : (BitVec.ofNat 32 k.val).toInt = k.val := by
    rw [BitVec.toInt_eq_toNat_bmod, BitVec.toNat_ofNat, Int.bmod_def]; omega
  have hn : ¬ (0#32).slt n = true := by
    intro hn
    apply h
    have : Scalar.cmpi .sgt n 0#32 = 1#1 := by
      show BitVec.ofBool ((0#32).slt n) = 1#1
      rw [hn]; rfl
    rw [this]
    decide
  show BitVec.ofBool ((BitVec.ofNat 32 k.val).slt n) = 0#1
  have : (BitVec.ofNat 32 k.val).slt n = false := by
    simp only [BitVec.slt, decide_eq_false_iff_not, hk]
    simp only [BitVec.slt, decide_eq_true_eq, BitVec.toInt_zero] at hn
    omega
  rw [this]; rfl

/-- The rotated group of one row and column of a point. -/
abbrev rotAt (c : Dev nD) (t : Fin 224) (R : Fin 256) (q : Fin 512) : EReal :=
  Rht.rot (fun b s => (show FVec Ideal S4x2048x3584 .bf16 from m ((c : Thread nD τ).loc main_arg0)) (ix3 b s ⟨t.val % 7 * 512 + q.val, by omega⟩))
    (fun i => (show FVec Ideal S16 .f32 from m ((c : Thread nD τ).loc main_arg1)) (ix1 i))
    (fun b => (show IVec S4 32 from m ((c : Thread nD τ).loc main_arg2)) (ix1 b)) ⟨t.val / 7 * 16 + R.val / 16, by omega⟩ ⟨R.val % 16, by omega⟩

theorem D_eq (hL : ∀ b : Fin 4, 0 ≤ ((show IVec S4 32 from m (((0 : Dev nD) : Thread nD τ).loc main_arg2)) (ix1 b)).toInt)
    (hO : Ok m) (c : Dev nD) (t : Fin (cfgM m hO).N) (R : Fin 256) (q : Fin 512) :
    D (nv m c t) (iblk m hO c 1 t) (iblk m hO c 0 t) R q = rotAt m c ⟨t.val, lt_N m hO t⟩ R q := by
  obtain rfl : c = 0 := Subsingleton.elim _ _
  have ht := lt_N m hO t
  unfold D rotAt Rht.rot
  rw [Rht.sum_group ⟨R.val / 16, by omega⟩]
  · refine Finset.sum_congr rfl fun i _ => ?_
    rw [hblk, xblk, hval, xval, nv_eq]
    rw [Rht.valid_sub _ (hL _) _ _ (by omega) (by simp only []; omega)]
    simp only []
    rw [if_pos (by omega), one_mul]
    refine congr (congr (congrArg Scalar.select ?_) ?_) rfl
    · refine congr (congrArg Rht.valid (congrArg _ (congrArg ix1 (Fin.ext ?_)))) ?_
      · simp only []; omega
      · omega
    · refine (mul_comm _ _).trans (congrArg₂ (fun a b : EReal => a * b) (congrArg _ (congr (congr (congrArg ix3 (Fin.ext ?_)) (Fin.ext ?_)) rfl)) (congrArg (Rht.entry _ _) (Fin.ext ?_)))
      all_goals simp only []; omega
  · intro k hk
    rw [hblk, hval, if_neg (fun h => hk (by simp only [] at h ⊢; omega)), zero_mul, zero_mul]
    unfold Scalar.select; split <;> rfl

theorem outs_A (hO : Ok m) (c : Dev nD) (t : Fin (cfgM m hO).N) (h0 : t.val % 224 = 0) (h1 : cond0_1 (grid0.coords t) (lword m c t)) (h2 : ¬t.val % 224 = 223) :
    (outsAt0 m hO c t.val t.isLt).2 = STEP (nv m c t) (iblk m hO c 1 t) (iblk m hO c 0 t) (k0_pay8 (F := Ideal)) := by
  rw [outsAt0_A m hO c t h0 h1 h2]
  frame_out
  exact step_congr _ ((hs0_1 m hO t).read_unread _) ((hs0_0 m hO t).read_unread _) rfl
theorem outs_B (hO : Ok m) (c : Dev nD) (t : Fin (cfgM m hO).N) (h0 : t.val % 224 = 0) (h1 : ¬ cond0_1 (grid0.coords t) (lword m c t)) (h2 : ¬t.val % 224 = 223) :
    (outsAt0 m hO c t.val t.isLt).2 = k0_pay8 (F := Ideal) := by
  rw [outsAt0_B m hO c t h0 h1 h2]
  frame_out
theorem outs_C (hO : Ok m) (c : Dev nD) (t : Fin (cfgM m hO).N) (h0 : ¬t.val % 224 = 0) (h1 : cond0_1 (grid0.coords t) (lword m c t)) (h2 : ¬t.val % 224 = 223) :
    (outsAt0 m hO c t.val t.isLt).2 = STEP (nv m c t) (iblk m hO c 1 t) (iblk m hO c 0 t) (outsAt0 m hO c (t.val - 1) (Nat.lt_of_le_of_lt (Nat.sub_le _ _) t.isLt)).2 := by
  rw [outsAt0_C m hO c t h0 h1 h2]
  frame_out
  exact step_congr _ ((hs0_1 m hO t).read_unread _) ((hs0_0 m hO t).read_unread _) (read_unread_whole _ _ _)
theorem outs_D (hO : Ok m) (c : Dev nD) (t : Fin (cfgM m hO).N) (h0 : ¬t.val % 224 = 0) (h1 : ¬ cond0_1 (grid0.coords t) (lword m c t)) (h2 : ¬t.val % 224 = 223) :
    (outsAt0 m hO c t.val t.isLt).2 = (outsAt0 m hO c (t.val - 1) (Nat.lt_of_le_of_lt (Nat.sub_le _ _) t.isLt)).2 := by
  rw [outsAt0_D m hO c t h0 h1 h2]
  unfold sout0_D_0
  rfl
theorem outs_E (hO : Ok m) (c : Dev nD) (t : Fin (cfgM m hO).N) (h0 : ¬t.val % 224 = 0) (h1 : cond0_1 (grid0.coords t) (lword m c t)) (h2 : t.val % 224 = 223) :
    (outsAt0 m hO c t.val t.isLt).2 = STEP (nv m c t) (iblk m hO c 1 t) (iblk m hO c 0 t) (outsAt0 m hO c (t.val - 1) (Nat.lt_of_le_of_lt (Nat.sub_le _ _) t.isLt)).2 := by
  rw [outsAt0_E m hO c t h0 h1 h2]
  frame_out
  exact step_congr _ ((hs0_1 m hO t).read_unread _) ((hs0_0 m hO t).read_unread _) (read_unread_whole _ _ _)
theorem outs_E' (hO : Ok m) (c : Dev nD) (t : Fin (cfgM m hO).N) (h0 : ¬t.val % 224 = 0) (h1 : cond0_1 (grid0.coords t) (lword m c t)) (h2 : t.val % 224 = 223) :
    (outsAt0 m hO c t.val t.isLt).1 = k0_pay2 (F := Ideal) (STEP (nv m c t) (iblk m hO c 1 t) (iblk m hO c 0 t) (outsAt0 m hO c (t.val - 1) (Nat.lt_of_le_of_lt (Nat.sub_le _ _) t.isLt)).2) := by
  rw [outsAt0_E m hO c t h0 h1 h2]
  frame_out
  exact congrArg (fun n : Vec Ideal S8x128 .f32 => (k0_pay2 (F := Ideal) n : FVec Ideal S8x128 .f32)) (step_congr _ ((hs0_1 m hO t).read_unread _) ((hs0_0 m hO t).read_unread _) (read_unread_whole _ _ _))
theorem outs_F (hO : Ok m) (c : Dev nD) (t : Fin (cfgM m hO).N) (h0 : ¬t.val % 224 = 0) (h1 : ¬ cond0_1 (grid0.coords t) (lword m c t)) (h2 : t.val % 224 = 223) :
    (outsAt0 m hO c t.val t.isLt).2 = (outsAt0 m hO c (t.val - 1) (Nat.lt_of_le_of_lt (Nat.sub_le _ _) t.isLt)).2 := by
  rw [outsAt0_F m hO c t h0 h1 h2]
  unfold sout0_F_0
  rfl
theorem outs_F' (hO : Ok m) (c : Dev nD) (t : Fin (cfgM m hO).N) (h0 : ¬t.val % 224 = 0) (h1 : ¬ cond0_1 (grid0.coords t) (lword m c t)) (h2 : t.val % 224 = 223) :
    (outsAt0 m hO c t.val t.isLt).1 = k0_pay2 (F := Ideal) (outsAt0 m hO c (t.val - 1) (Nat.lt_of_le_of_lt (Nat.sub_le _ _) t.isLt)).2 := by
  rw [outsAt0_F m hO c t h0 h1 h2]
  frame_out
  exact congrArg (fun n : Vec Ideal S8x128 .f32 => (k0_pay2 (F := Ideal) n : FVec Ideal S8x128 .f32)) (read_unread_whole _ _ _)

/-- The lengths are not negative. -/
abbrev Len : Prop := ∀ b : Fin 4, 0 ≤ ((show IVec S4 32 from m (((0 : Dev nD) : Thread nD τ).loc main_arg2)) (ix1 b)).toInt

/-- The accumulator's element at a point, as a function. -/
abbrev acc (hO : Ok m) (c : Dev nD) (n : Nat) (hn : n < (cfgM m hO).N) (s : Fin 8) (l : Fin 128) : EReal :=
  (show FVec Ideal S8x128 .f32 from (outsAt0 m hO c n hn).2) (ix2 s l)

theorem D_zero (hL : Len m) (hO : Ok m) (c : Dev nD) (t : Fin (cfgM m hO).N) (h1 : ¬cond0_1 (grid0.coords t) (lword m c t)) (R : Fin 256) (q : Fin 512) :
    rotAt m c ⟨t.val, lt_N m hO t⟩ R q = 0 := by
  rw [← D_eq m hL hO c t R q]
  unfold D
  refine Finset.sum_eq_zero fun k _ => ?_
  rw [inactive m c t h1 k]
  rfl

/-- What one point adds to the bounds of the accumulator. -/
abbrev adds (c : Dev nD) (s : Fin 8) (l : Fin 128) (z : EReal) (t : Fin 224) : Prop :=
  ∀ (x : Fin 32) (i : Fin 4), Rht.below (rotAt m c t ⟨x.val * 8 + s.val, by omega⟩ ⟨i.val * 128 + l.val, by omega⟩) z

theorem acc_zero (hL : Len m) (hO : Ok m) (c : Dev nD) (t : Fin (cfgM m hO).N) (h0 : t.val = 0) (s : Fin 8) (l : Fin 128) (z : EReal) :
    acc m hO c t.val t.isLt s l ≤ z ↔ 0 ≤ z ∧ adds m c s l z ⟨t.val, lt_N m hO t⟩ := by
  by_cases h1 : cond0_1 (grid0.coords t) (lword m c t)
  · unfold acc
    rw [outs_A m hO c t (by rw [h0]) h1 (by rw [h0]; decide)]
    refine (step_le _ _ _ _ s l z).trans (and_congr (iff_of_eq (congrArg (· ≤ z) (pay8_at s l))) ?_)
    refine forall_congr' fun x => forall_congr' fun i => ?_
    rw [D_eq m hL hO c t]
  · unfold acc
    rw [outs_B m hO c t (by rw [h0]) h1 (by rw [h0]; decide)]
    refine (iff_of_eq (congrArg (· ≤ z) (pay8_at s l))).trans ⟨fun h => ⟨h, fun x i => ?_⟩, And.left⟩
    show FloatOps.absf (F := Ideal) (φ := .f32) _ ≤ z
    rw [D_zero m hL hO c t h1, Rht.absf_zero]
    exact h

/-- A later point either steps the accumulator or leaves it. -/
theorem outs_later (hO : Ok m) (c : Dev nD) (t : Fin (cfgM m hO).N) (h0 : t.val ≠ 0) :
    (cond0_1 (grid0.coords t) (lword m c t) ∧ (outsAt0 m hO c t.val t.isLt).2 = STEP (nv m c t) (iblk m hO c 1 t) (iblk m hO c 0 t) (outsAt0 m hO c (t.val - 1) (Nat.lt_of_le_of_lt (Nat.sub_le _ _) t.isLt)).2) ∨
    (¬cond0_1 (grid0.coords t) (lword m c t) ∧ (outsAt0 m hO c t.val t.isLt).2 = (outsAt0 m hO c (t.val - 1) (Nat.lt_of_le_of_lt (Nat.sub_le _ _) t.isLt)).2) := by
  have h3 := mod_ne (lt_N m hO t) h0
  by_cases h1 : cond0_1 (grid0.coords t) (lword m c t)
  · refine .inl ⟨h1, ?_⟩
    by_cases h2 : t.val % 224 = 223
    · exact outs_E m hO c t h3 h1 h2
    · exact outs_C m hO c t h3 h1 h2
  · refine .inr ⟨h1, ?_⟩
    by_cases h2 : t.val % 224 = 223
    · exact outs_F m hO c t h3 h1 h2
    · exact outs_D m hO c t h3 h1 h2

theorem acc_succ (hL : Len m) (hO : Ok m) (c : Dev nD) (t : Fin (cfgM m hO).N) (h0 : t.val ≠ 0) (s : Fin 8) (l : Fin 128) (z : EReal) :
    acc m hO c t.val t.isLt s l ≤ z ∧ 0 ≤ z ↔ (acc m hO c (t.val - 1) (Nat.lt_of_le_of_lt (Nat.sub_le _ _) t.isLt) s l ≤ z ∧ 0 ≤ z) ∧ adds m c s l z ⟨t.val, lt_N m hO t⟩ := by
  rcases outs_later m hO c t h0 with ⟨h1, e⟩ | ⟨h1, e⟩
  · unfold acc
    rw [e, and_right_comm]
    refine and_congr_left fun _ => (step_le _ _ _ _ s l z).trans (and_congr Iff.rfl ?_)
    refine forall_congr' fun x => forall_congr' fun i => ?_
    rw [D_eq m hL hO c t]
  · unfold acc
    rw [e]
    refine ⟨fun h => ⟨h, fun x i => ?_⟩, And.left⟩
    show FloatOps.absf (F := Ideal) (φ := .f32) _ ≤ z
    rw [D_zero m hL hO c t h1, Rht.absf_zero]
    exact h.2

theorem acc_mono (hO : Ok m) (c : Dev nD) (t : Fin (cfgM m hO).N) (h0 : t.val ≠ 0) (s : Fin 8) (l : Fin 128) :
    acc m hO c (t.val - 1) (Nat.lt_of_le_of_lt (Nat.sub_le _ _) t.isLt) s l ≤ acc m hO c t.val t.isLt s l := by
  rcases outs_later m hO c t h0 with ⟨h1, e⟩ | ⟨h1, e⟩
  · unfold acc
    rw [e]
    exact ((step_le _ _ _ _ s l _).mp (le_refl _)).1
  · unfold acc
    rw [e]

theorem acc_zero_at (hL : Len m) (hO : Ok m) (c : Dev nD) (n : Nat) (hn : n < (cfgM m hO).N) (h0 : n = 0) (h : n < 224) (s : Fin 8) (l : Fin 128) (z : EReal) :
    acc m hO c n hn s l ≤ z ↔ 0 ≤ z ∧ adds m c s l z ⟨n, h⟩ := acc_zero m hL hO c ⟨n, hn⟩ h0 s l z
theorem acc_succ_at (hL : Len m) (hO : Ok m) (c : Dev nD) (n k : Nat) (hn : n < (cfgM m hO).N) (hk : k < (cfgM m hO).N) (h0 : n = k + 1) (h : n < 224) (s : Fin 8) (l : Fin 128) (z : EReal) :
    acc m hO c n hn s l ≤ z ∧ 0 ≤ z ↔ (acc m hO c k hk s l ≤ z ∧ 0 ≤ z) ∧ adds m c s l z ⟨n, h⟩ := by
  obtain rfl : k = n - 1 := by rw [h0]; rfl
  exact acc_succ m hL hO c ⟨n, hn⟩ (fun e => absurd (h0.symm.trans e) (Nat.succ_ne_zero _)) s l z
theorem acc_mono_at (hO : Ok m) (c : Dev nD) (n k : Nat) (hn : n < (cfgM m hO).N) (hk : k < (cfgM m hO).N) (h0 : n = k + 1) (s : Fin 8) (l : Fin 128) :
    acc m hO c k hk s l ≤ acc m hO c n hn s l := by
  obtain rfl : k = n - 1 := by rw [h0]; rfl
  exact acc_mono m hO c ⟨n, hn⟩ (fun e => absurd (h0.symm.trans e) (Nat.succ_ne_zero _)) s l

/-- The accumulator is never negative. -/
theorem acc_nonneg (hL : Len m) (hO : Ok m) (c : Dev nD) (s : Fin 8) (l : Fin 128) : ∀ (n : Nat) (hn : n < (cfgM m hO).N), 0 ≤ acc m hO c n hn s l := by
  intro n
  induction n with
  | zero => exact fun hn => ((acc_zero_at m hL hO c 0 hn rfl (by decide) s l (acc m hO c 0 hn s l)).mp (le_refl (acc m hO c 0 hn s l))).1
  | succ n ih => exact fun hn => le_trans (ih (Nat.lt_of_succ_lt hn)) (acc_mono_at m hO c (n + 1) n hn (Nat.lt_of_succ_lt hn) rfl s l)

theorem split_le (n : Nat) (hn : n + 1 < 224) (P : Fin 224 → Prop) : (∀ t : Fin 224, t.val ≤ n + 1 → P t) ↔ (∀ t : Fin 224, t.val ≤ n → P t) ∧ P ⟨n + 1, hn⟩ := by
  constructor
  · exact fun h => ⟨fun t ht => h t (Nat.le_succ_of_le ht), h _ (le_refl _)⟩
  · rintro ⟨h, h'⟩ t ht
    rcases Nat.lt_or_ge n t.val with h4 | h4
    · rwa [show t = ⟨n + 1, hn⟩ from Fin.ext (by simp only []; omega)]
    · exact h t h4
theorem split_zero (P : Fin 224 → Prop) : (∀ t : Fin 224, t.val ≤ 0 → P t) ↔ P ⟨0, by omega⟩ := by
  refine ⟨fun h => h _ (le_refl _), fun h t ht => ?_⟩
  rwa [show t = ⟨0, by omega⟩ from Fin.ext (by simp only []; omega)]

/-- The accumulator's bounds after a point: those of every rotated group so far. -/
theorem acc_le (hL : Len m) (hO : Ok m) (c : Dev nD) (s : Fin 8) (l : Fin 128) (z : EReal) : ∀ (n : Nat) (hn : n < (cfgM m hO).N),
    acc m hO c n hn s l ≤ z ↔ 0 ≤ z ∧ ∀ t : Fin 224, t.val ≤ n → adds m c s l z t := by
  intro n
  induction n with
  | zero =>
    intro hn
    exact (acc_zero_at m hL hO c 0 hn rfl (by decide) s l z).trans (and_congr Iff.rfl (split_zero (adds m c s l z)).symm)
  | succ n ih =>
    intro hn
    have hk := Nat.lt_of_succ_lt hn
    have hN : n + 1 < 224 := lt_of_lt_of_eq hn N_0
    have ih' := ih hk
    have h := acc_succ_at m hL hO c (n + 1) n hn hk rfl hN s l z
    have h1 : acc m hO c (n + 1) hn s l ≤ z → 0 ≤ z := le_trans (acc_nonneg m hL hO c s l (n + 1) hn)
    have h2 : acc m hO c n hk s l ≤ z → 0 ≤ z := le_trans (acc_nonneg m hL hO c s l n hk)
    generalize acc m hO c (n + 1) hn s l = a at h h1 ⊢
    generalize acc m hO c n hk s l = b at h h2 ih'
    rw [split_le n hN, ← and_assoc, ← ih']
    exact ⟨fun h3 => ⟨(h.mp ⟨h3, h1 h3⟩).1.1, (h.mp ⟨h3, h1 h3⟩).2⟩, fun h3 => (h.mpr ⟨⟨h3.1, h2 h3.1⟩, h3.2⟩).1⟩

/-- The last point stores the scale of the accumulator. -/
theorem outs_last (hO : Ok m) (c : Dev nD) (t : Fin (cfgM m hO).N) (h2 : t.val % 224 = 223) :
    (outsAt0 m hO c t.val t.isLt).1 = k0_pay2 (F := Ideal) (outsAt0 m hO c t.val t.isLt).2 := by
  have h0 : ¬ t.val % 224 = 0 := by rw [h2]; decide
  by_cases h1 : cond0_1 (grid0.coords t) (lword m c t)
  · rw [outs_E' m hO c t h0 h1 h2, outs_E m hO c t h0 h1 h2]
  · rw [outs_F' m hO c t h0 h1 h2, outs_F m hO c t h0 h1 h2]

/-- The greatest absolute value of the whole rotated array. -/
abbrev AMAX (c : Dev nD) : EReal :=
  Rht.amax 3584 (fun b s col => (show FVec Ideal S4x2048x3584 .bf16 from m ((c : Thread nD τ).loc main_arg0)) (ix3 b s col))
    (fun i => (show FVec Ideal S16 .f32 from m ((c : Thread nD τ).loc main_arg1)) (ix1 i))
    (fun b => (show IVec S4 32 from m ((c : Thread nD τ).loc main_arg2)) (ix1 b))

theorem last_t (g : Fin 512) (col : Fin 3584) : g.val / 16 * 7 + col.val / 512 < 224 := by omega
theorem last_x (g : Fin 512) (r : Fin 16) : (g.val % 16 * 16 + r.val) / 8 < 32 := by omega
theorem last_i (col : Fin 3584) : col.val % 512 / 128 < 4 := by omega
theorem last_g (g : Fin 512) (col : Fin 3584) (r : Fin 16) :
    (g.val / 16 * 7 + col.val / 512) / 7 * 16 + ((g.val % 16 * 16 + r.val) / 8 * 8 + (g.val % 16 * 16 + r.val) % 8) / 16 = g.val := by omega
theorem last_r (g : Fin 512) (r : Fin 16) : ((g.val % 16 * 16 + r.val) / 8 * 8 + (g.val % 16 * 16 + r.val) % 8) % 16 = r.val := by omega
theorem last_c (g : Fin 512) (col : Fin 3584) : (g.val / 16 * 7 + col.val / 512) % 7 * 512 + (col.val % 512 / 128 * 128 + col.val % 512 % 128) = col.val := by omega
theorem rot_congr (X X' : Fin 4 → Fin 2048 → EReal) (S : Fin 16 → EReal) (L : Fin 4 → BitVec 32) (g g' : Fin 512) (r r' : Fin 16)
    (hg : g.val = g'.val) (hr : r.val = r'.val) (hX : ∀ b s, X b s = X' b s) : Rht.rot X S L g r = Rht.rot X' S L g' r' := by
  obtain rfl := Fin.ext hg
  obtain rfl := Fin.ext hr
  obtain rfl : X = X' := funext fun b => funext fun s => hX b s
  rfl

theorem last_fold (hL : Len m) (hO : Ok m) (c : Dev nD) (n : Nat) (hn : n < (cfgM m hO).N) (h : n = 223) :
    Finset.fold max (Ideal.ofBits FTy.f32 4286578688#32) (fun x : Fin 8 × Fin 128 => acc m hO c n hn x.1 x.2) Finset.univ = AMAX m c := by
  refine eq_of_forall_ge_iff fun z => ?_
  rw [Rht.amax_le _ (by decide), Rht.ofBits_neg_inf]
  simp only [Finset.fold_max_le, bot_le, true_and, Finset.mem_univ, forall_true_left]
  constructor
  · intro hx
    refine ⟨((acc_le m hL hO c 0 0 z n hn).mp (hx (0, 0))).1, fun g col r => ?_⟩
    have h1 := ((acc_le m hL hO c ⟨(g.val % 16 * 16 + r.val) % 8, Nat.mod_lt _ (by decide)⟩ ⟨col.val % 512 % 128, Nat.mod_lt _ (by decide)⟩ z n hn).mp (hx (_, _))).2
      ⟨g.val / 16 * 7 + col.val / 512, last_t g col⟩ (by subst h; exact Nat.le_of_lt_succ (last_t g col))
      ⟨(g.val % 16 * 16 + r.val) / 8, last_x g r⟩ ⟨col.val % 512 / 128, last_i col⟩
    refine (iff_of_eq (congrArg (Rht.below · z) ?_)).mp h1
    exact rot_congr _ _ _ _ _ _ _ _ (last_g g col r) (last_r g r) (fun b s => congrArg _ (congrArg (ix3 b s) (Fin.ext (last_c g col))))
  · rintro ⟨hz, hx⟩ ⟨s, l⟩
    exact (acc_le m hL hO c s l z n hn).mpr ⟨hz, fun t _ x i => hx _ _ _⟩

theorem last_t' {n : Nat} (h : n < 224) (h' : n % 224 = 223) : n = 223 := by omega

/-- The one block of the result array is written back. -/
theorem covers2 (hO : Ok m) : ((cfgM m hO).win 2).Covers := by
  refine Pipeline.Window.covers_of_index_surj _ rfl ?_ fun β => ⟨⟨0, by rw [show (cfgM m hO).grid.N = 224 from N_0]; decide⟩, ?_⟩
  · intro a; match a with
    | ⟨0, _⟩ => exact (by decide : 0 < 8)
    | ⟨1, _⟩ => exact (by decide : 0 < 128)
  · intro a
    refine (congrFun (widx2 m hO _) a).trans ?_
    match a with
    | ⟨0, h⟩ => exact (Nat.lt_one_iff.mp (lt_of_lt_of_eq (β ⟨0, h⟩).isLt (by decide +kernel : (8 + 8 - 1) / 8 = 1 ∧ (128+128-1)/128 = 1).1)).symm
    | ⟨1, h⟩ => exact (Nat.lt_one_iff.mp (lt_of_lt_of_eq (β ⟨1, h⟩).isLt (by decide +kernel : (8 + 8 - 1) / 8 = 1 ∧ (128+128-1)/128 = 1).2)).symm

/-- The result array after the run: the scale of the greatest absolute value, everywhere. -/
theorem final (hL : Len m) (hO : Ok m) (c : Dev nD) : (dats m hO 0 c).arrAt 2 (cfgM m hO).N =
    ((fun _ => Rht.scaleOf (AMAX m c)) : FVec Ideal S8x128 .f32) := by
  refine (dats m hO 0 c).arrAt_eq_of_covers 2 _ (covers2 m hO) fun t hf y => ?_
  have h2 := (flush0_2 (adm m hO) t).mp hf
  have h3 := last_t' (lt_N m hO t) h2
  blk_simp
  rw [after0_2, outs_last m hO c t h2]
  exact pay2_all _ (AMAX m c) (last_fold m hL hO c t.val t.isLt h3) y

theorem rest29 : main_v29 ∈ Pipeline.restRefs sig spec0 := by decide +kernel
theorem arr_inj : Function.Injective (Pipeline.arrRef (sig := sig) spec0) := by decide +kernel

/-- The kernel's run: its result is the scale of the greatest absolute value, its arguments unchanged. -/
theorem run (hL : Len m) (g : Dev nD → PrngReg) :
    θ_run (defs (F := Ideal)) (onTc (τ := τ) (main (F := Ideal))) ⟨m, fun _ => 0, g⟩ fun r => ∀ c : Dev nD,
      r.2.mem ((c.tc : Thread nD τ).loc main_v29) = ((fun _ => Rht.scaleOf (AMAX m c)) : FVec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h := θ_run_and (Cert.AmaxXIdeal.Gen.run_main m g (ok m)) (Cert.AmaxXIdeal.Gen.unchanged m g (ok m))
  refine (θ_run _ _ _).mono (fun r hr c => ⟨?_, hr.2 c⟩) h
  have hc := (hr.1 c).2 main_v29 rest29
  refine hc.trans ?_
  unfold Pipeline.afterTail
  after_reads_simp
  have e := (Pipeline.withArrays_arr (τ := τ) (Val := Elt Ideal) spec0 arr_inj c (V0 m c) (fun w => (dats m (ok m) 0 c).arrAt w (cfgM m (ok m)).N) 2).trans (final m hL (ok m) c)
  exact congrArg (fun A : FVec Ideal S8x128 .f32 => (fun i => shapeCast main_v29.ty.shape (extractStridedSlice S1x1 ![0, 0] A slices_S8x128_S1x1_0_0) shapeCasts_S1x1_S1 i : FVec Ideal S1 .f32)) e

end Cert.AmaxXIdeal.Value

end
-- ==== Proof.AmaxXRef.lean ====
/- The reference of the amax call over the extended reals. -/
module

public import proofs.«01_k».proof.Defs
public import proofs.«01_k».proof.Proof.Rotation
public import proofs.«01_k».proof.Proof.Gen.AmaxXReferenceIdeal
public import Idealize.ShloMosaic.Adequacy
public import Idealize.ShloMosaic.Init
public import Idealize.ShloMosaic.Lib.Claim
public import Idealize.ShloMosaic.Lib.Pointwise
public import Idealize.ShloMosaic.Lib.StableHlo.ReadAt

@[expose] public section

set_option maxRecDepth 16384

noncomputable section

open Idealize.ShloMosaic Idealize.SL.Sem

namespace Cert.AmaxXReferenceIdeal.Value

open Cert.AmaxXReferenceIdeal Cert.AmaxXReferenceIdeal.Gen

/-- The scaled, signed Hadamard matrix. -/
def MAT (S : FVec Ideal S16 .f32) : FVec Ideal S16x16 .bf16 :=
  truncf .bf16 (mulf (mulf (id (select (cmpi .eq (andi (ctpop (andi
      (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))
      (broadcastInDim S16x16 ![] bcast_S_S16x16 (constantI S_ 32 1#32))) (broadcastInDim S16x16 ![] bcast_S_S16x16 (constantI S_ 32 1#32)))
      (broadcastInDim S16x16 ![] bcast_S_S16x16 (constant (F := Ideal) S_ .f32 0xBF800000#32))
      (broadcastInDim S16x16 ![] bcast_S_S16x16 (constant (F := Ideal) S_ .f32 0x3F800000#32))))
    (broadcastInDim S16x16 ![0, 1] bcast_S1x16_S16x16_0_1 (broadcastInDim S1x16 ![1] bcast_S16_S1x16_1 S)))
    (broadcastInDim S16x16 ![] bcast_S_S16x16 (constant (F := Ideal) S_ .f32 0x3E800000#32))) bitsLt_bf16_f32

/-- The tokens, zero past the lengths, in groups of sixteen. -/
def MSK (X : FVec Ideal S4x2048x3584 .bf16) (L : IVec S4 32) : FVec Ideal S512x16x3584 .bf16 :=
  shapeCast S512x16x3584 (select (broadcastInDim S4x2048x3584 ![0, 1, 2] bcast_S4x2048x1_S4x2048x3584_0_1_2
      (broadcastInDim S4x2048x1 ![0, 1] bcast_S4x2048_S4x2048x1_0_1
        (cmpi .slt (broadcastInDim S4x2048 ![0, 1] bcast_S1x2048_S4x2048_0_1 (broadcastInDim S1x2048 ![1] bcast_S2048_S1x2048_1 (iotaInDim S2048 32 0)))
          (broadcastInDim S4x2048 ![0, 1] bcast_S4x1_S4x2048_0_1 (broadcastInDim S4x1 ![0] bcast_S4_S4x1_0 L)))))
    X (broadcastInDim S4x2048x3584 ![] bcast_S_S4x2048x3584 (constant (F := Ideal) S_ .bf16 0x0000#16))) shapeCasts_S4x2048x3584_S512x16x3584

/-- The rotated groups. -/
def ROT (B : FVec Ideal S512x16x3584 .bf16) (M : FVec Ideal S16x16 .bf16) : FVec Ideal S512x16x3584 .f32 :=
  transpose S512x16x3584 [0, 2, 1] (Host.dotGeneral dot_S512x16x3584_S16x16_S512x3584x16_1_1_02_0_n_n none B M) transposes_S512x3584x16_S512x16x3584_0_2_1

/-- The greatest absolute value of each group. -/
def GRP (R : FVec Ideal S512x16x3584 .f32) : FVec Ideal S512x3584 .f32 :=
  Host.reduce FloatOps.maximumf (Host.absf R) (constant (F := Ideal) S_ .f32 0xFF800000#32) reducesTo_S512x16x3584_S512x3584_d1 h_S_

/-- The greatest of them all. -/
def ALL (A : FVec Ideal S512x3584 .f32) : FVec Ideal S_ .f32 :=
  Host.reduce FloatOps.maximumf A (constant (F := Ideal) S_ .f32 0xFF800000#32) reducesTo_S512x3584_S_d0_1 h_S_

/-- The scale made of it. -/
def SCL (a : FVec Ideal S_ .f32) : FVec Ideal S1 .f32 :=
  shapeCast S1 (select (cmpf .ogt a (constant (F := Ideal) S_ .f32 0x00000000#32)) (Host.divf a (constant (F := Ideal) S_ .f32 0x45280000#32))
    (id (constant (F := Ideal) S_ .f32 0x3F800000#32))) shapeCasts_S_S1

theorem mat_at (S : FVec Ideal S16 .f32) (r i : Fin 16) : MAT S (ix2 r i) = Rht.entry (fun i => S (ix1 i)) r i := by
  simp only [MAT, id_eq]
  pointwise
  rfl

theorem msk_at (X : FVec Ideal S4x2048x3584 .bf16) (L : IVec S4 32) (g : Fin 512) (i : Fin 16) (col : Fin 3584) :
    MSK X L (ix3 g i col) = Scalar.select (Rht.valid (L (ix1 ⟨g.val / 128, by omega⟩)) (g.val % 128 * 16 + i.val))
      (X (ix3 ⟨g.val / 128, by omega⟩ ⟨g.val % 128 * 16 + i.val, by omega⟩ col)) 0 := by
  pointwise [MSK]
  rfl

theorem rot_at (B : FVec Ideal S512x16x3584 .bf16) (M : FVec Ideal S16x16 .bf16) (g : Fin 512) (r : Fin 16) (col : Fin 3584) :
    ROT B M (ix3 g r col) = ∑ i : Fin 16, B (ix3 g i col) * M (ix2 r i) := by
  pointwise [ROT]

theorem grp_at (R : FVec Ideal S512x16x3584 .f32) (g : Fin 512) (col : Fin 3584) :
    GRP R (ix2 g col) = Finset.fold max (Ideal.ofBits FTy.f32 4286578688#32) (fun r : Fin 16 => FloatOps.absf (F := Ideal) (φ := .f32) (R (ix3 g r col))) Finset.univ := by
  pointwise [GRP]

theorem all_at (A : FVec Ideal S512x3584 .f32) (j : S_.Idx) :
    ALL A j = Finset.fold max (Ideal.ofBits FTy.f32 4286578688#32) (fun x : Fin 512 × Fin 3584 => A (ix2 x.1 x.2)) Finset.univ := by
  pointwise [ALL]

theorem scl_at (a : FVec Ideal S_ .f32) (i : Fin 1) : SCL a (ix1 i) = Rht.scaleOf (a ix0) := by
  simp only [SCL, id_eq]
  pointwise
  rfl

/-- The whole reference at its one element. -/
theorem scale_at (X : FVec Ideal S4x2048x3584 .bf16) (S : FVec Ideal S16 .f32) (L : IVec S4 32) (i : Fin 1) :
    SCL (ALL (GRP (ROT (MSK X L) (MAT S)))) (ix1 i) = Rht.scaleOf (Rht.amax 3584 (fun b s col => X (ix3 b s col)) (fun i => S (ix1 i)) (fun b => L (ix1 b))) := by
  rw [scl_at, all_at]
  refine congrArg Rht.scaleOf (Finset.fold_congr fun x _ => ?_)
  rw [grp_at]
  refine Finset.fold_congr fun r _ => congrArg _ ?_
  rw [rot_at]
  refine Finset.sum_congr rfl fun i _ => ?_
  rw [msk_at, mat_at]
  unfold Scalar.select
  split
  · rfl
  · exact zero_mul _

/-- The reference ends with the scale of the greatest absolute value, its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v37) = SCL (ALL (GRP (ROT
          (MSK (m ((c.tc : Thread nD τ).loc main_arg0)) (m ((c.tc : Thread nD τ).loc main_arg2))) (MAT (m ((c.tc : Thread nD τ).loc main_arg1))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine Idealize.ShloMosaic.θ_run_mono (Idealize.ShloMosaic.StableHlo.run_hlo _ _ (by hlo_seq) (by decide) (by decide) (by simp)
      (by intro _ h; (repeat (cases h with | head => rfl | tail _ h => ?_)); exact nomatch h) _ _) ?_
  intro r hr c
  refine ⟨(hr c main_v37).trans ?_, (hr c main_arg0).trans ?_, (hr c main_arg1).trans ?_, (hr c main_arg2).trans ?_⟩
  · after_reads_simp
    simp -implicitDefEqProofs only [StableHlo.TRef.toBuf, StableHlo.TRef.ofBuf, cast_cast, cast_eq]
    rfl
  all_goals after_reads_simp

end Cert.AmaxXReferenceIdeal.Value

end
-- ==== Proof.AmaxXClaim.lean ====
/- The global scale of x: the kernel's run against the reference's. -/
module

public import proofs.«01_k».proof.Defs
public import proofs.«01_k».proof.Proof.AmaxXValue
public import proofs.«01_k».proof.Proof.AmaxXRef
public import Idealize.ShloMosaic.Adequacy
public import Idealize.ShloMosaic.Init
public import Idealize.ShloMosaic.Lib.Claim
public import Idealize.ShloMosaic.Lib.Quiescent
public import Idealize.ShloMosaic.Lib.Pointwise

@[expose] public section

set_option maxRecDepth 16384

noncomputable section

namespace Cert.AmaxXClaim

open Idealize.ShloMosaic Idealize.ShloMosaic.TcCoe Idealize.SL.Sem

/-- The side conditions of the precondition. -/
theorem pre_facts : Cert.Pre_lengths_of_sequences.Facts := by constructor <;> decide

local instance : Cert.Pre_lengths_of_sequences.Facts := pre_facts

theorem sge_zero {n : BitVec 32} (h : Scalar.cmpi .sge n 0#32 = 1#1) : 0 ≤ n.toInt := by
  have h1 : (0#32).sle n = true := by
    by_contra hc
    have h2 : (0#32).sle n = false := by simpa using hc
    have h3 : Scalar.cmpi .sge n 0#32 = BitVec.ofBool ((0#32).sle n) := rfl
    rw [h3, h2] at h
    exact absurd h (by decide)
  simpa [BitVec.sle] using h1

/-- The precondition says that no length is negative. -/
theorem lengths (m : (ℓ : Loc Cert.AmaxXIdeal.nD Cert.AmaxXIdeal.τ Cert.AmaxXIdeal.sig) → Buf (Elt Ideal) ℓ)
    (h : Cert.Pre_AmaxXIdeal_lengths_of_sequences m) : Cert.AmaxXIdeal.Value.Len m := fun b => by
  have h1 := congrFun (h 0) (ix1 b)
  have h2 : Scalar.cmpi .sge ((show IVec Cert.AmaxXIdeal.S4 32 from m (((0 : Dev Cert.AmaxXIdeal.nD).tc : Thread Cert.AmaxXIdeal.nD Cert.AmaxXIdeal.τ).loc Cert.AmaxXIdeal.main_arg2)) (ix1 b)) 0#32 = 1#1 := by
    refine Eq.trans ?_ h1
    unfold Cert.Pre_lengths_of_sequences.fn
    rfl
  exact sge_zero h2

/-- The kernel's result is the reference's, from the same arguments. -/
theorem algebraic : Cert.algebraic_AmaxXIdeal_AmaxXReferenceIdeal_pre_lengths_of_sequences := by
  intro m g m' g' hpre hagree
  refine ⟨fun c _ => Rht.scaleOf (Cert.AmaxXIdeal.Value.AMAX m c), Cert.AmaxXIdeal.Value.run m (lengths m hpre) g, ?_⟩
  refine (θ_run Cert.AmaxXReferenceIdeal.defs _ _).mono (fun r h c => ⟨(h c).1.trans ?_, (h c).2⟩)
    (Cert.AmaxXReferenceIdeal.Value.run m' g')
  obtain ⟨h0, h1, h2⟩ := hagree c
  refine funext fun i => ?_
  obtain ⟨k, rfl⟩ : ∃ k : Fin 1, i = (ix1 k : Cert.AmaxXIdeal.S1.Idx) := ⟨i 0, funext fun a => by match a with | ⟨0, _⟩ => rfl⟩
  refine (Cert.AmaxXReferenceIdeal.Value.scale_at _ _ _ k).trans ?_
  rw [h0, h1, h2]

/-- The reference runs, leaves its arguments alone and every semaphore counter at zero (it declares none). -/
theorem reference_frame : Cert.quiescent_AmaxXReferenceIdeal := fun m ρ _ =>
  (θ_run Cert.AmaxXReferenceIdeal.defs _ _).mono (fun r h => ⟨fun c => (h c).2,
      Idealize.ShloMosaic.sem_eq_zero_of_no_sems (by decide) r.2⟩)
    (Cert.AmaxXReferenceIdeal.Value.run m ρ)

/-- The same of the claim that states the precondition. -/
theorem reference_frame_pre : Cert.quiescent_AmaxXReferenceIdeal_pre_lengths_of_sequences := fun m ρ _ =>
  reference_frame m ρ trivial

end Cert.AmaxXClaim

end
-- ==== Proof.AmaxDyValue.lean ====
/- What the amax kernel computes over the extended reals. -/
module

public import proofs.«01_k».proof.Defs
public import proofs.«01_k».proof.Proof.Rotation
public import proofs.«01_k».proof.Proof.Gen.AmaxDyIdeal.Frame
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.AmaxDyIdeal.Value

open Cert.AmaxDyIdeal Cert.AmaxDyIdeal.Gen

variable (m : (ℓ : Loc nD τ sig) → Buf (Elt Ideal) ℓ)

theorem ok : Ok m := by
  trivial

/-- One where two places are in the same group, zero elsewhere. -/
theorem same (a b : Fin 16) : (FloatOps.uitofp (F := Ideal) .bf16 (IntOp.cmpi CmpIPredicate.eq (IntOp.addi (BitVec.ofNat 32 a.val) 0#32) (BitVec.ofNat 32 b.val)) : EReal) =
    if a.val = b.val then 1 else 0 := by
  have h : IntOp.cmpi CmpIPredicate.eq (IntOp.addi (BitVec.ofNat 32 a.val) 0#32) (BitVec.ofNat 32 b.val) = if a.val = b.val then 1#1 else 0#1 := by
    revert a b; decide +kernel
  rw [h]
  split
  · show (((1#1 : BitVec 1).toNat : ℝ) : EReal) = 1
    simp
  · show (((0#1 : BitVec 1).toNat : ℝ) : EReal) = 0
    simp

/-- An element of the block-diagonal matrix that the kernel is given. -/
theorem hval (c : Dev nD) (a b : Fin 256) : V m c main_v24 (ix2 a b) =
    (if a.val / 16 = b.val / 16 then (1 : EReal) else 0) *
      Rht.entry (fun i => (show FVec Ideal S16 .f32 from m ((c : Thread nD τ).loc main_arg1)) (ix1 i)) ⟨a.val % 16, by omega⟩ ⟨b.val % 16, by omega⟩ := by
  simp only [V, V0, hostOps0, hostOps0_1, hostOps0_2, hostOps0_3, hostOps0_4, List.flatten_cons, List.flatten_nil, List.append_nil, List.cons_append, List.nil_append]
  after_reads_at
  rw [← Rht.entry_eq]
  refine congrArg₂ (fun a b : EReal => a * b) ?_ rfl
  exact same ⟨a.val / 16, by omega⟩ ⟨b.val / 16, by omega⟩

/-- An element of the tokens that the kernel is given. -/
theorem xval (c : Dev nD) (a : Fin 8192) (b : Fin 18944) : V m c main_v26 (ix2 a b) =
    (show FVec Ideal S4x2048x18944 .bf16 from m ((c : Thread nD τ).loc main_arg0)) (ix3 ⟨a.val / 2048, by omega⟩ ⟨a.val % 2048, by omega⟩ b) := by
  simp only [V, V0, hostOps0, hostOps0_1, hostOps0_2, hostOps0_3, hostOps0_4, List.flatten_cons, List.flatten_nil, List.append_nil, List.cons_append, List.nil_append]
  after_reads_at

theorem offs : ∀ t : Fin grid0.N, Scalar.muli
            (Scalar.select
              (Scalar.andi
                (Scalar.xori
                  (Scalar.cmpi CmpIPredicate.slt (Scalar.remsi (BitVec.ofNat 32 ↑(grid0.coords t 0)) 8#32) 0#32) 0#1)
                (Scalar.cmpi CmpIPredicate.ne (Scalar.remsi (BitVec.ofNat 32 ↑(grid0.coords t 0)) 8#32) 0#32))
              (Scalar.addi (Scalar.remsi (BitVec.ofNat 32 ↑(grid0.coords t 0)) 8#32) 8#32)
              (Scalar.remsi (BitVec.ofNat 32 ↑(grid0.coords t 0)) 8#32))
            256#32 = BitVec.ofNat 32 (t.val / 37 % 8 * 256) := by decide +kernel
theorem word_at : ∀ t : Fin grid0.N, k0_off1 (grid0.coords t) = ![t.val / 296] := by decide +kernel

theorem lt_N (hO : Ok m) (t : Fin (cfgM m hO).N) : t.val < 1184 := lt_of_lt_of_eq t.isLt N_0

/-- The length word that a point reads. -/
abbrev lword (c : Dev nD) (t : Fin grid0.N) : BitVec 32 :=
  tbM0_0.view.readAt (Elt Ideal) (Rect.unit (s := S4) (k0_off1 (grid0.coords t)) S1.size (k0_off1_inb (grid0.coords t))).toLoadRect (tbl m 0) (Shape.Idx.first (numel1_S1.symm ▸ Nat.one_pos))

theorem word_gen (t : Fin grid0.N) (X : tbM0_0.view.ty.Contents (Elt Ideal)) :
    tbM0_0.view.readAt (Elt Ideal) (Rect.unit (s := S4) (k0_off1 (grid0.coords t)) S1.size (k0_off1_inb (grid0.coords t))).toLoadRect X (Shape.Idx.first (numel1_S1.symm ▸ Nat.one_pos)) =
      (show IVec S4 32 from X) (ix1 ⟨t.val / 296, by have := lt_of_lt_of_eq t.isLt N_0; omega⟩) := by
  rw [View.readAt_apply]
  refine congrArg (show IVec S4 32 from X) (funext fun a => Fin.ext ?_)
  have ha : a = (0 : Fin 1) := Subsingleton.elim (α := Fin 1) _ _
  subst ha
  refine Eq.trans ?_ (congrFun (word_at t) 0)
  simp

/-- The length of the sequence that the point's tokens belong to. -/
theorem word (c : Dev nD) (t : Fin grid0.N) : lword m c t =
   (show IVec S4 32 from m ((c : Thread nD τ).loc main_arg2)) (ix1 ⟨t.val / 296, by have := lt_of_lt_of_eq t.isLt N_0; omega⟩) := by
  obtain rfl : c = 0 := Subsingleton.elim _ _
  refine (word_gen t (tbl m 0)).trans ?_
  show (show IVec S4 32 from V m 0 main_arg2) _ = _
  simp only [V, V0, hostOps0, hostOps0_1, hostOps0_2, hostOps0_3, hostOps0_4, List.flatten_cons, List.flatten_nil, List.append_nil, List.cons_append, List.nil_append]
  after_reads_at

theorem idx0 : ∀ t : Fin grid0.N, cc0_transform_0 (grid0.coords t) = ![0, 0] := by decide +kernel
theorem idx1 : ∀ t : Fin grid0.N, cc0_transform_1 (grid0.coords t) = ![t.val / 37, t.val % 37] := by decide +kernel
theorem idx2 : ∀ t : Fin grid0.N, cc0_transform_2 (grid0.coords t) = ![0, 0] := by decide +kernel
theorem widx0 (hO : Ok m) (t : Fin (cfgM m hO).N) : ((pcfg0 (F := Ideal)).win (adm m hO) 0).index t = ![0, 0] := idx0 t
theorem widx1 (hO : Ok m) (t : Fin (cfgM m hO).N) : ((pcfg0 (F := Ideal)).win (adm m hO) 1).index t = ![t.val / 37, t.val % 37] := idx1 t
theorem widx2 (hO : Ok m) (t : Fin (cfgM m hO).N) : ((pcfg0 (F := Ideal)).win (adm m hO) 2).index t = ![0, 0] := idx2 t

theorem tok_lt {n : Nat} (h : n < 1184) (k : Fin 256) : n / 37 * 256 + k.val < 8192 := by omega
theorem seq_lt {n : Nat} (h : n < 1184) : n / 296 < 4 := by omega
theorem mod_ne {n : Nat} (h : n < 1184) (h0 : n ≠ 0) : ¬ n % 1184 = 0 := by omega
theorem col_lt (n : Nat) (k : Fin 512) : n % 37 * 512 + k.val < 18944 := by omega

theorem xblk (hO : Ok m) (c : Dev nD) (t : Fin (cfgM m hO).N) (k : Fin 256) (l : Fin 512) :
   (show FVec Ideal S256x512 .bf16 from iblk m hO c 1 t) (ix2 k l) = V m c main_v26 (ix2 ⟨t.val / 37 * 256 + k.val, tok_lt (lt_N m hO t) k⟩ ⟨t.val % 37 * 512 + l.val, col_lt t.val l⟩) := by
  blk_ext [iblk]
  · have e : ((pcfg0 (F := Ideal)).win (adm m hO) 1).index t 0 = t.val / 37 := congrFun (idx1 t) 0
    exact congrArg (· * 256 + k.val) e
  · have e : ((pcfg0 (F := Ideal)).win (adm m hO) 1).index t 1 = t.val % 37 := congrFun (idx1 t) 1
    exact congrArg (· * 512 + l.val) e
theorem hblk (hO : Ok m) (c : Dev nD) (t : Fin (cfgM m hO).N) (k : Fin 256) (l : Fin 256) :
   (show FVec Ideal S256x256 .bf16 from iblk m hO c 0 t) (ix2 k l) = V m c main_v24 (ix2 k l) := by
  blk_ext [iblk]
  · exact (congrArg (fun f : Fin 2 → Nat => f 0 * 256 + k.val) (idx0 t)).trans (by simp)
  · exact (congrArg (fun f : Fin 2 → Nat => f 1 * 256 + l.val) (idx0 t)).trans (by simp)

/-- The sum that a point takes for one row of the rotation and one column. -/
def D (n : BitVec 32) (V : Vec Ideal S256x512 .bf16) (H : Vec Ideal S256x256 .bf16) (R : Fin 256) (q : Fin 512) : EReal :=
  ∑ k : Fin 256, Scalar.select (IntOp.cmpi CmpIPredicate.slt (BitVec.ofNat 32 k.val) n) ((show FVec Ideal S256x256 .bf16 from H) (ix2 R k) * (show FVec Ideal S256x512 .bf16 from V) (ix2 k q)) 0

theorem pay3_at (n : BitVec 32) (V : Vec Ideal S256x512 .bf16) (H : Vec Ideal S256x256 .bf16) (s : Fin 8) (q : Fin 512) :
    k0_pay3 n V H (ix2 s q) = Finset.fold max (Ideal.ofBits FTy.f32 4286578688#32) (fun x : Fin 32 => FloatOps.absf (F := Ideal) (φ := .f32) (D n V H ⟨x.val * 8 + s.val, by omega⟩ q)) Finset.univ := by
  pointwise [k0_pay3, D]
theorem pay4_at (n : BitVec 32) (V : Vec Ideal S256x512 .bf16) (H : Vec Ideal S256x256 .bf16) (A : Vec Ideal S8x128 .f32) (s : Fin 8) (l : Fin 128) :
    k0_pay4 n V H A (ix2 s l) = max ((show FVec Ideal S8x128 .f32 from A) (ix2 s l)) (k0_pay3 n V H (ix2 s ⟨l.val, by omega⟩)) := by
  pointwise [k0_pay4]
theorem pay5_at (n : BitVec 32) (V : Vec Ideal S256x512 .bf16) (H : Vec Ideal S256x256 .bf16) (A : Vec Ideal S8x128 .f32) (s : Fin 8) (l : Fin 128) :
    k0_pay5 n V H A (ix2 s l) = max ((show FVec Ideal S8x128 .f32 from A) (ix2 s l)) (k0_pay3 n V H (ix2 s ⟨128 + l.val, by omega⟩)) := by
  pointwise [k0_pay5]
theorem pay6_at (n : BitVec 32) (V : Vec Ideal S256x512 .bf16) (H : Vec Ideal S256x256 .bf16) (A : Vec Ideal S8x128 .f32) (s : Fin 8) (l : Fin 128) :
    k0_pay6 n V H A (ix2 s l) = max ((show FVec Ideal S8x128 .f32 from A) (ix2 s l)) (k0_pay3 n V H (ix2 s ⟨256 + l.val, by omega⟩)) := by
  pointwise [k0_pay6]
theorem pay7_at (n : BitVec 32) (V : Vec Ideal S256x512 .bf16) (H : Vec Ideal S256x256 .bf16) (A : Vec Ideal S8x128 .f32) (s : Fin 8) (l : Fin 128) :
    k0_pay7 n V H A (ix2 s l) = max ((show FVec Ideal S8x128 .f32 from A) (ix2 s l)) (k0_pay3 n V H (ix2 s ⟨384 + l.val, by omega⟩)) := by
  pointwise [k0_pay7]
theorem pay8_at (s : Fin 8) (l : Fin 128) : k0_pay8 (F := Ideal) (ix2 s l) = 0 := by pointwise [k0_pay8]
theorem pay1_at (n : FVec Ideal S8x128 .f32) (s : Fin 8) (l : Fin 128) : k0_pay1 n (ix2 s l) = n (ix2 s l) := by pointwise [k0_pay1]
theorem pay2_at (n : Vec Ideal S8x128 .f32) (s : Fin 8) (l : Fin 128) : k0_pay2 n (ix2 s l) =
    Rht.scaleOf (Finset.fold max (Ideal.ofBits FTy.f32 4286578688#32) (fun x : Fin 8 × Fin 128 => (show FVec Ideal S8x128 .f32 from n) (ix2 x.1 x.2)) Finset.univ) := by
  pointwise [k0_pay2]
  rfl

theorem pay2_all (n : Vec Ideal S8x128 .f32) (z : EReal)
    (h : Finset.fold max (Ideal.ofBits FTy.f32 4286578688#32) (fun x : Fin 8 × Fin 128 => (show FVec Ideal S8x128 .f32 from n) (ix2 x.1 x.2)) Finset.univ = z)
    (y : S8x128.Idx) : (k0_pay2 (F := Ideal) n : FVec Ideal S8x128 .f32) y = Rht.scaleOf z := by
  have hy : y = ix2 (y 0) (y 1) := funext fun a => by match a with | 0 => rfl | 1 => rfl
  rw [hy]
  exact (pay2_at n (y 0) (y 1)).trans (congrArg Rht.scaleOf h)

/-- The accumulator after an active point. -/
def STEP (n : BitVec 32) (V : Vec Ideal S256x512 .bf16) (H : Vec Ideal S256x256 .bf16) (A : Vec Ideal S8x128 .f32) : FVec Ideal S8x128 .f32 :=
  k0_pay1 (k0_pay7 n V H (k0_pay6 n V H (k0_pay5 n V H (k0_pay4 n V H A))))

theorem pay3_le (n : BitVec 32) (V : Vec Ideal S256x512 .bf16) (H : Vec Ideal S256x256 .bf16) (s : Fin 8) (q : Fin 512) (z : EReal) :
    k0_pay3 n V H (ix2 s q) ≤ z ↔ ∀ x : Fin 32, Rht.below (D n V H ⟨x.val * 8 + s.val, by omega⟩ q) z := by
  rw [pay3_at, Rht.ofBits_neg_inf]
  simp only [Finset.fold_max_le, bot_le, true_and, Finset.mem_univ, forall_true_left]

theorem step_le (n : BitVec 32) (V : Vec Ideal S256x512 .bf16) (H : Vec Ideal S256x256 .bf16) (A : Vec Ideal S8x128 .f32) (s : Fin 8) (l : Fin 128) (z : EReal) :
    STEP n V H A (ix2 s l) ≤ z ↔ (show FVec Ideal S8x128 .f32 from A) (ix2 s l) ≤ z ∧
      ∀ (x : Fin 32) (i : Fin 4), Rht.below (D n V H ⟨x.val * 8 + s.val, by omega⟩ ⟨i.val * 128 + l.val, by omega⟩) z := by
  unfold STEP
  rw [pay1_at, pay7_at]
  show max (k0_pay6 n V H _ (ix2 s l)) _ ≤ z ↔ _
  rw [pay6_at]
  show max (max (k0_pay5 n V H _ (ix2 s l)) _) _ ≤ z ↔ _
  rw [pay5_at]
  show max (max (max (k0_pay4 n V H _ (ix2 s l)) _) _) _ ≤ z ↔ _
  rw [pay4_at]
  rw [max_le_iff, max_le_iff, max_le_iff, max_le_iff, pay3_le, pay3_le, pay3_le, pay3_le]
  constructor
  · rintro ⟨⟨⟨⟨ha, h0⟩, h1⟩, h2⟩, h3⟩
    refine ⟨ha, fun x i => ?_⟩
    have e : ∀ (q : Fin 512), q.val = i.val * 128 + l.val → Rht.below (D n V H ⟨x.val * 8 + s.val, by omega⟩ q) z →
        Rht.below (D n V H ⟨x.val * 8 + s.val, by omega⟩ ⟨i.val * 128 + l.val, by omega⟩) z := by
      intro q hq h
      rwa [show q = ⟨i.val * 128 + l.val, by omega⟩ from Fin.ext hq] at h
    rcases (by omega : i.val = 0 ∨ i.val = 1 ∨ i.val = 2 ∨ i.val = 3) with hi | hi | hi | hi
    · exact e _ (by simp only []; omega) (h0 x)
    · exact e _ (by simp only []; omega) (h1 x)
    · exact e _ (by simp only []; omega) (h2 x)
    · exact e _ (by simp only []; omega) (h3 x)
  · rintro ⟨ha, h⟩
    have e : ∀ (i : Fin 4) (q : Fin 512), q.val = i.val * 128 + l.val → ∀ x : Fin 32, Rht.below (D n V H ⟨x.val * 8 + s.val, by omega⟩ q) z := by
      intro i q hq x
      have := h x i
      rwa [show q = ⟨i.val * 128 + l.val, by omega⟩ from Fin.ext hq]
    exact ⟨⟨⟨⟨ha, e 0 _ (by simp)⟩, e 1 _ (by simp)⟩, e 2 _ (by simp)⟩, e 3 _ (by simp)⟩

theorem step_congr (n : BitVec 32) {V V' : Vec Ideal S256x512 .bf16} {H H' : Vec Ideal S256x256 .bf16} {A A' : Vec Ideal S8x128 .f32}
    (hV : V = V') (hH : H = H') (hA : A = A') : STEP n V H A = STEP n V' H' A' := by
  subst hV hH hA; rfl

/-- How many of the point's tokens count, as the kernel takes it. -/
abbrev nv (c : Dev nD) (t : Fin grid0.N) : BitVec 32 := Scalar.subi (lword m c t) (Scalar.muli
            (Scalar.select
              (Scalar.andi
                (Scalar.xori
                  (Scalar.cmpi CmpIPredicate.slt (Scalar.remsi (BitVec.ofNat 32 ↑(grid0.coords t 0)) 8#32) 0#32) 0#1)
                (Scalar.cmpi CmpIPredicate.ne (Scalar.remsi (BitVec.ofNat 32 ↑(grid0.coords t 0)) 8#32) 0#32))
              (Scalar.addi (Scalar.remsi (BitVec.ofNat 32 ↑(grid0.coords t 0)) 8#32) 8#32)
              (Scalar.remsi (BitVec.ofNat 32 ↑(grid0.coords t 0)) 8#32))
            256#32)

theorem nv_eq (c : Dev nD) (t : Fin grid0.N) : nv m c t =
    (show IVec S4 32 from m ((c : Thread nD τ).loc main_arg2)) (ix1 ⟨t.val / 296, by have := lt_of_lt_of_eq t.isLt N_0; omega⟩) - BitVec.ofNat 32 (t.val / 37 % 8 * 256) := by
  unfold nv
  rw [offs, word]
  rfl

theorem inactive (c : Dev nD) (t : Fin grid0.N) (h : ¬cond0_1 (grid0.coords t) (lword m c t)) (k : Fin 256) :
    IntOp.cmpi CmpIPredicate.slt (BitVec.ofNat 32 k.val) (nv m c t) = 0#1 := by
  replace h : ¬ (Scalar.cmpi .ne (Scalar.extui (Scalar.cmpi .sgt (nv m c t) 0#32)) 0#32 : BitVec 1) = 1#1 := h
  generalize nv m c t = n at h ⊢
  have hk : (BitVec.ofNat 32 k.val).toInt = k.val := by
    rw [BitVec.toInt_eq_toNat_bmod, BitVec.toNat_ofNat, Int.bmod_def]; omega
  have hn : ¬ (0#32).slt n = true := by
    intro hn
    apply h
    have : Scalar.cmpi .sgt n 0#32 = 1#1 := by
      show BitVec.ofBool ((0#32).slt n) = 1#1
      rw [hn]; rfl
    rw [this]
    decide
  show BitVec.ofBool ((BitVec.ofNat 32 k.val).slt n) = 0#1
  have : (BitVec.ofNat 32 k.val).slt n = false := by
    simp only [BitVec.slt, decide_eq_false_iff_not, hk]
    simp only [BitVec.slt, decide_eq_true_eq, BitVec.toInt_zero] at hn
    omega
  rw [this]; rfl

/-- The rotated group of one row and column of a point. -/
abbrev rotAt (c : Dev nD) (t : Fin 1184) (R : Fin 256) (q : Fin 512) : EReal :=
  Rht.rot (fun b s => (show FVec Ideal S4x2048x18944 .bf16 from m ((c : Thread nD τ).loc main_arg0)) (ix3 b s ⟨t.val % 37 * 512 + q.val, by omega⟩))
    (fun i => (show FVec Ideal S16 .f32 from m ((c : Thread nD τ).loc main_arg1)) (ix1 i))
    (fun b => (show IVec S4 32 from m ((c : Thread nD τ).loc main_arg2)) (ix1 b)) ⟨t.val / 37 * 16 + R.val / 16, by omega⟩ ⟨R.val % 16, by omega⟩

theorem D_eq (hL : ∀ b : Fin 4, 0 ≤ ((show IVec S4 32 from m (((0 : Dev nD) : Thread nD τ).loc main_arg2)) (ix1 b)).toInt)
    (hO : Ok m) (c : Dev nD) (t : Fin (cfgM m hO).N) (R : Fin 256) (q : Fin 512) :
    D (nv m c t) (iblk m hO c 1 t) (iblk m hO c 0 t) R q = rotAt m c ⟨t.val, lt_N m hO t⟩ R q := by
  obtain rfl : c = 0 := Subsingleton.elim _ _
  have ht := lt_N m hO t
  unfold D rotAt Rht.rot
  rw [Rht.sum_group ⟨R.val / 16, by omega⟩]
  · refine Finset.sum_congr rfl fun i _ => ?_
    rw [hblk, xblk, hval, xval, nv_eq]
    rw [Rht.valid_sub _ (hL _) _ _ (by omega) (by simp only []; omega)]
    simp only []
    rw [if_pos (by omega), one_mul]
    refine congr (congr (congrArg Scalar.select ?_) ?_) rfl
    · refine congr (congrArg Rht.valid (congrArg _ (congrArg ix1 (Fin.ext ?_)))) ?_
      · simp only []; omega
      · omega
    · refine (mul_comm _ _).trans (congrArg₂ (fun a b : EReal => a * b) (congrArg _ (congr (congr (congrArg ix3 (Fin.ext ?_)) (Fin.ext ?_)) rfl)) (congrArg (Rht.entry _ _) (Fin.ext ?_)))
      all_goals simp only []; omega
  · intro k hk
    rw [hblk, hval, if_neg (fun h => hk (by simp only [] at h ⊢; omega)), zero_mul, zero_mul]
    unfold Scalar.select; split <;> rfl

theorem outs_A (hO : Ok m) (c : Dev nD) (t : Fin (cfgM m hO).N) (h0 : t.val % 1184 = 0) (h1 : cond0_1 (grid0.coords t) (lword m c t)) (h2 : ¬t.val % 1184 = 1183) :
    (outsAt0 m hO c t.val t.isLt).2 = STEP (nv m c t) (iblk m hO c 1 t) (iblk m hO c 0 t) (k0_pay8 (F := Ideal)) := by
  rw [outsAt0_A m hO c t h0 h1 h2]
  frame_out
  exact step_congr _ ((hs0_1 m hO t).read_unread _) ((hs0_0 m hO t).read_unread _) rfl
theorem outs_B (hO : Ok m) (c : Dev nD) (t : Fin (cfgM m hO).N) (h0 : t.val % 1184 = 0) (h1 : ¬ cond0_1 (grid0.coords t) (lword m c t)) (h2 : ¬t.val % 1184 = 1183) :
    (outsAt0 m hO c t.val t.isLt).2 = k0_pay8 (F := Ideal) := by
  rw [outsAt0_B m hO c t h0 h1 h2]
  frame_out
theorem outs_C (hO : Ok m) (c : Dev nD) (t : Fin (cfgM m hO).N) (h0 : ¬t.val % 1184 = 0) (h1 : cond0_1 (grid0.coords t) (lword m c t)) (h2 : ¬t.val % 1184 = 1183) :
    (outsAt0 m hO c t.val t.isLt).2 = STEP (nv m c t) (iblk m hO c 1 t) (iblk m hO c 0 t) (outsAt0 m hO c (t.val - 1) (Nat.lt_of_le_of_lt (Nat.sub_le _ _) t.isLt)).2 := by
  rw [outsAt0_C m hO c t h0 h1 h2]
  frame_out
  exact step_congr _ ((hs0_1 m hO t).read_unread _) ((hs0_0 m hO t).read_unread _) (read_unread_whole _ _ _)
theorem outs_D (hO : Ok m) (c : Dev nD) (t : Fin (cfgM m hO).N) (h0 : ¬t.val % 1184 = 0) (h1 : ¬ cond0_1 (grid0.coords t) (lword m c t)) (h2 : ¬t.val % 1184 = 1183) :
    (outsAt0 m hO c t.val t.isLt).2 = (outsAt0 m hO c (t.val - 1) (Nat.lt_of_le_of_lt (Nat.sub_le _ _) t.isLt)).2 := by
  rw [outsAt0_D m hO c t h0 h1 h2]
  unfold sout0_D_0
  rfl
theorem outs_E (hO : Ok m) (c : Dev nD) (t : Fin (cfgM m hO).N) (h0 : ¬t.val % 1184 = 0) (h1 : cond0_1 (grid0.coords t) (lword m c t)) (h2 : t.val % 1184 = 1183) :
    (outsAt0 m hO c t.val t.isLt).2 = STEP (nv m c t) (iblk m hO c 1 t) (iblk m hO c 0 t) (outsAt0 m hO c (t.val - 1) (Nat.lt_of_le_of_lt (Nat.sub_le _ _) t.isLt)).2 := by
  rw [outsAt0_E m hO c t h0 h1 h2]
  frame_out
  exact step_congr _ ((hs0_1 m hO t).read_unread _) ((hs0_0 m hO t).read_unread _) (read_unread_whole _ _ _)
theorem outs_E' (hO : Ok m) (c : Dev nD) (t : Fin (cfgM m hO).N) (h0 : ¬t.val % 1184 = 0) (h1 : cond0_1 (grid0.coords t) (lword m c t)) (h2 : t.val % 1184 = 1183) :
    (outsAt0 m hO c t.val t.isLt).1 = k0_pay2 (F := Ideal) (STEP (nv m c t) (iblk m hO c 1 t) (iblk m hO c 0 t) (outsAt0 m hO c (t.val - 1) (Nat.lt_of_le_of_lt (Nat.sub_le _ _) t.isLt)).2) := by
  rw [outsAt0_E m hO c t h0 h1 h2]
  frame_out
  exact congrArg (fun n : Vec Ideal S8x128 .f32 => (k0_pay2 (F := Ideal) n : FVec Ideal S8x128 .f32)) (step_congr _ ((hs0_1 m hO t).read_unread _) ((hs0_0 m hO t).read_unread _) (read_unread_whole _ _ _))
theorem outs_F (hO : Ok m) (c : Dev nD) (t : Fin (cfgM m hO).N) (h0 : ¬t.val % 1184 = 0) (h1 : ¬ cond0_1 (grid0.coords t) (lword m c t)) (h2 : t.val % 1184 = 1183) :
    (outsAt0 m hO c t.val t.isLt).2 = (outsAt0 m hO c (t.val - 1) (Nat.lt_of_le_of_lt (Nat.sub_le _ _) t.isLt)).2 := by
  rw [outsAt0_F m hO c t h0 h1 h2]
  unfold sout0_F_0
  rfl
theorem outs_F' (hO : Ok m) (c : Dev nD) (t : Fin (cfgM m hO).N) (h0 : ¬t.val % 1184 = 0) (h1 : ¬ cond0_1 (grid0.coords t) (lword m c t)) (h2 : t.val % 1184 = 1183) :
    (outsAt0 m hO c t.val t.isLt).1 = k0_pay2 (F := Ideal) (outsAt0 m hO c (t.val - 1) (Nat.lt_of_le_of_lt (Nat.sub_le _ _) t.isLt)).2 := by
  rw [outsAt0_F m hO c t h0 h1 h2]
  frame_out
  exact congrArg (fun n : Vec Ideal S8x128 .f32 => (k0_pay2 (F := Ideal) n : FVec Ideal S8x128 .f32)) (read_unread_whole _ _ _)

/-- The lengths are not negative. -/
abbrev Len : Prop := ∀ b : Fin 4, 0 ≤ ((show IVec S4 32 from m (((0 : Dev nD) : Thread nD τ).loc main_arg2)) (ix1 b)).toInt

/-- The accumulator's element at a point, as a function. -/
abbrev acc (hO : Ok m) (c : Dev nD) (n : Nat) (hn : n < (cfgM m hO).N) (s : Fin 8) (l : Fin 128) : EReal :=
  (show FVec Ideal S8x128 .f32 from (outsAt0 m hO c n hn).2) (ix2 s l)

theorem D_zero (hL : Len m) (hO : Ok m) (c : Dev nD) (t : Fin (cfgM m hO).N) (h1 : ¬cond0_1 (grid0.coords t) (lword m c t)) (R : Fin 256) (q : Fin 512) :
    rotAt m c ⟨t.val, lt_N m hO t⟩ R q = 0 := by
  rw [← D_eq m hL hO c t R q]
  unfold D
  refine Finset.sum_eq_zero fun k _ => ?_
  rw [inactive m c t h1 k]
  rfl

/-- What one point adds to the bounds of the accumulator. -/
abbrev adds (c : Dev nD) (s : Fin 8) (l : Fin 128) (z : EReal) (t : Fin 1184) : Prop :=
  ∀ (x : Fin 32) (i : Fin 4), Rht.below (rotAt m c t ⟨x.val * 8 + s.val, by omega⟩ ⟨i.val * 128 + l.val, by omega⟩) z

theorem acc_zero (hL : Len m) (hO : Ok m) (c : Dev nD) (t : Fin (cfgM m hO).N) (h0 : t.val = 0) (s : Fin 8) (l : Fin 128) (z : EReal) :
    acc m hO c t.val t.isLt s l ≤ z ↔ 0 ≤ z ∧ adds m c s l z ⟨t.val, lt_N m hO t⟩ := by
  by_cases h1 : cond0_1 (grid0.coords t) (lword m c t)
  · unfold acc
    rw [outs_A m hO c t (by rw [h0]) h1 (by rw [h0]; decide)]
    refine (step_le _ _ _ _ s l z).trans (and_congr (iff_of_eq (congrArg (· ≤ z) (pay8_at s l))) ?_)
    refine forall_congr' fun x => forall_congr' fun i => ?_
    rw [D_eq m hL hO c t]
  · unfold acc
    rw [outs_B m hO c t (by rw [h0]) h1 (by rw [h0]; decide)]
    refine (iff_of_eq (congrArg (· ≤ z) (pay8_at s l))).trans ⟨fun h => ⟨h, fun x i => ?_⟩, And.left⟩
    show FloatOps.absf (F := Ideal) (φ := .f32) _ ≤ z
    rw [D_zero m hL hO c t h1, Rht.absf_zero]
    exact h

/-- A later point either steps the accumulator or leaves it. -/
theorem outs_later (hO : Ok m) (c : Dev nD) (t : Fin (cfgM m hO).N) (h0 : t.val ≠ 0) :
    (cond0_1 (grid0.coords t) (lword m c t) ∧ (outsAt0 m hO c t.val t.isLt).2 = STEP (nv m c t) (iblk m hO c 1 t) (iblk m hO c 0 t) (outsAt0 m hO c (t.val - 1) (Nat.lt_of_le_of_lt (Nat.sub_le _ _) t.isLt)).2) ∨
    (¬cond0_1 (grid0.coords t) (lword m c t) ∧ (outsAt0 m hO c t.val t.isLt).2 = (outsAt0 m hO c (t.val - 1) (Nat.lt_of_le_of_lt (Nat.sub_le _ _) t.isLt)).2) := by
  have h3 := mod_ne (lt_N m hO t) h0
  by_cases h1 : cond0_1 (grid0.coords t) (lword m c t)
  · refine .inl ⟨h1, ?_⟩
    by_cases h2 : t.val % 1184 = 1183
    · exact outs_E m hO c t h3 h1 h2
    · exact outs_C m hO c t h3 h1 h2
  · refine .inr ⟨h1, ?_⟩
    by_cases h2 : t.val % 1184 = 1183
    · exact outs_F m hO c t h3 h1 h2
    · exact outs_D m hO c t h3 h1 h2

theorem acc_succ (hL : Len m) (hO : Ok m) (c : Dev nD) (t : Fin (cfgM m hO).N) (h0 : t.val ≠ 0) (s : Fin 8) (l : Fin 128) (z : EReal) :
    acc m hO c t.val t.isLt s l ≤ z ∧ 0 ≤ z ↔ (acc m hO c (t.val - 1) (Nat.lt_of_le_of_lt (Nat.sub_le _ _) t.isLt) s l ≤ z ∧ 0 ≤ z) ∧ adds m c s l z ⟨t.val, lt_N m hO t⟩ := by
  rcases outs_later m hO c t h0 with ⟨h1, e⟩ | ⟨h1, e⟩
  · unfold acc
    rw [e, and_right_comm]
    refine and_congr_left fun _ => (step_le _ _ _ _ s l z).trans (and_congr Iff.rfl ?_)
    refine forall_congr' fun x => forall_congr' fun i => ?_
    rw [D_eq m hL hO c t]
  · unfold acc
    rw [e]
    refine ⟨fun h => ⟨h, fun x i => ?_⟩, And.left⟩
    show FloatOps.absf (F := Ideal) (φ := .f32) _ ≤ z
    rw [D_zero m hL hO c t h1, Rht.absf_zero]
    exact h.2

theorem acc_mono (hO : Ok m) (c : Dev nD) (t : Fin (cfgM m hO).N) (h0 : t.val ≠ 0) (s : Fin 8) (l : Fin 128) :
    acc m hO c (t.val - 1) (Nat.lt_of_le_of_lt (Nat.sub_le _ _) t.isLt) s l ≤ acc m hO c t.val t.isLt s l := by
  rcases outs_later m hO c t h0 with ⟨h1, e⟩ | ⟨h1, e⟩
  · unfold acc
    rw [e]
    exact ((step_le _ _ _ _ s l _).mp (le_refl _)).1
  · unfold acc
    rw [e]

theorem acc_zero_at (hL : Len m) (hO : Ok m) (c : Dev nD) (n : Nat) (hn : n < (cfgM m hO).N) (h0 : n = 0) (h : n < 1184) (s : Fin 8) (l : Fin 128) (z : EReal) :
    acc m hO c n hn s l ≤ z ↔ 0 ≤ z ∧ adds m c s l z ⟨n, h⟩ := acc_zero m hL hO c ⟨n, hn⟩ h0 s l z
theorem acc_succ_at (hL : Len m) (hO : Ok m) (c : Dev nD) (n k : Nat) (hn : n < (cfgM m hO).N) (hk : k < (cfgM m hO).N) (h0 : n = k + 1) (h : n < 1184) (s : Fin 8) (l : Fin 128) (z : EReal) :
    acc m hO c n hn s l ≤ z ∧ 0 ≤ z ↔ (acc m hO c k hk s l ≤ z ∧ 0 ≤ z) ∧ adds m c s l z ⟨n, h⟩ := by
  obtain rfl : k = n - 1 := by rw [h0]; rfl
  exact acc_succ m hL hO c ⟨n, hn⟩ (fun e => absurd (h0.symm.trans e) (Nat.succ_ne_zero _)) s l z
theorem acc_mono_at (hO : Ok m) (c : Dev nD) (n k : Nat) (hn : n < (cfgM m hO).N) (hk : k < (cfgM m hO).N) (h0 : n = k + 1) (s : Fin 8) (l : Fin 128) :
    acc m hO c k hk s l ≤ acc m hO c n hn s l := by
  obtain rfl : k = n - 1 := by rw [h0]; rfl
  exact acc_mono m hO c ⟨n, hn⟩ (fun e => absurd (h0.symm.trans e) (Nat.succ_ne_zero _)) s l

/-- The accumulator is never negative. -/
theorem acc_nonneg (hL : Len m) (hO : Ok m) (c : Dev nD) (s : Fin 8) (l : Fin 128) : ∀ (n : Nat) (hn : n < (cfgM m hO).N), 0 ≤ acc m hO c n hn s l := by
  intro n
  induction n with
  | zero => exact fun hn => ((acc_zero_at m hL hO c 0 hn rfl (by decide) s l (acc m hO c 0 hn s l)).mp (le_refl (acc m hO c 0 hn s l))).1
  | succ n ih => exact fun hn => le_trans (ih (Nat.lt_of_succ_lt hn)) (acc_mono_at m hO c (n + 1) n hn (Nat.lt_of_succ_lt hn) rfl s l)

theorem split_le (n : Nat) (hn : n + 1 < 1184) (P : Fin 1184 → Prop) : (∀ t : Fin 1184, t.val ≤ n + 1 → P t) ↔ (∀ t : Fin 1184, t.val ≤ n → P t) ∧ P ⟨n + 1, hn⟩ := by
  constructor
  · exact fun h => ⟨fun t ht => h t (Nat.le_succ_of_le ht), h _ (le_refl _)⟩
  · rintro ⟨h, h'⟩ t ht
    rcases Nat.lt_or_ge n t.val with h4 | h4
    · rwa [show t = ⟨n + 1, hn⟩ from Fin.ext (by simp only []; omega)]
    · exact h t h4
theorem split_zero (P : Fin 1184 → Prop) : (∀ t : Fin 1184, t.val ≤ 0 → P t) ↔ P ⟨0, by omega⟩ := by
  refine ⟨fun h => h _ (le_refl _), fun h t ht => ?_⟩
  rwa [show t = ⟨0, by omega⟩ from Fin.ext (by simp only []; omega)]

/-- The accumulator's bounds after a point: those of every rotated group so far. -/
theorem acc_le (hL : Len m) (hO : Ok m) (c : Dev nD) (s : Fin 8) (l : Fin 128) (z : EReal) : ∀ (n : Nat) (hn : n < (cfgM m hO).N),
    acc m hO c n hn s l ≤ z ↔ 0 ≤ z ∧ ∀ t : Fin 1184, t.val ≤ n → adds m c s l z t := by
  intro n
  induction n with
  | zero =>
    intro hn
    exact (acc_zero_at m hL hO c 0 hn rfl (by decide) s l z).trans (and_congr Iff.rfl (split_zero (adds m c s l z)).symm)
  | succ n ih =>
    intro hn
    have hk := Nat.lt_of_succ_lt hn
    have hN : n + 1 < 1184 := lt_of_lt_of_eq hn N_0
    have ih' := ih hk
    have h := acc_succ_at m hL hO c (n + 1) n hn hk rfl hN s l z
    have h1 : acc m hO c (n + 1) hn s l ≤ z → 0 ≤ z := le_trans (acc_nonneg m hL hO c s l (n + 1) hn)
    have h2 : acc m hO c n hk s l ≤ z → 0 ≤ z := le_trans (acc_nonneg m hL hO c s l n hk)
    generalize acc m hO c (n + 1) hn s l = a at h h1 ⊢
    generalize acc m hO c n hk s l = b at h h2 ih'
    rw [split_le n hN, ← and_assoc, ← ih']
    exact ⟨fun h3 => ⟨(h.mp ⟨h3, h1 h3⟩).1.1, (h.mp ⟨h3, h1 h3⟩).2⟩, fun h3 => (h.mpr ⟨⟨h3.1, h2 h3.1⟩, h3.2⟩).1⟩

/-- The last point stores the scale of the accumulator. -/
theorem outs_last (hO : Ok m) (c : Dev nD) (t : Fin (cfgM m hO).N) (h2 : t.val % 1184 = 1183) :
    (outsAt0 m hO c t.val t.isLt).1 = k0_pay2 (F := Ideal) (outsAt0 m hO c t.val t.isLt).2 := by
  have h0 : ¬ t.val % 1184 = 0 := by rw [h2]; decide
  by_cases h1 : cond0_1 (grid0.coords t) (lword m c t)
  · rw [outs_E' m hO c t h0 h1 h2, outs_E m hO c t h0 h1 h2]
  · rw [outs_F' m hO c t h0 h1 h2, outs_F m hO c t h0 h1 h2]

/-- The greatest absolute value of the whole rotated array. -/
abbrev AMAX (c : Dev nD) : EReal :=
  Rht.amax 18944 (fun b s col => (show FVec Ideal S4x2048x18944 .bf16 from m ((c : Thread nD τ).loc main_arg0)) (ix3 b s col))
    (fun i => (show FVec Ideal S16 .f32 from m ((c : Thread nD τ).loc main_arg1)) (ix1 i))
    (fun b => (show IVec S4 32 from m ((c : Thread nD τ).loc main_arg2)) (ix1 b))

theorem last_t (g : Fin 512) (col : Fin 18944) : g.val / 16 * 37 + col.val / 512 < 1184 := by omega
theorem last_x (g : Fin 512) (r : Fin 16) : (g.val % 16 * 16 + r.val) / 8 < 32 := by omega
theorem last_i (col : Fin 18944) : col.val % 512 / 128 < 4 := by omega
theorem last_g (g : Fin 512) (col : Fin 18944) (r : Fin 16) :
    (g.val / 16 * 37 + col.val / 512) / 37 * 16 + ((g.val % 16 * 16 + r.val) / 8 * 8 + (g.val % 16 * 16 + r.val) % 8) / 16 = g.val := by omega
theorem last_r (g : Fin 512) (r : Fin 16) : ((g.val % 16 * 16 + r.val) / 8 * 8 + (g.val % 16 * 16 + r.val) % 8) % 16 = r.val := by omega
theorem last_c (g : Fin 512) (col : Fin 18944) : (g.val / 16 * 37 + col.val / 512) % 37 * 512 + (col.val % 512 / 128 * 128 + col.val % 512 % 128) = col.val := by omega
theorem rot_congr (X X' : Fin 4 → Fin 2048 → EReal) (S : Fin 16 → EReal) (L : Fin 4 → BitVec 32) (g g' : Fin 512) (r r' : Fin 16)
    (hg : g.val = g'.val) (hr : r.val = r'.val) (hX : ∀ b s, X b s = X' b s) : Rht.rot X S L g r = Rht.rot X' S L g' r' := by
  obtain rfl := Fin.ext hg
  obtain rfl := Fin.ext hr
  obtain rfl : X = X' := funext fun b => funext fun s => hX b s
  rfl

theorem last_fold (hL : Len m) (hO : Ok m) (c : Dev nD) (n : Nat) (hn : n < (cfgM m hO).N) (h : n = 1183) :
    Finset.fold max (Ideal.ofBits FTy.f32 4286578688#32) (fun x : Fin 8 × Fin 128 => acc m hO c n hn x.1 x.2) Finset.univ = AMAX m c := by
  refine eq_of_forall_ge_iff fun z => ?_
  rw [Rht.amax_le _ (by decide), Rht.ofBits_neg_inf]
  simp only [Finset.fold_max_le, bot_le, true_and, Finset.mem_univ, forall_true_left]
  constructor
  · intro hx
    refine ⟨((acc_le m hL hO c 0 0 z n hn).mp (hx (0, 0))).1, fun g col r => ?_⟩
    have h1 := ((acc_le m hL hO c ⟨(g.val % 16 * 16 + r.val) % 8, Nat.mod_lt _ (by decide)⟩ ⟨col.val % 512 % 128, Nat.mod_lt _ (by decide)⟩ z n hn).mp (hx (_, _))).2
      ⟨g.val / 16 * 37 + col.val / 512, last_t g col⟩ (by subst h; exact Nat.le_of_lt_succ (last_t g col))
      ⟨(g.val % 16 * 16 + r.val) / 8, last_x g r⟩ ⟨col.val % 512 / 128, last_i col⟩
    refine (iff_of_eq (congrArg (Rht.below · z) ?_)).mp h1
    exact rot_congr _ _ _ _ _ _ _ _ (last_g g col r) (last_r g r) (fun b s => congrArg _ (congrArg (ix3 b s) (Fin.ext (last_c g col))))
  · rintro ⟨hz, hx⟩ ⟨s, l⟩
    exact (acc_le m hL hO c s l z n hn).mpr ⟨hz, fun t _ x i => hx _ _ _⟩

theorem last_t' {n : Nat} (h : n < 1184) (h' : n % 1184 = 1183) : n = 1183 := by omega

/-- The one block of the result array is written back. -/
theorem covers2 (hO : Ok m) : ((cfgM m hO).win 2).Covers := by
  refine Pipeline.Window.covers_of_index_surj _ rfl ?_ fun β => ⟨⟨0, by rw [show (cfgM m hO).grid.N = 1184 from N_0]; decide⟩, ?_⟩
  · intro a; match a with
    | ⟨0, _⟩ => exact (by decide : 0 < 8)
    | ⟨1, _⟩ => exact (by decide : 0 < 128)
  · intro a
    refine (congrFun (widx2 m hO _) a).trans ?_
    match a with
    | ⟨0, h⟩ => exact (Nat.lt_one_iff.mp (lt_of_lt_of_eq (β ⟨0, h⟩).isLt (by decide +kernel : (8 + 8 - 1) / 8 = 1 ∧ (128+128-1)/128 = 1).1)).symm
    | ⟨1, h⟩ => exact (Nat.lt_one_iff.mp (lt_of_lt_of_eq (β ⟨1, h⟩).isLt (by decide +kernel : (8 + 8 - 1) / 8 = 1 ∧ (128+128-1)/128 = 1).2)).symm

/-- The result array after the run: the scale of the greatest absolute value, everywhere. -/
theorem final (hL : Len m) (hO : Ok m) (c : Dev nD) : (dats m hO 0 c).arrAt 2 (cfgM m hO).N =
    ((fun _ => Rht.scaleOf (AMAX m c)) : FVec Ideal S8x128 .f32) := by
  refine (dats m hO 0 c).arrAt_eq_of_covers 2 _ (covers2 m hO) fun t hf y => ?_
  have h2 := (flush0_2 (adm m hO) t).mp hf
  have h3 := last_t' (lt_N m hO t) h2
  blk_simp
  rw [after0_2, outs_last m hO c t h2]
  exact pay2_all _ (AMAX m c) (last_fold m hL hO c t.val t.isLt h3) y

theorem rest29 : main_v29 ∈ Pipeline.restRefs sig spec0 := by decide +kernel
theorem arr_inj : Function.Injective (Pipeline.arrRef (sig := sig) spec0) := by decide +kernel

/-- The kernel's run: its result is the scale of the greatest absolute value, its arguments unchanged. -/
theorem run (hL : Len m) (g : Dev nD → PrngReg) :
    θ_run (defs (F := Ideal)) (onTc (τ := τ) (main (F := Ideal))) ⟨m, fun _ => 0, g⟩ fun r => ∀ c : Dev nD,
      r.2.mem ((c.tc : Thread nD τ).loc main_v29) = ((fun _ => Rht.scaleOf (AMAX m c)) : FVec Ideal S1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  have h := θ_run_and (Cert.AmaxDyIdeal.Gen.run_main m g (ok m)) (Cert.AmaxDyIdeal.Gen.unchanged m g (ok m))
  refine (θ_run _ _ _).mono (fun r hr c => ⟨?_, hr.2 c⟩) h
  have hc := (hr.1 c).2 main_v29 rest29
  refine hc.trans ?_
  unfold Pipeline.afterTail
  after_reads_simp
  have e := (Pipeline.withArrays_arr (τ := τ) (Val := Elt Ideal) spec0 arr_inj c (V0 m c) (fun w => (dats m (ok m) 0 c).arrAt w (cfgM m (ok m)).N) 2).trans (final m hL (ok m) c)
  exact congrArg (fun A : FVec Ideal S8x128 .f32 => (fun i => shapeCast main_v29.ty.shape (extractStridedSlice S1x1 ![0, 0] A slices_S8x128_S1x1_0_0) shapeCasts_S1x1_S1 i : FVec Ideal S1 .f32)) e

end Cert.AmaxDyIdeal.Value

end
-- ==== Proof.AmaxDyRef.lean ====
/- The reference of the amax call over the extended reals. -/
module

public import proofs.«01_k».proof.Defs
public import proofs.«01_k».proof.Proof.Rotation
public import proofs.«01_k».proof.Proof.Gen.AmaxDyReferenceIdeal
public import Idealize.ShloMosaic.Adequacy
public import Idealize.ShloMosaic.Init
public import Idealize.ShloMosaic.Lib.Claim
public import Idealize.ShloMosaic.Lib.Pointwise
public import Idealize.ShloMosaic.Lib.StableHlo.ReadAt

@[expose] public section

set_option maxRecDepth 16384

noncomputable section

open Idealize.ShloMosaic Idealize.SL.Sem

namespace Cert.AmaxDyReferenceIdeal.Value

open Cert.AmaxDyReferenceIdeal Cert.AmaxDyReferenceIdeal.Gen

/-- The scaled, signed Hadamard matrix. -/
def MAT (S : FVec Ideal S16 .f32) : FVec Ideal S16x16 .bf16 :=
  truncf .bf16 (mulf (mulf (id (select (cmpi .eq (andi (ctpop (andi
      (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))
      (broadcastInDim S16x16 ![] bcast_S_S16x16 (constantI S_ 32 1#32))) (broadcastInDim S16x16 ![] bcast_S_S16x16 (constantI S_ 32 1#32)))
      (broadcastInDim S16x16 ![] bcast_S_S16x16 (constant (F := Ideal) S_ .f32 0xBF800000#32))
      (broadcastInDim S16x16 ![] bcast_S_S16x16 (constant (F := Ideal) S_ .f32 0x3F800000#32))))
    (broadcastInDim S16x16 ![0, 1] bcast_S1x16_S16x16_0_1 (broadcastInDim S1x16 ![1] bcast_S16_S1x16_1 S)))
    (broadcastInDim S16x16 ![] bcast_S_S16x16 (constant (F := Ideal) S_ .f32 0x3E800000#32))) bitsLt_bf16_f32

/-- The tokens, zero past the lengths, in groups of sixteen. -/
def MSK (X : FVec Ideal S4x2048x18944 .bf16) (L : IVec S4 32) : FVec Ideal S512x16x18944 .bf16 :=
  shapeCast S512x16x18944 (select (broadcastInDim S4x2048x18944 ![0, 1, 2] bcast_S4x2048x1_S4x2048x18944_0_1_2
      (broadcastInDim S4x2048x1 ![0, 1] bcast_S4x2048_S4x2048x1_0_1
        (cmpi .slt (broadcastInDim S4x2048 ![0, 1] bcast_S1x2048_S4x2048_0_1 (broadcastInDim S1x2048 ![1] bcast_S2048_S1x2048_1 (iotaInDim S2048 32 0)))
          (broadcastInDim S4x2048 ![0, 1] bcast_S4x1_S4x2048_0_1 (broadcastInDim S4x1 ![0] bcast_S4_S4x1_0 L)))))
    X (broadcastInDim S4x2048x18944 ![] bcast_S_S4x2048x18944 (constant (F := Ideal) S_ .bf16 0x0000#16))) shapeCasts_S4x2048x18944_S512x16x18944

/-- The rotated groups. -/
def ROT (B : FVec Ideal S512x16x18944 .bf16) (M : FVec Ideal S16x16 .bf16) : FVec Ideal S512x16x18944 .f32 :=
  transpose S512x16x18944 [0, 2, 1] (Host.dotGeneral dot_S512x16x18944_S16x16_S512x18944x16_1_1_02_0_n_n none B M) transposes_S512x18944x16_S512x16x18944_0_2_1

/-- The greatest absolute value of each group. -/
def GRP (R : FVec Ideal S512x16x18944 .f32) : FVec Ideal S512x18944 .f32 :=
  Host.reduce FloatOps.maximumf (Host.absf R) (constant (F := Ideal) S_ .f32 0xFF800000#32) reducesTo_S512x16x18944_S512x18944_d1 h_S_

/-- The greatest of them all. -/
def ALL (A : FVec Ideal S512x18944 .f32) : FVec Ideal S_ .f32 :=
  Host.reduce FloatOps.maximumf A (constant (F := Ideal) S_ .f32 0xFF800000#32) reducesTo_S512x18944_S_d0_1 h_S_

/-- The scale made of it. -/
def SCL (a : FVec Ideal S_ .f32) : FVec Ideal S1 .f32 :=
  shapeCast S1 (select (cmpf .ogt a (constant (F := Ideal) S_ .f32 0x00000000#32)) (Host.divf a (constant (F := Ideal) S_ .f32 0x45280000#32))
    (id (constant (F := Ideal) S_ .f32 0x3F800000#32))) shapeCasts_S_S1

theorem mat_at (S : FVec Ideal S16 .f32) (r i : Fin 16) : MAT S (ix2 r i) = Rht.entry (fun i => S (ix1 i)) r i := by
  simp only [MAT, id_eq]
  pointwise
  rfl

theorem msk_at (X : FVec Ideal S4x2048x18944 .bf16) (L : IVec S4 32) (g : Fin 512) (i : Fin 16) (col : Fin 18944) :
    MSK X L (ix3 g i col) = Scalar.select (Rht.valid (L (ix1 ⟨g.val / 128, by omega⟩)) (g.val % 128 * 16 + i.val))
      (X (ix3 ⟨g.val / 128, by omega⟩ ⟨g.val % 128 * 16 + i.val, by omega⟩ col)) 0 := by
  pointwise [MSK]
  rfl

theorem rot_at (B : FVec Ideal S512x16x18944 .bf16) (M : FVec Ideal S16x16 .bf16) (g : Fin 512) (r : Fin 16) (col : Fin 18944) :
    ROT B M (ix3 g r col) = ∑ i : Fin 16, B (ix3 g i col) * M (ix2 r i) := by
  pointwise [ROT]

theorem grp_at (R : FVec Ideal S512x16x18944 .f32) (g : Fin 512) (col : Fin 18944) :
    GRP R (ix2 g col) = Finset.fold max (Ideal.ofBits FTy.f32 4286578688#32) (fun r : Fin 16 => FloatOps.absf (F := Ideal) (φ := .f32) (R (ix3 g r col))) Finset.univ := by
  pointwise [GRP]

theorem all_at (A : FVec Ideal S512x18944 .f32) (j : S_.Idx) :
    ALL A j = Finset.fold max (Ideal.ofBits FTy.f32 4286578688#32) (fun x : Fin 512 × Fin 18944 => A (ix2 x.1 x.2)) Finset.univ := by
  pointwise [ALL]

theorem scl_at (a : FVec Ideal S_ .f32) (i : Fin 1) : SCL a (ix1 i) = Rht.scaleOf (a ix0) := by
  simp only [SCL, id_eq]
  pointwise
  rfl

/-- The whole reference at its one element. -/
theorem scale_at (X : FVec Ideal S4x2048x18944 .bf16) (S : FVec Ideal S16 .f32) (L : IVec S4 32) (i : Fin 1) :
    SCL (ALL (GRP (ROT (MSK X L) (MAT S)))) (ix1 i) = Rht.scaleOf (Rht.amax 18944 (fun b s col => X (ix3 b s col)) (fun i => S (ix1 i)) (fun b => L (ix1 b))) := by
  rw [scl_at, all_at]
  refine congrArg Rht.scaleOf (Finset.fold_congr fun x _ => ?_)
  rw [grp_at]
  refine Finset.fold_congr fun r _ => congrArg _ ?_
  rw [rot_at]
  refine Finset.sum_congr rfl fun i _ => ?_
  rw [msk_at, mat_at]
  unfold Scalar.select
  split
  · rfl
  · exact zero_mul _

/-- The reference ends with the scale of the greatest absolute value, its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v37) = SCL (ALL (GRP (ROT
          (MSK (m ((c.tc : Thread nD τ).loc main_arg0)) (m ((c.tc : Thread nD τ).loc main_arg2))) (MAT (m ((c.tc : Thread nD τ).loc main_arg1))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine Idealize.ShloMosaic.θ_run_mono (Idealize.ShloMosaic.StableHlo.run_hlo _ _ (by hlo_seq) (by decide) (by decide) (by simp)
      (by intro _ h; (repeat (cases h with | head => rfl | tail _ h => ?_)); exact nomatch h) _ _) ?_
  intro r hr c
  refine ⟨(hr c main_v37).trans ?_, (hr c main_arg0).trans ?_, (hr c main_arg1).trans ?_, (hr c main_arg2).trans ?_⟩
  · after_reads_simp
    simp -implicitDefEqProofs only [StableHlo.TRef.toBuf, StableHlo.TRef.ofBuf, cast_cast, cast_eq]
    rfl
  all_goals after_reads_simp

end Cert.AmaxDyReferenceIdeal.Value

end
-- ==== Proof.AmaxDyClaim.lean ====
/- The global scale of dy: the kernel's run against the reference's. -/
module

public import proofs.«01_k».proof.Defs
public import proofs.«01_k».proof.Proof.AmaxDyValue
public import proofs.«01_k».proof.Proof.AmaxDyRef
public import Idealize.ShloMosaic.Adequacy
public import Idealize.ShloMosaic.Init
public import Idealize.ShloMosaic.Lib.Claim
public import Idealize.ShloMosaic.Lib.Quiescent
public import Idealize.ShloMosaic.Lib.Pointwise

@[expose] public section

set_option maxRecDepth 16384

noncomputable section

namespace Cert.AmaxDyClaim

open Idealize.ShloMosaic Idealize.ShloMosaic.TcCoe Idealize.SL.Sem

/-- The side conditions of the precondition. -/
theorem pre_facts : Cert.Pre_lengths_of_dy_sequences.Facts := by constructor <;> decide

local instance : Cert.Pre_lengths_of_dy_sequences.Facts := pre_facts

theorem sge_zero {n : BitVec 32} (h : Scalar.cmpi .sge n 0#32 = 1#1) : 0 ≤ n.toInt := by
  have h1 : (0#32).sle n = true := by
    by_contra hc
    have h2 : (0#32).sle n = false := by simpa using hc
    have h3 : Scalar.cmpi .sge n 0#32 = BitVec.ofBool ((0#32).sle n) := rfl
    rw [h3, h2] at h
    exact absurd h (by decide)
  simpa [BitVec.sle] using h1

/-- The precondition says that no length is negative. -/
theorem lengths (m : (ℓ : Loc Cert.AmaxDyIdeal.nD Cert.AmaxDyIdeal.τ Cert.AmaxDyIdeal.sig) → Buf (Elt Ideal) ℓ)
    (h : Cert.Pre_AmaxDyIdeal_lengths_of_dy_sequences m) : Cert.AmaxDyIdeal.Value.Len m := fun b => by
  have h1 := congrFun (h 0) (ix1 b)
  have h2 : Scalar.cmpi .sge ((show IVec Cert.AmaxDyIdeal.S4 32 from m (((0 : Dev Cert.AmaxDyIdeal.nD).tc : Thread Cert.AmaxDyIdeal.nD Cert.AmaxDyIdeal.τ).loc Cert.AmaxDyIdeal.main_arg2)) (ix1 b)) 0#32 = 1#1 := by
    refine Eq.trans ?_ h1
    unfold Cert.Pre_lengths_of_dy_sequences.fn
    rfl
  exact sge_zero h2

/-- The kernel's result is the reference's, from the same arguments. -/
theorem algebraic : Cert.algebraic_AmaxDyIdeal_AmaxDyReferenceIdeal_pre_lengths_of_dy_sequences := by
  intro m g m' g' hpre hagree
  refine ⟨fun c _ => Rht.scaleOf (Cert.AmaxDyIdeal.Value.AMAX m c), Cert.AmaxDyIdeal.Value.run m (lengths m hpre) g, ?_⟩
  refine (θ_run Cert.AmaxDyReferenceIdeal.defs _ _).mono (fun r h c => ⟨(h c).1.trans ?_, (h c).2⟩)
    (Cert.AmaxDyReferenceIdeal.Value.run m' g')
  obtain ⟨h0, h1, h2⟩ := hagree c
  refine funext fun i => ?_
  obtain ⟨k, rfl⟩ : ∃ k : Fin 1, i = (ix1 k : Cert.AmaxDyIdeal.S1.Idx) := ⟨i 0, funext fun a => by match a with | ⟨0, _⟩ => rfl⟩
  refine (Cert.AmaxDyReferenceIdeal.Value.scale_at _ _ _ k).trans ?_
  rw [h0, h1, h2]

/-- The reference runs, leaves its arguments alone and every semaphore counter at zero (it declares none). -/
theorem reference_frame : Cert.quiescent_AmaxDyReferenceIdeal := fun m ρ _ =>
  (θ_run Cert.AmaxDyReferenceIdeal.defs _ _).mono (fun r h => ⟨fun c => (h c).2,
      Idealize.ShloMosaic.sem_eq_zero_of_no_sems (by decide) r.2⟩)
    (Cert.AmaxDyReferenceIdeal.Value.run m ρ)

/-- The same of the claim that states the precondition. -/
theorem reference_frame_pre : Cert.quiescent_AmaxDyReferenceIdeal_pre_lengths_of_dy_sequences := fun m ρ _ =>
  reference_frame m ρ trivial

end Cert.AmaxDyClaim

end
-- ==== Proof.QuantXWords.lean ====
/- The values the quantising kernel computes in one step of its grid, as functions of the tokens it loads. -/
module

public import proofs.«01_k».proof.Defs
public import proofs.«01_k».proof.Proof.Gen.QuantXIdeal.Frame

@[expose] public section

set_option maxRecDepth 16384

noncomputable section

open Idealize.ShloMosaic Idealize.ShloMosaic.TcCoe Idealize.SL.Sem

namespace Cert.QuantXIdeal.Words

open Cert.QuantXIdeal Cert.QuantXIdeal.Gen

variable {F : FTy → Type} [FloatOps F]

/-- The constant with these bits in every place. -/
abbrev bc (b : BitVec 32) : FVec F S8x128 .f32 := broadcast S8x128 (Scalar.ofBits .f32 b)

/-- The constant word in every place. -/
abbrev bi (b : BitVec 32) : IVec S8x128 32 := broadcast S8x128 b

/-- The tokens of one place of the group, out of the pairs of rows loaded. -/
def tok (raw : Fin 8 → Vec F S8x2x128 .bf16) (j : Fin 16) : FVec F S8x128 .f32 :=
  extf .f32 (shapeCast S8x128 (rowsOfParity (Fin.ofNat 2 j.val) S8x1x128 (raw (Fin.ofNat 8 (j.val / 2))) bitcasts_S8x2x128_w16_S8x1x128_w32) shapeCasts_S8x1x128_S8x128)

/-- The tokens times the signs. -/
def signed (raw : Fin 8 → Vec F S8x2x128 .bf16) (s : Fin 16 → F .f32) (j : Fin 16) : FVec F S8x128 .f32 :=
  mulf (tok raw j) (broadcast S8x128 (s j))

/-- One level of the butterfly. -/
def level (bit : Nat) (v : Fin 16 → FVec F S8x128 .f32) (j : Fin 16) : FVec F S8x128 .f32 :=
  if j.val &&& bit = 0 then addf (v j) (v (Fin.ofNat 16 (j.val ^^^ bit))) else subf (v (Fin.ofNat 16 (j.val ^^^ bit))) (v j)

/-- The whole butterfly. -/
def had (v : Fin 16 → FVec F S8x128 .f32) : Fin 16 → FVec F S8x128 .f32 := level 8 (level 4 (level 2 (level 1 v)))

/-- The rotated tokens. -/
def rot (raw : Fin 8 → Vec F S8x2x128 .bf16) (s : Fin 16 → F .f32) : Fin 16 → FVec F S8x128 .f32 := had (signed raw s)

/-- The largest magnitude of the group. -/
def amaxV (v : Fin 16 → FVec F S8x128 .f32) : FVec F S8x128 .f32 :=
  maximumf (maximumf (maximumf (maximumf (maximumf (maximumf (maximumf (maximumf (maximumf (maximumf (maximumf (maximumf (maximumf (maximumf (maximumf (absf (v 0)) (absf (v 1))) (absf (v 2))) (absf (v 3))) (absf (v 4))) (absf (v 5))) (absf (v 6))) (absf (v 7))) (absf (v 8))) (absf (v 9))) (absf (v 10))) (absf (v 11))) (absf (v 12))) (absf (v 13))) (absf (v 14))) (absf (v 15))

/-- The scale before it is clipped. -/
def ratioV (a sg : FVec F S8x128 .f32) : FVec F S8x128 .f32 := divf (divf (mulf a (bc 0x3F800800#32)) (bc 0x40C00000#32)) sg

/-- The block's scale, before it is stored. -/
def scaleV (t : FVec F S8x128 .f32) : FVec F S8x128 .f32 :=
  extf .f32 (truncf .fp8e4m3 (minimumf (bc 0x43E00000#32) (maximumf (bc 0x00000000#32) t)) bitsLt_fp8e4m3_f32) bitsLt_fp8e4m3_f32

/-- Four over the product of the two scales, zero when the product is not positive. -/
def recipV (sb sg : FVec F S8x128 .f32) : FVec F S8x128 .f32 :=
  select (cmpf .ogt (mulf sb sg) (bc 0x00000000#32))
    (divf (bc 0x40800000#32) (select (cmpf .ogt (mulf sb sg) (bc 0x00000000#32)) (mulf sb sg) (bc 0x3F800000#32))) (bc 0x00000000#32)

/-- The scaled and clipped token. -/
def clipV (v r : FVec F S8x128 .f32) : FVec F S8x128 .f32 := minimumf (bc 0x41C00000#32) (maximumf (bc 0xC1C00000#32) (mulf v r))

/-- The scaled token rounded to the values of the four-bit format, times four. -/
def quantV (w : FVec F S8x128 .f32) : FVec F S8x128 .f32 :=
  addf (select (cmpf .olt (absf w) (bc 0x41000000#32)) (mulf (roundeven (mulf w (bc 0x3F000000#32))) (bc 0x40000000#32))
    (select (cmpf .olt (absf w) (bc 0x41800000#32)) (mulf (roundeven (mulf w (bc 0x3E800000#32))) (bc 0x40800000#32))
      (mulf (roundeven (mulf w (bc 0x3E000000#32))) (bc 0x41000000#32)))) (bc 0x00000000#32)

/-- One where the magnitude is at least this, else zero. -/
def atLeast (q : FVec F S8x128 .f32) (b : BitVec 32) : IVec S8x128 32 := select (cmpf .oge (absf q) (bc b)) (bi 1#32) (bi 0#32)

/-- The four-bit code of a rounded token. -/
def codeV (q : FVec F S8x128 .f32) : IVec S8x128 32 :=
  addi (addi (addi (addi (addi (addi (addi (select (cmpf .olt q (bc 0x00000000#32)) (bi 8#32) (bi 0#32))
    (atLeast q 0x40000000#32)) (atLeast q 0x40800000#32)) (atLeast q 0x40C00000#32)) (atLeast q 0x41000000#32))
    (atLeast q 0x41400000#32)) (atLeast q 0x41800000#32)) (atLeast q 0x41C00000#32)

/-- The two rounded tokens of a word, times the block's scale over four. -/
def pairV (q0 q1 sb : FVec F S8x128 .f32) : FVec F S16x128 .bf16 :=
  mulf (interleaveRows S16x128 (truncf .bf16 q0) (truncf .bf16 q1) bitcasts_S16x128_w16_S8x128_w32)
    (interleaveRows S16x128 (truncf .bf16 (mulf sb (bc 0x3E800000#32))) (truncf .bf16 (mulf sb (bc 0x3E800000#32))) bitcasts_S16x128_w16_S8x128_w32)

/-- The codes of two tokens in one word. -/
def zV (q0 q1 : FVec F S8x128 .f32) : IVec S8x128 32 := ori (codeV q0) (shli (codeV q1) (bi 16#32))

/-- The codes of eight tokens packed into one word. -/
def wordV (z0 z1 z2 z3 : IVec S8x128 32) : IVec S8x128 32 :=
  ori (ori (andi z0 (bi 983055#32)) (shli (andi z1 (bi 983055#32)) (bi 4#32)))
    (shli (ori (andi z2 (bi 983055#32)) (shli (andi z3 (bi 983055#32)) (bi 4#32))) (bi 8#32))

/-- The quantised token of one place. -/
def q (v : Fin 16 → FVec F S8x128 .f32) (sg : FVec F S8x128 .f32) (j : Fin 16) : FVec F S8x128 .f32 :=
  quantV (clipV (v j) (recipV (scaleV (ratioV (amaxV v) sg)) sg))

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec F S16 .f32) (x1 : Vec F S8x128 .f32) (x2 : Vec F S512x128 .bf16) (xt0 : TbBuf0 (F := F) c tbM0_0)

/-- The pairs of rows the kernel loads for two places of the groups of one block. -/
def raw (b : Nat) (hb : b < 4) (k : Fin 8) : Vec F S8x2x128 .bf16 :=
  arg10.view.readCov (kernelRun0_A.sl.HS0_2 c i arg5 harg5 arg10 x2 xt0)
    { off := ![64 * b + k.val, 0, 0], size := S8x2x128.size, stride := ![8, 1, 1],
      inb := by intro a; fin_cases a <;> simp [S8x2x128, S256x2x128] <;> omega }

/-- Each sign lies in the array of signs. -/
theorem sgn_inb (j : Fin 16) : ∀ a, (![j.val] : Fin S16.rank → Nat) a + S1.size a ≤ S16.size a := by
  revert j
  decide +kernel

/-- The sign of one place. -/
def sgn (j : Fin 16) : F .f32 :=
  View.readAt (Elt F) arg3.view (Rect.unit (s := S16) ![j.val] S1.size (sgn_inb j)).toLoadRect (harg3.unread x0) (Shape.Idx.first (show 0 < S1.numel by decide))

/-- The rotated tokens of one block. -/
def rotB (b : Nat) (hb : b < 4) : Fin 16 → FVec F S8x128 .f32 := rot (raw c i arg5 harg5 arg10 x2 xt0 b hb) (sgn arg3 harg3 x0)

/-- The largest magnitudes of block 0. -/
theorem amax_0 : (kernelRun0_A.sl.r_81 c i arg3 harg3 arg5 harg5 arg10 x0 x2 xt0) = amaxV (rotB c i arg3 harg3 arg5 harg5 arg10 x0 x2 xt0 0 (by decide)) := by
  sl_kernel_rfl

/-- The scales of block 0. -/
theorem scale_0 : (kernelRun0_A.sl.r_83 c i arg3 harg3 arg4 harg4 arg5 harg5 arg10 x0 x1 x2 xt0) = (scaleV (ratioV (amaxV (rotB c i arg3 harg3 arg5 harg5 arg10 x0 x2 xt0 0 (by decide))) (kernelRun0_A.sl.r_1 c arg4 harg4 x1))) := by
  sl_kernel_rfl

/-- The quantised tokens of word 0 of block 0. -/
theorem pair_0_0 : (kernelRun0_A.sl.r_92 c i arg3 harg3 arg4 harg4 arg5 harg5 arg10 x0 x1 x2 xt0) = pairV (q (rotB c i arg3 harg3 arg5 harg5 arg10 x0 x2 xt0 0 (by decide)) (kernelRun0_A.sl.r_1 c arg4 harg4 x1) 0) (q (rotB c i arg3 harg3 arg5 harg5 arg10 x0 x2 xt0 0 (by decide)) (kernelRun0_A.sl.r_1 c arg4 harg4 x1) 4) (scaleV (ratioV (amaxV (rotB c i arg3 harg3 arg5 harg5 arg10 x0 x2 xt0 0 (by decide))) (kernelRun0_A.sl.r_1 c arg4 harg4 x1))) := by
  sl_kernel_rfl

/-- The quantised tokens of word 1 of block 0. -/
theorem pair_0_1 : (kernelRun0_A.sl.r_105 c i arg3 harg3 arg4 harg4 arg5 harg5 arg10 x0 x1 x2 xt0) = pairV (q (rotB c i arg3 harg3 arg5 harg5 arg10 x0 x2 xt0 0 (by decide)) (kernelRun0_A.sl.r_1 c arg4 harg4 x1) 1) (q (rotB c i arg3 harg3 arg5 harg5 arg10 x0 x2 xt0 0 (by decide)) (kernelRun0_A.sl.r_1 c arg4 harg4 x1) 5) (scaleV (ratioV (amaxV (rotB c i arg3 harg3 arg5 harg5 arg10 x0 x2 xt0 0 (by decide))) (kernelRun0_A.sl.r_1 c arg4 harg4 x1))) := by
  sl_kernel_rfl

/-- The quantised tokens of word 2 of block 0. -/
theorem pair_0_2 : (kernelRun0_A.sl.r_118 c i arg3 harg3 arg4 harg4 arg5 harg5 arg10 x0 x1 x2 xt0) = pairV (q (rotB c i arg3 harg3 arg5 harg5 arg10 x0 x2 xt0 0 (by decide)) (kernelRun0_A.sl.r_1 c arg4 harg4 x1) 2) (q (rotB c i arg3 harg3 arg5 harg5 arg10 x0 x2 xt0 0 (by decide)) (kernelRun0_A.sl.r_1 c arg4 harg4 x1) 6) (scaleV (ratioV (amaxV (rotB c i arg3 harg3 arg5 harg5 arg10 x0 x2 xt0 0 (by decide))) (kernelRun0_A.sl.r_1 c arg4 harg4 x1))) := by
  sl_kernel_rfl

/-- The quantised tokens of word 3 of block 0. -/
theorem pair_0_3 : (kernelRun0_A.sl.r_134 c i arg3 harg3 arg4 harg4 arg5 harg5 arg10 x0 x1 x2 xt0) = pairV (q (rotB c i arg3 harg3 arg5 harg5 arg10 x0 x2 xt0 0 (by decide)) (kernelRun0_A.sl.r_1 c arg4 harg4 x1) 3) (q (rotB c i arg3 harg3 arg5 harg5 arg10 x0 x2 xt0 0 (by decide)) (kernelRun0_A.sl.r_1 c arg4 harg4 x1) 7) (scaleV (ratioV (amaxV (rotB c i arg3 harg3 arg5 harg5 arg10 x0 x2 xt0 0 (by decide))) (kernelRun0_A.sl.r_1 c arg4 harg4 x1))) := by
  sl_kernel_rfl

/-- The quantised tokens of word 4 of block 0. -/
theorem pair_0_4 : (kernelRun0_A.sl.r_149 c i arg3 harg3 arg4 harg4 arg5 harg5 arg10 x0 x1 x2 xt0) = pairV (q (rotB c i arg3 harg3 arg5 harg5 arg10 x0 x2 xt0 0 (by decide)) (kernelRun0_A.sl.r_1 c arg4 harg4 x1) 8) (q (rotB c i arg3 harg3 arg5 harg5 arg10 x0 x2 xt0 0 (by decide)) (kernelRun0_A.sl.r_1 c arg4 harg4 x1) 12) (scaleV (ratioV (amaxV (rotB c i arg3 harg3 arg5 harg5 arg10 x0 x2 xt0 0 (by decide))) (kernelRun0_A.sl.r_1 c arg4 harg4 x1))) := by
  sl_kernel_rfl

/-- The quantised tokens of word 5 of block 0. -/
theorem pair_0_5 : (kernelRun0_A.sl.r_162 c i arg3 harg3 arg4 harg4 arg5 harg5 arg10 x0 x1 x2 xt0) = pairV (q (rotB c i arg3 harg3 arg5 harg5 arg10 x0 x2 xt0 0 (by decide)) (kernelRun0_A.sl.r_1 c arg4 harg4 x1) 9) (q (rotB c i arg3 harg3 arg5 harg5 arg10 x0 x2 xt0 0 (by decide)) (kernelRun0_A.sl.r_1 c arg4 harg4 x1) 13) (scaleV (ratioV (amaxV (rotB c i arg3 harg3 arg5 harg5 arg10 x0 x2 xt0 0 (by decide))) (kernelRun0_A.sl.r_1 c arg4 harg4 x1))) := by
  sl_kernel_rfl

/-- The quantised tokens of word 6 of block 0. -/
theorem pair_0_6 : (kernelRun0_A.sl.r_178 c i arg3 harg3 arg4 harg4 arg5 harg5 arg10 x0 x1 x2 xt0) = pairV (q (rotB c i arg3 harg3 arg5 harg5 arg10 x0 x2 xt0 0 (by decide)) (kernelRun0_A.sl.r_1 c arg4 harg4 x1) 10) (q (rotB c i arg3 harg3 arg5 harg5 arg10 x0 x2 xt0 0 (by decide)) (kernelRun0_A.sl.r_1 c arg4 harg4 x1) 14) (scaleV (ratioV (amaxV (rotB c i arg3 harg3 arg5 harg5 arg10 x0 x2 xt0 0 (by decide))) (kernelRun0_A.sl.r_1 c arg4 harg4 x1))) := by
  sl_kernel_rfl

/-- The quantised tokens of word 7 of block 0. -/
theorem pair_0_7 : (kernelRun0_A.sl.r_195 c i arg3 harg3 arg4 harg4 arg5 harg5 arg10 x0 x1 x2 xt0) = pairV (q (rotB c i arg3 harg3 arg5 harg5 arg10 x0 x2 xt0 0 (by decide)) (kernelRun0_A.sl.r_1 c arg4 harg4 x1) 11) (q (rotB c i arg3 harg3 arg5 harg5 arg10 x0 x2 xt0 0 (by decide)) (kernelRun0_A.sl.r_1 c arg4 harg4 x1) 15) (scaleV (ratioV (amaxV (rotB c i arg3 harg3 arg5 harg5 arg10 x0 x2 xt0 0 (by decide))) (kernelRun0_A.sl.r_1 c arg4 harg4 x1))) := by
  sl_kernel_rfl

/-- The packed codes of half 0 of block 0. -/
theorem code_0_0 : k0_pay248 (kernelRun0_A.sl.r_145 c i arg3 harg3 arg4 harg4 arg5 harg5 arg10 x0 x1 x2 xt0) = shapeCast S8x128 (wordV (zV (q (rotB c i arg3 harg3 arg5 harg5 arg10 x0 x2 xt0 0 (by decide)) (kernelRun0_A.sl.r_1 c arg4 harg4 x1) 0) (q (rotB c i arg3 harg3 arg5 harg5 arg10 x0 x2 xt0 0 (by decide)) (kernelRun0_A.sl.r_1 c arg4 harg4 x1) 4)) (zV (q (rotB c i arg3 harg3 arg5 harg5 arg10 x0 x2 xt0 0 (by decide)) (kernelRun0_A.sl.r_1 c arg4 harg4 x1) 1) (q (rotB c i arg3 harg3 arg5 harg5 arg10 x0 x2 xt0 0 (by decide)) (kernelRun0_A.sl.r_1 c arg4 harg4 x1) 5)) (zV (q (rotB c i arg3 harg3 arg5 harg5 arg10 x0 x2 xt0 0 (by decide)) (kernelRun0_A.sl.r_1 c arg4 harg4 x1) 2) (q (rotB c i arg3 harg3 arg5 harg5 arg10 x0 x2 xt0 0 (by decide)) (kernelRun0_A.sl.r_1 c arg4 harg4 x1) 6)) (zV (q (rotB c i arg3 harg3 arg5 harg5 arg10 x0 x2 xt0 0 (by decide)) (kernelRun0_A.sl.r_1 c arg4 harg4 x1) 3) (q (rotB c i arg3 harg3 arg5 harg5 arg10 x0 x2 xt0 0 (by decide)) (kernelRun0_A.sl.r_1 c arg4 harg4 x1) 7))) shapeCasts_S8x128_S8x128 := by
  sl_kernel_rfl

/-- The packed codes of half 1 of block 0. -/
theorem code_0_1 : k0_pay249 (kernelRun0_A.sl.r_203 c i arg3 harg3 arg4 harg4 arg5 harg5 arg10 x0 x1 x2 xt0) (kernelRun0_A.sl.r_204 c i arg3 harg3 arg4 harg4 arg5 harg5 arg10 x0 x1 x2 xt0) (kernelRun0_A.sl.r_205 c i arg3 harg3 arg4 harg4 arg5 harg5 arg10 x0 x1 x2 xt0) 983055#32 = shapeCast S8x128 (wordV (zV (q (rotB c i arg3 harg3 arg5 harg5 arg10 x0 x2 xt0 0 (by decide)) (kernelRun0_A.sl.r_1 c arg4 harg4 x1) 8) (q (rotB c i arg3 harg3 arg5 harg5 arg10 x0 x2 xt0 0 (by decide)) (kernelRun0_A.sl.r_1 c arg4 harg4 x1) 12)) (zV (q (rotB c i arg3 harg3 arg5 harg5 arg10 x0 x2 xt0 0 (by decide)) (kernelRun0_A.sl.r_1 c arg4 harg4 x1) 9) (q (rotB c i arg3 harg3 arg5 harg5 arg10 x0 x2 xt0 0 (by decide)) (kernelRun0_A.sl.r_1 c arg4 harg4 x1) 13)) (zV (q (rotB c i arg3 harg3 arg5 harg5 arg10 x0 x2 xt0 0 (by decide)) (kernelRun0_A.sl.r_1 c arg4 harg4 x1) 10) (q (rotB c i arg3 harg3 arg5 harg5 arg10 x0 x2 xt0 0 (by decide)) (kernelRun0_A.sl.r_1 c arg4 harg4 x1) 14)) (zV (q (rotB c i arg3 harg3 arg5 harg5 arg10 x0 x2 xt0 0 (by decide)) (kernelRun0_A.sl.r_1 c arg4 harg4 x1) 11) (q (rotB c i arg3 harg3 arg5 harg5 arg10 x0 x2 xt0 0 (by decide)) (kernelRun0_A.sl.r_1 c arg4 harg4 x1) 15))) shapeCasts_S8x128_S8x128 := by
  sl_kernel_rfl

/-- The largest magnitudes of block 1. -/
theorem amax_1 : (kernelRun0_A.sl.r_263 c i arg3 harg3 arg5 harg5 arg10 x0 x2 xt0) = amaxV (rotB c i arg3 harg3 arg5 harg5 arg10 x0 x2 xt0 1 (by decide)) := by
  sl_kernel_rfl

/-- The scales of block 1. -/
theorem scale_1 : (kernelRun0_A.sl.r_264 c i arg3 harg3 arg4 harg4 arg5 harg5 arg10 x0 x1 x2 xt0) = (scaleV (ratioV (amaxV (rotB c i arg3 harg3 arg5 harg5 arg10 x0 x2 xt0 1 (by decide))) (kernelRun0_A.sl.r_1 c arg4 harg4 x1))) := by
  sl_kernel_rfl

/-- The quantised tokens of word 0 of block 1. -/
theorem pair_1_0 : (kernelRun0_A.sl.r_272 c i arg3 harg3 arg4 harg4 arg5 harg5 arg10 x0 x1 x2 xt0) = pairV (q (rotB c i arg3 harg3 arg5 harg5 arg10 x0 x2 xt0 1 (by decide)) (kernelRun0_A.sl.r_1 c arg4 harg4 x1) 0) (q (rotB c i arg3 harg3 arg5 harg5 arg10 x0 x2 xt0 1 (by decide)) (kernelRun0_A.sl.r_1 c arg4 harg4 x1) 4) (scaleV (ratioV (amaxV (rotB c i arg3 harg3 arg5 harg5 arg10 x0 x2 xt0 1 (by decide))) (kernelRun0_A.sl.r_1 c arg4 harg4 x1))) := by
  sl_kernel_rfl

/-- The quantised tokens of word 1 of block 1. -/
theorem pair_1_1 : (kernelRun0_A.sl.r_288 c i arg3 harg3 arg4 harg4 arg5 harg5 arg10 x0 x1 x2 xt0) = pairV (q (rotB c i arg3 harg3 arg5 harg5 arg10 x0 x2 xt0 1 (by decide)) (kernelRun0_A.sl.r_1 c arg4 harg4 x1) 1) (q (rotB c i arg3 harg3 arg5 harg5 arg10 x0 x2 xt0 1 (by decide)) (kernelRun0_A.sl.r_1 c arg4 harg4 x1) 5) (scaleV (ratioV (amaxV (rotB c i arg3 harg3 arg5 harg5 arg10 x0 x2 xt0 1 (by decide))) (kernelRun0_A.sl.r_1 c arg4 harg4 x1))) := by
  sl_kernel_rfl

/-- The quantised tokens of word 2 of block 1. -/
theorem pair_1_2 : (kernelRun0_A.sl.r_303 c i arg3 harg3 arg4 harg4 arg5 harg5 arg10 x0 x1 x2 xt0) = pairV (q (rotB c i arg3 harg3 arg5 harg5 arg10 x0 x2 xt0 1 (by decide)) (kernelRun0_A.sl.r_1 c arg4 harg4 x1) 2) (q (rotB c i arg3 harg3 arg5 harg5 arg10 x0 x2 xt0 1 (by decide)) (kernelRun0_A.sl.r_1 c arg4 harg4 x1) 6) (scaleV (ratioV (amaxV (rotB c i arg3 harg3 arg5 harg5 arg10 x0 x2 xt0 1 (by decide))) (kernelRun0_A.sl.r_1 c arg4 harg4 x1))) := by
  sl_kernel_rfl

/-- The quantised tokens of word 3 of block 1. -/
theorem pair_1_3 : (kernelRun0_A.sl.r_321 c i arg3 harg3 arg4 harg4 arg5 harg5 arg10 x0 x1 x2 xt0) = pairV (q (rotB c i arg3 harg3 arg5 harg5 arg10 x0 x2 xt0 1 (by decide)) (kernelRun0_A.sl.r_1 c arg4 harg4 x1) 3) (q (rotB c i arg3 harg3 arg5 harg5 arg10 x0 x2 xt0 1 (by decide)) (kernelRun0_A.sl.r_1 c arg4 harg4 x1) 7) (scaleV (ratioV (amaxV (rotB c i arg3 harg3 arg5 harg5 arg10 x0 x2 xt0 1 (by decide))) (kernelRun0_A.sl.r_1 c arg4 harg4 x1))) := by
  sl_kernel_rfl

/-- The quantised tokens of word 4 of block 1. -/
theorem pair_1_4 : (kernelRun0_A.sl.r_338 c i arg3 harg3 arg4 harg4 arg5 harg5 arg10 x0 x1 x2 xt0) = pairV (q (rotB c i arg3 harg3 arg5 harg5 arg10 x0 x2 xt0 1 (by decide)) (kernelRun0_A.sl.r_1 c arg4 harg4 x1) 8) (q (rotB c i arg3 harg3 arg5 harg5 arg10 x0 x2 xt0 1 (by decide)) (kernelRun0_A.sl.r_1 c arg4 harg4 x1) 12) (scaleV (ratioV (amaxV (rotB c i arg3 harg3 arg5 harg5 arg10 x0 x2 xt0 1 (by decide))) (kernelRun0_A.sl.r_1 c arg4 harg4 x1))) := by
  sl_kernel_rfl

/-- The quantised tokens of word 5 of block 1. -/
theorem pair_1_5 : (kernelRun0_A.sl.r_353 c i arg3 harg3 arg4 harg4 arg5 harg5 arg10 x0 x1 x2 xt0) = pairV (q (rotB c i arg3 harg3 arg5 harg5 arg10 x0 x2 xt0 1 (by decide)) (kernelRun0_A.sl.r_1 c arg4 harg4 x1) 9) (q (rotB c i arg3 harg3 arg5 harg5 arg10 x0 x2 xt0 1 (by decide)) (kernelRun0_A.sl.r_1 c arg4 harg4 x1) 13) (scaleV (ratioV (amaxV (rotB c i arg3 harg3 arg5 harg5 arg10 x0 x2 xt0 1 (by decide))) (kernelRun0_A.sl.r_1 c arg4 harg4 x1))) := by
  sl_kernel_rfl

/-- The quantised tokens of word 6 of block 1. -/
theorem pair_1_6 : (kernelRun0_A.sl.r_371 c i arg3 harg3 arg4 harg4 arg5 harg5 arg10 x0 x1 x2 xt0) = pairV (q (rotB c i arg3 harg3 arg5 harg5 arg10 x0 x2 xt0 1 (by decide)) (kernelRun0_A.sl.r_1 c arg4 harg4 x1) 10) (q (rotB c i arg3 harg3 arg5 harg5 arg10 x0 x2 xt0 1 (by decide)) (kernelRun0_A.sl.r_1 c arg4 harg4 x1) 14) (scaleV (ratioV (amaxV (rotB c i arg3 harg3 arg5 harg5 arg10 x0 x2 xt0 1 (by decide))) (kernelRun0_A.sl.r_1 c arg4 harg4 x1))) := by
  sl_kernel_rfl

/-- The quantised tokens of word 7 of block 1. -/
theorem pair_1_7 : (kernelRun0_A.sl.r_386 c i arg3 harg3 arg4 harg4 arg5 harg5 arg10 x0 x1 x2 xt0) = pairV (q (rotB c i arg3 harg3 arg5 harg5 arg10 x0 x2 xt0 1 (by decide)) (kernelRun0_A.sl.r_1 c arg4 harg4 x1) 11) (q (rotB c i arg3 harg3 arg5 harg5 arg10 x0 x2 xt0 1 (by decide)) (kernelRun0_A.sl.r_1 c arg4 harg4 x1) 15) (scaleV (ratioV (amaxV (rotB c i arg3 harg3 arg5 harg5 arg10 x0 x2 xt0 1 (by decide))) (kernelRun0_A.sl.r_1 c arg4 harg4 x1))) := by
  sl_kernel_rfl

/-- The packed codes of half 0 of block 1. -/
theorem code_1_0 : k0_pay495 (kernelRun0_A.sl.r_331 c i arg3 harg3 arg4 harg4 arg5 harg5 arg10 x0 x1 x2 xt0) = shapeCast S8x128 (wordV (zV (q (rotB c i arg3 harg3 arg5 harg5 arg10 x0 x2 xt0 1 (by decide)) (kernelRun0_A.sl.r_1 c arg4 harg4 x1) 0) (q (rotB c i arg3 harg3 arg5 harg5 arg10 x0 x2 xt0 1 (by decide)) (kernelRun0_A.sl.r_1 c arg4 harg4 x1) 4)) (zV (q (rotB c i arg3 harg3 arg5 harg5 arg10 x0 x2 xt0 1 (by decide)) (kernelRun0_A.sl.r_1 c arg4 harg4 x1) 1) (q (rotB c i arg3 harg3 arg5 harg5 arg10 x0 x2 xt0 1 (by decide)) (kernelRun0_A.sl.r_1 c arg4 harg4 x1) 5)) (zV (q (rotB c i arg3 harg3 arg5 harg5 arg10 x0 x2 xt0 1 (by decide)) (kernelRun0_A.sl.r_1 c arg4 harg4 x1) 2) (q (rotB c i arg3 harg3 arg5 harg5 arg10 x0 x2 xt0 1 (by decide)) (kernelRun0_A.sl.r_1 c arg4 harg4 x1) 6)) (zV (q (rotB c i arg3 harg3 arg5 harg5 arg10 x0 x2 xt0 1 (by decide)) (kernelRun0_A.sl.r_1 c arg4 harg4 x1) 3) (q (rotB c i arg3 harg3 arg5 harg5 arg10 x0 x2 xt0 1 (by decide)) (kernelRun0_A.sl.r_1 c arg4 harg4 x1) 7))) shapeCasts_S8x128_S8x128 := by
  sl_kernel_rfl

/-- The packed codes of half 1 of block 1. -/
theorem code_1_1 : k0_pay496 (kernelRun0_A.sl.r_393 c i arg3 harg3 arg4 harg4 arg5 harg5 arg10 x0 x1 x2 xt0) = shapeCast S8x128 (wordV (zV (q (rotB c i arg3 harg3 arg5 harg5 arg10 x0 x2 xt0 1 (by decide)) (kernelRun0_A.sl.r_1 c arg4 harg4 x1) 8) (q (rotB c i arg3 harg3 arg5 harg5 arg10 x0 x2 xt0 1 (by decide)) (kernelRun0_A.sl.r_1 c arg4 harg4 x1) 12)) (zV (q (rotB c i arg3 harg3 arg5 harg5 arg10 x0 x2 xt0 1 (by decide)) (kernelRun0_A.sl.r_1 c arg4 harg4 x1) 9) (q (rotB c i arg3 harg3 arg5 harg5 arg10 x0 x2 xt0 1 (by decide)) (kernelRun0_A.sl.r_1 c arg4 harg4 x1) 13)) (zV (q (rotB c i arg3 harg3 arg5 harg5 arg10 x0 x2 xt0 1 (by decide)) (kernelRun0_A.sl.r_1 c arg4 harg4 x1) 10) (q (rotB c i arg3 harg3 arg5 harg5 arg10 x0 x2 xt0 1 (by decide)) (kernelRun0_A.sl.r_1 c arg4 harg4 x1) 14)) (zV (q (rotB c i arg3 harg3 arg5 harg5 arg10 x0 x2 xt0 1 (by decide)) (kernelRun0_A.sl.r_1 c arg4 harg4 x1) 11) (q (rotB c i arg3 harg3 arg5 harg5 arg10 x0 x2 xt0 1 (by decide)) (kernelRun0_A.sl.r_1 c arg4 harg4 x1) 15))) shapeCasts_S8x128_S8x128 := by
  sl_kernel_rfl

/-- The largest magnitudes of block 2. -/
theorem amax_2 : (kernelRun0_A.sl.r_448 c i arg3 harg3 arg5 harg5 arg10 x0 x2 xt0) = amaxV (rotB c i arg3 harg3 arg5 harg5 arg10 x0 x2 xt0 2 (by decide)) := by
  sl_kernel_rfl

/-- The scales of block 2. -/
theorem scale_2 : (kernelRun0_A.sl.r_449 c i arg3 harg3 arg4 harg4 arg5 harg5 arg10 x0 x1 x2 xt0) = (scaleV (ratioV (amaxV (rotB c i arg3 harg3 arg5 harg5 arg10 x0 x2 xt0 2 (by decide))) (kernelRun0_A.sl.r_1 c arg4 harg4 x1))) := by
  sl_kernel_rfl

/-- The quantised tokens of word 0 of block 2. -/
theorem pair_2_0 : (kernelRun0_A.sl.r_458 c i arg3 harg3 arg4 harg4 arg5 harg5 arg10 x0 x1 x2 xt0) = pairV (q (rotB c i arg3 harg3 arg5 harg5 arg10 x0 x2 xt0 2 (by decide)) (kernelRun0_A.sl.r_1 c arg4 harg4 x1) 0) (q (rotB c i arg3 harg3 arg5 harg5 arg10 x0 x2 xt0 2 (by decide)) (kernelRun0_A.sl.r_1 c arg4 harg4 x1) 4) (scaleV (ratioV (amaxV (rotB c i arg3 harg3 arg5 harg5 arg10 x0 x2 xt0 2 (by decide))) (kernelRun0_A.sl.r_1 c arg4 harg4 x1))) := by
  sl_kernel_rfl

/-- The quantised tokens of word 1 of block 2. -/
theorem pair_2_1 : (kernelRun0_A.sl.r_475 c i arg3 harg3 arg4 harg4 arg5 harg5 arg10 x0 x1 x2 xt0) = pairV (q (rotB c i arg3 harg3 arg5 harg5 arg10 x0 x2 xt0 2 (by decide)) (kernelRun0_A.sl.r_1 c arg4 harg4 x1) 1) (q (rotB c i arg3 harg3 arg5 harg5 arg10 x0 x2 xt0 2 (by decide)) (kernelRun0_A.sl.r_1 c arg4 harg4 x1) 5) (scaleV (ratioV (amaxV (rotB c i arg3 harg3 arg5 harg5 arg10 x0 x2 xt0 2 (by decide))) (kernelRun0_A.sl.r_1 c arg4 harg4 x1))) := by
  sl_kernel_rfl

/-- The quantised tokens of word 2 of block 2. -/
theorem pair_2_2 : (kernelRun0_A.sl.r_493 c i arg3 harg3 arg4 harg4 arg5 harg5 arg10 x0 x1 x2 xt0) = pairV (q (rotB c i arg3 harg3 arg5 harg5 arg10 x0 x2 xt0 2 (by decide)) (kernelRun0_A.sl.r_1 c arg4 harg4 x1) 2) (q (rotB c i arg3 harg3 arg5 harg5 arg10 x0 x2 xt0 2 (by decide)) (kernelRun0_A.sl.r_1 c arg4 harg4 x1) 6) (scaleV (ratioV (amaxV (rotB c i arg3 harg3 arg5 harg5 arg10 x0 x2 xt0 2 (by decide))) (kernelRun0_A.sl.r_1 c arg4 harg4 x1))) := by
  sl_kernel_rfl

/-- The quantised tokens of word 3 of block 2. -/
theorem pair_2_3 : (kernelRun0_A.sl.r_509 c i arg3 harg3 arg4 harg4 arg5 harg5 arg10 x0 x1 x2 xt0) = pairV (q (rotB c i arg3 harg3 arg5 harg5 arg10 x0 x2 xt0 2 (by decide)) (kernelRun0_A.sl.r_1 c arg4 harg4 x1) 3) (q (rotB c i arg3 harg3 arg5 harg5 arg10 x0 x2 xt0 2 (by decide)) (kernelRun0_A.sl.r_1 c arg4 harg4 x1) 7) (scaleV (ratioV (amaxV (rotB c i arg3 harg3 arg5 harg5 arg10 x0 x2 xt0 2 (by decide))) (kernelRun0_A.sl.r_1 c arg4 harg4 x1))) := by
  sl_kernel_rfl

/-- The quantised tokens of word 4 of block 2. -/
theorem pair_2_4 : (kernelRun0_A.sl.r_527 c i arg3 harg3 arg4 harg4 arg5 harg5 arg10 x0 x1 x2 xt0) = pairV (q (rotB c i arg3 harg3 arg5 harg5 arg10 x0 x2 xt0 2 (by decide)) (kernelRun0_A.sl.r_1 c arg4 harg4 x1) 8) (q (rotB c i arg3 harg3 arg5 harg5 arg10 x0 x2 xt0 2 (by decide)) (kernelRun0_A.sl.r_1 c arg4 harg4 x1) 12) (scaleV (ratioV (amaxV (rotB c i arg3 harg3 arg5 harg5 arg10 x0 x2 xt0 2 (by decide))) (kernelRun0_A.sl.r_1 c arg4 harg4 x1))) := by
  sl_kernel_rfl

/-- The quantised tokens of word 5 of block 2. -/
theorem pair_2_5 : (kernelRun0_A.sl.r_545 c i arg3 harg3 arg4 harg4 arg5 harg5 arg10 x0 x1 x2 xt0) = pairV (q (rotB c i arg3 harg3 arg5 harg5 arg10 x0 x2 xt0 2 (by decide)) (kernelRun0_A.sl.r_1 c arg4 harg4 x1) 9) (q (rotB c i arg3 harg3 arg5 harg5 arg10 x0 x2 xt0 2 (by decide)) (kernelRun0_A.sl.r_1 c arg4 harg4 x1) 13) (scaleV (ratioV (amaxV (rotB c i arg3 harg3 arg5 harg5 arg10 x0 x2 xt0 2 (by decide))) (kernelRun0_A.sl.r_1 c arg4 harg4 x1))) := by
  sl_kernel_rfl

/-- The quantised tokens of word 6 of block 2. -/
theorem pair_2_6 : (kernelRun0_A.sl.r_561 c i arg3 harg3 arg4 harg4 arg5 harg5 arg10 x0 x1 x2 xt0) = pairV (q (rotB c i arg3 harg3 arg5 harg5 arg10 x0 x2 xt0 2 (by decide)) (kernelRun0_A.sl.r_1 c arg4 harg4 x1) 10) (q (rotB c i arg3 harg3 arg5 harg5 arg10 x0 x2 xt0 2 (by decide)) (kernelRun0_A.sl.r_1 c arg4 harg4 x1) 14) (scaleV (ratioV (amaxV (rotB c i arg3 harg3 arg5 harg5 arg10 x0 x2 xt0 2 (by decide))) (kernelRun0_A.sl.r_1 c arg4 harg4 x1))) := by
  sl_kernel_rfl

/-- The quantised tokens of word 7 of block 2. -/
theorem pair_2_7 : (kernelRun0_A.sl.r_576 c i arg3 harg3 arg4 harg4 arg5 harg5 arg10 x0 x1 x2 xt0) = pairV (q (rotB c i arg3 harg3 arg5 harg5 arg10 x0 x2 xt0 2 (by decide)) (kernelRun0_A.sl.r_1 c arg4 harg4 x1) 11) (q (rotB c i arg3 harg3 arg5 harg5 arg10 x0 x2 xt0 2 (by decide)) (kernelRun0_A.sl.r_1 c arg4 harg4 x1) 15) (scaleV (ratioV (amaxV (rotB c i arg3 harg3 arg5 harg5 arg10 x0 x2 xt0 2 (by decide))) (kernelRun0_A.sl.r_1 c arg4 harg4 x1))) := by
  sl_kernel_rfl

/-- The packed codes of half 0 of block 2. -/
theorem code_2_0 : k0_pay754 (kernelRun0_A.sl.r_517 c i arg3 harg3 arg4 harg4 arg5 harg5 arg10 x0 x1 x2 xt0) = shapeCast S8x128 (wordV (zV (q (rotB c i arg3 harg3 arg5 harg5 arg10 x0 x2 xt0 2 (by decide)) (kernelRun0_A.sl.r_1 c arg4 harg4 x1) 0) (q (rotB c i arg3 harg3 arg5 harg5 arg10 x0 x2 xt0 2 (by decide)) (kernelRun0_A.sl.r_1 c arg4 harg4 x1) 4)) (zV (q (rotB c i arg3 harg3 arg5 harg5 arg10 x0 x2 xt0 2 (by decide)) (kernelRun0_A.sl.r_1 c arg4 harg4 x1) 1) (q (rotB c i arg3 harg3 arg5 harg5 arg10 x0 x2 xt0 2 (by decide)) (kernelRun0_A.sl.r_1 c arg4 harg4 x1) 5)) (zV (q (rotB c i arg3 harg3 arg5 harg5 arg10 x0 x2 xt0 2 (by decide)) (kernelRun0_A.sl.r_1 c arg4 harg4 x1) 2) (q (rotB c i arg3 harg3 arg5 harg5 arg10 x0 x2 xt0 2 (by decide)) (kernelRun0_A.sl.r_1 c arg4 harg4 x1) 6)) (zV (q (rotB c i arg3 harg3 arg5 harg5 arg10 x0 x2 xt0 2 (by decide)) (kernelRun0_A.sl.r_1 c arg4 harg4 x1) 3) (q (rotB c i arg3 harg3 arg5 harg5 arg10 x0 x2 xt0 2 (by decide)) (kernelRun0_A.sl.r_1 c arg4 harg4 x1) 7))) shapeCasts_S8x128_S8x128 := by
  sl_kernel_rfl

/-- The packed codes of half 1 of block 2. -/
theorem code_2_1 : k0_pay755 (kernelRun0_A.sl.r_535 c i arg3 harg3 arg4 harg4 arg5 harg5 arg10 x0 x1 x2 xt0) (kernelRun0_A.sl.r_553 c i arg3 harg3 arg4 harg4 arg5 harg5 arg10 x0 x1 x2 xt0) (kernelRun0_A.sl.r_569 c i arg3 harg3 arg4 harg4 arg5 harg5 arg10 x0 x1 x2 xt0) (kernelRun0_A.sl.r_581 c i arg3 harg3 arg4 harg4 arg5 harg5 arg10 x0 x1 x2 xt0) (kernelRun0_A.sl.r_582 c i arg3 harg3 arg4 harg4 arg5 harg5 arg10 x0 x1 x2 xt0) (kernelRun0_A.sl.r_583 c i arg3 harg3 arg4 harg4 arg5 harg5 arg10 x0 x1 x2 xt0) k0_pay753 = shapeCast S8x128 (wordV (zV (q (rotB c i arg3 harg3 arg5 harg5 arg10 x0 x2 xt0 2 (by decide)) (kernelRun0_A.sl.r_1 c arg4 harg4 x1) 8) (q (rotB c i arg3 harg3 arg5 harg5 arg10 x0 x2 xt0 2 (by decide)) (kernelRun0_A.sl.r_1 c arg4 harg4 x1) 12)) (zV (q (rotB c i arg3 harg3 arg5 harg5 arg10 x0 x2 xt0 2 (by decide)) (kernelRun0_A.sl.r_1 c arg4 harg4 x1) 9) (q (rotB c i arg3 harg3 arg5 harg5 arg10 x0 x2 xt0 2 (by decide)) (kernelRun0_A.sl.r_1 c arg4 harg4 x1) 13)) (zV (q (rotB c i arg3 harg3 arg5 harg5 arg10 x0 x2 xt0 2 (by decide)) (kernelRun0_A.sl.r_1 c arg4 harg4 x1) 10) (q (rotB c i arg3 harg3 arg5 harg5 arg10 x0 x2 xt0 2 (by decide)) (kernelRun0_A.sl.r_1 c arg4 harg4 x1) 14)) (zV (q (rotB c i arg3 harg3 arg5 harg5 arg10 x0 x2 xt0 2 (by decide)) (kernelRun0_A.sl.r_1 c arg4 harg4 x1) 11) (q (rotB c i arg3 harg3 arg5 harg5 arg10 x0 x2 xt0 2 (by decide)) (kernelRun0_A.sl.r_1 c arg4 harg4 x1) 15))) shapeCasts_S8x128_S8x128 := by
  sl_kernel_rfl

/-- The largest magnitudes of block 3. -/
theorem amax_3 : (kernelRun0_A.sl.r_641 c i arg3 harg3 arg5 harg5 arg10 x0 x2 xt0) = amaxV (rotB c i arg3 harg3 arg5 harg5 arg10 x0 x2 xt0 3 (by decide)) := by
  sl_kernel_rfl

/-- The scales of block 3. -/
theorem scale_3 : (kernelRun0_A.sl.r_642 c i arg3 harg3 arg4 harg4 arg5 harg5 arg10 x0 x1 x2 xt0) = (scaleV (ratioV (amaxV (rotB c i arg3 harg3 arg5 harg5 arg10 x0 x2 xt0 3 (by decide))) (kernelRun0_A.sl.r_1 c arg4 harg4 x1))) := by
  sl_kernel_rfl

/-- The quantised tokens of word 0 of block 3. -/
theorem pair_3_0 : (kernelRun0_A.sl.r_655 c i arg3 harg3 arg4 harg4 arg5 harg5 arg10 x0 x1 x2 xt0) = pairV (q (rotB c i arg3 harg3 arg5 harg5 arg10 x0 x2 xt0 3 (by decide)) (kernelRun0_A.sl.r_1 c arg4 harg4 x1) 0) (q (rotB c i arg3 harg3 arg5 harg5 arg10 x0 x2 xt0 3 (by decide)) (kernelRun0_A.sl.r_1 c arg4 harg4 x1) 4) (scaleV (ratioV (amaxV (rotB c i arg3 harg3 arg5 harg5 arg10 x0 x2 xt0 3 (by decide))) (kernelRun0_A.sl.r_1 c arg4 harg4 x1))) := by
  sl_kernel_rfl

/-- The quantised tokens of word 1 of block 3. -/
theorem pair_3_1 : (kernelRun0_A.sl.r_670 c i arg3 harg3 arg4 harg4 arg5 harg5 arg10 x0 x1 x2 xt0) = pairV (q (rotB c i arg3 harg3 arg5 harg5 arg10 x0 x2 xt0 3 (by decide)) (kernelRun0_A.sl.r_1 c arg4 harg4 x1) 1) (q (rotB c i arg3 harg3 arg5 harg5 arg10 x0 x2 xt0 3 (by decide)) (kernelRun0_A.sl.r_1 c arg4 harg4 x1) 5) (scaleV (ratioV (amaxV (rotB c i arg3 harg3 arg5 harg5 arg10 x0 x2 xt0 3 (by decide))) (kernelRun0_A.sl.r_1 c arg4 harg4 x1))) := by
  sl_kernel_rfl

/-- The quantised tokens of word 2 of block 3. -/
theorem pair_3_2 : (kernelRun0_A.sl.r_684 c i arg3 harg3 arg4 harg4 arg5 harg5 arg10 x0 x1 x2 xt0) = pairV (q (rotB c i arg3 harg3 arg5 harg5 arg10 x0 x2 xt0 3 (by decide)) (kernelRun0_A.sl.r_1 c arg4 harg4 x1) 2) (q (rotB c i arg3 harg3 arg5 harg5 arg10 x0 x2 xt0 3 (by decide)) (kernelRun0_A.sl.r_1 c arg4 harg4 x1) 6) (scaleV (ratioV (amaxV (rotB c i arg3 harg3 arg5 harg5 arg10 x0 x2 xt0 3 (by decide))) (kernelRun0_A.sl.r_1 c arg4 harg4 x1))) := by
  sl_kernel_rfl

/-- The quantised tokens of word 3 of block 3. -/
theorem pair_3_3 : (kernelRun0_A.sl.r_695 c i arg3 harg3 arg4 harg4 arg5 harg5 arg10 x0 x1 x2 xt0) = pairV (q (rotB c i arg3 harg3 arg5 harg5 arg10 x0 x2 xt0 3 (by decide)) (kernelRun0_A.sl.r_1 c arg4 harg4 x1) 3) (q (rotB c i arg3 harg3 arg5 harg5 arg10 x0 x2 xt0 3 (by decide)) (kernelRun0_A.sl.r_1 c arg4 harg4 x1) 7) (scaleV (ratioV (amaxV (rotB c i arg3 harg3 arg5 harg5 arg10 x0 x2 xt0 3 (by decide))) (kernelRun0_A.sl.r_1 c arg4 harg4 x1))) := by
  sl_kernel_rfl

/-- The quantised tokens of word 4 of block 3. -/
theorem pair_3_4 : (kernelRun0_A.sl.r_711 c i arg3 harg3 arg4 harg4 arg5 harg5 arg10 x0 x1 x2 xt0) = pairV (q (rotB c i arg3 harg3 arg5 harg5 arg10 x0 x2 xt0 3 (by decide)) (kernelRun0_A.sl.r_1 c arg4 harg4 x1) 8) (q (rotB c i arg3 harg3 arg5 harg5 arg10 x0 x2 xt0 3 (by decide)) (kernelRun0_A.sl.r_1 c arg4 harg4 x1) 12) (scaleV (ratioV (amaxV (rotB c i arg3 harg3 arg5 harg5 arg10 x0 x2 xt0 3 (by decide))) (kernelRun0_A.sl.r_1 c arg4 harg4 x1))) := by
  sl_kernel_rfl

/-- The quantised tokens of word 5 of block 3. -/
theorem pair_3_5 : (kernelRun0_A.sl.r_725 c i arg3 harg3 arg4 harg4 arg5 harg5 arg10 x0 x1 x2 xt0) = pairV (q (rotB c i arg3 harg3 arg5 harg5 arg10 x0 x2 xt0 3 (by decide)) (kernelRun0_A.sl.r_1 c arg4 harg4 x1) 9) (q (rotB c i arg3 harg3 arg5 harg5 arg10 x0 x2 xt0 3 (by decide)) (kernelRun0_A.sl.r_1 c arg4 harg4 x1) 13) (scaleV (ratioV (amaxV (rotB c i arg3 harg3 arg5 harg5 arg10 x0 x2 xt0 3 (by decide))) (kernelRun0_A.sl.r_1 c arg4 harg4 x1))) := by
  sl_kernel_rfl

/-- The quantised tokens of word 6 of block 3. -/
theorem pair_3_6 : (kernelRun0_A.sl.r_736 c i arg3 harg3 arg4 harg4 arg5 harg5 arg10 x0 x1 x2 xt0) = pairV (q (rotB c i arg3 harg3 arg5 harg5 arg10 x0 x2 xt0 3 (by decide)) (kernelRun0_A.sl.r_1 c arg4 harg4 x1) 10) (q (rotB c i arg3 harg3 arg5 harg5 arg10 x0 x2 xt0 3 (by decide)) (kernelRun0_A.sl.r_1 c arg4 harg4 x1) 14) (scaleV (ratioV (amaxV (rotB c i arg3 harg3 arg5 harg5 arg10 x0 x2 xt0 3 (by decide))) (kernelRun0_A.sl.r_1 c arg4 harg4 x1))) := by
  sl_kernel_rfl

/-- The quantised tokens of word 7 of block 3. -/
theorem pair_3_7 : (kernelRun0_A.sl.r_748 c i arg3 harg3 arg4 harg4 arg5 harg5 arg10 x0 x1 x2 xt0) = pairV (q (rotB c i arg3 harg3 arg5 harg5 arg10 x0 x2 xt0 3 (by decide)) (kernelRun0_A.sl.r_1 c arg4 harg4 x1) 11) (q (rotB c i arg3 harg3 arg5 harg5 arg10 x0 x2 xt0 3 (by decide)) (kernelRun0_A.sl.r_1 c arg4 harg4 x1) 15) (scaleV (ratioV (amaxV (rotB c i arg3 harg3 arg5 harg5 arg10 x0 x2 xt0 3 (by decide))) (kernelRun0_A.sl.r_1 c arg4 harg4 x1))) := by
  sl_kernel_rfl

/-- The packed codes of half 0 of block 3. -/
theorem code_3_0 : k0_pay990 (kernelRun0_A.sl.r_703 c i arg3 harg3 arg4 harg4 arg5 harg5 arg10 x0 x1 x2 xt0) = shapeCast S8x128 (wordV (zV (q (rotB c i arg3 harg3 arg5 harg5 arg10 x0 x2 xt0 3 (by decide)) (kernelRun0_A.sl.r_1 c arg4 harg4 x1) 0) (q (rotB c i arg3 harg3 arg5 harg5 arg10 x0 x2 xt0 3 (by decide)) (kernelRun0_A.sl.r_1 c arg4 harg4 x1) 4)) (zV (q (rotB c i arg3 harg3 arg5 harg5 arg10 x0 x2 xt0 3 (by decide)) (kernelRun0_A.sl.r_1 c arg4 harg4 x1) 1) (q (rotB c i arg3 harg3 arg5 harg5 arg10 x0 x2 xt0 3 (by decide)) (kernelRun0_A.sl.r_1 c arg4 harg4 x1) 5)) (zV (q (rotB c i arg3 harg3 arg5 harg5 arg10 x0 x2 xt0 3 (by decide)) (kernelRun0_A.sl.r_1 c arg4 harg4 x1) 2) (q (rotB c i arg3 harg3 arg5 harg5 arg10 x0 x2 xt0 3 (by decide)) (kernelRun0_A.sl.r_1 c arg4 harg4 x1) 6)) (zV (q (rotB c i arg3 harg3 arg5 harg5 arg10 x0 x2 xt0 3 (by decide)) (kernelRun0_A.sl.r_1 c arg4 harg4 x1) 3) (q (rotB c i arg3 harg3 arg5 harg5 arg10 x0 x2 xt0 3 (by decide)) (kernelRun0_A.sl.r_1 c arg4 harg4 x1) 7))) shapeCasts_S8x128_S8x128 := by
  sl_kernel_rfl

/-- The packed codes of half 1 of block 3. -/
theorem code_3_1 : k0_pay991 (kernelRun0_A.sl.r_718 c i arg3 harg3 arg4 harg4 arg5 harg5 arg10 x0 x1 x2 xt0) (kernelRun0_A.sl.r_733 c i arg3 harg3 arg4 harg4 arg5 harg5 arg10 x0 x1 x2 xt0) (kernelRun0_A.sl.r_744 c i arg3 harg3 arg4 harg4 arg5 harg5 arg10 x0 x1 x2 xt0) (kernelRun0_A.sl.r_752 c i arg3 harg3 arg4 harg4 arg5 harg5 arg10 x0 x1 x2 xt0) (kernelRun0_A.sl.r_755 c i arg3 harg3 arg4 harg4 arg5 harg5 arg10 x0 x1 x2 xt0) (kernelRun0_A.sl.r_756 c i arg3 harg3 arg4 harg4 arg5 harg5 arg10 x0 x1 x2 xt0) (0#32) k0_pay989 = shapeCast S8x128 (wordV (zV (q (rotB c i arg3 harg3 arg5 harg5 arg10 x0 x2 xt0 3 (by decide)) (kernelRun0_A.sl.r_1 c arg4 harg4 x1) 8) (q (rotB c i arg3 harg3 arg5 harg5 arg10 x0 x2 xt0 3 (by decide)) (kernelRun0_A.sl.r_1 c arg4 harg4 x1) 12)) (zV (q (rotB c i arg3 harg3 arg5 harg5 arg10 x0 x2 xt0 3 (by decide)) (kernelRun0_A.sl.r_1 c arg4 harg4 x1) 9) (q (rotB c i arg3 harg3 arg5 harg5 arg10 x0 x2 xt0 3 (by decide)) (kernelRun0_A.sl.r_1 c arg4 harg4 x1) 13)) (zV (q (rotB c i arg3 harg3 arg5 harg5 arg10 x0 x2 xt0 3 (by decide)) (kernelRun0_A.sl.r_1 c arg4 harg4 x1) 10) (q (rotB c i arg3 harg3 arg5 harg5 arg10 x0 x2 xt0 3 (by decide)) (kernelRun0_A.sl.r_1 c arg4 harg4 x1) 14)) (zV (q (rotB c i arg3 harg3 arg5 harg5 arg10 x0 x2 xt0 3 (by decide)) (kernelRun0_A.sl.r_1 c arg4 harg4 x1) 11) (q (rotB c i arg3 harg3 arg5 harg5 arg10 x0 x2 xt0 3 (by decide)) (kernelRun0_A.sl.r_1 c arg4 harg4 x1) 15))) shapeCasts_S8x128_S8x128 := by
  sl_kernel_rfl

end Cert.QuantXIdeal.Words

end
-- ==== Proof.QuantXTokens.lean ====
/- The tokens that the quantising kernel works on in one step of its grid. -/
module

public import proofs.«01_k».proof.Proof.QuantXWords
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QuantXIdeal.Words

open Cert.QuantXIdeal Cert.QuantXIdeal.Gen

theorem lo_at (x : FVec Ideal S512x128 .bf16) (h : S512x128.Bitcasts 16 S256x128 32) (a : Fin 256) (l : Fin 128) :
    rowsOfParity 0 S256x128 x h (ix2 a l) = x (ix2 ⟨2 * a.val, by omega⟩ l) := by
  pointwise

theorem hi_at (x : FVec Ideal S512x128 .bf16) (h : S512x128.Bitcasts 16 S256x128 32) (a : Fin 256) (l : Fin 128) :
    rowsOfParity 1 S256x128 x h (ix2 a l) = x (ix2 ⟨2 * a.val + 1, by omega⟩ l) := by
  pointwise

theorem pay5_at (lo hi : FVec Ideal S256x128 .bf16) (a : Fin 256) (p : Fin 2) (l : Fin 128) :
    k0_pay5 (F := Ideal) lo hi (ix3 a p l) = if p.val = 0 then lo (ix2 a l) else hi (ix2 a l) := by
  fin_cases p <;> pointwise [k0_pay5]

theorem pay6_at (n : BitVec 32) (X : FVec Ideal S256x2x128 .bf16) (a : Fin 256) (p : Fin 2) (l : Fin 128) :
    k0_pay6 (F := Ideal) n X (ix3 a p l) = Scalar.select (IntOp.cmpi CmpIPredicate.slt (BitVec.ofNat 32 (2 * a.val + p.val)) n) (X (ix3 a p l)) 0 := by
  have e : IntOp.muli (BitVec.ofNat 32 a.val) 2#32 = BitVec.ofNat 32 (2 * a.val) := by
    show BitVec.ofNat 32 a.val * 2#32 = _
    rw [Nat.mul_comm, BitVec.ofNat_mul]
  have e1 : IntOp.addi (BitVec.ofNat 32 (2 * a.val)) 1#32 = BitVec.ofNat 32 (2 * a.val + 1) := by
    show BitVec.ofNat 32 _ + 1#32 = _
    rw [BitVec.ofNat_add]
  fin_cases p
  · pointwise [k0_pay6]
    rw [e]
  · pointwise [k0_pay6]
    rw [e, e1]

theorem tok_at (raw : Fin 8 → FVec Ideal S8x2x128 .bf16) (j : Fin 16) (s : Fin 8) (l : Fin 128) :
    tok (F := Ideal) raw j (ix2 s l) = raw ⟨j.val / 2, by omega⟩ (ix3 s ⟨j.val % 2, by omega⟩ l) := by
  fin_cases j <;> (pointwise [tok]) <;> rfl

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec Ideal S16 .f32) (x1 : Vec Ideal S8x128 .f32) (x2 : Vec Ideal S512x128 .bf16) (xt0 : TbBuf0 (F := Ideal) c tbM0_0)

theorem load_whole (y : S512x128.Idx) :
    View.readAt (Elt Ideal) arg5.view (Rect.unit (s := S512x128) ![0, 0] S512x128.size inb_S512x128_S512x128_0_0).toLoadRect (harg5.unread x2) y = x2 y := by
  rw [View.readAt_apply, harg5.read_unread]
  refine congrArg x2 (funext fun a => Fin.ext ?_)
  match a with
  | ⟨0, _⟩ => exact (by simp : 0 + 1 * (y 0).val = (y 0).val)
  | ⟨1, _⟩ => exact (by simp : 0 + 1 * (y 1).val = (y 1).val)

/-- The block of tokens as the kernel first stores it: the tokens themselves. -/
theorem first_at (a : Fin 256) (p : Fin 2) (l : Fin 128) :
    k0_pay5 (F := Ideal) (kernelRun0_A.sl.v32_lo c arg5 harg5 x2) (kernelRun0_A.sl.v32_hi c arg5 harg5 x2) (ix3 a p l) =
      (show FVec Ideal S512x128 .bf16 from x2) (ix2 ⟨2 * a.val + p.val, by omega⟩ l) := by
  rw [pay5_at]
  unfold kernelRun0_A.sl.v32_lo kernelRun0_A.sl.v32_hi
  split
  next h => rw [lo_at]; exact (load_whole _ _ _ _).trans (congrArg x2 (congrArg (fun z => ix2 z l) (Fin.ext (by simp [h]))))
  next h => rw [hi_at]; exact (load_whole _ _ _ _).trans (congrArg x2 (congrArg (fun z => ix2 z l) (Fin.ext (by simp only []; omega))))

theorem whole_emb (y : S256x2x128.Idx) : (Rect.unit (s := S256x2x128) ![0, 0, 0] S256x2x128.size inb_S256x2x128_S256x2x128_0_0_0).emb y = y := by
  refine funext fun a => Fin.ext ?_
  match a with
  | ⟨0, _⟩ => exact (by simp : 0 + 1 * (y 0).val = (y 0).val)
  | ⟨1, _⟩ => exact (by simp : 0 + 1 * (y 1).val = (y 1).val)
  | ⟨2, _⟩ => exact (by simp : 0 + 1 * (y 2).val = (y 2).val)

theorem read_head (v : View sig .tc .vmem S256x2x128 .bf16) (X : S256x2x128.Idx → Elt Ideal .bf16) (L : List (View.Piece (Elt Ideal) S256x2x128 .bf16))
    (B : LoadRect S256x2x128) (j : B.shape.Idx) (y : S256x2x128.Idx) (h : B.idx j = y) :
    v.readCov (⟨Rect.unit ![0, 0, 0] S256x2x128.size inb_S256x2x128_S256x2x128_0_0_0, X⟩ :: L) B j = X y := by
  unfold View.readCov
  rw [View.readAt_apply, h]
  refine Eq.trans ?_ (View.read_writes_cons_emb v v.junk (Rect.unit ![0, 0, 0] S256x2x128.size inb_S256x2x128_S256x2x128_0_0_0) X L y)
  rw [whole_emb]

/-- A token of the block as the kernel works on it: zero past the length. -/
def tokenAt (x2 : FVec Ideal S512x128 .bf16) (n : BitVec 32) (k : Fin 512) (l : Fin 128) : EReal :=
  Scalar.select (IntOp.cmpi CmpIPredicate.slt (BitVec.ofNat 32 k.val) n) (x2 (ix2 k l)) 0

theorem pairs_inb {b : Nat} (hb : b < 4) (k : Fin 8) : ∀ a, S8x2x128.size a = 0 ∨ (![64 * b + k.val, 0, 0] : Fin S256x2x128.rank → Nat) a + (![8, 1, 1] : Fin S256x2x128.rank → Nat) a * (S8x2x128.size a - 1) < S256x2x128.size a := by
  intro a; fin_cases a <;> simp [S8x2x128, S256x2x128] <;> omega

theorem pairs_idx {b : Nat} (hb : b < 4) (k : Fin 8) (s : Fin 8) (p : Fin 2) (l : Fin 128) :
    (show LoadRect S256x2x128 from { off := ![64 * b + k.val, 0, 0], size := S8x2x128.size, stride := ![8, 1, 1], inb := pairs_inb hb k }).idx (ix3 s p l : S8x2x128.Idx) =
      (ix3 ⟨64 * b + k.val + 8 * s.val, by omega⟩ p l : S256x2x128.Idx) := by
  refine funext fun a => Fin.ext ?_
  match a with
  | ⟨0, _⟩ => rfl
  | ⟨1, _⟩ => exact (by simp : 0 + 1 * p.val = p.val)
  | ⟨2, _⟩ => exact (by simp : 0 + 1 * l.val = l.val)

theorem pairs_read (v : View sig .tc .vmem S256x2x128 .bf16) (X : S256x2x128.Idx → Elt Ideal .bf16) (L : List (View.Piece (Elt Ideal) S256x2x128 .bf16))
    {b : Nat} (hb : b < 4) (k : Fin 8) (s : Fin 8) (p : Fin 2) (l : Fin 128) :
    v.readCov (⟨Rect.unit ![0, 0, 0] S256x2x128.size inb_S256x2x128_S256x2x128_0_0_0, X⟩ :: L)
      (show LoadRect S256x2x128 from { off := ![64 * b + k.val, 0, 0], size := S8x2x128.size, stride := ![8, 1, 1], inb := pairs_inb hb k }) (ix3 s p l : S8x2x128.Idx) =
      X (ix3 ⟨64 * b + k.val + 8 * s.val, by omega⟩ p l) :=
  read_head v X L _ _ _ (pairs_idx hb k s p l)

theorem whole_read (v : View sig .tc .vmem S256x2x128 .bf16) (X : S256x2x128.Idx → Elt Ideal .bf16) (L : List (View.Piece (Elt Ideal) S256x2x128 .bf16))
    (y : S256x2x128.Idx) :
    v.readCov (⟨Rect.unit ![0, 0, 0] S256x2x128.size inb_S256x2x128_S256x2x128_0_0_0, X⟩ :: L)
      (Rect.unit (s := S256x2x128) ![0, 0, 0] S256x2x128.size inb_S256x2x128_S256x2x128_0_0_0).toLoadRect y = X y :=
  read_head v X L _ _ _ (whole_emb y)

/-- The pairs of rows loaded, out of the block as stored. -/
theorem raw_read (b : Nat) (hb : b < 4) (k : Fin 8) (s : Fin 8) (p : Fin 2) (l : Fin 128) :
    (show FVec Ideal S8x2x128 .bf16 from raw c i arg5 harg5 arg10 x2 xt0 b hb k) (ix3 s p l) =
      k0_pay6 (F := Ideal) (kernelRun0_A.sl.v30 c i xt0) (kernelRun0_A.sl.v40_raw c arg5 harg5 arg10 x2) (ix3 ⟨64 * b + k.val + 8 * s.val, by omega⟩ p l) :=
  pairs_read arg10.view (k0_pay6 (F := Ideal) (kernelRun0_A.sl.v30 c i xt0) (kernelRun0_A.sl.v40_raw c arg5 harg5 arg10 x2)) (kernelRun0_A.sl.HS0_1 c arg5 harg5 x2) hb k s p l

theorem stored_read (y : S256x2x128.Idx) :
    kernelRun0_A.sl.v40_raw c arg5 harg5 arg10 x2 y = k0_pay5 (F := Ideal) (kernelRun0_A.sl.v32_lo c arg5 harg5 x2) (kernelRun0_A.sl.v32_hi c arg5 harg5 x2) y :=
  whole_read arg10.view (k0_pay5 (F := Ideal) (kernelRun0_A.sl.v32_lo c arg5 harg5 x2) (kernelRun0_A.sl.v32_hi c arg5 harg5 x2)) [] y

theorem raw_at (b : Nat) (hb : b < 4) (k : Fin 8) (s : Fin 8) (p : Fin 2) (l : Fin 128) :
    (show FVec Ideal S8x2x128 .bf16 from raw c i arg5 harg5 arg10 x2 xt0 b hb k) (ix3 s p l) =
      tokenAt x2 (kernelRun0_A.sl.v30 c i xt0) ⟨2 * (64 * b + k.val + 8 * s.val) + p.val, by omega⟩ l := by
  rw [raw_read, pay6_at, stored_read, first_at]
  rfl

/-- The tokens of place `j` of the groups of block `b`. -/
theorem token (b : Nat) (hb : b < 4) (j : Fin 16) (s : Fin 8) (l : Fin 128) :
    tok (F := Ideal) (raw c i arg5 harg5 arg10 x2 xt0 b hb) j (ix2 s l) =
      tokenAt x2 (kernelRun0_A.sl.v30 c i xt0) ⟨128 * b + 16 * s.val + j.val, by omega⟩ l := by
  rw [tok_at]
  refine (raw_at c i arg5 harg5 arg10 x2 xt0 b hb _ _ _ _).trans (congrArg (fun z => tokenAt x2 _ z l) (Fin.ext ?_))
  simp only []
  omega

/-- A sign that the kernel loads. -/
theorem sgn_at (j : Fin 16) : sgn (F := Ideal) arg3 harg3 x0 j = (show FVec Ideal S16 .f32 from x0) (ix1 j) := by
  unfold sgn
  rw [View.readAt_apply, harg3.read_unread]
  refine congrArg x0 (funext fun a => Fin.ext ?_)
  match a with
  | ⟨0, _⟩ => exact (by simp : j.val + 1 * 0 = j.val)

end Cert.QuantXIdeal.Words

end
-- ==== Proof.QuantScalar.lean ====
/- The rotation of one group by additions and subtractions, over the reals and the extended reals. -/
module

public import proofs.«01_k».proof.Proof.Rotation

@[expose] public section

set_option maxRecDepth 16384

noncomputable section

open Idealize.ShloMosaic

namespace Rht

/-- One level of the butterfly. -/
def level {α : Type} [Add α] [Sub α] (bit : Nat) (v : Fin 16 → α) (j : Fin 16) : α :=
  if j.val &&& bit = 0 then v j + v (Fin.ofNat 16 (j.val ^^^ bit)) else v (Fin.ofNat 16 (j.val ^^^ bit)) - v j

/-- The whole butterfly. -/
def had {α : Type} [Add α] [Sub α] (v : Fin 16 → α) : Fin 16 → α := level 8 (level 4 (level 2 (level 1 v)))

/-- The entry of the Hadamard matrix. -/
def sgn (r i : Fin 16) : ℤ := if odd r i = 1#1 then -1 else 1

theorem level_coe (bit : Nat) (v : Fin 16 → ℝ) (j : Fin 16) : level bit (fun i => ((v i : ℝ) : EReal)) j = ((level bit v j : ℝ) : EReal) := by
  unfold level
  split
  · exact (EReal.coe_add _ _).symm
  · exact (EReal.coe_sub _ _).symm

theorem had_coe (v : Fin 16 → ℝ) (j : Fin 16) : had (fun i => ((v i : ℝ) : EReal)) j = ((had v j : ℝ) : EReal) := by
  unfold had
  rw [show level 1 (fun i => ((v i : ℝ) : EReal)) = fun i => ((level 1 v i : ℝ) : EReal) from funext fun i => level_coe 1 v i,
    show level 2 (fun i => ((level 1 v i : ℝ) : EReal)) = fun i => ((level 2 (level 1 v) i : ℝ) : EReal) from funext fun i => level_coe 2 _ i,
    show level 4 (fun i => ((level 2 (level 1 v) i : ℝ) : EReal)) = fun i => ((level 4 (level 2 (level 1 v)) i : ℝ) : EReal) from funext fun i => level_coe 4 _ i]
  exact level_coe 8 _ j

theorem sgn_all : ∀ r i : Fin 16, sgn r i = had (fun k : Fin 16 => if k = i then (1 : ℤ) else 0) r := by decide +kernel

theorem level_sum (bit : Nat) (f : Fin 16 → Fin 16 → ℝ) (j : Fin 16) :
    level bit (fun k => ∑ i, f k i) j = ∑ i, level bit (fun k => f k i) j := by
  unfold level
  split
  · exact (Finset.sum_add_distrib).symm
  · exact (Finset.sum_sub_distrib _ _).symm

theorem had_sum (f : Fin 16 → Fin 16 → ℝ) (j : Fin 16) : had (fun k => ∑ i, f k i) j = ∑ i, had (fun k => f k i) j := by
  unfold had
  rw [show level 1 (fun k => ∑ i, f k i) = fun k => ∑ i, level 1 (fun k => f k i) k from funext fun k => level_sum 1 f k,
    show level 2 (fun k => ∑ i, level 1 (fun k => f k i) k) = fun k => ∑ i, level 2 (level 1 (fun k => f k i)) k from funext fun k => level_sum 2 _ k,
    show level 4 (fun k => ∑ i, level 2 (level 1 (fun k => f k i)) k) = fun k => ∑ i, level 4 (level 2 (level 1 (fun k => f k i))) k from funext fun k => level_sum 4 _ k]
  exact level_sum 8 _ j

theorem level_scale (bit : Nat) (d : Fin 16 → ℤ) (u : ℝ) (j : Fin 16) :
    level bit (fun k => (d k : ℝ) * u) j = ((level bit d j : ℤ) : ℝ) * u := by
  unfold level
  split
  · push_cast; ring
  · push_cast; ring

theorem had_scale (d : Fin 16 → ℤ) (u : ℝ) (j : Fin 16) : had (fun k => (d k : ℝ) * u) j = ((had d j : ℤ) : ℝ) * u := by
  unfold had
  rw [show level 1 (fun k => (d k : ℝ) * u) = fun k => ((level 1 d k : ℤ) : ℝ) * u from funext fun k => level_scale 1 d u k,
    show level 2 (fun k => ((level 1 d k : ℤ) : ℝ) * u) = fun k => ((level 2 (level 1 d) k : ℤ) : ℝ) * u from funext fun k => level_scale 2 _ u k,
    show level 4 (fun k => ((level 2 (level 1 d) k : ℤ) : ℝ) * u) = fun k => ((level 4 (level 2 (level 1 d)) k : ℤ) : ℝ) * u from funext fun k => level_scale 4 _ u k]
  exact level_scale 8 _ u j

/-- The butterfly is the product with the Hadamard matrix. -/
theorem had_eq (v : Fin 16 → ℝ) (r : Fin 16) : had v r = ∑ i, (sgn r i : ℝ) * v i := by
  have h : v = fun k => ∑ i, ((if k = i then (1 : ℤ) else 0 : ℤ) : ℝ) * v i := by
    funext k
    simp
  conv_lhs => rw [h]
  rw [had_sum]
  refine Finset.sum_congr rfl fun i _ => ?_
  rw [had_scale, ← sgn_all]

theorem select_one {α : Type} {c : BitVec 1} (h : c = 1#1) (a b : α) : Scalar.select c a b = a := if_pos h
theorem select_other {α : Type} {c : BitVec 1} (h : ¬ c = 1#1) (a b : α) : Scalar.select c a b = b := if_neg h

theorem entry_coe (S : Fin 16 → ℝ) (r i : Fin 16) : entry (fun i => ((S i : ℝ) : EReal)) r i = (((sgn r i : ℝ) * (S i * (1 / 4)) : ℝ) : EReal) := by
  rw [← entry_eq, ofBits_quarter, ← EReal.coe_mul, ← EReal.coe_neg]
  unfold sgn
  by_cases h : odd r i = 1#1
  · rw [select_one h, if_pos h]; congr 1; push_cast; ring
  · rw [select_other h, if_neg h]; congr 1; push_cast; ring

theorem coe_sum (f : Fin 16 → ℝ) : ((∑ i, f i : ℝ) : EReal) = ∑ i, ((f i : ℝ) : EReal) := by
  induction (Finset.univ : Finset (Fin 16)) using Finset.induction_on with
  | empty => simp
  | insert a s ha ih => rw [Finset.sum_insert ha, Finset.sum_insert ha, EReal.coe_add, ih]

/-- A masked and signed group of finite tokens, through the butterfly, is the row of the rotation. -/
theorem had_rot (c : Fin 16 → BitVec 1) (X S : Fin 16 → ℝ) (r : Fin 16) :
    had (fun i => (Scalar.select (c i) ((X i : ℝ) : EReal) 0) * (((S i : ℝ) : EReal) * Ideal.ofBits FTy.f32 1048576000#32)) r =
      ∑ i, Scalar.select (c i) (((X i : ℝ) : EReal) * entry (fun i => ((S i : ℝ) : EReal)) r i) 0 := by
  have h : (fun i => (Scalar.select (c i) ((X i : ℝ) : EReal) 0) * (((S i : ℝ) : EReal) * Ideal.ofBits FTy.f32 1048576000#32)) =
      fun i => (((if c i = 1#1 then X i else 0) * (S i * (1 / 4)) : ℝ) : EReal) := by
    funext i
    rw [ofBits_quarter]
    by_cases h : c i = 1#1
    · rw [select_one h, if_pos h, EReal.coe_mul, EReal.coe_mul]
    · rw [select_other h, if_neg h, zero_mul, zero_mul, EReal.coe_zero]
  rw [h, had_coe, had_eq, coe_sum]
  refine Finset.sum_congr rfl fun i _ => ?_
  rw [entry_coe]
  by_cases h : c i = 1#1
  · rw [select_one h, if_pos h, ← EReal.coe_mul]; congr 1; ring
  · rw [select_other h, if_neg h, zero_mul, mul_zero]; exact EReal.coe_zero

/-- A rotated group of finite tokens is finite. -/
theorem rot_real (c : Fin 16 → BitVec 1) (X S : Fin 16 → ℝ) (r : Fin 16) : ∃ z : ℝ,
      ∑ i, Scalar.select (c i) (((X i : ℝ) : EReal) * entry (fun i => ((S i : ℝ) : EReal)) r i) 0 = (z : EReal) := by
  refine ⟨∑ i, (if c i = 1#1 then X i * ((sgn r i : ℝ) * (S i * (1 / 4))) else 0), ?_⟩
  rw [coe_sum]
  refine Finset.sum_congr rfl fun i _ => ?_
  rw [entry_coe]
  by_cases h : c i = 1#1
  · rw [select_one h, if_pos h]; exact (EReal.coe_mul _ _).symm
  · rw [select_other h, if_neg h]; exact EReal.coe_zero.symm

/-- The greatest of sixteen, taken one after another, is the greatest of them all. -/
theorem max_chain (f : Fin 16 → EReal) :
    max (max (max (max (max (max (max (max (max (max (max (max (max (max (max (f 0) (f 1)) (f 2)) (f 3)) (f 4)) (f 5)) (f 6)) (f 7)) (f 8)) (f 9)) (f 10)) (f 11)) (f 12)) (f 13)) (f 14)) (f 15) =
      Finset.fold max (Ideal.ofBits FTy.f32 4286578688#32) f Finset.univ := by
  rw [ofBits_neg_inf]
  refine eq_of_forall_ge_iff fun z => ?_
  simp only [Finset.fold_max_le, bot_le, true_and, Finset.mem_univ, forall_true_left, max_le_iff, Fin.forall_fin_succ, IsEmpty.forall_iff, and_true, and_assoc]
  rfl

/-- The greatest absolute value of sixteen. -/
def gmax (v : Fin 16 → EReal) : EReal :=
  Finset.fold max (Ideal.ofBits FTy.f32 4286578688#32) (fun r => FloatOps.absf (F := Ideal) (φ := .f32) (v r)) Finset.univ

/-- A group's scale: its greatest absolute value against the array's scale, within the eight-bit format's range. -/
def scale (a g : EReal) : EReal :=
  min (Ideal.ofBits FTy.f32 1138753536#32) (max (Ideal.ofBits FTy.f32 0#32)
    (Ideal.div (Ideal.div (a * Ideal.ofBits FTy.f32 1065355264#32) (Ideal.ofBits FTy.f32 1086324736#32)) g))

end Rht

end
-- ==== Proof.QuantXBlock.lean ====
/- The greatest absolute values and the scales that the quantising kernel leaves in one step of its grid. -/
module

public import proofs.«01_k».proof.Proof.QuantXTokens
public import proofs.«01_k».proof.Proof.QuantScalar
public import Idealize.ShloMosaic.Lib.WritesUnit

@[expose] public section

set_option maxRecDepth 16384

noncomputable section

open Idealize.ShloMosaic Idealize.ShloMosaic.TcCoe Idealize.SL.Sem

namespace Cert.QuantXIdeal.Words

open Cert.QuantXIdeal Cert.QuantXIdeal.Gen

theorem level_at (bit : Nat) (v : Fin 16 → FVec Ideal S8x128 .f32) (j : Fin 16) (y : S8x128.Idx) :
    level (F := Ideal) bit v j y = Rht.level bit (fun k => (v k y : EReal)) j := by
  unfold level Rht.level
  split <;> rfl

theorem had_at (v : Fin 16 → FVec Ideal S8x128 .f32) (j : Fin 16) (y : S8x128.Idx) :
    had (F := Ideal) v j y = Rht.had (fun k => (v k y : EReal)) j := by
  unfold had Rht.had
  rw [level_at]
  refine congrArg (fun f => Rht.level 8 f j) (funext fun k => ?_)
  rw [level_at]
  refine congrArg (fun f => Rht.level 4 f k) (funext fun k => ?_)
  rw [level_at]
  refine congrArg (fun f => Rht.level 2 f k) (funext fun k => ?_)
  exact level_at 1 v k y

theorem amaxV_at (v : Fin 16 → FVec Ideal S8x128 .f32) (y : S8x128.Idx) : amaxV (F := Ideal) v y = Rht.gmax (fun k => (v k y : EReal)) :=
  Rht.max_chain (fun r => FloatOps.absf (F := Ideal) (φ := .f32) (v r y))

theorem scaleV_at (a g : FVec Ideal S8x128 .f32) (y : S8x128.Idx) : scaleV (F := Ideal) (ratioV a g) y = Rht.scale (a y) (g y) := rfl

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec Ideal S16 .f32) (x1 : Vec Ideal S8x128 .f32) (x2 : Vec Ideal S512x128 .bf16) (xt0 : TbBuf0 (F := Ideal) c tbM0_0)

/-- A group of tokens of the block, rotated. -/
def group (S : FVec Ideal S16 .f32) (X : FVec Ideal S512x128 .bf16) (n : BitVec 32) (ρ : Fin 32) (l : Fin 128) : Fin 16 → EReal :=
  Rht.had fun j => tokenAt X n ⟨16 * ρ.val + j.val, by omega⟩ l * S (ix1 j)

theorem rotB_at (b : Nat) (hb : b < 4) (j : Fin 16) (s : Fin 8) (l : Fin 128) :
    (rotB c i arg3 harg3 arg5 harg5 arg10 x0 x2 xt0 b hb j (ix2 s l) : EReal) =
      group x0 x2 (kernelRun0_A.sl.v30 c i xt0) ⟨8 * b + s.val, by omega⟩ l j := by
  unfold rotB rot group
  rw [had_at]
  refine congrArg (fun f => Rht.had f j) (funext fun k => ?_)
  show (tok (F := Ideal) (raw c i arg5 harg5 arg10 x2 xt0 b hb) k (ix2 s l) : EReal) * sgn (F := Ideal) arg3 harg3 x0 k = _
  rw [token, sgn_at]
  exact congrArg (fun z => tokenAt x2 (kernelRun0_A.sl.v30 c i xt0) z l * _) (Fin.ext (by simp only []; omega))

/-- What a block's greatest absolute values are. -/
theorem amaxB_at (b : Nat) (hb : b < 4) (s : Fin 8) (l : Fin 128) :
    (amaxV (rotB c i arg3 harg3 arg5 harg5 arg10 x0 x2 xt0 b hb) (ix2 s l) : EReal) =
      Rht.gmax (group x0 x2 (kernelRun0_A.sl.v30 c i xt0) ⟨8 * b + s.val, by omega⟩ l) := by
  rw [amaxV_at]
  exact congrArg Rht.gmax (funext fun k => rotB_at c i arg3 harg3 arg5 harg5 arg10 x0 x2 xt0 b hb k s l)

theorem load_scale (y : S8x128.Idx) : kernelRun0_A.sl.r_1 (F := Ideal) c arg4 harg4 x1 y = x1 y := by
  unfold kernelRun0_A.sl.r_1
  rw [View.readAt_apply, harg4.read_unread]
  refine congrArg x1 (funext fun a => Fin.ext ?_)
  match a with
  | ⟨0, _⟩ => exact (by simp : 0 + 1 * (y 0).val = (y 0).val)
  | ⟨1, _⟩ => exact (by simp : 0 + 1 * (y 1).val = (y 1).val)

/-- What a block's scales are. -/
theorem scaleB_at (b : Nat) (hb : b < 4) (s : Fin 8) (l : Fin 128) :
    (scaleV (ratioV (amaxV (rotB c i arg3 harg3 arg5 harg5 arg10 x0 x2 xt0 b hb)) (kernelRun0_A.sl.r_1 c arg4 harg4 x1)) (ix2 s l) : EReal) =
      Rht.scale (Rht.gmax (group x0 x2 (kernelRun0_A.sl.v30 c i xt0) ⟨8 * b + s.val, by omega⟩ l)) ((show FVec Ideal S8x128 .f32 from x1) (ix2 s l)) := by
  rw [scaleV_at, amaxB_at, load_scale]

/-- Four blocks of rows stored one after another, at an index. -/
theorem rows_at (v : View sig .tc .vmem S32x128 .f32) (P : Fin 4 → FVec Ideal S8x128 .f32) (ρ : Fin 32) (l : Fin 128) :
    v.read (Elt Ideal) (v.writes (Elt Ideal) v.junk [
      (⟨Rect.unit (s := S32x128) ![24, 0] S8x128.size inb_S32x128_S8x128_24_0, P 3⟩ : View.Piece (Elt Ideal) S32x128 .f32),
      ⟨Rect.unit ![16, 0] S8x128.size inb_S32x128_S8x128_16_0, P 2⟩,
      ⟨Rect.unit ![8, 0] S8x128.size inb_S32x128_S8x128_8_0, P 1⟩,
      ⟨Rect.unit ![0, 0] S8x128.size inb_S32x128_S8x128_0_0, P 0⟩]) (ix2 ρ l) =
      P ⟨ρ.val / 8, by omega⟩ (ix2 ⟨ρ.val % 8, by omega⟩ l) := by
  have e : ∀ (b : Fin 4), ρ.val / 8 = b.val → P ⟨ρ.val / 8, by omega⟩ = P b := fun b h => congrArg P (Fin.ext h)
  rcases (by omega : ρ.val / 8 = 3 ∨ ρ.val / 8 = 2 ∨ ρ.val / 8 = 1 ∨ ρ.val / 8 = 0) with h | h | h | h
  · rw [e 3 h]
    exact View.read_writes_cons_rows_of_mem v _ _ _ _ (ix2 ρ l) (ix2 ⟨ρ.val % 8, by omega⟩ l) rfl (by show ρ.val = 24 + ρ.val % 8; omega) rfl
  · rw [e 2 h, View.read_writes_cons_rows_of_not_mem v _ _ _ _ (ix2 ρ l) (o := 24) (W := 8) rfl rfl (by left; show ρ.val < 24; omega)]
    exact View.read_writes_cons_rows_of_mem v _ _ _ _ (ix2 ρ l) (ix2 ⟨ρ.val % 8, by omega⟩ l) rfl (by show ρ.val = 16 + ρ.val % 8; omega) rfl
  · rw [e 1 h, View.read_writes_cons_rows_of_not_mem v _ _ _ _ (ix2 ρ l) (o := 24) (W := 8) rfl rfl (by left; show ρ.val < 24; omega),
      View.read_writes_cons_rows_of_not_mem v _ _ _ _ (ix2 ρ l) (o := 16) (W := 8) rfl rfl (by left; show ρ.val < 16; omega)]
    exact View.read_writes_cons_rows_of_mem v _ _ _ _ (ix2 ρ l) (ix2 ⟨ρ.val % 8, by omega⟩ l) rfl (by show ρ.val = 8 + ρ.val % 8; omega) rfl
  · rw [e 0 h, View.read_writes_cons_rows_of_not_mem v _ _ _ _ (ix2 ρ l) (o := 24) (W := 8) rfl rfl (by left; show ρ.val < 24; omega),
      View.read_writes_cons_rows_of_not_mem v _ _ _ _ (ix2 ρ l) (o := 16) (W := 8) rfl rfl (by left; show ρ.val < 16; omega),
      View.read_writes_cons_rows_of_not_mem v _ _ _ _ (ix2 ρ l) (o := 8) (W := 8) rfl rfl (by left; show ρ.val < 8; omega)]
    exact View.read_writes_cons_rows_of_mem v _ _ _ _ (ix2 ρ l) (ix2 ⟨ρ.val % 8, by omega⟩ l) rfl (by show ρ.val = 0 + ρ.val % 8; omega) rfl

/-- Four blocks of rows put one after another, at an index. -/
theorem pay1_at (P : Fin 4 → FVec Ideal S8x128 .f32) (ρ : Fin 32) (l : Fin 128) :
    k0_pay1 (F := Ideal) (P 0) (P 1) (P 2) (P 3) (ix2 ρ l) = P ⟨ρ.val / 8, by omega⟩ (ix2 ⟨ρ.val % 8, by omega⟩ l) := by
  have e : ∀ (b : Fin 4) (s : Fin 8), ρ.val = 8 * b.val + s.val → P b (ix2 s l) = P ⟨ρ.val / 8, by omega⟩ (ix2 ⟨ρ.val % 8, by omega⟩ l) := by
    intro b s h
    rw [show (⟨ρ.val / 8, by omega⟩ : Fin 4) = b from Fin.ext (by simp only []; omega), show (⟨ρ.val % 8, by omega⟩ : Fin 8) = s from Fin.ext (by simp only []; omega)]
  pointwise [k0_pay1]
  by_cases h0 : ρ.val < 8
  · rw [dif_pos h0]
    exact e 0 ⟨ρ.val, h0⟩ (by show ρ.val = 8 * 0 + ρ.val; omega)
  rw [dif_neg h0]
  by_cases h1 : ρ.val - 8 < 8
  · rw [dif_pos h1]
    exact e 1 ⟨ρ.val - 8, h1⟩ (by show ρ.val = 8 * 1 + (ρ.val - 8); omega)
  rw [dif_neg h1]
  by_cases h2 : ρ.val - 8 - 8 < 8
  · rw [dif_pos h2]
    exact e 2 ⟨ρ.val - 8 - 8, h2⟩ (by show ρ.val = 8 * 2 + (ρ.val - 8 - 8); omega)
  rw [dif_neg h2]
  exact e 3 ⟨ρ.val - 8 - 8 - 8, by omega⟩ (by show ρ.val = 8 * 3 + (ρ.val - 8 - 8 - 8); omega)

/-- The greatest absolute values of the four blocks. -/
def amaxP (b : Fin 4) : FVec Ideal S8x128 .f32 :=
  match b with
  | 0 => kernelRun0_A.sl.r_81 c i arg3 harg3 arg5 harg5 arg10 x0 x2 xt0
  | 1 => kernelRun0_A.sl.r_263 c i arg3 harg3 arg5 harg5 arg10 x0 x2 xt0
  | 2 => kernelRun0_A.sl.r_448 c i arg3 harg3 arg5 harg5 arg10 x0 x2 xt0
  | 3 => kernelRun0_A.sl.r_641 c i arg3 harg3 arg5 harg5 arg10 x0 x2 xt0

theorem amaxP_eq (b : Fin 4) : amaxP c i arg3 harg3 arg5 harg5 arg10 x0 x2 xt0 b = amaxV (rotB c i arg3 harg3 arg5 harg5 arg10 x0 x2 xt0 b.val b.isLt) :=
  match b with
  | 0 => amax_0 c i arg3 harg3 arg5 harg5 arg10 x0 x2 xt0
  | 1 => amax_1 c i arg3 harg3 arg5 harg5 arg10 x0 x2 xt0
  | 2 => amax_2 c i arg3 harg3 arg5 harg5 arg10 x0 x2 xt0
  | 3 => amax_3 c i arg3 harg3 arg5 harg5 arg10 x0 x2 xt0

/-- The scales of the four blocks. -/
def scaleP (b : Fin 4) : FVec Ideal S8x128 .f32 :=
  match b with
  | 0 => kernelRun0_A.sl.r_83 c i arg3 harg3 arg4 harg4 arg5 harg5 arg10 x0 x1 x2 xt0
  | 1 => kernelRun0_A.sl.r_264 c i arg3 harg3 arg4 harg4 arg5 harg5 arg10 x0 x1 x2 xt0
  | 2 => kernelRun0_A.sl.r_449 c i arg3 harg3 arg4 harg4 arg5 harg5 arg10 x0 x1 x2 xt0
  | 3 => kernelRun0_A.sl.r_642 c i arg3 harg3 arg4 harg4 arg5 harg5 arg10 x0 x1 x2 xt0

theorem scaleP_eq (b : Fin 4) : scaleP c i arg3 harg3 arg4 harg4 arg5 harg5 arg10 x0 x1 x2 xt0 b = scaleV (ratioV (amaxV (rotB c i arg3 harg3 arg5 harg5 arg10 x0 x2 xt0 b.val b.isLt)) (kernelRun0_A.sl.r_1 c arg4 harg4 x1)) :=
  match b with
  | 0 => scale_0 c i arg3 harg3 arg4 harg4 arg5 harg5 arg10 x0 x1 x2 xt0
  | 1 => scale_1 c i arg3 harg3 arg4 harg4 arg5 harg5 arg10 x0 x1 x2 xt0
  | 2 => scale_2 c i arg3 harg3 arg4 harg4 arg5 harg5 arg10 x0 x1 x2 xt0
  | 3 => scale_3 c i arg3 harg3 arg4 harg4 arg5 harg5 arg10 x0 x1 x2 xt0

variable (arg6 : Memref sig .tc .vmem S128x512 .bf16) (harg6 : arg6.IsWhole) (arg7 : Memref sig .tc .vmem S256x128 .i8) (harg7 : arg7.IsWhole) (arg8 : Memref sig .tc .vmem S32x128 .fp8e4m3) (harg8 : arg8.IsWhole) (arg9 : Memref sig .tc .vmem S32x128 .f32) (harg9 : arg9.IsWhole) (harg10 : arg10.IsWhole) (arg11 : Memref sig .tc .vmem S64x128 .i32) (harg11 : arg11.IsWhole)

/-- The greatest absolute values that a step leaves. -/
theorem out6_at (ρ : Fin 32) (l : Fin 128) :
    (show FVec Ideal S32x128 .f32 from out0_A_6 c i arg3 harg3 arg4 harg4 arg5 harg5 arg6 harg6 arg7 harg7 arg8 harg8 arg9 harg9 arg10 harg10 arg11 harg11 x0 x1 x2 xt0) (ix2 ρ l) =
      Rht.gmax (group x0 x2 (kernelRun0_A.sl.v30 c i xt0) ρ l) := by
  refine Eq.trans ?_ ((rows_at VO0_6 (amaxP c i arg3 harg3 arg5 harg5 arg10 x0 x2 xt0) ρ l).trans ?_)
  · rfl
  rw [amaxP_eq]
  refine (amaxB_at c i arg3 harg3 arg5 harg5 arg10 x0 x2 xt0 _ _ _ _).trans ?_
  exact congrArg (fun z => Rht.gmax (group x0 x2 (kernelRun0_A.sl.v30 c i xt0) z l)) (Fin.ext (by simp only []; omega))

/-- The scales that a step leaves. -/
theorem out5_at (ρ : Fin 32) (l : Fin 128) :
    (show FVec Ideal S32x128 .fp8e4m3 from out0_A_5 c i arg3 harg3 arg4 harg4 arg5 harg5 arg6 harg6 arg7 harg7 arg8 harg8 arg9 harg9 arg10 harg10 arg11 harg11 x0 x1 x2 xt0) (ix2 ρ l) =
      Rht.scale (Rht.gmax (group x0 x2 (kernelRun0_A.sl.v30 c i xt0) ρ l)) ((show FVec Ideal S8x128 .f32 from x1) (ix2 ⟨ρ.val % 8, by omega⟩ l)) := by
  refine Eq.trans ?_ ((pay1_at (scaleP c i arg3 harg3 arg4 harg4 arg5 harg5 arg10 x0 x1 x2 xt0) ρ l).trans ?_)
  · exact View.read_writes_cons_unit_of_mem VO0_5 _ _ _ _ (ix2 ρ l) (ix2 ρ l) rfl (fun a => by match a with | ⟨0, _⟩ => exact (Nat.zero_add _).symm | ⟨1, _⟩ => exact (Nat.zero_add _).symm)
  rw [scaleP_eq]
  refine (scaleB_at c i arg3 harg3 arg4 harg4 arg5 harg5 arg10 x0 x1 x2 xt0 _ _ _ _).trans ?_
  exact congrArg (fun z => Rht.scale (Rht.gmax (group x0 x2 (kernelRun0_A.sl.v30 c i xt0) z l)) _) (Fin.ext (by simp only []; omega))

end Cert.QuantXIdeal.Words

end
-- ==== Proof.QuantCore.lean ====
/- One quantised token: the kernel's arithmetic against the reference's. -/
module

public import proofs.«01_k».proof.Proof.QuantScalar

@[expose] public section

set_option maxRecDepth 16384

noncomputable section

open Idealize.ShloMosaic

namespace Rht

/-- The magnitude of an extended real. -/
abbrev mag (x : EReal) : EReal := FloatOps.absf (F := Ideal) (φ := .f32) x

/-- To the nearest integer, ties to even. -/
abbrev rnd (x : EReal) : EReal := Ideal.liftRound Ideal.roundHalfEven x

/-- Four over a positive number, else zero. -/
def recip (d : EReal) : EReal :=
  Scalar.select (Ideal.cmp .ogt d 0) (Ideal.div (Ideal.ofBits FTy.f32 0x40800000#32) (Scalar.select (Ideal.cmp .ogt d 0) d (Ideal.ofBits FTy.f32 0x3F800000#32))) 0

/-- The kernel's scaled token, clipped; four times the reference's. -/
def kclip (v r : EReal) : EReal := min (Ideal.ofBits FTy.f32 0x41C00000#32) (max (Ideal.ofBits FTy.f32 0xC1C00000#32) (v * r))

/-- The kernel's rounded token; four times the reference's. -/
def kquant (w : EReal) : EReal :=
  Scalar.select (Ideal.cmp .olt (mag w) (Ideal.ofBits FTy.f32 0x41000000#32)) (rnd (w * Ideal.ofBits FTy.f32 0x3F000000#32) * Ideal.ofBits FTy.f32 0x40000000#32)
    (Scalar.select (Ideal.cmp .olt (mag w) (Ideal.ofBits FTy.f32 0x41800000#32)) (rnd (w * Ideal.ofBits FTy.f32 0x3E800000#32) * Ideal.ofBits FTy.f32 0x40800000#32)
      (rnd (w * Ideal.ofBits FTy.f32 0x3E000000#32) * Ideal.ofBits FTy.f32 0x41000000#32)) + 0

/-- One where the magnitude is at least this, else zero. -/
def atLeast (q : EReal) (b : BitVec 32) : BitVec 32 := Scalar.select (Ideal.cmp .oge (mag q) (Ideal.ofBits FTy.f32 b)) 1#32 0#32

/-- The kernel's code of a rounded token. -/
def kcode (q : EReal) : BitVec 32 :=
  (((((((Scalar.select (Ideal.cmp .olt q 0) 8#32 0#32 + atLeast q 0x40000000#32) + atLeast q 0x40800000#32) + atLeast q 0x40C00000#32) +
    atLeast q 0x41000000#32) + atLeast q 0x41400000#32) + atLeast q 0x41800000#32) + atLeast q 0x41C00000#32)

/-- Two codes in one byte. -/
def byte (lo hi : BitVec 32) : BitVec 8 := BitVec.setWidth 8 (IntOp.ori lo (IntOp.shli ArithUnit.host hi 4#32))

/-- The reference's scaled token, clipped. -/
def rclip (v d : EReal) : EReal :=
  min (Ideal.ofBits FTy.f32 0x40C00000#32) (max (Ideal.ofBits FTy.f32 0xC0C00000#32)
    (Scalar.select (Ideal.cmp .ogt d 0) (Ideal.div v (Scalar.select (Ideal.cmp .ogt d 0) d (Ideal.ofBits FTy.f32 0x3F800000#32))) 0))

/-- The reference's rounded magnitude. -/
def rquant (w : EReal) : EReal :=
  Scalar.select (Ideal.cmp .olt (mag w) (Ideal.ofBits FTy.f32 0x40000000#32)) (rnd (Ideal.ofBits FTy.f32 0x40000000#32 * mag w) * Ideal.ofBits FTy.f32 0x3F000000#32)
    (Scalar.select (Ideal.cmp .olt (mag w) (Ideal.ofBits FTy.f32 0x40800000#32)) (rnd (mag w))
      (Ideal.ofBits FTy.f32 0x40000000#32 * rnd (mag w * Ideal.ofBits FTy.f32 0x3F000000#32)))

/-- The reference's code of a rounded magnitude. -/
def rindex (q : EReal) : EReal :=
  Scalar.select (Ideal.cmp .olt q (Ideal.ofBits FTy.f32 0x40000000#32)) (Ideal.ofBits FTy.f32 0x40000000#32 * q)
    (Scalar.select (Ideal.cmp .olt q (Ideal.ofBits FTy.f32 0x40800000#32)) (q + Ideal.ofBits FTy.f32 0x40000000#32)
      (q * Ideal.ofBits FTy.f32 0x3F000000#32 + Ideal.ofBits FTy.f32 0x40800000#32))

/-- The reference's code of a token. -/
def rcode (w : EReal) : BitVec 32 :=
  Ideal.fptosi 32 (rindex (rquant w)) + Scalar.select (Ideal.cmp .olt w 0 &&& Ideal.cmp .ogt (rquant w) 0) 8#32 0#32

theorem f24 : Ideal.ofBits FTy.f32 0x41C00000#32 = ((24 : ℝ) : EReal) := by
  simp [Ideal.ofBits, Ideal.ieee]; rw [← EReal.coe_mul]; norm_num
theorem fm24 : Ideal.ofBits FTy.f32 0xC1C00000#32 = ((-24 : ℝ) : EReal) := by
  simp [Ideal.ofBits, Ideal.ieee]; rw [← EReal.coe_mul]; norm_num
theorem f16 : Ideal.ofBits FTy.f32 0x41800000#32 = ((16 : ℝ) : EReal) := by
  simp [Ideal.ofBits, Ideal.ieee]; rw [← EReal.coe_mul]; norm_num
theorem f12 : Ideal.ofBits FTy.f32 0x41400000#32 = ((12 : ℝ) : EReal) := by
  simp [Ideal.ofBits, Ideal.ieee]; rw [← EReal.coe_mul]; norm_num
theorem f8 : Ideal.ofBits FTy.f32 0x41000000#32 = ((8 : ℝ) : EReal) := by
  simp [Ideal.ofBits, Ideal.ieee]; rw [← EReal.coe_mul]; norm_num
theorem f6 : Ideal.ofBits FTy.f32 0x40C00000#32 = ((6 : ℝ) : EReal) := by
  simp [Ideal.ofBits, Ideal.ieee]; rw [← EReal.coe_mul]; norm_num
theorem fm6 : Ideal.ofBits FTy.f32 0xC0C00000#32 = ((-6 : ℝ) : EReal) := by
  simp [Ideal.ofBits, Ideal.ieee]; rw [← EReal.coe_mul]; norm_num
theorem f4 : Ideal.ofBits FTy.f32 0x40800000#32 = ((4 : ℝ) : EReal) := by
  simp [Ideal.ofBits, Ideal.ieee]; rw [← EReal.coe_mul]; norm_num
theorem f2 : Ideal.ofBits FTy.f32 0x40000000#32 = ((2 : ℝ) : EReal) := by
  simp [Ideal.ofBits, Ideal.ieee]; rw [← EReal.coe_mul]; norm_num
theorem f05 : Ideal.ofBits FTy.f32 0x3F000000#32 = ((1/2 : ℝ) : EReal) := by
  simp [Ideal.ofBits, Ideal.ieee]; rw [← EReal.coe_mul]; norm_num
theorem f025 : Ideal.ofBits FTy.f32 0x3E800000#32 = ((1/4 : ℝ) : EReal) := by
  simp [Ideal.ofBits, Ideal.ieee]; rw [← EReal.coe_mul]; norm_num
theorem f0125 : Ideal.ofBits FTy.f32 0x3E000000#32 = ((1/8 : ℝ) : EReal) := by
  simp [Ideal.ofBits, Ideal.ieee]; rw [← EReal.coe_mul]; norm_num

theorem cmp_lt (x y : ℝ) : Ideal.cmp .olt (x : EReal) (y : EReal) = BitVec.ofBool (decide (x < y)) := by
  simp [Ideal.cmp]
theorem cmp_gt (x y : ℝ) : Ideal.cmp .ogt (x : EReal) (y : EReal) = BitVec.ofBool (decide (y < x)) := by
  simp [Ideal.cmp]
theorem cmp_ge (x y : ℝ) : Ideal.cmp .oge (x : EReal) (y : EReal) = BitVec.ofBool (decide (y ≤ x)) := by
  simp [Ideal.cmp]
theorem sel {α : Type} (p : Prop) [Decidable p] (a b : α) : Scalar.select (BitVec.ofBool (decide p)) a b = if p then a else b := by
  by_cases h : p <;> simp [Scalar.select, h]
theorem mag_coe (x : ℝ) : mag (x : EReal) = ((|x| : ℝ) : EReal) := by
  show max (x : EReal) (-(x : EReal)) = _
  rw [← EReal.coe_neg, abs_eq_max_neg]
  exact (EReal.coe_strictMono.monotone.map_max).symm

/-- Rounding is odd. -/
theorem round_neg (x : ℝ) : Ideal.roundHalfEven (-x) = -Ideal.roundHalfEven x := by
  unfold Ideal.roundHalfEven
  by_cases h0 : x = (⌊x⌋ : ℝ)
  · have h1 : ⌊-x⌋ = -⌊x⌋ := by
      rw [Int.floor_eq_iff]; push_cast; constructor <;> linarith
    simp only [h1]
    rw [if_pos (by push_cast; linarith), if_pos (by linarith)]
  · have hf : (⌊x⌋ : ℝ) < x := lt_of_le_of_ne (Int.floor_le x) (Ne.symm h0)
    have hx := Int.lt_floor_add_one x
    have h1 : ⌊-x⌋ = -⌊x⌋ - 1 := by
      rw [Int.floor_eq_iff]; push_cast; constructor <;> linarith
    simp only [h1]
    rcases lt_trichotomy (x - ⌊x⌋) (1 / 2) with h | h | h
    · rw [if_neg (by push_cast; linarith), if_pos (by push_cast; linarith), if_pos h]; ring
    · by_cases he : Even ⌊x⌋
      · rw [if_neg (by push_cast; linarith), if_neg (by push_cast; linarith), if_neg (by rw [Int.even_sub_one, even_neg]; simpa using he),
          if_neg (by linarith), if_neg (by linarith), if_pos he]; ring
      · rw [if_neg (by push_cast; linarith), if_neg (by push_cast; linarith), if_pos (by rw [Int.even_sub_one, even_neg]; exact he),
          if_neg (by linarith), if_neg (by linarith), if_neg he]; ring
    · rw [if_pos (by push_cast; linarith), if_neg (by linarith), if_pos h]; ring

theorem round_near (x : ℝ) : x - 1 / 2 ≤ (Ideal.roundHalfEven x : ℝ) ∧ (Ideal.roundHalfEven x : ℝ) ≤ x + 1 / 2 := by
  unfold Ideal.roundHalfEven
  have hf := Int.floor_le x
  have hx := Int.lt_floor_add_one x
  simp only []
  by_cases h : x - ⌊x⌋ < 1 / 2
  · rw [if_pos h]; constructor <;> linarith
  · rw [if_neg h]
    by_cases h' : 1 / 2 < x - ⌊x⌋
    · rw [if_pos h']; push_cast; constructor <;> linarith
    · rw [if_neg h']
      by_cases he : Even ⌊x⌋
      · rw [if_pos he]; constructor <;> linarith
      · rw [if_neg he]; push_cast; constructor <;> linarith

/-- The magnitudes of the four-bit format. -/
def lv (k : Fin 8) : ℝ :=
  if k.val = 0 then 0 else if k.val = 1 then 1 / 2 else if k.val = 2 then 1 else if k.val = 3 then 3 / 2 else if k.val = 4 then 2 else if k.val = 5 then 3 else if k.val = 6 then 4 else 6

/-- A magnitude rounded to the format. -/
def near (u : ℝ) : ℝ :=
  if u < 2 then (Ideal.roundHalfEven (2 * u) : ℝ) * (1 / 2) else if u < 4 then (Ideal.roundHalfEven u : ℝ) else 2 * (Ideal.roundHalfEven (u * (1 / 2)) : ℝ)

theorem near_lv (u : ℝ) (h0 : 0 ≤ u) (h6 : u ≤ 6) : ∃ k, near u = lv k := by
  unfold near
  by_cases h2 : u < 2
  · rw [if_pos h2]
    obtain ⟨ha, hb⟩ := round_near (2 * u)
    have h1 : 0 ≤ Ideal.roundHalfEven (2 * u) := by
      by_contra h; have : (Ideal.roundHalfEven (2 * u) : ℝ) ≤ -1 := by exact_mod_cast (by omega : Ideal.roundHalfEven (2 * u) ≤ -1)
      linarith
    have h3 : Ideal.roundHalfEven (2 * u) ≤ 4 := by
      by_contra h; have : (5 : ℝ) ≤ (Ideal.roundHalfEven (2 * u) : ℝ) := by exact_mod_cast (by omega : 5 ≤ Ideal.roundHalfEven (2 * u))
      linarith
    generalize Ideal.roundHalfEven (2 * u) = n at h1 h3 ⊢
    interval_cases n
    · exact ⟨0, by norm_num [lv]⟩
    · exact ⟨1, by norm_num [lv]⟩
    · exact ⟨2, by norm_num [lv]⟩
    · exact ⟨3, by norm_num [lv]⟩
    · exact ⟨4, by norm_num [lv]⟩
  · rw [if_neg h2]
    by_cases h4 : u < 4
    · rw [if_pos h4]
      obtain ⟨ha, hb⟩ := round_near u
      have h1 : 2 ≤ Ideal.roundHalfEven u := by
        by_contra h; have : (Ideal.roundHalfEven u : ℝ) ≤ 1 := by exact_mod_cast (by omega : Ideal.roundHalfEven u ≤ 1)
        linarith
      have h3 : Ideal.roundHalfEven u ≤ 4 := by
        by_contra h; have : (5 : ℝ) ≤ (Ideal.roundHalfEven u : ℝ) := by exact_mod_cast (by omega : 5 ≤ Ideal.roundHalfEven u)
        linarith
      generalize Ideal.roundHalfEven u = n at h1 h3 ⊢
      interval_cases n
      · exact ⟨4, by norm_num [lv]⟩
      · exact ⟨5, by norm_num [lv]⟩
      · exact ⟨6, by norm_num [lv]⟩
    · rw [if_neg h4]
      obtain ⟨ha, hb⟩ := round_near (u * (1 / 2))
      have h1 : 2 ≤ Ideal.roundHalfEven (u * (1 / 2)) := by
        by_contra h; have : (Ideal.roundHalfEven (u * (1 / 2)) : ℝ) ≤ 1 := by exact_mod_cast (by omega : Ideal.roundHalfEven (u * (1 / 2)) ≤ 1)
        linarith
      have h3 : Ideal.roundHalfEven (u * (1 / 2)) ≤ 3 := by
        by_contra h; have : (4 : ℝ) ≤ (Ideal.roundHalfEven (u * (1 / 2)) : ℝ) := by exact_mod_cast (by omega : 4 ≤ Ideal.roundHalfEven (u * (1 / 2)))
        linarith
      generalize Ideal.roundHalfEven (u * (1 / 2)) = n at h1 h3 ⊢
      interval_cases n
      · exact ⟨6, by norm_num [lv]⟩
      · exact ⟨7, by norm_num [lv]⟩

theorem rquant_coe (u : ℝ) : rquant (u : EReal) = ((near |u| : ℝ) : EReal) := by
  unfold rquant near
  rw [f2, f4, f05, mag_coe, cmp_lt, cmp_lt, sel, sel]
  simp only [← EReal.coe_mul, Ideal.liftRound_coe]
  split_ifs <;> rfl

theorem kquant_coe (u : ℝ) : kquant ((4 * u : ℝ) : EReal) = ((4 * (if u < 0 then -near |u| else near |u|) : ℝ) : EReal) := by
  unfold kquant near
  rw [f8, f16, f05, f2, f025, f4, f0125, mag_coe, cmp_lt, cmp_lt, sel, sel]
  simp only [← EReal.coe_mul, Ideal.liftRound_coe, add_zero]
  have e4 : |4 * u| = 4 * |u| := by rw [abs_mul]; norm_num
  have e1 : (4 * u * (1 / 2)) = 2 * u := by ring
  have e2 : (4 * u * (1 / 4)) = u := by ring
  have e3 : (4 * u * (1 / 8)) = u * (1 / 2) := by ring
  rw [e4, e1, e2, e3]
  have k2 : (4 * |u| < 8) ↔ |u| < 2 := by constructor <;> intro h <;> linarith
  have k4 : (4 * |u| < 16) ↔ |u| < 4 := by constructor <;> intro h <;> linarith
  simp only [k2, k4]
  by_cases hu : u < 0
  · have ha : u = -|u| := by rw [abs_of_neg hu]; ring
    rw [if_pos hu]
    generalize |u| = w at ha ⊢
    subst ha
    have e5 : 2 * -w = -(2 * w) := by ring
    have e6 : -w * (1 / 2) = -(w * (1 / 2)) := by ring
    rw [e5, e6, round_neg, round_neg, round_neg]
    by_cases h2 : w < 2
    · rw [if_pos h2, if_pos h2]; refine congrArg Real.toEReal ?_; push_cast; ring
    · rw [if_neg h2, if_neg h2]
      by_cases h4 : w < 4
      · rw [if_pos h4, if_pos h4]; refine congrArg Real.toEReal ?_; push_cast; ring
      · rw [if_neg h4, if_neg h4]; refine congrArg Real.toEReal ?_; push_cast; ring
  · rw [if_neg hu, abs_of_nonneg (not_lt.mp hu)]
    by_cases h2 : u < 2
    · rw [if_pos h2, if_pos h2]; refine congrArg Real.toEReal ?_; ring
    · rw [if_neg h2, if_neg h2]
      by_cases h4 : u < 4
      · rw [if_pos h4, if_pos h4]; refine congrArg Real.toEReal ?_; ring
      · rw [if_neg h4, if_neg h4]; refine congrArg Real.toEReal ?_; ring

theorem min_coe (x y : ℝ) : min (x : EReal) (y : EReal) = ((min x y : ℝ) : EReal) := (EReal.coe_strictMono.monotone.map_min).symm
theorem max_coe (x y : ℝ) : max (x : EReal) (y : EReal) = ((max x y : ℝ) : EReal) := (EReal.coe_strictMono.monotone.map_max).symm

theorem lt_bits (x y : EReal) : Ideal.cmp .olt x y = BitVec.ofBool (decide (x < y)) := rfl
theorem gt_bits (x y : EReal) : Ideal.cmp .ogt x y = BitVec.ofBool (decide (y < x)) := rfl
theorem f1 : Ideal.ofBits FTy.f32 0x3F800000#32 = (1 : EReal) := by
  simp [Ideal.ofBits, Ideal.ieee]; rw [← EReal.coe_mul, ← EReal.coe_one]; norm_num

/-- The kernel's clipped token is four times the reference's, a real of magnitude at most six. -/
theorem clip_eq (v : ℝ) (d : EReal) : ∃ u : ℝ, |u| ≤ 6 ∧ kclip (v : EReal) (recip d) = ((4 * u : ℝ) : EReal) ∧ rclip (v : EReal) d = (u : EReal) := by
  have hz : ∀ x : EReal, Ideal.cmp .ogt x 0 = BitVec.ofBool (decide (0 < x)) := fun x => rfl
  unfold kclip recip rclip
  simp only [hz, sel]
  rw [f24, fm24, f6, fm6, f4]
  have zero : ∃ u : ℝ, |u| ≤ 6 ∧ min ((24 : ℝ) : EReal) (max ((-24 : ℝ) : EReal) ((v : EReal) * 0)) = ((4 * u : ℝ) : EReal) ∧
      min ((6 : ℝ) : EReal) (max ((-6 : ℝ) : EReal) 0) = (u : EReal) := by
    refine ⟨0, by norm_num, ?_, ?_⟩
    · rw [mul_zero, ← EReal.coe_zero, max_coe, min_coe]; norm_num
    · rw [← EReal.coe_zero, max_coe, min_coe]; norm_num
  by_cases h : 0 < d
  · simp only [if_pos h]
    induction d with
    | bot => exact absurd h (by simp)
    | top =>
      have e : ∀ x : EReal, Ideal.div x ⊤ = 0 := fun x => by simp [Ideal.div]
      rw [e, e]; exact zero
    | coe r =>
      have hr : 0 < r := by exact_mod_cast h
      rw [Ideal.div_coe hr.ne', Ideal.div_coe hr.ne']
      refine ⟨min 6 (max (-6) (v * (1 / r))), ?_, ?_, ?_⟩
      · rw [abs_le]; constructor
        · exact le_min (by norm_num) (le_max_left _ _)
        · exact min_le_left _ _
      · rw [← EReal.coe_mul, ← EReal.coe_mul, max_coe, min_coe]
        congr 1
        rw [mul_min_of_nonneg _ _ (by norm_num : (0 : ℝ) ≤ 4), mul_max_of_nonneg _ _ (by norm_num : (0 : ℝ) ≤ 4)]
        congr 1
        · norm_num
        · congr 1
          · norm_num
          · ring
      · rw [← EReal.coe_mul, max_coe, min_coe]
  · simp only [if_neg h]
    exact zero

/-- The value of a code: its sign and its magnitude. -/
def level4 (k : Fin 8) (s : Bool) : ℝ := if s then -lv k else lv k

/-- The code with this sign and this magnitude. -/
def nib (k : Fin 8) (s : Bool) : BitVec 32 := BitVec.ofNat 32 k.val + (if s then 8#32 else 0#32)

theorem kcode_level (k : Fin 8) (s : Bool) (h : s = true → k ≠ 0) : kcode ((4 * level4 k s : ℝ) : EReal) = nib k s := by
  unfold kcode atLeast
  rw [← EReal.coe_zero, f2, f4, f6, f8, f12, f16, f24, mag_coe]
  simp only [cmp_lt, cmp_ge, sel]
  fin_cases k <;> cases s <;> first | exact absurd rfl (h rfl) | (norm_num [level4, lv, nib, abs_of_nonneg, abs_of_neg]; done) | (norm_num [level4, lv, nib, abs_of_nonneg, abs_of_neg]; decide)

theorem rindex_lv (k : Fin 8) : rindex ((lv k : ℝ) : EReal) = ((k.val : ℝ) : EReal) := by
  unfold rindex
  rw [f2, f4, f05]
  simp only [cmp_lt, sel, ← EReal.coe_mul, ← EReal.coe_add]
  fin_cases k <;> norm_num [lv]

theorem fptosi_nat (k : Fin 8) : Ideal.fptosi 32 ((k.val : ℝ) : EReal) = BitVec.ofNat 32 k.val := by
  unfold Ideal.fptosi
  rw [Ideal.toIntClamped_coe, if_pos (by positivity)]
  fin_cases k <;> norm_num

/-- One token: the kernel's rounded value and code, and the reference's code, from one magnitude and one sign. -/
theorem quant_eq (v : ℝ) (d : EReal) : ∃ (k : Fin 8) (s : Bool),
    kquant (kclip (v : EReal) (recip d)) = ((4 * level4 k s : ℝ) : EReal) ∧ kcode (kquant (kclip (v : EReal) (recip d))) = nib k s ∧
      rcode (rclip (v : EReal) d) = nib k s := by
  obtain ⟨u, hu, hk, hr⟩ := clip_eq v d
  obtain ⟨k, hn⟩ := near_lv |u| (abs_nonneg u) hu
  rw [hk, hr, kquant_coe, hn]
  have h0 : (lv k = 0) ↔ k = 0 := by fin_cases k <;> norm_num [lv]
  have hp : 0 ≤ lv k := by fin_cases k <;> norm_num [lv]
  have hl : (4 * (if u < 0 then -lv k else lv k) : ℝ) = 4 * level4 k (decide (u < 0 ∧ k ≠ 0)) := by
    unfold level4
    by_cases hu0 : u < 0
    · by_cases hk0 : k = 0
      · rw [if_pos hu0, (h0.mpr hk0)]; simp
      · rw [if_pos hu0, if_pos (by simp [hu0, hk0])]
    · rw [if_neg hu0, if_neg (by simp [hu0])]
  refine ⟨k, decide (u < 0 ∧ k ≠ 0), by rw [hl], ?_, ?_⟩
  · rw [hl]; exact kcode_level _ _ (fun h => (of_decide_eq_true h).2)
  · unfold rcode
    rw [rquant_coe, hn, rindex_lv, fptosi_nat, ← EReal.coe_zero, cmp_lt, cmp_gt]
    unfold nib
    congr 1
    by_cases hu0 : u < 0
    · by_cases hk0 : k = 0
      · simp [hu0, hk0, Scalar.select, lv]
      · have : 0 < lv k := lt_of_le_of_ne hp (fun h => hk0 (h0.mp h.symm))
        simp [hu0, hk0, this, Scalar.select]
    · simp [hu0, Scalar.select]

end Rht

end
-- ==== Proof.QuantBytes.lean ====
/- The bytes of a word of eight packed codes. -/
module

public import proofs.«01_k».proof.Proof.QuantCore

@[expose] public section

set_option maxRecDepth 16384

noncomputable section

open Idealize.ShloMosaic

namespace Rht

/-- Two codes sixteen bits apart. -/
def half (a b : BitVec 32) : BitVec 32 := IntOp.ori a (IntOp.shli .vector b 16#32)

/-- Eight codes in one word, as the kernel packs them. -/
def word (n : Fin 8 → BitVec 32) : BitVec 32 :=
  IntOp.ori (IntOp.ori (IntOp.andi (half (n 0) (n 4)) 983055#32) (IntOp.shli .vector (IntOp.andi (half (n 1) (n 5)) 983055#32) 4#32))
    (IntOp.shli .vector (IntOp.ori (IntOp.andi (half (n 2) (n 6)) 983055#32) (IntOp.shli .vector (IntOp.andi (half (n 3) (n 7)) 983055#32) 4#32)) 8#32)

theorem shl (u : ArithUnit) (x : BitVec 32) (k : Nat) (h : k < 32) : IntOp.shli u x (BitVec.ofNat 32 k) = x <<< k := by
  have e : (BitVec.ofNat 32 k).toNat = k := by
    rw [BitVec.toNat_ofNat]
    exact Nat.mod_eq_of_lt (by omega)
  unfold IntOp.shli
  rw [if_pos (by rw [e]; exact h), BitVec.shiftLeft_eq', e]

theorem nib_bits (k : Fin 8) (s : Bool) : ∃ a : BitVec 4, nib k s = a.setWidth 32 := by
  refine ⟨(nib k s).setWidth 4, ?_⟩
  revert k s
  decide

theorem byte_word_bits (m : Fin 8 → BitVec 4) (r : Fin 4) (i : Fin 8) :
    (word (fun k => (m k).setWidth 32)).getLsbD (8 * r.val + i.val) =
      (byte ((m ⟨2 * r.val, by omega⟩).setWidth 32) ((m ⟨2 * r.val + 1, by omega⟩).setWidth 32)).getLsbD i.val := by
  unfold word half byte
  rw [shl _ _ 4 (by decide), shl _ _ 4 (by decide), shl _ _ 4 (by decide), shl _ _ 8 (by decide), shl _ _ 16 (by decide), shl _ _ 16 (by decide), shl _ _ 16 (by decide), shl _ _ 16 (by decide)]
  fin_cases r <;> fin_cases i <;>
    simp [IntOp.ori, IntOp.andi, BitVec.getLsbD_or, BitVec.getLsbD_and, BitVec.getLsbD_shiftLeft, BitVec.getLsbD_setWidth]

/-- Eight bits of a word of packed codes are two of its codes. -/
theorem byte_word (n : Fin 8 → BitVec 32) (h : ∀ k, ∃ a : BitVec 4, n k = a.setWidth 32) (r : Fin 4) (x : BitVec 8)
    (hx : ∀ i : Fin 8, x.getLsbD i.val = (word n).getLsbD (8 * r.val + i.val)) :
    x = byte (n ⟨2 * r.val, by omega⟩) (n ⟨2 * r.val + 1, by omega⟩) := by
  choose m hm using h
  obtain rfl : n = fun k => (m k).setWidth 32 := funext hm
  apply BitVec.eq_of_getLsbD_eq
  intro i hi
  exact (hx ⟨i, hi⟩).trans (byte_word_bits m r ⟨i, hi⟩)

end Rht

end
-- ==== Proof.QuantXCodes.lean ====
/- The packed codes that the quantising kernel leaves in one step of its grid. -/
module

public import proofs.«01_k».proof.Proof.QuantXBlock
public import proofs.«01_k».proof.Proof.QuantBytes
public import Idealize.ShloMosaic.Lib.Pipeline.ValueKit
public import Idealize.ShloMosaic.Lib.BitcastFour

@[expose] public section

set_option maxRecDepth 16384

noncomputable section

open Idealize.ShloMosaic Idealize.ShloMosaic.TcCoe Idealize.SL.Sem

namespace Cert.QuantXIdeal.Words

open Cert.QuantXIdeal Cert.QuantXIdeal.Gen

theorem codeV_at (q : FVec Ideal S8x128 .f32) (y : S8x128.Idx) : codeV (F := Ideal) q y = Rht.kcode (q y) := by
  unfold Rht.kcode
  rw [← Ideal.ofBits_zero_f32]
  rfl

theorem q_at (v : Fin 16 → FVec Ideal S8x128 .f32) (sg : FVec Ideal S8x128 .f32) (j : Fin 16) (y : S8x128.Idx) :
    (q (F := Ideal) v sg j y : EReal) = Rht.kquant (Rht.kclip (v j y) (Rht.recip (scaleV (F := Ideal) (ratioV (amaxV v) sg) y * sg y))) := by
  unfold Rht.kquant Rht.kclip Rht.recip
  rw [← Ideal.ofBits_zero_f32]
  rfl

/-- The places of the eight tokens of one half of a group. -/
def place (h : Fin 2) (k : Fin 8) : Fin 16 := ⟨8 * h.val + k.val, by omega⟩

/-- The packed codes of one half of the groups of a block. -/
def half (v : Fin 16 → FVec Ideal S8x128 .f32) (sg : FVec Ideal S8x128 .f32) (h : Fin 2) : IVec S8x128 32 :=
  shapeCast S8x128 (wordV (zV (q v sg (place h 0)) (q v sg (place h 4))) (zV (q v sg (place h 1)) (q v sg (place h 5)))
    (zV (q v sg (place h 2)) (q v sg (place h 6))) (zV (q v sg (place h 3)) (q v sg (place h 7)))) shapeCasts_S8x128_S8x128

theorem cast_at (x : IVec S8x128 32) (s : Fin 8) (l : Fin 128) : shapeCast S8x128 x shapeCasts_S8x128_S8x128 (ix2 s l) = x (ix2 s l) := by
  pointwise

theorem half_at (v : Fin 16 → FVec Ideal S8x128 .f32) (sg : FVec Ideal S8x128 .f32) (h : Fin 2) (s : Fin 8) (l : Fin 128) :
    half v sg h (ix2 s l) = Rht.word fun k => Rht.kcode (q (F := Ideal) v sg (place h k) (ix2 s l)) := by
  unfold half
  rw [cast_at]
  simp only [← codeV_at]
  rfl

theorem hit_of {S : Shape} (r : Rect S) (x : r.shape.Idx) (y : S.Idx) (h : r.emb x = y) : y ∈ r.set := by
  subst h
  exact r.idx_mem x

/-- Eight blocks of every second row, at an index. -/
theorem strided_at (P : Fin 4 → Fin 2 → IVec S8x128 32) (row : Fin 64) (l : Fin 128) :
    View.canon [
      (⟨{ off := ![49, 0], size := S8x128.size, stride := ![2, 1], inb := inb_S64x128_S8x128_49_0_s_2_1, stride_pos := spos_2_1 }, P 3 1⟩ : View.Piece (Elt Ideal) S64x128 .i32),
      (⟨{ off := ![48, 0], size := S8x128.size, stride := ![2, 1], inb := inb_S64x128_S8x128_48_0_s_2_1, stride_pos := spos_2_1 }, P 3 0⟩ : View.Piece (Elt Ideal) S64x128 .i32),
      (⟨{ off := ![33, 0], size := S8x128.size, stride := ![2, 1], inb := inb_S64x128_S8x128_33_0_s_2_1, stride_pos := spos_2_1 }, P 2 1⟩ : View.Piece (Elt Ideal) S64x128 .i32),
      (⟨{ off := ![32, 0], size := S8x128.size, stride := ![2, 1], inb := inb_S64x128_S8x128_32_0_s_2_1, stride_pos := spos_2_1 }, P 2 0⟩ : View.Piece (Elt Ideal) S64x128 .i32),
      (⟨{ off := ![17, 0], size := S8x128.size, stride := ![2, 1], inb := inb_S64x128_S8x128_17_0_s_2_1, stride_pos := spos_2_1 }, P 1 1⟩ : View.Piece (Elt Ideal) S64x128 .i32),
      (⟨{ off := ![16, 0], size := S8x128.size, stride := ![2, 1], inb := inb_S64x128_S8x128_16_0_s_2_1, stride_pos := spos_2_1 }, P 1 0⟩ : View.Piece (Elt Ideal) S64x128 .i32),
      (⟨{ off := ![1, 0], size := S8x128.size, stride := ![2, 1], inb := inb_S64x128_S8x128_1_0_s_2_1, stride_pos := spos_2_1 }, P 0 1⟩ : View.Piece (Elt Ideal) S64x128 .i32),
      (⟨{ off := ![0, 0], size := S8x128.size, stride := ![2, 1], inb := inb_S64x128_S8x128_0_0_s_2_1, stride_pos := spos_2_1 }, P 0 0⟩ : View.Piece (Elt Ideal) S64x128 .i32)] (ix2 row l) =
      P ⟨row.val / 16, by omega⟩ ⟨row.val % 2, by omega⟩ (ix2 ⟨row.val % 16 / 2, by omega⟩ l) := by
  have e : ∀ (b : Fin 4) (h : Fin 2) (x : S8x128.Idx), row.val = 16 * b.val + h.val + 2 * (x 0).val → l.val = 0 + 1 * (x 1).val →
      P b h x = P ⟨row.val / 16, by omega⟩ ⟨row.val % 2, by omega⟩ (ix2 ⟨row.val % 16 / 2, by omega⟩ l) := by
    intro b h x h0 h1
    obtain ⟨s, k, rfl⟩ : ∃ (s : Fin 8) (k : Fin 128), x = ix2 s k := ⟨x (0 : Fin 2), x (1 : Fin 2), eq_ix2 x⟩
    have h0' : row.val = 16 * b.val + h.val + 2 * s.val := h0
    have h1' : l.val = 0 + 1 * k.val := h1
    rw [show (⟨row.val / 16, by omega⟩ : Fin 4) = b from Fin.ext (by simp only []; omega), show (⟨row.val % 2, by omega⟩ : Fin 2) = h from Fin.ext (by simp only []; omega),
      show (⟨row.val % 16 / 2, by omega⟩ : Fin 8) = s from Fin.ext (by simp only []; omega), show k = l from Fin.ext (by omega)]
  refine View.canon_eq_of_allAt _ _ _ ?_ ?_
  · have hr : row.val = 16 * (row.val / 16) + row.val % 2 + 2 * (row.val % 16 / 2) := by omega
    rcases (by omega : row.val / 16 = 0 ∨ row.val / 16 = 1 ∨ row.val / 16 = 2 ∨ row.val / 16 = 3) with hb | hb | hb | hb <;>
      rcases (by omega : row.val % 2 = 0 ∨ row.val % 2 = 1) with hh | hh <;> rw [hb, hh] at hr
    · exact ⟨_, .tail _ (.tail _ (.tail _ (.tail _ (.tail _ (.tail _ (.tail _ (.head _))))))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.tail _ (.tail _ (.tail _ (.head _)))))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.tail _ (.tail _ (.head _))))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.tail _ (.head _)))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.head _))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.head _)), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.head _), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .head _, hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
  · refine View.allAt_cons _ _ _ (fun x hx => e 3 1 x (congrArg (fun z : S64x128.Idx => (z 0).val) hx).symm (congrArg (fun z : S64x128.Idx => (z 1).val) hx).symm) ?_
    refine View.allAt_cons _ _ _ (fun x hx => e 3 0 x (congrArg (fun z : S64x128.Idx => (z 0).val) hx).symm (congrArg (fun z : S64x128.Idx => (z 1).val) hx).symm) ?_
    refine View.allAt_cons _ _ _ (fun x hx => e 2 1 x (congrArg (fun z : S64x128.Idx => (z 0).val) hx).symm (congrArg (fun z : S64x128.Idx => (z 1).val) hx).symm) ?_
    refine View.allAt_cons _ _ _ (fun x hx => e 2 0 x (congrArg (fun z : S64x128.Idx => (z 0).val) hx).symm (congrArg (fun z : S64x128.Idx => (z 1).val) hx).symm) ?_
    refine View.allAt_cons _ _ _ (fun x hx => e 1 1 x (congrArg (fun z : S64x128.Idx => (z 0).val) hx).symm (congrArg (fun z : S64x128.Idx => (z 1).val) hx).symm) ?_
    refine View.allAt_cons _ _ _ (fun x hx => e 1 0 x (congrArg (fun z : S64x128.Idx => (z 0).val) hx).symm (congrArg (fun z : S64x128.Idx => (z 1).val) hx).symm) ?_
    refine View.allAt_cons _ _ _ (fun x hx => e 0 1 x (congrArg (fun z : S64x128.Idx => (z 0).val) hx).symm (congrArg (fun z : S64x128.Idx => (z 1).val) hx).symm) ?_
    refine View.allAt_cons _ _ _ (fun x hx => e 0 0 x (congrArg (fun z : S64x128.Idx => (z 0).val) hx).symm (congrArg (fun z : S64x128.Idx => (z 1).val) hx).symm) ?_
    exact View.allAt_nil _ _

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec Ideal S16 .f32) (x1 : Vec Ideal S8x128 .f32) (x2 : Vec Ideal S512x128 .bf16) (xt0 : TbBuf0 (F := Ideal) c tbM0_0)

/-- The packed codes of the halves of the four blocks. -/
def codeP (b : Fin 4) (h : Fin 2) : IVec S8x128 32 :=
  match b, h with
  | 0, 0 => k0_pay248 (kernelRun0_A.sl.r_145 c i arg3 harg3 arg4 harg4 arg5 harg5 arg10 x0 x1 x2 xt0)
  | 0, 1 => k0_pay249 (kernelRun0_A.sl.r_203 c i arg3 harg3 arg4 harg4 arg5 harg5 arg10 x0 x1 x2 xt0) (kernelRun0_A.sl.r_204 c i arg3 harg3 arg4 harg4 arg5 harg5 arg10 x0 x1 x2 xt0) (kernelRun0_A.sl.r_205 c i arg3 harg3 arg4 harg4 arg5 harg5 arg10 x0 x1 x2 xt0) 983055#32
  | 1, 0 => k0_pay495 (kernelRun0_A.sl.r_331 c i arg3 harg3 arg4 harg4 arg5 harg5 arg10 x0 x1 x2 xt0)
  | 1, 1 => k0_pay496 (kernelRun0_A.sl.r_393 c i arg3 harg3 arg4 harg4 arg5 harg5 arg10 x0 x1 x2 xt0)
  | 2, 0 => k0_pay754 (kernelRun0_A.sl.r_517 c i arg3 harg3 arg4 harg4 arg5 harg5 arg10 x0 x1 x2 xt0)
  | 2, 1 => k0_pay755 (kernelRun0_A.sl.r_535 c i arg3 harg3 arg4 harg4 arg5 harg5 arg10 x0 x1 x2 xt0) (kernelRun0_A.sl.r_553 c i arg3 harg3 arg4 harg4 arg5 harg5 arg10 x0 x1 x2 xt0) (kernelRun0_A.sl.r_569 c i arg3 harg3 arg4 harg4 arg5 harg5 arg10 x0 x1 x2 xt0) (kernelRun0_A.sl.r_581 c i arg3 harg3 arg4 harg4 arg5 harg5 arg10 x0 x1 x2 xt0) (kernelRun0_A.sl.r_582 c i arg3 harg3 arg4 harg4 arg5 harg5 arg10 x0 x1 x2 xt0) (kernelRun0_A.sl.r_583 c i arg3 harg3 arg4 harg4 arg5 harg5 arg10 x0 x1 x2 xt0) k0_pay753
  | 3, 0 => k0_pay990 (kernelRun0_A.sl.r_703 c i arg3 harg3 arg4 harg4 arg5 harg5 arg10 x0 x1 x2 xt0)
  | 3, 1 => k0_pay991 (kernelRun0_A.sl.r_718 c i arg3 harg3 arg4 harg4 arg5 harg5 arg10 x0 x1 x2 xt0) (kernelRun0_A.sl.r_733 c i arg3 harg3 arg4 harg4 arg5 harg5 arg10 x0 x1 x2 xt0) (kernelRun0_A.sl.r_744 c i arg3 harg3 arg4 harg4 arg5 harg5 arg10 x0 x1 x2 xt0) (kernelRun0_A.sl.r_752 c i arg3 harg3 arg4 harg4 arg5 harg5 arg10 x0 x1 x2 xt0) (kernelRun0_A.sl.r_755 c i arg3 harg3 arg4 harg4 arg5 harg5 arg10 x0 x1 x2 xt0) (kernelRun0_A.sl.r_756 c i arg3 harg3 arg4 harg4 arg5 harg5 arg10 x0 x1 x2 xt0) (0#32) k0_pay989

theorem codeP_eq (b : Fin 4) (h : Fin 2) : codeP c i arg3 harg3 arg4 harg4 arg5 harg5 arg10 x0 x1 x2 xt0 b h =
    half (rotB c i arg3 harg3 arg5 harg5 arg10 x0 x2 xt0 b.val b.isLt) (kernelRun0_A.sl.r_1 c arg4 harg4 x1) h :=
  match b, h with
  | 0, 0 => code_0_0 c i arg3 harg3 arg4 harg4 arg5 harg5 arg10 x0 x1 x2 xt0
  | 0, 1 => code_0_1 c i arg3 harg3 arg4 harg4 arg5 harg5 arg10 x0 x1 x2 xt0
  | 1, 0 => code_1_0 c i arg3 harg3 arg4 harg4 arg5 harg5 arg10 x0 x1 x2 xt0
  | 1, 1 => code_1_1 c i arg3 harg3 arg4 harg4 arg5 harg5 arg10 x0 x1 x2 xt0
  | 2, 0 => code_2_0 c i arg3 harg3 arg4 harg4 arg5 harg5 arg10 x0 x1 x2 xt0
  | 2, 1 => code_2_1 c i arg3 harg3 arg4 harg4 arg5 harg5 arg10 x0 x1 x2 xt0
  | 3, 0 => code_3_0 c i arg3 harg3 arg4 harg4 arg5 harg5 arg10 x0 x1 x2 xt0
  | 3, 1 => code_3_1 c i arg3 harg3 arg4 harg4 arg5 harg5 arg10 x0 x1 x2 xt0

/-- The code of one token of the block. -/
def tokCode (ρ : Fin 32) (l : Fin 128) (j : Fin 16) : BitVec 32 :=
  Rht.kcode (Rht.kquant (Rht.kclip (group x0 x2 (kernelRun0_A.sl.v30 c i xt0) ρ l j)
    (Rht.recip (Rht.scale (Rht.gmax (group x0 x2 (kernelRun0_A.sl.v30 c i xt0) ρ l)) ((show FVec Ideal S8x128 .f32 from x1) (ix2 ⟨ρ.val % 8, by omega⟩ l)) *
      (show FVec Ideal S8x128 .f32 from x1) (ix2 ⟨ρ.val % 8, by omega⟩ l)))))

theorem codeP_at (b : Fin 4) (h : Fin 2) (s : Fin 8) (l : Fin 128) : codeP c i arg3 harg3 arg4 harg4 arg5 harg5 arg10 x0 x1 x2 xt0 b h (ix2 s l) =
    Rht.word fun k => tokCode c i x0 x1 x2 xt0 ⟨8 * b.val + s.val, by omega⟩ l (place h k) := by
  rw [codeP_eq, half_at]
  refine congrArg Rht.word (funext fun k => congrArg Rht.kcode ?_)
  rw [q_at, scaleB_at, load_scale, rotB_at]
  have hs : (⟨(8 * b.val + s.val) % 8, by omega⟩ : Fin 8) = s := Fin.ext (by simp only []; omega)
  simp only [hs]

theorem bytes_at (x : Vec Ideal S64x128 .i32) (ρ : Fin 256) (l : Fin 128) (k : Fin 8) :
    (k0_pay993 (F := Ideal) x (ix2 ρ l)).getLsbD k.val = ((show IVec S64x128 32 from x) (ix2 ⟨ρ.val / 4, by omega⟩ l)).getLsbD (8 * (ρ.val % 4) + k.val) := by
  unfold k0_pay993
  refine (bitcast_getLsbD (show IVec S64x128 32 from x) bitcasts_S64x128_w32_S256x128_w8 (ix2 ρ l) k.val k.isLt (by decide)).trans ?_
  have hrow : S256x128.row (ix2 ρ l) = ρ.val := rfl
  rw [show (S256x128.row (ix2 ρ l) * 8 + k.val) % 32 = 8 * (ρ.val % 4) + k.val by rw [hrow]; omega]
  refine congrArg (fun z => ((show IVec S64x128 32 from x) z).getLsbD _) (funext fun a => Fin.ext ?_)
  match a with
  | ⟨0, _⟩ => exact (bitcasts_S64x128_w32_S256x128_w8.srcIdx_row _ _ _ ⟨0, Nat.zero_lt_two⟩ rfl).trans (by rw [hrow]; show _ = ρ.val / 4; omega)
  | ⟨1, _⟩ => exact bitcasts_S64x128_w32_S256x128_w8.srcIdx_other _ _ _ ⟨1, Nat.one_lt_two⟩ (by show ¬ 1 + 2 = 2; omega)

variable (arg6 : Memref sig .tc .vmem S128x512 .bf16) (harg6 : arg6.IsWhole) (arg7 : Memref sig .tc .vmem S256x128 .i8) (harg7 : arg7.IsWhole) (arg8 : Memref sig .tc .vmem S32x128 .fp8e4m3) (harg8 : arg8.IsWhole) (arg9 : Memref sig .tc .vmem S32x128 .f32) (harg9 : arg9.IsWhole) (harg10 : arg10.IsWhole) (arg11 : Memref sig .tc .vmem S64x128 .i32) (harg11 : arg11.IsWhole)

/-- The packed codes as the step's last lines load them. -/
theorem load_at (row : Fin 64) (l : Fin 128) : (show IVec S64x128 32 from kernelRun0_A.sl.v6248 c i arg3 harg3 arg4 harg4 arg5 harg5 arg10 arg11 x0 x1 x2 xt0) (ix2 row l) =
    Rht.word fun k => tokCode c i x0 x1 x2 xt0 ⟨row.val / 2, by omega⟩ l (place ⟨row.val % 2, by omega⟩ k) := by
  unfold kernelRun0_A.sl.v6248
  rw [View.readCov_eq_canon']
  have hy : (Rect.unit (s := S64x128) ![0, 0] S64x128.size inb_S64x128_S64x128_0_0).toLoadRect.idx (ix2 row l) = (ix2 row l : S64x128.Idx) := by
    refine funext fun a => Fin.ext ?_
    match a with
    | ⟨0, _⟩ => exact (by simp : 0 + 1 * row.val = row.val)
    | ⟨1, _⟩ => exact (by simp : 0 + 1 * l.val = l.val)
  refine (congrArg (View.canon _) hy).trans ?_
  refine Eq.trans ?_ ((strided_at (codeP c i arg3 harg3 arg4 harg4 arg5 harg5 arg10 x0 x1 x2 xt0) row l).trans ?_)
  · rfl
  rw [codeP_at]
  have hg : (⟨8 * (row.val / 16) + row.val % 16 / 2, by omega⟩ : Fin 32) = ⟨row.val / 2, by omega⟩ := Fin.ext (by simp only []; omega)
  simp only [hg]

/-- The packed codes that a step leaves, when each code is one of four bits. -/
theorem out4_at (ρ : Fin 256) (l : Fin 128) (hb : ∀ j, ∃ a : BitVec 4, tokCode c i x0 x1 x2 xt0 ⟨ρ.val / 8, by omega⟩ l j = a.setWidth 32) :
    (show IVec S256x128 8 from out0_A_4 c i arg3 harg3 arg4 harg4 arg5 harg5 arg6 harg6 arg7 harg7 arg8 harg8 arg9 harg9 arg10 harg10 arg11 harg11 x0 x1 x2 xt0) (ix2 ρ l) =
      Rht.byte (tokCode c i x0 x1 x2 xt0 ⟨ρ.val / 8, by omega⟩ l ⟨ρ.val % 8 * 2, by omega⟩) (tokCode c i x0 x1 x2 xt0 ⟨ρ.val / 8, by omega⟩ l ⟨ρ.val % 8 * 2 + 1, by omega⟩) := by
  have h : (show IVec S256x128 8 from out0_A_4 c i arg3 harg3 arg4 harg4 arg5 harg5 arg6 harg6 arg7 harg7 arg8 harg8 arg9 harg9 arg10 harg10 arg11 harg11 x0 x1 x2 xt0) (ix2 ρ l) =
      k0_pay993 (kernelRun0_A.sl.v6248 c i arg3 harg3 arg4 harg4 arg5 harg5 arg10 arg11 x0 x1 x2 xt0) (ix2 ρ l) :=
    View.read_writes_cons_unit_of_mem VO0_4 _ _ _ _ (ix2 ρ l) (ix2 ρ l) rfl (fun a => by match a with | ⟨0, _⟩ => exact (Nat.zero_add _).symm | ⟨1, _⟩ => exact (Nat.zero_add _).symm)
  have hg : (⟨ρ.val / 4 / 2, by omega⟩ : Fin 32) = ⟨ρ.val / 8, by omega⟩ := Fin.ext (by simp only []; omega)
  have e := Rht.byte_word (fun k => tokCode c i x0 x1 x2 xt0 ⟨ρ.val / 8, by omega⟩ l (place ⟨ρ.val / 4 % 2, by omega⟩ k)) (fun k => hb _) ⟨ρ.val % 4, by omega⟩
    (k0_pay993 (F := Ideal) (kernelRun0_A.sl.v6248 c i arg3 harg3 arg4 harg4 arg5 harg5 arg10 arg11 x0 x1 x2 xt0) (ix2 ρ l)) (fun k => by
      refine (bytes_at _ ρ l k).trans (congrArg (fun z : BitVec 32 => z.getLsbD _) ((load_at c i arg3 harg3 arg4 harg4 arg5 harg5 arg10 x0 x1 x2 xt0 arg11 ⟨ρ.val / 4, by omega⟩ l).trans ?_))
      simp only [hg])
  refine h.trans (e.trans (congrArg₂ (fun a b => Rht.byte (tokCode c i x0 x1 x2 xt0 ⟨ρ.val / 8, by omega⟩ l a) (tokCode c i x0 x1 x2 xt0 ⟨ρ.val / 8, by omega⟩ l b)) (Fin.ext ?_) (Fin.ext ?_)))
  · show 8 * (ρ.val / 4 % 2) + 2 * (ρ.val % 4) = ρ.val % 8 * 2
    omega
  · show 8 * (ρ.val / 4 % 2) + (2 * (ρ.val % 4) + 1) = ρ.val % 8 * 2 + 1
    omega

end Cert.QuantXIdeal.Words

end
-- ==== Proof.QuantXValue.lean ====
/- What the quantising kernel's grid leaves in its result arrays. -/
module

public import proofs.«01_k».proof.Defs
public import proofs.«01_k».proof.Proof.QuantXBlock
public import proofs.«01_k».proof.Proof.QuantXCodes
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.QuantXIdeal.Value

open Cert.QuantXIdeal Cert.QuantXIdeal.Gen

variable (m : (ℓ : Loc nD τ sig) → Buf (Elt Ideal) ℓ)

theorem ok : Ok m := by
  trivial

/-- The tokens, the signs, the lengths and the array's scale, as the kernel is given them. -/
abbrev TOK (c : Dev nD) (b : Fin 4) (s : Fin 2048) (k : Fin 3584) : EReal := (show FVec Ideal S4x2048x3584 .bf16 from m ((c : Thread nD τ).loc main_arg0)) (ix3 b s k)
abbrev SGN (c : Dev nD) (i : Fin 16) : EReal := (show FVec Ideal S16 .f32 from m ((c : Thread nD τ).loc main_arg1)) (ix1 i)
abbrev LEN (c : Dev nD) (b : Fin 4) : BitVec 32 := (show IVec S4 32 from m ((c : Thread nD τ).loc main_arg2)) (ix1 b)
abbrev SCL (c : Dev nD) (a : Fin 8) (b : Fin 128) : EReal := (show FVec Ideal S8x128 .f32 from m ((c : Thread nD τ).loc main_arg3)) (ix2 a b)

/-- The tokens and the signs are finite, no length is negative, and the array's scale is one number. -/
structure Good : Prop where
  tok : ∀ c b s k, ∃ x : ℝ, TOK m c b s k = (x : EReal)
  sgn : ∀ c i, ∃ x : ℝ, SGN m c i = (x : EReal)
  len : ∀ c b, 0 ≤ (LEN m c b).toInt
  scl : ∀ c a b, SCL m c a b = SCL m c 0 0

theorem sval (c : Dev nD) (i : Fin 16) : V m c main_v25 (ix1 i) = SGN m c i * Ideal.ofBits FTy.f32 1048576000#32 := by
  simp only [V, hostOps0, hostOps0_1, hostOps0_2, hostOps0_3, hostOps0_4, List.flatten_cons, List.flatten_nil, List.append_nil, List.cons_append, List.nil_append]
  after_reads_at

theorem xval (c : Dev nD) (a : Fin 8192) (b : Fin 3584) : V m c main_v26 (ix2 a b) = TOK m c ⟨a.val / 2048, by omega⟩ ⟨a.val % 2048, by omega⟩ b := by
  simp only [V, hostOps0, hostOps0_1, hostOps0_2, hostOps0_3, hostOps0_4, List.flatten_cons, List.flatten_nil, List.append_nil, List.cons_append, List.nil_append]
  after_reads_at

theorem offs : ∀ t : Fin grid0.N, kernelRun0_A.sl.v29 (grid0.coords t) = BitVec.ofNat 32 (t.val % 16 % 4 * 512) := by decide +kernel
theorem word_at : ∀ t : Fin grid0.N, k0_off1 (grid0.coords t) = ![t.val % 16 / 4] := by decide +kernel

theorem lt_N (hO : Ok m) (t : Fin (cfgM m hO).N) : t.val < 448 := lt_of_lt_of_eq t.isLt N_0

theorem word_gen (t : Fin grid0.N) (X : tbM0_0.view.ty.Contents (Elt Ideal)) :
    tbM0_0.view.readAt (Elt Ideal) (Rect.unit (s := S4) (k0_off1 (grid0.coords t)) S1.size (k0_off1_inb (grid0.coords t))).toLoadRect X (Shape.Idx.first (numel1_S1.symm ▸ Nat.one_pos)) =
      (show IVec S4 32 from X) (ix1 ⟨t.val % 16 / 4, by omega⟩) := by
  rw [View.readAt_apply]
  refine congrArg (show IVec S4 32 from X) (funext fun a => Fin.ext ?_)
  have ha : a = (0 : Fin 1) := Subsingleton.elim (α := Fin 1) _ _
  subst ha
  refine Eq.trans ?_ (congrFun (word_at t) 0)
  simp

/-- How many of the step's tokens count. -/
theorem count (c : Dev nD) (t : Fin grid0.N) : kernelRun0_A.sl.v30 (F := Ideal) c (grid0.coords t) (tbl m 0) =
    LEN m c ⟨t.val % 16 / 4, by omega⟩ - BitVec.ofNat 32 (t.val % 16 % 4 * 512) := by
  obtain rfl : c = 0 := Subsingleton.elim _ _
  unfold kernelRun0_A.sl.v30
  rw [offs]
  refine congrArg (· - _) ((word_gen t (tbl m 0)).trans ?_)
  show (show IVec S4 32 from V m 0 main_arg2) _ = _
  simp only [V, hostOps0, hostOps0_1, hostOps0_2, hostOps0_3, hostOps0_4, List.flatten_cons, List.flatten_nil, List.append_nil, List.cons_append, List.nil_append]
  after_reads_at

theorem idx0 : ∀ t : Fin grid0.N, cc0_transform_0 (grid0.coords t) = ![0] := by decide +kernel
theorem idx1 : ∀ t : Fin grid0.N, cc0_transform_1 (grid0.coords t) = ![0, 0] := by decide +kernel
theorem idx2 : ∀ t : Fin grid0.N, cc0_transform_2 (grid0.coords t) = ![t.val % 16, t.val / 16] := by decide +kernel
theorem idx3 : ∀ t : Fin grid0.N, cc0_transform_3 (grid0.coords t) = ![t.val / 16, t.val % 16] := by decide +kernel
theorem idx4 : ∀ t : Fin grid0.N, cc0_transform_4 (grid0.coords t) = ![t.val % 16, t.val / 16] := by decide +kernel
theorem idx5 : ∀ t : Fin grid0.N, cc0_transform_5 (grid0.coords t) = ![t.val % 16, t.val / 16] := by decide +kernel
theorem idx6 : ∀ t : Fin grid0.N, cc0_transform_6 (grid0.coords t) = ![t.val % 16, t.val / 16] := by decide +kernel

theorem row_lt (n : Nat) (k : Fin 512) : n % 16 * 512 + k.val < 8192 := by omega
theorem col_lt {n : Nat} (h : n < 448) (k : Fin 128) : n / 16 * 128 + k.val < 3584 := by omega
theorem grp_lt (n : Nat) (k : Fin 32) : n % 16 * 32 + k.val < 512 := by omega

theorem widx0 (hO : Ok m) (t : Fin (cfgM m hO).N) : ((pcfg0 (F := Ideal)).win (adm m hO) 0).index t = ![0] := idx0 t
theorem widx1 (hO : Ok m) (t : Fin (cfgM m hO).N) : ((pcfg0 (F := Ideal)).win (adm m hO) 1).index t = ![0, 0] := idx1 t
theorem widx2 (hO : Ok m) (t : Fin (cfgM m hO).N) : ((pcfg0 (F := Ideal)).win (adm m hO) 2).index t = ![t.val % 16, t.val / 16] := idx2 t
theorem widx3 (hO : Ok m) (t : Fin (cfgM m hO).N) : ((pcfg0 (F := Ideal)).win (adm m hO) 3).index t = ![t.val / 16, t.val % 16] := idx3 t
theorem widx4 (hO : Ok m) (t : Fin (cfgM m hO).N) : ((pcfg0 (F := Ideal)).win (adm m hO) 4).index t = ![t.val % 16, t.val / 16] := idx4 t
theorem widx5 (hO : Ok m) (t : Fin (cfgM m hO).N) : ((pcfg0 (F := Ideal)).win (adm m hO) 5).index t = ![t.val % 16, t.val / 16] := idx5 t
theorem widx6 (hO : Ok m) (t : Fin (cfgM m hO).N) : ((pcfg0 (F := Ideal)).win (adm m hO) 6).index t = ![t.val % 16, t.val / 16] := idx6 t

theorem sblk (hO : Ok m) (c : Dev nD) (t : Fin (cfgM m hO).N) (i : Fin 16) :
    (show FVec Ideal S16 .f32 from iblk m hO c 0 t) (ix1 i) = V m c main_v25 (ix1 i) := by
  blk_ext [iblk]
  have e : ((pcfg0 (F := Ideal)).win (adm m hO) 0).index t 0 = 0 := congrFun (widx0 m hO t) 0
  exact (congrArg (· * 16 + i.val) e).trans (by simp)
theorem gblk (hO : Ok m) (c : Dev nD) (t : Fin (cfgM m hO).N) (k : Fin 8) (l : Fin 128) :
    (show FVec Ideal S8x128 .f32 from iblk m hO c 1 t) (ix2 k l) = V m c main_arg3 (ix2 k l) := by
  blk_ext [iblk]
  · have e : ((pcfg0 (F := Ideal)).win (adm m hO) 1).index t 0 = 0 := congrFun (widx1 m hO t) 0
    exact (congrArg (· * 8 + k.val) e).trans (by simp)
  · have e : ((pcfg0 (F := Ideal)).win (adm m hO) 1).index t 1 = 0 := congrFun (widx1 m hO t) 1
    exact (congrArg (· * 128 + l.val) e).trans (by simp)
theorem xblk (hO : Ok m) (c : Dev nD) (t : Fin (cfgM m hO).N) (k : Fin 512) (l : Fin 128) :
    (show FVec Ideal S512x128 .bf16 from iblk m hO c 2 t) (ix2 k l) = V m c main_v26 (ix2 ⟨t.val % 16 * 512 + k.val, row_lt t.val k⟩ ⟨t.val / 16 * 128 + l.val, col_lt (lt_N m hO t) l⟩) := by
  blk_ext [iblk]
  · have e : ((pcfg0 (F := Ideal)).win (adm m hO) 2).index t 0 = t.val % 16 := congrFun (widx2 m hO t) 0
    exact congrArg (· * 512 + k.val) e
  · have e : ((pcfg0 (F := Ideal)).win (adm m hO) 2).index t 1 = t.val / 16 := congrFun (widx2 m hO t) 1
    exact congrArg (· * 128 + l.val) e

/-- A group of sixteen tokens of one channel, rotated. -/
abbrev ROT (c : Dev nD) (g : Fin 512) (k : Fin 3584) : Fin 16 → EReal := Rht.rot (fun b s => TOK m c b s k) (SGN m c) (LEN m c) g

theorem grp_div (n : Nat) (ρ : Fin 32) : n % 16 / 4 = (n % 16 * 32 + ρ.val) / 128 := by omega
theorem grp_mod (n : Nat) (ρ : Fin 32) (i : Fin 16) : n % 16 % 4 * 512 + (16 * ρ.val + i.val) = (n % 16 * 32 + ρ.val) % 128 * 16 + i.val := by omega
theorem tok_div (n : Nat) (ρ : Fin 32) (i : Fin 16) : (n % 16 * 512 + (16 * ρ.val + i.val)) / 2048 = (n % 16 * 32 + ρ.val) / 128 := by omega
theorem tok_mod (n : Nat) (ρ : Fin 32) (i : Fin 16) : (n % 16 * 512 + (16 * ρ.val + i.val)) % 2048 = (n % 16 * 32 + ρ.val) % 128 * 16 + i.val := by omega
theorem off_lt (n : Nat) : n % 16 % 4 * 512 < 2048 := by omega
theorem in_lt (ρ : Fin 32) (i : Fin 16) : 16 * ρ.val + i.val < 2048 := by omega

/-- The groups that a step rotates are the array's. -/
theorem group_eq (hG : Good m) (hO : Ok m) (c : Dev nD) (t : Fin (cfgM m hO).N) (ρ : Fin 32) (l : Fin 128) :
    Words.group (iblk m hO c 0 t) (iblk m hO c 2 t) (kernelRun0_A.sl.v30 (F := Ideal) c (grid0.coords t) (tbl m 0)) ρ l =
      ROT m c ⟨t.val % 16 * 32 + ρ.val, grp_lt t.val ρ⟩ ⟨t.val / 16 * 128 + l.val, col_lt (lt_N m hO t) l⟩ := by
  choose X hX using hG.tok
  choose S hS using hG.sgn
  funext r
  have h := Rht.had_rot (fun i => Rht.valid (LEN m c ⟨(t.val % 16 * 32 + ρ.val) / 128, by omega⟩) ((t.val % 16 * 32 + ρ.val) % 128 * 16 + i.val))
    (fun i => X c ⟨(t.val % 16 * 32 + ρ.val) / 128, by omega⟩ ⟨(t.val % 16 * 32 + ρ.val) % 128 * 16 + i.val, by omega⟩ ⟨t.val / 16 * 128 + l.val, col_lt (lt_N m hO t) l⟩)
    (S c) r
  simp only [← hX, ← hS] at h
  refine Eq.trans ?_ h
  unfold Words.group
  refine congrFun (congrArg Rht.had (funext fun i => ?_)) r
  unfold Words.tokenAt
  refine congrArg₂ (fun a b : EReal => a * b) (congr (congr (congrArg Scalar.select ?_) ?_) rfl) ((sblk m hO c t i).trans (sval m c i))
  · refine (congrArg (IntOp.cmpi CmpIPredicate.slt _) (count m c t)).trans ((Rht.valid_sub _ (hG.len _ _) _ _ (off_lt _) (in_lt ρ i)).trans ?_)
    exact congr (congrArg Rht.valid (congrArg (LEN m c) (Fin.ext (grp_div t.val ρ)))) (grp_mod t.val ρ i)
  · refine (xblk m hO c t _ l).trans ((xval m c _ _).trans ?_)
    exact congr (congr (congrArg (TOK m c) (Fin.ext (tok_div t.val ρ i))) (Fin.ext (tok_mod t.val ρ i))) rfl

/-- The greatest absolute value of a group, and its scale. -/
abbrev AMAX (c : Dev nD) (g : Fin 512) (k : Fin 3584) : EReal := Rht.gmax (ROT m c g k)
abbrev SB (c : Dev nD) (g : Fin 512) (k : Fin 3584) : EReal := Rht.scale (AMAX m c g k) (SCL m c 0 0)

theorem after6 (hG : Good m) (hO : Ok m) (c : Dev nD) (t : Fin (cfgM m hO).N) (ρ : Fin 32) (l : Fin 128) :
    (show FVec Ideal S32x128 .f32 from (dats m hO 0 c).after 6 t) (ix2 ρ l) =
      AMAX m c ⟨t.val % 16 * 32 + ρ.val, grp_lt t.val ρ⟩ ⟨t.val / 16 * 128 + l.val, col_lt (lt_N m hO t) l⟩ := by
  rw [after0_6]
  refine Eq.trans ?_ (congrArg Rht.gmax (group_eq m hG hO c t ρ l))
  exact Words.out6_at c (grid0.coords t) (ms0_0 m hO t) (hs0_0 m hO t) (ms0_1 m hO t) (hs0_1 m hO t) (ms0_2 m hO t) (hs0_2 m hO t) scM0_0 (iblk m hO c 0 t) (iblk m hO c 1 t) (iblk m hO c 2 t) (tbl m 0) (ms0_3 m hO t) (hs0_3 m hO t) (ms0_4 m hO t) (hs0_4 m hO t) (ms0_5 m hO t) (hs0_5 m hO t) (ms0_6 m hO t) (hs0_6 m hO t) (Memref.isWhole_whole _) scM0_1 (Memref.isWhole_whole _) ρ l

theorem after5 (hG : Good m) (hO : Ok m) (c : Dev nD) (t : Fin (cfgM m hO).N) (ρ : Fin 32) (l : Fin 128) :
    (show FVec Ideal S32x128 .fp8e4m3 from (dats m hO 0 c).after 5 t) (ix2 ρ l) =
      SB m c ⟨t.val % 16 * 32 + ρ.val, grp_lt t.val ρ⟩ ⟨t.val / 16 * 128 + l.val, col_lt (lt_N m hO t) l⟩ := by
  rw [after0_5]
  refine Eq.trans ?_ (congrArg₂ Rht.scale (congrArg Rht.gmax (group_eq m hG hO c t ρ l)) ((gblk m hO c t ⟨ρ.val % 8, by omega⟩ l).trans ?_))
  · exact Words.out5_at c (grid0.coords t) (ms0_0 m hO t) (hs0_0 m hO t) (ms0_1 m hO t) (hs0_1 m hO t) (ms0_2 m hO t) (hs0_2 m hO t) scM0_0 (iblk m hO c 0 t) (iblk m hO c 1 t) (iblk m hO c 2 t) (tbl m 0) (ms0_3 m hO t) (hs0_3 m hO t) (ms0_4 m hO t) (hs0_4 m hO t) (ms0_5 m hO t) (hs0_5 m hO t) (ms0_6 m hO t) (hs0_6 m hO t) (Memref.isWhole_whole _) scM0_1 (Memref.isWhole_whole _) ρ l
  · rw [V_main_arg3]; exact hG.scl c _ _

/-- The rotated tokens are finite. -/
theorem rot_real (hG : Good m) (c : Dev nD) (g : Fin 512) (k : Fin 3584) (j : Fin 16) : ∃ z : ℝ, ROT m c g k j = (z : EReal) := by
  choose X hX using hG.tok
  choose S hS using hG.sgn
  obtain ⟨z, hz⟩ := Rht.rot_real (fun i => Rht.valid (LEN m c ⟨g.val / 128, by omega⟩) (g.val % 128 * 16 + i.val))
    (fun i => X c ⟨g.val / 128, by omega⟩ ⟨g.val % 128 * 16 + i.val, by omega⟩ k) (S c) j
  refine ⟨z, Eq.trans ?_ hz⟩
  simp only [← hX, ← hS]
  rfl

/-- A token's code, and the two codes of a byte. -/
abbrev CODE (c : Dev nD) (g : Fin 512) (k : Fin 3584) (j : Fin 16) : BitVec 32 := Rht.rcode (Rht.rclip (ROT m c g k j) (SB m c g k * SCL m c 0 0))
abbrev BYTE (c : Dev nD) (p : Fin 4096) (k : Fin 3584) : BitVec 8 :=
  Rht.byte (CODE m c ⟨p.val / 8, by omega⟩ k ⟨p.val % 8 * 2, by omega⟩) (CODE m c ⟨p.val / 8, by omega⟩ k ⟨p.val % 8 * 2 + 1, by omega⟩)

theorem code_eq (hG : Good m) (hO : Ok m) (c : Dev nD) (t : Fin (cfgM m hO).N) (ρ : Fin 32) (l : Fin 128) (j : Fin 16) :
    Words.tokCode c (grid0.coords t) (iblk m hO c 0 t) (iblk m hO c 1 t) (iblk m hO c 2 t) (tbl m 0) ρ l j =
      CODE m c ⟨t.val % 16 * 32 + ρ.val, grp_lt t.val ρ⟩ ⟨t.val / 16 * 128 + l.val, col_lt (lt_N m hO t) l⟩ j ∧
    ∃ a : BitVec 4, Words.tokCode c (grid0.coords t) (iblk m hO c 0 t) (iblk m hO c 1 t) (iblk m hO c 2 t) (tbl m 0) ρ l j = a.setWidth 32 := by
  have hs : (show FVec Ideal S8x128 .f32 from iblk m hO c 1 t) (ix2 ⟨ρ.val % 8, by omega⟩ l) = SCL m c 0 0 :=
    (gblk m hO c t _ l).trans ((congrFun (V_main_arg3 m c) _).trans (hG.scl c _ _))
  have e : Words.tokCode c (grid0.coords t) (iblk m hO c 0 t) (iblk m hO c 1 t) (iblk m hO c 2 t) (tbl m 0) ρ l j =
      Rht.kcode (Rht.kquant (Rht.kclip (ROT m c ⟨t.val % 16 * 32 + ρ.val, grp_lt t.val ρ⟩ ⟨t.val / 16 * 128 + l.val, col_lt (lt_N m hO t) l⟩ j)
        (Rht.recip (SB m c ⟨t.val % 16 * 32 + ρ.val, grp_lt t.val ρ⟩ ⟨t.val / 16 * 128 + l.val, col_lt (lt_N m hO t) l⟩ * SCL m c 0 0)))) := by
    unfold Words.tokCode
    rw [group_eq m hG hO c t ρ l, hs]
  obtain ⟨z, hz⟩ := rot_real m hG c ⟨t.val % 16 * 32 + ρ.val, grp_lt t.val ρ⟩ ⟨t.val / 16 * 128 + l.val, col_lt (lt_N m hO t) l⟩ j
  obtain ⟨k, s, -, h1, h2⟩ := Rht.quant_eq z (SB m c ⟨t.val % 16 * 32 + ρ.val, grp_lt t.val ρ⟩ ⟨t.val / 16 * 128 + l.val, col_lt (lt_N m hO t) l⟩ * SCL m c 0 0)
  rw [← hz] at h1 h2
  obtain ⟨a, ha⟩ := Rht.nib_bits k s
  exact ⟨e.trans (h1.trans h2.symm), a, e.trans (h1.trans ha)⟩

theorem byte_div (n : Nat) (ρ : Fin 256) : n % 16 * 32 + ρ.val / 8 = (n % 16 * 256 + ρ.val) / 8 := by omega
theorem byte_mod (n : Nat) (ρ : Fin 256) : ρ.val % 8 * 2 = (n % 16 * 256 + ρ.val) % 8 * 2 := by omega
theorem byte_lt (n : Nat) (ρ : Fin 256) : n % 16 * 256 + ρ.val < 4096 := by omega
theorem byte_grp (ρ : Fin 256) : ρ.val / 8 < 32 := by omega
theorem byte_lo (ρ : Fin 256) : ρ.val % 8 * 2 < 16 := by omega
theorem byte_hi (ρ : Fin 256) : ρ.val % 8 * 2 + 1 < 16 := by omega

theorem after4 (hG : Good m) (hO : Ok m) (c : Dev nD) (t : Fin (cfgM m hO).N) (ρ : Fin 256) (l : Fin 128) :
    (show IVec S256x128 8 from (dats m hO 0 c).after 4 t) (ix2 ρ l) =
      BYTE m c ⟨t.val % 16 * 256 + ρ.val, byte_lt t.val ρ⟩ ⟨t.val / 16 * 128 + l.val, col_lt (lt_N m hO t) l⟩ := by
  rw [after0_4]
  have e : ∀ j : Fin 16, ∀ j' : Fin 16, j.val = j'.val → Words.tokCode c (grid0.coords t) (iblk m hO c 0 t) (iblk m hO c 1 t) (iblk m hO c 2 t) (tbl m 0) ⟨ρ.val / 8, byte_grp ρ⟩ l j =
      CODE m c ⟨(t.val % 16 * 256 + ρ.val) / 8, (Nat.div_lt_iff_lt_mul (by decide)).2 (byte_lt t.val ρ)⟩ ⟨t.val / 16 * 128 + l.val, col_lt (lt_N m hO t) l⟩ j' := fun j j' hj =>
    (code_eq m hG hO c t ⟨ρ.val / 8, byte_grp ρ⟩ l j).1.trans (congrArg₂ (fun g i => CODE m c g ⟨t.val / 16 * 128 + l.val, col_lt (lt_N m hO t) l⟩ i) (Fin.ext (byte_div t.val ρ)) (Fin.ext hj))
  have h := Words.out4_at c (grid0.coords t) (ms0_0 m hO t) (hs0_0 m hO t) (ms0_1 m hO t) (hs0_1 m hO t) (ms0_2 m hO t) (hs0_2 m hO t) scM0_0 (iblk m hO c 0 t) (iblk m hO c 1 t) (iblk m hO c 2 t) (tbl m 0) (ms0_3 m hO t) (hs0_3 m hO t) (ms0_4 m hO t) (hs0_4 m hO t) (ms0_5 m hO t) (hs0_5 m hO t) (ms0_6 m hO t) (hs0_6 m hO t) (Memref.isWhole_whole _) scM0_1 (Memref.isWhole_whole _) ρ l (fun j => (code_eq m hG hO c t ⟨ρ.val / 8, byte_grp ρ⟩ l j).2)
  refine Eq.trans ?_ (h.trans ?_)
  · rfl
  · exact congrArg₂ Rht.byte (e ⟨ρ.val % 8 * 2, byte_lo ρ⟩ _ (byte_mod t.val ρ)) (e ⟨ρ.val % 8 * 2 + 1, byte_hi ρ⟩ _ (congrArg (· + 1) (byte_mod t.val ρ)))

theorem step_lt {a b : Nat} (ha : a < 16) (hb : b < 28) : b * 16 + a < 448 := by omega
theorem step_mod {a b : Nat} (ha : a < 16) : (b * 16 + a) % 16 = a := by omega
theorem step_div {a b : Nat} (ha : a < 16) : (b * 16 + a) / 16 = b := by omega

theorem grids3 : (3584 + 128 - 1) / 128 = 28 ∧ (8192 + 512 - 1) / 512 = 16 := by decide +kernel
theorem covers3 (hO : Ok m) : ((cfgM m hO).win 3).Covers := by
  refine Pipeline.Window.covers_of_index_surj _ rfl ?_ fun β => ?_
  · intro a; match a with
    | ⟨0, _⟩ => exact (by decide : 0 < 128)
    | ⟨1, _⟩ => exact (by decide : 0 < 512)
  · have h0 : (β (0 : Fin 2)).val < 28 := lt_of_lt_of_eq (β (0 : Fin 2)).isLt grids3.1
    have h1 : (β (1 : Fin 2)).val < 16 := lt_of_lt_of_eq (β (1 : Fin 2)).isLt grids3.2
    refine ⟨⟨(β (0 : Fin 2)).val * 16 + (β (1 : Fin 2)).val, lt_of_lt_of_eq (step_lt h1 h0) N_0.symm⟩, fun a => (congrFun (widx3 m hO _) a).trans ?_⟩
    match a with
    | ⟨1, h⟩ => exact step_mod h1
    | ⟨0, h⟩ => exact step_div h1

theorem grids4 : (4096 + 256 - 1) / 256 = 16 ∧ (3584 + 128 - 1) / 128 = 28 := by decide +kernel
theorem covers4 (hO : Ok m) : ((cfgM m hO).win 4).Covers := by
  refine Pipeline.Window.covers_of_index_surj _ rfl ?_ fun β => ?_
  · intro a; match a with
    | ⟨0, _⟩ => exact (by decide : 0 < 256)
    | ⟨1, _⟩ => exact (by decide : 0 < 128)
  · have h0 : (β (0 : Fin 2)).val < 16 := lt_of_lt_of_eq (β (0 : Fin 2)).isLt grids4.1
    have h1 : (β (1 : Fin 2)).val < 28 := lt_of_lt_of_eq (β (1 : Fin 2)).isLt grids4.2
    refine ⟨⟨(β (1 : Fin 2)).val * 16 + (β (0 : Fin 2)).val, lt_of_lt_of_eq (step_lt h0 h1) N_0.symm⟩, fun a => (congrFun (widx4 m hO _) a).trans ?_⟩
    match a with
    | ⟨0, h⟩ => exact step_mod h0
    | ⟨1, h⟩ => exact step_div h0

theorem grids5 : (512 + 32 - 1) / 32 = 16 ∧ (3584 + 128 - 1) / 128 = 28 := by decide +kernel
theorem covers5 (hO : Ok m) : ((cfgM m hO).win 5).Covers := by
  refine Pipeline.Window.covers_of_index_surj _ rfl ?_ fun β => ?_
  · intro a; match a with
    | ⟨0, _⟩ => exact (by decide : 0 < 32)
    | ⟨1, _⟩ => exact (by decide : 0 < 128)
  · have h0 : (β (0 : Fin 2)).val < 16 := lt_of_lt_of_eq (β (0 : Fin 2)).isLt grids5.1
    have h1 : (β (1 : Fin 2)).val < 28 := lt_of_lt_of_eq (β (1 : Fin 2)).isLt grids5.2
    refine ⟨⟨(β (1 : Fin 2)).val * 16 + (β (0 : Fin 2)).val, lt_of_lt_of_eq (step_lt h0 h1) N_0.symm⟩, fun a => (congrFun (widx5 m hO _) a).trans ?_⟩
    match a with
    | ⟨0, h⟩ => exact step_mod h0
    | ⟨1, h⟩ => exact step_div h0

theorem grids6 : (512 + 32 - 1) / 32 = 16 ∧ (3584 + 128 - 1) / 128 = 28 := by decide +kernel
theorem covers6 (hO : Ok m) : ((cfgM m hO).win 6).Covers := by
  refine Pipeline.Window.covers_of_index_surj _ rfl ?_ fun β => ?_
  · intro a; match a with
    | ⟨0, _⟩ => exact (by decide : 0 < 32)
    | ⟨1, _⟩ => exact (by decide : 0 < 128)
  · have h0 : (β (0 : Fin 2)).val < 16 := lt_of_lt_of_eq (β (0 : Fin 2)).isLt grids6.1
    have h1 : (β (1 : Fin 2)).val < 28 := lt_of_lt_of_eq (β (1 : Fin 2)).isLt grids6.2
    refine ⟨⟨(β (1 : Fin 2)).val * 16 + (β (0 : Fin 2)).val, lt_of_lt_of_eq (step_lt h0 h1) N_0.symm⟩, fun a => (congrFun (widx6 m hO _) a).trans ?_⟩
    match a with
    | ⟨0, h⟩ => exact step_mod h0
    | ⟨1, h⟩ => exact step_div h0

theorem final6 (hG : Good m) (hO : Ok m) (c : Dev nD) : (dats m hO 0 c).arrAt 6 (cfgM m hO).N =
    ((fun j => AMAX m c (j 0) (j 1)) : FVec Ideal S512x3584 .f32) := by
  refine (dats m hO 0 c).arrAt_eq_of_covers 6 _ (covers6 m hO) fun t hf y => ?_
  obtain ⟨ρ, l, rfl⟩ : ∃ (ρ : Fin 32) (l : Fin 128), y = ix2 ρ l := ⟨y (0 : Fin 2), y (1 : Fin 2), eq_ix2 y⟩
  refine (after6 m hG hO c t ρ l).trans (congrArg₂ (AMAX m c) (Fin.ext ?_) (Fin.ext ?_))
  · have e : ((pcfg0 (F := Ideal)).win (adm m hO) 6).index t 0 = t.val % 16 := congrFun (widx6 m hO t) 0
    exact ((congrArg (· * 32 + ρ.val) e).symm).trans (by blk_simp; rfl)
  · have e : ((pcfg0 (F := Ideal)).win (adm m hO) 6).index t 1 = t.val / 16 := congrFun (widx6 m hO t) 1
    exact ((congrArg (· * 128 + l.val) e).symm).trans (by blk_simp; rfl)

theorem final5 (hG : Good m) (hO : Ok m) (c : Dev nD) : (dats m hO 0 c).arrAt 5 (cfgM m hO).N =
    ((fun j => SB m c (j 0) (j 1)) : FVec Ideal S512x3584 .fp8e4m3) := by
  refine (dats m hO 0 c).arrAt_eq_of_covers 5 _ (covers5 m hO) fun t hf y => ?_
  obtain ⟨ρ, l, rfl⟩ : ∃ (ρ : Fin 32) (l : Fin 128), y = ix2 ρ l := ⟨y (0 : Fin 2), y (1 : Fin 2), eq_ix2 y⟩
  refine (after5 m hG hO c t ρ l).trans (congrArg₂ (SB m c) (Fin.ext ?_) (Fin.ext ?_))
  · have e : ((pcfg0 (F := Ideal)).win (adm m hO) 5).index t 0 = t.val % 16 := congrFun (widx5 m hO t) 0
    exact ((congrArg (· * 32 + ρ.val) e).symm).trans (by blk_simp; rfl)
  · have e : ((pcfg0 (F := Ideal)).win (adm m hO) 5).index t 1 = t.val / 16 := congrFun (widx5 m hO t) 1
    exact ((congrArg (· * 128 + l.val) e).symm).trans (by blk_simp; rfl)

theorem final4 (hG : Good m) (hO : Ok m) (c : Dev nD) : (dats m hO 0 c).arrAt 4 (cfgM m hO).N =
    ((fun j => BYTE m c (j 0) (j 1)) : IVec S4096x3584 8) := by
  refine (dats m hO 0 c).arrAt_eq_of_covers 4 _ (covers4 m hO) fun t hf y => ?_
  obtain ⟨ρ, l, rfl⟩ : ∃ (ρ : Fin 256) (l : Fin 128), y = ix2 ρ l := ⟨y (0 : Fin 2), y (1 : Fin 2), eq_ix2 y⟩
  refine (after4 m hG hO c t ρ l).trans (congrArg₂ (BYTE m c) (Fin.ext ?_) (Fin.ext ?_))
  · have e : ((pcfg0 (F := Ideal)).win (adm m hO) 4).index t 0 = t.val % 16 := congrFun (widx4 m hO t) 0
    exact ((congrArg (· * 256 + ρ.val) e).symm).trans (by blk_simp; rfl)
  · have e : ((pcfg0 (F := Ideal)).win (adm m hO) 4).index t 1 = t.val / 16 := congrFun (widx4 m hO t) 1
    exact ((congrArg (· * 128 + l.val) e).symm).trans (by blk_simp; rfl)

/-- The kernel's run: its codes, its scales and its greatest absolute values, its arguments unchanged. -/
theorem run (hG : Good m) (g : Dev nD → PrngReg) :
    θ_run (defs (F := Ideal)) (onTc (τ := τ) (main (F := Ideal))) ⟨m, fun _ => 0, g⟩ fun r => ∀ c : Dev nD,
      r.2.mem ((c.tc : Thread nD τ).loc main_v27_1) = ((fun j => BYTE m c (j 0) (j 1)) : IVec S4096x3584 8)
      ∧ r.2.mem ((c.tc : Thread nD τ).loc main_v27_2) = ((fun j => SB m c (j 0) (j 1)) : FVec Ideal S512x3584 .fp8e4m3)
      ∧ r.2.mem ((c.tc : Thread nD τ).loc main_v27_3) = ((fun j => AMAX m c (j 0) (j 1)) : FVec Ideal S512x3584 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h := θ_run_and (Cert.QuantXIdeal.Gen.run_main m g (ok m)) (Cert.QuantXIdeal.Gen.unchanged m g (ok m))
  refine (θ_run _ _ _).mono (fun r hr c => ⟨?_, ?_, ?_, hr.2 c⟩) h
  · exact ((hr.1 c).1 4).trans (final4 m hG (ok m) c)
  · exact ((hr.1 c).1 5).trans (final5 m hG (ok m) c)
  · exact ((hr.1 c).1 6).trans (final6 m hG (ok m) c)

end Cert.QuantXIdeal.Value

end
-- ==== Proof.QuantXStages.lean ====
/- The reference of the quantising call over the extended reals. -/
module

public import proofs.«01_k».proof.Defs
public import proofs.«01_k».proof.Proof.Rotation
public import proofs.«01_k».proof.Proof.QuantScalar
public import proofs.«01_k».proof.Proof.QuantCore
public import proofs.«01_k».proof.Proof.Gen.QuantXReferenceIdeal
public import Idealize.ShloMosaic.Adequacy
public import Idealize.ShloMosaic.Init
public import Idealize.ShloMosaic.Lib.Claim
public import Idealize.ShloMosaic.Lib.Pointwise
public import Idealize.ShloMosaic.Lib.StableHlo.ReadAt

@[expose] public section

set_option maxRecDepth 16384

noncomputable section

open Idealize.ShloMosaic Idealize.SL.Sem

namespace Cert.QuantXReferenceIdeal.Value

open Cert.QuantXReferenceIdeal Cert.QuantXReferenceIdeal.Gen

/-- The scaled, signed Hadamard matrix. -/
def MAT (S : FVec Ideal S16 .f32) : FVec Ideal S16x16 .bf16 :=
  truncf .bf16 (mulf (mulf (id (select (cmpi .eq (andi (ctpop (andi
      (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))
      (broadcastInDim S16x16 ![] bcast_S_S16x16 (constantI S_ 32 1#32))) (broadcastInDim S16x16 ![] bcast_S_S16x16 (constantI S_ 32 1#32)))
      (broadcastInDim S16x16 ![] bcast_S_S16x16 (constant (F := Ideal) S_ .f32 0xBF800000#32))
      (broadcastInDim S16x16 ![] bcast_S_S16x16 (constant (F := Ideal) S_ .f32 0x3F800000#32))))
    (broadcastInDim S16x16 ![0, 1] bcast_S1x16_S16x16_0_1 (broadcastInDim S1x16 ![1] bcast_S16_S1x16_1 S)))
    (broadcastInDim S16x16 ![] bcast_S_S16x16 (constant (F := Ideal) S_ .f32 0x3E800000#32))) bitsLt_bf16_f32

/-- The tokens, zero past the lengths, in groups of sixteen. -/
def MSK (X : FVec Ideal S4x2048x3584 .bf16) (L : IVec S4 32) : FVec Ideal S512x16x3584 .bf16 :=
  shapeCast S512x16x3584 (select (broadcastInDim S4x2048x3584 ![0, 1, 2] bcast_S4x2048x1_S4x2048x3584_0_1_2
      (broadcastInDim S4x2048x1 ![0, 1] bcast_S4x2048_S4x2048x1_0_1
        (cmpi .slt (broadcastInDim S4x2048 ![0, 1] bcast_S1x2048_S4x2048_0_1 (broadcastInDim S1x2048 ![1] bcast_S2048_S1x2048_1 (iotaInDim S2048 32 0)))
          (broadcastInDim S4x2048 ![0, 1] bcast_S4x1_S4x2048_0_1 (broadcastInDim S4x1 ![0] bcast_S4_S4x1_0 L)))))
    X (broadcastInDim S4x2048x3584 ![] bcast_S_S4x2048x3584 (constant (F := Ideal) S_ .bf16 0x0000#16))) shapeCasts_S4x2048x3584_S512x16x3584

/-- The rotated groups. -/
def ROT (B : FVec Ideal S512x16x3584 .bf16) (M : FVec Ideal S16x16 .bf16) : FVec Ideal S512x16x3584 .f32 :=
  transpose S512x16x3584 [0, 2, 1] (Host.dotGeneral dot_S512x16x3584_S16x16_S512x3584x16_1_1_02_0_n_n none B M) transposes_S512x3584x16_S512x16x3584_0_2_1

/-- The greatest absolute value of each group. -/
def GRP (R : FVec Ideal S512x16x3584 .f32) : FVec Ideal S512x3584 .f32 :=
  Host.reduce FloatOps.maximumf (Host.absf R) (constant (F := Ideal) S_ .f32 0xFF800000#32) reducesTo_S512x16x3584_S512x3584_d1 h_S_

/-- The stored scale of each group. -/
def SBS (A : FVec Ideal S512x3584 .f32) (G : FVec Ideal S8x128 .f32) : FVec Ideal S512x3584 .fp8e4m3 :=
  Host.convertf .fp8e4m3 (minimumf (broadcastInDim S512x3584 ![] bcast_S_S512x3584 (id (constant (F := Ideal) S_ .f32 0x43E00000#32)))
    (maximumf (broadcastInDim S512x3584 ![] bcast_S_S512x3584 (id (constant (F := Ideal) S_ .f32 0x00000000#32)))
      (Host.divf (Host.divf (mulf A (broadcastInDim S512x3584 ![] bcast_S_S512x3584 (constant (F := Ideal) S_ .f32 0x3F800800#32)))
          (broadcastInDim S512x3584 ![] bcast_S_S512x3584 (constant (F := Ideal) S_ .f32 0x40C00000#32)))
        (broadcastInDim S512x3584 ![0, 1] bcast_S1x1_S512x3584_0_1 (broadcastInDim S1x1 ![1] bcast_S1_S1x1_1
          (shapeCast S1 (shapeCast S_ (extractStridedSlice S1x1 ![0, 0] G slices_S8x128_S1x1_0_0) shapeCasts_S1x1_S_) shapeCasts_S_S1))))))

theorem mat_at (S : FVec Ideal S16 .f32) (r i : Fin 16) : MAT S (ix2 r i) = Rht.entry (fun i => S (ix1 i)) r i := by
  simp only [MAT, id_eq]
  pointwise
  rfl

theorem msk_at (X : FVec Ideal S4x2048x3584 .bf16) (L : IVec S4 32) (g : Fin 512) (i : Fin 16) (col : Fin 3584) :
    MSK X L (ix3 g i col) = Scalar.select (Rht.valid (L (ix1 ⟨g.val / 128, by omega⟩)) (g.val % 128 * 16 + i.val))
      (X (ix3 ⟨g.val / 128, by omega⟩ ⟨g.val % 128 * 16 + i.val, by omega⟩ col)) 0 := by
  pointwise [MSK]
  rfl

theorem rot_at (B : FVec Ideal S512x16x3584 .bf16) (M : FVec Ideal S16x16 .bf16) (g : Fin 512) (r : Fin 16) (col : Fin 3584) :
    ROT B M (ix3 g r col) = ∑ i : Fin 16, B (ix3 g i col) * M (ix2 r i) := by
  pointwise [ROT]

theorem grp_at (R : FVec Ideal S512x16x3584 .f32) (g : Fin 512) (col : Fin 3584) :
    GRP R (ix2 g col) = Finset.fold max (Ideal.ofBits FTy.f32 4286578688#32) (fun r : Fin 16 => FloatOps.absf (F := Ideal) (φ := .f32) (R (ix3 g r col))) Finset.univ := by
  pointwise [GRP]

theorem sbs_at (A : FVec Ideal S512x3584 .f32) (G : FVec Ideal S8x128 .f32) (g : Fin 512) (col : Fin 3584) :
    SBS A G (ix2 g col) = Rht.scale (A (ix2 g col)) (G (ix2 0 0)) := by
  simp only [SBS, id_eq]
  pointwise
  rw [Rht.scale, Ideal.ofBits_zero_f32]

/-- A rotated group, at an index. -/
theorem rotated_at (X : FVec Ideal S4x2048x3584 .bf16) (S : FVec Ideal S16 .f32) (L : IVec S4 32) (g : Fin 512) (r : Fin 16) (col : Fin 3584) :
    ROT (MSK X L) (MAT S) (ix3 g r col) = Rht.rot (fun b s => X (ix3 b s col)) (fun i => S (ix1 i)) (fun b => L (ix1 b)) g r := by
  rw [rot_at]
  refine Finset.sum_congr rfl fun i _ => ?_
  rw [msk_at, mat_at]
  unfold Scalar.select
  split
  · rfl
  · exact zero_mul _

/-- The greatest absolute value of a group, at an index. -/
theorem amax_at (X : FVec Ideal S4x2048x3584 .bf16) (S : FVec Ideal S16 .f32) (L : IVec S4 32) (g : Fin 512) (col : Fin 3584) :
    GRP (ROT (MSK X L) (MAT S)) (ix2 g col) = Rht.gmax (Rht.rot (fun b s => X (ix3 b s col)) (fun i => S (ix1 i)) (fun b => L (ix1 b)) g) := by
  rw [grp_at]
  exact Finset.fold_congr fun r _ => congrArg _ (rotated_at X S L g r col)

/-- The stored scale of a group, at an index. -/
theorem sb_at (X : FVec Ideal S4x2048x3584 .bf16) (S : FVec Ideal S16 .f32) (L : IVec S4 32) (G : FVec Ideal S8x128 .f32) (g : Fin 512) (col : Fin 3584) :
    SBS (GRP (ROT (MSK X L) (MAT S))) G (ix2 g col) =
      Rht.scale (Rht.gmax (Rht.rot (fun b s => X (ix3 b s col)) (fun i => S (ix1 i)) (fun b => L (ix1 b)) g)) (G (ix2 0 0)) := by
  rw [sbs_at, amax_at]

/-- The array's scale, out of the array of equal entries. -/
def SGV (G : FVec Ideal S8x128 .f32) : FVec Ideal S1 .f32 :=
  shapeCast S1 (shapeCast S_ (extractStridedSlice S1x1 ![0, 0] G slices_S8x128_S1x1_0_0) shapeCasts_S1x1_S_) shapeCasts_S_S1

/-- The product of the two scales. -/
def DEN (B : FVec Ideal S512x3584 .f32) (g : FVec Ideal S1 .f32) : FVec Ideal S512x3584 .f32 :=
  mulf B (broadcastInDim S512x3584 ![0, 1] bcast_S1x1_S512x3584_0_1 (broadcastInDim S1x1 ![1] bcast_S1_S1x1_1 g))

/-- The scaled and clipped tokens. -/
def CLP (R : FVec Ideal S512x16x3584 .f32) (D : FVec Ideal S512x3584 .f32) : FVec Ideal S512x16x3584 .f32 :=
  minimumf (broadcastInDim S512x16x3584 ![] bcast_S_S512x16x3584 (id (constant (F := Ideal) S_ .f32 0x40C00000#32)))
    (maximumf (broadcastInDim S512x16x3584 ![] bcast_S_S512x16x3584 (id (constant (F := Ideal) S_ .f32 0xC0C00000#32)))
      (select (broadcastInDim S512x16x3584 ![0, 1, 2] bcast_S512x1x3584_S512x16x3584_0_1_2 (broadcastInDim S512x1x3584 ![0, 2] bcast_S512x3584_S512x1x3584_0_2
          (cmpf .ogt D (broadcastInDim S512x3584 ![] bcast_S_S512x3584 (constant (F := Ideal) S_ .f32 0x00000000#32)))))
        (Host.divf R (broadcastInDim S512x16x3584 ![0, 1, 2] bcast_S512x1x3584_S512x16x3584_0_1_2 (broadcastInDim S512x1x3584 ![0, 2] bcast_S512x3584_S512x1x3584_0_2
          (select (cmpf .ogt D (broadcastInDim S512x3584 ![] bcast_S_S512x3584 (constant (F := Ideal) S_ .f32 0x00000000#32))) D
            (broadcastInDim S512x3584 ![] bcast_S_S512x3584 (id (constant (F := Ideal) S_ .f32 0x3F800000#32)))))))
        (broadcastInDim S512x16x3584 ![] bcast_S_S512x16x3584 (id (constant (F := Ideal) S_ .f32 0x00000000#32)))))

/-- This number in every place. -/
abbrev bc3 (b : BitVec 32) : FVec Ideal S512x16x3584 .f32 := broadcastInDim S512x16x3584 ![] bcast_S_S512x16x3584 (constant (F := Ideal) S_ .f32 b)

/-- The magnitudes rounded to the values of the four-bit format. -/
def QNT (P : FVec Ideal S512x16x3584 .f32) : FVec Ideal S512x16x3584 .f32 :=
  select (cmpf .olt P (bc3 0x40000000#32)) (mulf (Host.roundeven (mulf (bc3 0x40000000#32) P)) (bc3 0x3F000000#32))
    (select (cmpf .olt P (bc3 0x40800000#32)) (Host.roundeven P) (mulf (bc3 0x40000000#32) (Host.roundeven (mulf P (bc3 0x3F000000#32)))))

/-- The codes of the magnitudes. -/
def KIX (Q : FVec Ideal S512x16x3584 .f32) : FVec Ideal S512x16x3584 .f32 :=
  select (cmpf .olt Q (bc3 0x40000000#32)) (mulf (bc3 0x40000000#32) Q)
    (select (cmpf .olt Q (bc3 0x40800000#32)) (addf Q (bc3 0x40000000#32)) (addf (mulf Q (bc3 0x3F000000#32)) (bc3 0x40800000#32)))

/-- The codes, with the sign. -/
def NBL (W Q : FVec Ideal S512x16x3584 .f32) : IVec S512x16x3584 32 :=
  addi (fptosi 32 (KIX Q)) (select (andi (cmpf .olt W (bc3 0x00000000#32)) (cmpf .ogt Q (bc3 0x00000000#32)))
    (broadcastInDim S512x16x3584 ![] bcast_S_S512x16x3584 (constantI S_ 32 8#32)) (broadcastInDim S512x16x3584 ![] bcast_S_S512x16x3584 (constantI S_ 32 0#32)))

/-- Two codes to a byte. -/
def PCK (N : IVec S512x16x3584 32) : IVec S4096x3584 8 :=
  trunci 8 (ori (shapeCast S4096x3584 (extractStridedSlice S4096x1x3584 ![0, 0, 0] (shapeCast S4096x2x3584 (shapeCast S8192x3584 N shapeCasts_S512x16x3584_S8192x3584) shapeCasts_S8192x3584_S4096x2x3584) slices_S4096x2x3584_S4096x1x3584_0_0_0) shapeCasts_S4096x1x3584_S4096x3584)
    (Host.shli (shapeCast S4096x3584 (extractStridedSlice S4096x1x3584 ![0, 1, 0] (shapeCast S4096x2x3584 (shapeCast S8192x3584 N shapeCasts_S512x16x3584_S8192x3584) shapeCasts_S8192x3584_S4096x2x3584) slices_S4096x2x3584_S4096x1x3584_0_1_0) shapeCasts_S4096x1x3584_S4096x3584)
      (broadcastInDim S4096x3584 ![] bcast_S_S4096x3584 (constantI S_ 32 4#32)))) natLt_8_32

theorem sgv_at (G : FVec Ideal S8x128 .f32) (i : Fin 1) : SGV G (ix1 i) = G (ix2 0 0) := by
  pointwise [SGV]

theorem den_at (B : FVec Ideal S512x3584 .f32) (G : FVec Ideal S8x128 .f32) (g : Fin 512) (col : Fin 3584) :
    DEN B (SGV G) (ix2 g col) = B (ix2 g col) * G (ix2 0 0) := by
  pointwise [DEN]
  rw [sgv_at]

theorem clp_at (R : FVec Ideal S512x16x3584 .f32) (D : FVec Ideal S512x3584 .f32) (g : Fin 512) (i : Fin 16) (col : Fin 3584) :
    CLP R D (ix3 g i col) = Rht.rclip (R (ix3 g i col)) (D (ix2 g col)) := by
  simp only [CLP, id_eq]
  pointwise
  simp only [Rht.rclip, Rht.gt_bits, Rht.sel, Rht.f1]

theorem qnt_at (W : FVec Ideal S512x16x3584 .f32) (g : Fin 512) (i : Fin 16) (col : Fin 3584) :
    QNT (Host.absf W) (ix3 g i col) = Rht.rquant (W (ix3 g i col)) := by
  pointwise [QNT]
  simp only [Rht.rquant, Rht.lt_bits, Rht.sel]

theorem kix_at (Q : FVec Ideal S512x16x3584 .f32) (g : Fin 512) (i : Fin 16) (col : Fin 3584) :
    KIX Q (ix3 g i col) = Rht.rindex (Q (ix3 g i col)) := by
  pointwise [KIX]
  simp only [Rht.rindex, Rht.lt_bits, Rht.sel]

theorem nbl_at (W : FVec Ideal S512x16x3584 .f32) (g : Fin 512) (i : Fin 16) (col : Fin 3584) :
    NBL W (QNT (Host.absf W)) (ix3 g i col) = Rht.rcode (W (ix3 g i col)) := by
  pointwise [NBL]
  rw [kix_at, qnt_at]
  rfl

theorem pck_at (N : IVec S512x16x3584 32) (j : Fin 4096) (col : Fin 3584) :
    PCK N (ix2 j col) = Rht.byte (N (ix3 ⟨j.val / 8, by omega⟩ ⟨j.val % 8 * 2, by omega⟩ col)) (N (ix3 ⟨j.val / 8, by omega⟩ ⟨j.val % 8 * 2 + 1, by omega⟩ col)) := by
  pointwise [PCK]
  rfl

end Cert.QuantXReferenceIdeal.Value

end
-- ==== Proof.QuantXRef.lean ====
/- The quantising reference's run over the extended reals. -/
module

public import proofs.«01_k».proof.Defs
public import proofs.«01_k».proof.Proof.QuantXStages
public import Idealize.ShloMosaic.Adequacy
public import Idealize.ShloMosaic.Init
public import Idealize.ShloMosaic.Lib.Claim
public import Idealize.ShloMosaic.Lib.Pointwise
public import Idealize.ShloMosaic.Lib.StableHlo.ReadAt
public import Idealize.ShloMosaic.Lib.Pipeline.ValueKit
public import Idealize.ShloMosaic.Lib.Pipeline.Covers
public import Idealize.ShloMosaic.Lib.Pipeline.ReadBack
public import proofs.«01_k».proof.Proof.Gen.QuantXReferenceIdeal.Frame

@[expose] public section

set_option maxRecDepth 16384

noncomputable section

open Idealize.ShloMosaic Idealize.ShloMosaic.TcCoe Idealize.SL.Sem

namespace Cert.QuantXReferenceIdeal.Value

open Cert.QuantXReferenceIdeal Cert.QuantXReferenceIdeal.Gen

variable (m : (ℓ : Loc nD τ sig) → Buf (Elt Ideal) ℓ)

/-- The reference's rotated tokens and greatest absolute values, of its arguments. -/
abbrev RR (c : Dev nD) : FVec Ideal S512x16x3584 .f32 :=
  ROT (MSK (m ((c.tc : Thread nD τ).loc main_arg0)) (m ((c.tc : Thread nD τ).loc main_arg2))) (MAT (m ((c.tc : Thread nD τ).loc main_arg1)))
abbrev RA (c : Dev nD) : FVec Ideal S512x3584 .f32 := GRP (RR m c)
abbrev RS (c : Dev nD) : FVec Ideal S512x3584 .fp8e4m3 := SBS (RA m c) (m ((c.tc : Thread nD τ).loc main_arg3))

theorem v30 (c : Dev nD) : V m c main_v30 = RR m c := by
  simp only [V, hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  rfl

theorem v32 (c : Dev nD) : V m c main_v32 = RA m c := by
  simp only [V, hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  rfl

theorem v35 (c : Dev nD) : V m c main_v35 = SGV (m ((c.tc : Thread nD τ).loc main_arg3)) := by
  simp only [V, hostOps0, hostOps0_1, hostOps0_2, hostOps0_3, hostOps0_4, hostOps0_5, hostOps0_6, List.flatten_cons, List.flatten_nil, List.append_nil, List.cons_append, List.nil_append]
  after_reads_simp
  rfl

theorem v44 (c : Dev nD) : V m c main_v44 = RS m c := by
  simp only [V, hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  rfl

theorem idx0 : ∀ t : Fin cfg0.N, (cfg0.win 0).index t = fun _ => 0 := by decide +kernel
theorem idx1 : ∀ t : Fin cfg0.N, (cfg0.win 1).index t = fun _ => 0 := by decide +kernel

theorem grids1 : (512 + 512 - 1) / 512 = 1 ∧ (3584 + 3584 - 1) / 3584 = 1 := by decide +kernel
theorem covers1 : (cfg0.win 1).Covers := by
  refine Pipeline.Window.covers_of_index_surj _ rfl ?_ fun β => ?_
  · intro a; match a with
    | ⟨0, _⟩ => exact (by decide : 0 < 512)
    | ⟨1, _⟩ => exact (by decide : 0 < 3584)
  · have h0 : (β (0 : Fin 2)).val < 1 := lt_of_lt_of_eq (β (0 : Fin 2)).isLt grids1.1
    have h1 : (β (1 : Fin 2)).val < 1 := lt_of_lt_of_eq (β (1 : Fin 2)).isLt grids1.2
    refine ⟨⟨0, by decide⟩, fun a => (congrFun (idx1 _) a).trans ?_⟩
    match a with
    | ⟨0, h⟩ => exact (Nat.lt_one_iff.mp h0).symm
    | ⟨1, h⟩ => exact (Nat.lt_one_iff.mp h1).symm

theorem sblk (c : Dev nD) (t : Fin cfg0.N) (k : Fin 512) (l : Fin 3584) :
    (show FVec Ideal S512x3584 .fp8e4m3 from iblk m c 0 t) (ix2 k l) = V m c main_v44 (ix2 k l) := by
  blk_ext [iblk]
  · have e : (cfg0.win 0).index t 0 = 0 := congrFun (idx0 t) 0
    exact (congrArg (· * 512 + k.val) e).trans (by simp)
  · have e : (cfg0.win 0).index t 1 = 0 := congrFun (idx0 t) 1
    exact (congrArg (· * 3584 + l.val) e).trans (by simp)

theorem pay1_at (X : FVec Ideal S512x3584 .fp8e4m3) (k : Fin 512) (l : Fin 3584) : k0_pay1 (F := Ideal) X (ix2 k l) = X (ix2 k l) := by
  pointwise [k0_pay1]

theorem out_at (X : FVec Ideal S512x3584 .fp8e4m3) (k : Fin 512) (l : Fin 3584) : out0_1 (F := Ideal) X (ix2 k l) = X (ix2 k l) := by
  have hz : (![0, 0] : Fin S512x3584.rank → Nat) = fun _ => 0 := by decide
  unfold out0_1
  rw [View.canon_unit_zero (S := S512x3584) hz, pay1_at]
  exact congrFun (View.ld_unit_zero (Val := Elt Ideal) (S := S512x3584) (e := .fp8e4m3) hz _ X) (ix2 k l)

theorem after1 (c : Dev nD) (t : Fin cfg0.N) (k : Fin 512) (l : Fin 3584) :
    (show FVec Ideal S512x3584 .f32 from (dats m 0 c).after 1 t) (ix2 k l) = RS m c (ix2 k l) := by
  rw [after0_1]
  exact (out_at (show FVec Ideal S512x3584 .fp8e4m3 from iblk m c 0 t) k l).trans ((sblk m c t k l).trans (congrFun (v44 m c) _))

/-- The widened scales are the scales. -/
theorem wide (c : Dev nD) : (dats m 0 c).arrAt 1 cfg0.N = ((fun j => RS m c (ix2 (j 0) (j 1))) : FVec Ideal S512x3584 .f32) := by
  refine (dats m 0 c).arrAt_eq_of_covers 1 _ covers1 fun t hf y => ?_
  obtain ⟨k, l, rfl⟩ : ∃ (k : Fin 512) (l : Fin 3584), y = ix2 k l := ⟨y (0 : Fin 2), y (1 : Fin 2), eq_ix2 y⟩
  refine (after1 m c t k l).trans (congrArg₂ (fun a b => RS m c (ix2 a b)) (Fin.ext ?_) (Fin.ext ?_))
  · have e : (cfg0.win 1).index t 0 = 0 := congrFun (idx1 t) 0
    exact ((by simp : 0 * 512 + k.val = k.val).symm.trans (congrArg (· * 512 + k.val) e).symm).trans (by blk_simp)
  · have e : (cfg0.win 1).index t 1 = 0 := congrFun (idx1 t) 1
    exact ((by simp : 0 * 3584 + l.val = l.val).symm.trans (congrArg (· * 3584 + l.val) e).symm).trans (by blk_simp)

theorem arr_inj : Function.Injective (Pipeline.arrRef (sig := sig) spec0) := by decide +kernel
theorem rest32 : main_v32 ∈ Pipeline.restRefs sig spec0 := by decide +kernel
theorem rest107 : main_v107 ∈ Pipeline.restRefs sig spec0 := by decide +kernel

/-- The clipped tokens of the reference. -/
abbrev RW (c : Dev nD) : FVec Ideal S512x16x3584 .f32 := CLP (RR m c) (DEN (fun j => RS m c (ix2 (j 0) (j 1))) (SGV (m ((c.tc : Thread nD τ).loc main_arg3))))

/-- The clipped tokens, out of what the lines after the widening find. -/
abbrev TW (X : Valuation τ sig (Elt Ideal)) : FVec Ideal S512x16x3584 .f32 :=
  CLP (X (Proc.tc.devRef main_v30)) (DEN (X (Proc.tc.devRef main_v45)) (X (Proc.tc.devRef main_v35)))

/-- The codes, out of what the lines after the widening find. -/
theorem tail (X : Valuation τ sig (Elt Ideal)) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]) X (Proc.tc.devRef main_v107) =
      PCK (NBL (TW X) (QNT (Host.absf (TW X)))) := by
  after_reads_simp
  simp -implicitDefEqProofs only [StableHlo.TRef.toBuf, StableHlo.TRef.ofBuf, cast_cast, cast_eq]
  rfl

/-- The reference ends with the codes, the stored scales and the greatest absolute values, its arguments unchanged. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v107) = PCK (NBL (RW m c) (QNT (Host.absf (RW m c))))
      ∧ r.2.mem ((c.tc : Thread nD τ).loc main_v44) = RS m c
      ∧ r.2.mem ((c.tc : Thread nD τ).loc main_v32) = RA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h := θ_run_and (Cert.QuantXReferenceIdeal.Gen.run_main m g) (Cert.QuantXReferenceIdeal.Gen.unchanged m g)
  refine (θ_run _ _ _).mono (fun r hr c => ⟨?_, ?_, ?_, hr.2 c⟩) h
  · refine ((hr.1 c).2 main_v107 rest107).trans ?_
    have e30 := (Pipeline.withArrays_of_ne spec0 c (V0 m c) (fun w => (dats m 0 c).arrAt w cfg0.N) main_v30 (by exact (by decide : ∀ w, Pipeline.arrRef spec0 w ≠ main_v30))).trans (v30 m c)
    have e35 := (Pipeline.withArrays_of_ne spec0 c (V0 m c) (fun w => (dats m 0 c).arrAt w cfg0.N) main_v35 (by exact (by decide : ∀ w, Pipeline.arrRef spec0 w ≠ main_v35))).trans (v35 m c)
    have e45 := (Pipeline.withArrays_arr (τ := τ) (Val := Elt Ideal) spec0 arr_inj c (V0 m c) (fun w => (dats m 0 c).arrAt w cfg0.N) 1).trans (wide m c)
    unfold Pipeline.afterTail₀
    refine Eq.trans (tail _) ?_
    refine congrArg PCK ?_
    have e : CLP (Pipeline.withArrays spec0 c (V0 m c) (fun w => (dats m 0 c).arrAt w cfg0.N) (Proc.tc.devRef main_v30))
        (DEN (Pipeline.withArrays spec0 c (V0 m c) (fun w => (dats m 0 c).arrAt w cfg0.N) (Proc.tc.devRef main_v45))
          (Pipeline.withArrays spec0 c (V0 m c) (fun w => (dats m 0 c).arrAt w cfg0.N) (Proc.tc.devRef main_v35))) = RW m c :=
      (congr (congrArg CLP e30) (congr (congrArg DEN e45) e35))
    exact congrArg (fun W => NBL W (QNT (Host.absf W))) e
  · refine ((hr.1 c).1 0).trans (((dats m 0 c).arrAt_in 0 rfl _).trans ((A_eq m c 0).trans (v44 m c)))
  · refine ((hr.1 c).2 main_v32 rest32).trans ?_
    unfold Pipeline.afterTail₀
    after_reads_simp
    exact (Pipeline.withArrays_of_ne _ c (V0 m c) _ main_v32 (by exact (by decide : ∀ w, Pipeline.arrRef spec0 w ≠ main_v32))).trans (v32 m c)

/-- The reference's codes at an index. -/
theorem codes_at (c : Dev nD) (p : Fin 4096) (k : Fin 3584) : PCK (NBL (RW m c) (QNT (Host.absf (RW m c)))) (ix2 p k) =
    Rht.byte (Rht.rcode (RW m c (ix3 ⟨p.val / 8, by omega⟩ ⟨p.val % 8 * 2, by omega⟩ k))) (Rht.rcode (RW m c (ix3 ⟨p.val / 8, by omega⟩ ⟨p.val % 8 * 2 + 1, by omega⟩ k))) := by
  rw [pck_at, nbl_at, nbl_at]

/-- A clipped token of the reference. -/
theorem clipped_at (c : Dev nD) (g : Fin 512) (i : Fin 16) (k : Fin 3584) : RW m c (ix3 g i k) =
    Rht.rclip (Rht.rot (fun b s => (show FVec Ideal S4x2048x3584 .bf16 from m ((c.tc : Thread nD τ).loc main_arg0)) (ix3 b s k)) (fun i => (show FVec Ideal S16 .f32 from m ((c.tc : Thread nD τ).loc main_arg1)) (ix1 i))
        (fun b => (show IVec S4 32 from m ((c.tc : Thread nD τ).loc main_arg2)) (ix1 b)) g i)
      (RS m c (ix2 g k) * (show FVec Ideal S8x128 .f32 from m ((c.tc : Thread nD τ).loc main_arg3)) (ix2 0 0)) := by
  refine (clp_at _ _ g i k).trans ?_
  rw [den_at]
  exact congrArg₂ Rht.rclip (rotated_at _ _ _ g i k) rfl

end Cert.QuantXReferenceIdeal.Value

end
-- ==== Proof.QuantXClaim.lean ====
/- Quantising x: the kernel's run against the reference's. -/
module

public import proofs.«01_k».proof.Defs
public import proofs.«01_k».proof.Proof.QuantXValue
public import proofs.«01_k».proof.Proof.QuantXRef
public import Idealize.ShloMosaic.Adequacy
public import Idealize.ShloMosaic.Init
public import Idealize.ShloMosaic.Lib.Claim
public import Idealize.ShloMosaic.Lib.Quiescent
public import Idealize.ShloMosaic.Lib.Pointwise
public import Idealize.ShloMosaic.Lib.Bf16Pair
public import Idealize.ShloMosaic.Lib.Bf16PairInverse

@[expose] public section

set_option maxRecDepth 16384

noncomputable section

namespace Cert.QuantXClaim

open Idealize.ShloMosaic Idealize.ShloMosaic.TcCoe Idealize.SL.Sem

/-- The side conditions of the precondition. -/
theorem pre_facts : Cert.Pre_finite_of_sequences.Facts := by constructor <;> decide

local instance : Cert.Pre_finite_of_sequences.Facts := pre_facts

theorem of_bool {b : Bool} (h : BitVec.ofBool b = 1#1) : b = true := by
  cases b
  · exact absurd h (by decide)
  · rfl

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

theorem finite_of {x : EReal} (h : Ideal.cmp .olt (max x (-x)) ⊤ = 1#1) : ∃ r : ℝ, x = (r : EReal) := by
  have h1 : max x (-x) < ⊤ := by simpa using of_bool h
  induction x with
  | bot => simp at h1
  | top => simp at h1
  | coe r => exact ⟨r, rfl⟩

theorem eq_of {x y : EReal} (h : Ideal.cmp .oeq x y = 1#1) : x = y := by simpa using of_bool h

theorem sge_zero {n : BitVec 32} (h : Scalar.cmpi .sge n 0#32 = 1#1) : 0 ≤ n.toInt := by
  have h1 : (0#32).sle n = true := of_bool h
  simpa [BitVec.sle] using h1

theorem corner (X : FVec Ideal Cert.Pre_finite_of_sequences.S4x2048x3584 .bf16) (S : FVec Ideal Cert.Pre_finite_of_sequences.S16 .f32) (L : IVec Cert.Pre_finite_of_sequences.S4 32)
    (G : FVec Ideal Cert.Pre_finite_of_sequences.S8x128 .f32) (a : Fin 8) (b : Fin 128) :
    (Cert.Pre_finite_of_sequences.fn X S L G).2.2.2 (ix2 a b) = Ideal.cmp .oeq (G (ix2 a b)) (G (ix2 0 0)) := by
  pointwise [Cert.Pre_finite_of_sequences.fn]

open Cert.QuantXIdeal in
/-- What the precondition says. -/
theorem good (m : (ℓ : Loc nD τ sig) → Buf (Elt Ideal) ℓ) (h : Cert.Pre_QuantXIdeal_finite_of_sequences m) : Cert.QuantXIdeal.Value.Good m := by
  refine ⟨fun c b s k => finite_of ?_, fun c i => finite_of ?_, fun c b => sge_zero ?_, fun c a b => eq_of ?_⟩
  · refine Eq.trans ?_ (congrFun (h c).1 (ix3 b s k))
    rw [← inf_bf16]
    rfl
  · refine Eq.trans ?_ (congrFun (h c).2.1 (ix1 i))
    rw [← inf_f32]
    rfl
  · exact congrFun (h c).2.2.1 (ix1 b)
  · exact (corner _ _ _ _ a b).symm.trans (congrFun (h c).2.2.2 (ix2 a b))

/-- The kernel's results are the reference's, from the same arguments. -/
theorem algebraic : Cert.algebraic_QuantXIdeal_QuantXReferenceIdeal_pre_finite_of_sequences := by
  intro m g m' g' hpre hagree
  refine ⟨_, _, _, Cert.QuantXIdeal.Value.run m (good m hpre) g, ?_⟩
  refine (θ_run Cert.QuantXReferenceIdeal.defs _ _).mono (fun r h c => ⟨(h c).1.trans ?_, (h c).2.1.trans ?_, (h c).2.2.1.trans ?_, (h c).2.2.2⟩)
    (Cert.QuantXReferenceIdeal.Value.run m' g')
  all_goals
    obtain ⟨h0, h1, h2, h3⟩ := hagree c
    refine funext fun j => ?_
  · obtain ⟨a, b, rfl⟩ : ∃ (a : Fin 4096) (b : Fin 3584), j = ix2 a b := ⟨j (0 : Fin 2), j (1 : Fin 2), eq_ix2 j⟩
    have e : ∀ (g : Fin 512) (i : Fin 16), Rht.rcode (Cert.QuantXReferenceIdeal.Value.RW m' c (ix3 g i b)) = Cert.QuantXIdeal.Value.CODE m c g b i := fun g i => by
      refine congrArg Rht.rcode ((Cert.QuantXReferenceIdeal.Value.clipped_at m' c g i b).trans ?_)
      have hs : Cert.QuantXReferenceIdeal.Value.RS m' c (ix2 g b) = Cert.QuantXIdeal.Value.SB m c g b := by
        refine (Cert.QuantXReferenceIdeal.Value.sb_at _ _ _ _ g b).trans ?_
        rw [h0, h1, h2, h3]
      rw [hs, h0, h1, h2, h3]
    exact (Cert.QuantXReferenceIdeal.Value.codes_at m' c a b).trans (congrArg₂ Rht.byte (e _ _) (e _ _))
  · obtain ⟨a, b, rfl⟩ : ∃ (a : Fin 512) (b : Fin 3584), j = ix2 a b := ⟨j (0 : Fin 2), j (1 : Fin 2), eq_ix2 j⟩
    refine (Cert.QuantXReferenceIdeal.Value.sb_at _ _ _ _ a b).trans ?_
    rw [h0, h1, h2, h3]
    rfl
  · obtain ⟨a, b, rfl⟩ : ∃ (a : Fin 512) (b : Fin 3584), j = ix2 a b := ⟨j (0 : Fin 2), j (1 : Fin 2), eq_ix2 j⟩
    refine (Cert.QuantXReferenceIdeal.Value.amax_at _ _ _ a b).trans ?_
    rw [h0, h1, h2]
    rfl

/-- The reference runs, leaves its arguments alone and every semaphore counter at zero. -/
theorem reference_frame : Cert.quiescent_QuantXReferenceIdeal := fun m ρ _ => Cert.QuantXReferenceIdeal.Gen.frame m ρ

/-- The same of the claim that states the precondition. -/
theorem reference_frame_pre : Cert.quiescent_QuantXReferenceIdeal_pre_finite_of_sequences := fun m ρ _ =>
  Cert.QuantXReferenceIdeal.Gen.frame m ρ

/-- Every reading of packed words that the exact kernel rests on. -/
theorem preserves : Cert.preserves_QuantX_QuantXIdeal := by
  refine ⟨IdealRules.bf16_pair.bufferStatement _ _, IdealRules.bf16_pair.statement _ _, IdealRules.bf16_pair.statement _ _,
    IdealRules.bf16_pair.selectZeroStatement _, IdealRules.bf16_pair.statement _ _, IdealRules.bf16_pair.statement _ _, IdealRules.bf16_pair.packStatement _⟩

end Cert.QuantXClaim

end
-- ==== Proof.QuantDyWords.lean ====
/- The values the quantising kernel computes in one step of its grid, as functions of the tokens it loads. -/
module

public import proofs.«01_k».proof.Defs
public import proofs.«01_k».proof.Proof.Gen.QuantDyIdeal.Frame

@[expose] public section

set_option maxRecDepth 16384

noncomputable section

open Idealize.ShloMosaic Idealize.ShloMosaic.TcCoe Idealize.SL.Sem

namespace Cert.QuantDyIdeal.Words

open Cert.QuantDyIdeal Cert.QuantDyIdeal.Gen

variable {F : FTy → Type} [FloatOps F]

/-- The constant with these bits in every place. -/
abbrev bc (b : BitVec 32) : FVec F S8x128 .f32 := broadcast S8x128 (Scalar.ofBits .f32 b)

/-- The constant word in every place. -/
abbrev bi (b : BitVec 32) : IVec S8x128 32 := broadcast S8x128 b

/-- The tokens of one place of the group, out of the pairs of rows loaded. -/
def tok (raw : Fin 8 → Vec F S8x2x128 .bf16) (j : Fin 16) : FVec F S8x128 .f32 :=
  extf .f32 (shapeCast S8x128 (rowsOfParity (Fin.ofNat 2 j.val) S8x1x128 (raw (Fin.ofNat 8 (j.val / 2))) bitcasts_S8x2x128_w16_S8x1x128_w32) shapeCasts_S8x1x128_S8x128)

/-- The tokens times the signs. -/
def signed (raw : Fin 8 → Vec F S8x2x128 .bf16) (s : Fin 16 → F .f32) (j : Fin 16) : FVec F S8x128 .f32 :=
  mulf (tok raw j) (broadcast S8x128 (s j))

/-- One level of the butterfly. -/
def level (bit : Nat) (v : Fin 16 → FVec F S8x128 .f32) (j : Fin 16) : FVec F S8x128 .f32 :=
  if j.val &&& bit = 0 then addf (v j) (v (Fin.ofNat 16 (j.val ^^^ bit))) else subf (v (Fin.ofNat 16 (j.val ^^^ bit))) (v j)

/-- The whole butterfly. -/
def had (v : Fin 16 → FVec F S8x128 .f32) : Fin 16 → FVec F S8x128 .f32 := level 8 (level 4 (level 2 (level 1 v)))

/-- The rotated tokens. -/
def rot (raw : Fin 8 → Vec F S8x2x128 .bf16) (s : Fin 16 → F .f32) : Fin 16 → FVec F S8x128 .f32 := had (signed raw s)

/-- The largest magnitude of the group. -/
def amaxV (v : Fin 16 → FVec F S8x128 .f32) : FVec F S8x128 .f32 :=
  maximumf (maximumf (maximumf (maximumf (maximumf (maximumf (maximumf (maximumf (maximumf (maximumf (maximumf (maximumf (maximumf (maximumf (maximumf (absf (v 0)) (absf (v 1))) (absf (v 2))) (absf (v 3))) (absf (v 4))) (absf (v 5))) (absf (v 6))) (absf (v 7))) (absf (v 8))) (absf (v 9))) (absf (v 10))) (absf (v 11))) (absf (v 12))) (absf (v 13))) (absf (v 14))) (absf (v 15))

/-- The scale before it is clipped. -/
def ratioV (a sg : FVec F S8x128 .f32) : FVec F S8x128 .f32 := divf (divf (mulf a (bc 0x3F800800#32)) (bc 0x40C00000#32)) sg

/-- The block's scale, before it is stored. -/
def scaleV (t : FVec F S8x128 .f32) : FVec F S8x128 .f32 :=
  extf .f32 (truncf .fp8e4m3 (minimumf (bc 0x43E00000#32) (maximumf (bc 0x00000000#32) t)) bitsLt_fp8e4m3_f32) bitsLt_fp8e4m3_f32

/-- Four over the product of the two scales, zero when the product is not positive. -/
def recipV (sb sg : FVec F S8x128 .f32) : FVec F S8x128 .f32 :=
  select (cmpf .ogt (mulf sb sg) (bc 0x00000000#32))
    (divf (bc 0x40800000#32) (select (cmpf .ogt (mulf sb sg) (bc 0x00000000#32)) (mulf sb sg) (bc 0x3F800000#32))) (bc 0x00000000#32)

/-- The scaled and clipped token. -/
def clipV (v r : FVec F S8x128 .f32) : FVec F S8x128 .f32 := minimumf (bc 0x41C00000#32) (maximumf (bc 0xC1C00000#32) (mulf v r))

/-- The scaled token rounded to the values of the four-bit format, times four. -/
def quantV (w : FVec F S8x128 .f32) : FVec F S8x128 .f32 :=
  addf (select (cmpf .olt (absf w) (bc 0x41000000#32)) (mulf (roundeven (mulf w (bc 0x3F000000#32))) (bc 0x40000000#32))
    (select (cmpf .olt (absf w) (bc 0x41800000#32)) (mulf (roundeven (mulf w (bc 0x3E800000#32))) (bc 0x40800000#32))
      (mulf (roundeven (mulf w (bc 0x3E000000#32))) (bc 0x41000000#32)))) (bc 0x00000000#32)

/-- One where the magnitude is at least this, else zero. -/
def atLeast (q : FVec F S8x128 .f32) (b : BitVec 32) : IVec S8x128 32 := select (cmpf .oge (absf q) (bc b)) (bi 1#32) (bi 0#32)

/-- The four-bit code of a rounded token. -/
def codeV (q : FVec F S8x128 .f32) : IVec S8x128 32 :=
  addi (addi (addi (addi (addi (addi (addi (select (cmpf .olt q (bc 0x00000000#32)) (bi 8#32) (bi 0#32))
    (atLeast q 0x40000000#32)) (atLeast q 0x40800000#32)) (atLeast q 0x40C00000#32)) (atLeast q 0x41000000#32))
    (atLeast q 0x41400000#32)) (atLeast q 0x41800000#32)) (atLeast q 0x41C00000#32)

/-- The two rounded tokens of a word, times the block's scale over four. -/
def pairV (q0 q1 sb : FVec F S8x128 .f32) : FVec F S16x128 .bf16 :=
  mulf (interleaveRows S16x128 (truncf .bf16 q0) (truncf .bf16 q1) bitcasts_S16x128_w16_S8x128_w32)
    (interleaveRows S16x128 (truncf .bf16 (mulf sb (bc 0x3E800000#32))) (truncf .bf16 (mulf sb (bc 0x3E800000#32))) bitcasts_S16x128_w16_S8x128_w32)

/-- The codes of two tokens in one word. -/
def zV (q0 q1 : FVec F S8x128 .f32) : IVec S8x128 32 := ori (codeV q0) (shli (codeV q1) (bi 16#32))

/-- The codes of eight tokens packed into one word. -/
def wordV (z0 z1 z2 z3 : IVec S8x128 32) : IVec S8x128 32 :=
  ori (ori (andi z0 (bi 983055#32)) (shli (andi z1 (bi 983055#32)) (bi 4#32)))
    (shli (ori (andi z2 (bi 983055#32)) (shli (andi z3 (bi 983055#32)) (bi 4#32))) (bi 8#32))

/-- The quantised token of one place. -/
def q (v : Fin 16 → FVec F S8x128 .f32) (sg : FVec F S8x128 .f32) (j : Fin 16) : FVec F S8x128 .f32 :=
  quantV (clipV (v j) (recipV (scaleV (ratioV (amaxV v) sg)) sg))

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec F S16 .f32) (x1 : Vec F S8x128 .f32) (x2 : Vec F S512x128 .bf16) (xt0 : TbBuf0 (F := F) c tbM0_0)

/-- The pairs of rows the kernel loads for two places of the groups of one block. -/
def raw (b : Nat) (hb : b < 4) (k : Fin 8) : Vec F S8x2x128 .bf16 :=
  arg10.view.readCov (kernelRun0_A.sl.HS0_2 c i arg5 harg5 arg10 x2 xt0)
    { off := ![64 * b + k.val, 0, 0], size := S8x2x128.size, stride := ![8, 1, 1],
      inb := by intro a; fin_cases a <;> simp [S8x2x128, S256x2x128] <;> omega }

/-- Each sign lies in the array of signs. -/
theorem sgn_inb (j : Fin 16) : ∀ a, (![j.val] : Fin S16.rank → Nat) a + S1.size a ≤ S16.size a := by
  revert j
  decide +kernel

/-- The sign of one place. -/
def sgn (j : Fin 16) : F .f32 :=
  View.readAt (Elt F) arg3.view (Rect.unit (s := S16) ![j.val] S1.size (sgn_inb j)).toLoadRect (harg3.unread x0) (Shape.Idx.first (show 0 < S1.numel by decide))

/-- The rotated tokens of one block. -/
def rotB (b : Nat) (hb : b < 4) : Fin 16 → FVec F S8x128 .f32 := rot (raw c i arg5 harg5 arg10 x2 xt0 b hb) (sgn arg3 harg3 x0)

/-- The largest magnitudes of block 0. -/
theorem amax_0 : (kernelRun0_A.sl.r_81 c i arg3 harg3 arg5 harg5 arg10 x0 x2 xt0) = amaxV (rotB c i arg3 harg3 arg5 harg5 arg10 x0 x2 xt0 0 (by decide)) := by
  sl_kernel_rfl

/-- The scales of block 0. -/
theorem scale_0 : (kernelRun0_A.sl.r_83 c i arg3 harg3 arg4 harg4 arg5 harg5 arg10 x0 x1 x2 xt0) = (scaleV (ratioV (amaxV (rotB c i arg3 harg3 arg5 harg5 arg10 x0 x2 xt0 0 (by decide))) (kernelRun0_A.sl.r_1 c arg4 harg4 x1))) := by
  sl_kernel_rfl

/-- The quantised tokens of word 0 of block 0. -/
theorem pair_0_0 : (kernelRun0_A.sl.r_92 c i arg3 harg3 arg4 harg4 arg5 harg5 arg10 x0 x1 x2 xt0) = pairV (q (rotB c i arg3 harg3 arg5 harg5 arg10 x0 x2 xt0 0 (by decide)) (kernelRun0_A.sl.r_1 c arg4 harg4 x1) 0) (q (rotB c i arg3 harg3 arg5 harg5 arg10 x0 x2 xt0 0 (by decide)) (kernelRun0_A.sl.r_1 c arg4 harg4 x1) 4) (scaleV (ratioV (amaxV (rotB c i arg3 harg3 arg5 harg5 arg10 x0 x2 xt0 0 (by decide))) (kernelRun0_A.sl.r_1 c arg4 harg4 x1))) := by
  sl_kernel_rfl

/-- The quantised tokens of word 1 of block 0. -/
theorem pair_0_1 : (kernelRun0_A.sl.r_105 c i arg3 harg3 arg4 harg4 arg5 harg5 arg10 x0 x1 x2 xt0) = pairV (q (rotB c i arg3 harg3 arg5 harg5 arg10 x0 x2 xt0 0 (by decide)) (kernelRun0_A.sl.r_1 c arg4 harg4 x1) 1) (q (rotB c i arg3 harg3 arg5 harg5 arg10 x0 x2 xt0 0 (by decide)) (kernelRun0_A.sl.r_1 c arg4 harg4 x1) 5) (scaleV (ratioV (amaxV (rotB c i arg3 harg3 arg5 harg5 arg10 x0 x2 xt0 0 (by decide))) (kernelRun0_A.sl.r_1 c arg4 harg4 x1))) := by
  sl_kernel_rfl

/-- The quantised tokens of word 2 of block 0. -/
theorem pair_0_2 : (kernelRun0_A.sl.r_118 c i arg3 harg3 arg4 harg4 arg5 harg5 arg10 x0 x1 x2 xt0) = pairV (q (rotB c i arg3 harg3 arg5 harg5 arg10 x0 x2 xt0 0 (by decide)) (kernelRun0_A.sl.r_1 c arg4 harg4 x1) 2) (q (rotB c i arg3 harg3 arg5 harg5 arg10 x0 x2 xt0 0 (by decide)) (kernelRun0_A.sl.r_1 c arg4 harg4 x1) 6) (scaleV (ratioV (amaxV (rotB c i arg3 harg3 arg5 harg5 arg10 x0 x2 xt0 0 (by decide))) (kernelRun0_A.sl.r_1 c arg4 harg4 x1))) := by
  sl_kernel_rfl

/-- The quantised tokens of word 3 of block 0. -/
theorem pair_0_3 : (kernelRun0_A.sl.r_134 c i arg3 harg3 arg4 harg4 arg5 harg5 arg10 x0 x1 x2 xt0) = pairV (q (rotB c i arg3 harg3 arg5 harg5 arg10 x0 x2 xt0 0 (by decide)) (kernelRun0_A.sl.r_1 c arg4 harg4 x1) 3) (q (rotB c i arg3 harg3 arg5 harg5 arg10 x0 x2 xt0 0 (by decide)) (kernelRun0_A.sl.r_1 c arg4 harg4 x1) 7) (scaleV (ratioV (amaxV (rotB c i arg3 harg3 arg5 harg5 arg10 x0 x2 xt0 0 (by decide))) (kernelRun0_A.sl.r_1 c arg4 harg4 x1))) := by
  sl_kernel_rfl

/-- The quantised tokens of word 4 of block 0. -/
theorem pair_0_4 : (kernelRun0_A.sl.r_149 c i arg3 harg3 arg4 harg4 arg5 harg5 arg10 x0 x1 x2 xt0) = pairV (q (rotB c i arg3 harg3 arg5 harg5 arg10 x0 x2 xt0 0 (by decide)) (kernelRun0_A.sl.r_1 c arg4 harg4 x1) 8) (q (rotB c i arg3 harg3 arg5 harg5 arg10 x0 x2 xt0 0 (by decide)) (kernelRun0_A.sl.r_1 c arg4 harg4 x1) 12) (scaleV (ratioV (amaxV (rotB c i arg3 harg3 arg5 harg5 arg10 x0 x2 xt0 0 (by decide))) (kernelRun0_A.sl.r_1 c arg4 harg4 x1))) := by
  sl_kernel_rfl

/-- The quantised tokens of word 5 of block 0. -/
theorem pair_0_5 : (kernelRun0_A.sl.r_162 c i arg3 harg3 arg4 harg4 arg5 harg5 arg10 x0 x1 x2 xt0) = pairV (q (rotB c i arg3 harg3 arg5 harg5 arg10 x0 x2 xt0 0 (by decide)) (kernelRun0_A.sl.r_1 c arg4 harg4 x1) 9) (q (rotB c i arg3 harg3 arg5 harg5 arg10 x0 x2 xt0 0 (by decide)) (kernelRun0_A.sl.r_1 c arg4 harg4 x1) 13) (scaleV (ratioV (amaxV (rotB c i arg3 harg3 arg5 harg5 arg10 x0 x2 xt0 0 (by decide))) (kernelRun0_A.sl.r_1 c arg4 harg4 x1))) := by
  sl_kernel_rfl

/-- The quantised tokens of word 6 of block 0. -/
theorem pair_0_6 : (kernelRun0_A.sl.r_178 c i arg3 harg3 arg4 harg4 arg5 harg5 arg10 x0 x1 x2 xt0) = pairV (q (rotB c i arg3 harg3 arg5 harg5 arg10 x0 x2 xt0 0 (by decide)) (kernelRun0_A.sl.r_1 c arg4 harg4 x1) 10) (q (rotB c i arg3 harg3 arg5 harg5 arg10 x0 x2 xt0 0 (by decide)) (kernelRun0_A.sl.r_1 c arg4 harg4 x1) 14) (scaleV (ratioV (amaxV (rotB c i arg3 harg3 arg5 harg5 arg10 x0 x2 xt0 0 (by decide))) (kernelRun0_A.sl.r_1 c arg4 harg4 x1))) := by
  sl_kernel_rfl

/-- The quantised tokens of word 7 of block 0. -/
theorem pair_0_7 : (kernelRun0_A.sl.r_195 c i arg3 harg3 arg4 harg4 arg5 harg5 arg10 x0 x1 x2 xt0) = pairV (q (rotB c i arg3 harg3 arg5 harg5 arg10 x0 x2 xt0 0 (by decide)) (kernelRun0_A.sl.r_1 c arg4 harg4 x1) 11) (q (rotB c i arg3 harg3 arg5 harg5 arg10 x0 x2 xt0 0 (by decide)) (kernelRun0_A.sl.r_1 c arg4 harg4 x1) 15) (scaleV (ratioV (amaxV (rotB c i arg3 harg3 arg5 harg5 arg10 x0 x2 xt0 0 (by decide))) (kernelRun0_A.sl.r_1 c arg4 harg4 x1))) := by
  sl_kernel_rfl

/-- The packed codes of half 0 of block 0. -/
theorem code_0_0 : k0_pay247 (kernelRun0_A.sl.r_145 c i arg3 harg3 arg4 harg4 arg5 harg5 arg10 x0 x1 x2 xt0) = shapeCast S8x128 (wordV (zV (q (rotB c i arg3 harg3 arg5 harg5 arg10 x0 x2 xt0 0 (by decide)) (kernelRun0_A.sl.r_1 c arg4 harg4 x1) 0) (q (rotB c i arg3 harg3 arg5 harg5 arg10 x0 x2 xt0 0 (by decide)) (kernelRun0_A.sl.r_1 c arg4 harg4 x1) 4)) (zV (q (rotB c i arg3 harg3 arg5 harg5 arg10 x0 x2 xt0 0 (by decide)) (kernelRun0_A.sl.r_1 c arg4 harg4 x1) 1) (q (rotB c i arg3 harg3 arg5 harg5 arg10 x0 x2 xt0 0 (by decide)) (kernelRun0_A.sl.r_1 c arg4 harg4 x1) 5)) (zV (q (rotB c i arg3 harg3 arg5 harg5 arg10 x0 x2 xt0 0 (by decide)) (kernelRun0_A.sl.r_1 c arg4 harg4 x1) 2) (q (rotB c i arg3 harg3 arg5 harg5 arg10 x0 x2 xt0 0 (by decide)) (kernelRun0_A.sl.r_1 c arg4 harg4 x1) 6)) (zV (q (rotB c i arg3 harg3 arg5 harg5 arg10 x0 x2 xt0 0 (by decide)) (kernelRun0_A.sl.r_1 c arg4 harg4 x1) 3) (q (rotB c i arg3 harg3 arg5 harg5 arg10 x0 x2 xt0 0 (by decide)) (kernelRun0_A.sl.r_1 c arg4 harg4 x1) 7))) shapeCasts_S8x128_S8x128 := by
  sl_kernel_rfl

/-- The packed codes of half 1 of block 0. -/
theorem code_0_1 : k0_pay248 (kernelRun0_A.sl.r_203 c i arg3 harg3 arg4 harg4 arg5 harg5 arg10 x0 x1 x2 xt0) (kernelRun0_A.sl.r_204 c i arg3 harg3 arg4 harg4 arg5 harg5 arg10 x0 x1 x2 xt0) (kernelRun0_A.sl.r_205 c i arg3 harg3 arg4 harg4 arg5 harg5 arg10 x0 x1 x2 xt0) 983055#32 = shapeCast S8x128 (wordV (zV (q (rotB c i arg3 harg3 arg5 harg5 arg10 x0 x2 xt0 0 (by decide)) (kernelRun0_A.sl.r_1 c arg4 harg4 x1) 8) (q (rotB c i arg3 harg3 arg5 harg5 arg10 x0 x2 xt0 0 (by decide)) (kernelRun0_A.sl.r_1 c arg4 harg4 x1) 12)) (zV (q (rotB c i arg3 harg3 arg5 harg5 arg10 x0 x2 xt0 0 (by decide)) (kernelRun0_A.sl.r_1 c arg4 harg4 x1) 9) (q (rotB c i arg3 harg3 arg5 harg5 arg10 x0 x2 xt0 0 (by decide)) (kernelRun0_A.sl.r_1 c arg4 harg4 x1) 13)) (zV (q (rotB c i arg3 harg3 arg5 harg5 arg10 x0 x2 xt0 0 (by decide)) (kernelRun0_A.sl.r_1 c arg4 harg4 x1) 10) (q (rotB c i arg3 harg3 arg5 harg5 arg10 x0 x2 xt0 0 (by decide)) (kernelRun0_A.sl.r_1 c arg4 harg4 x1) 14)) (zV (q (rotB c i arg3 harg3 arg5 harg5 arg10 x0 x2 xt0 0 (by decide)) (kernelRun0_A.sl.r_1 c arg4 harg4 x1) 11) (q (rotB c i arg3 harg3 arg5 harg5 arg10 x0 x2 xt0 0 (by decide)) (kernelRun0_A.sl.r_1 c arg4 harg4 x1) 15))) shapeCasts_S8x128_S8x128 := by
  sl_kernel_rfl

/-- The largest magnitudes of block 1. -/
theorem amax_1 : (kernelRun0_A.sl.r_263 c i arg3 harg3 arg5 harg5 arg10 x0 x2 xt0) = amaxV (rotB c i arg3 harg3 arg5 harg5 arg10 x0 x2 xt0 1 (by decide)) := by
  sl_kernel_rfl

/-- The scales of block 1. -/
theorem scale_1 : (kernelRun0_A.sl.r_264 c i arg3 harg3 arg4 harg4 arg5 harg5 arg10 x0 x1 x2 xt0) = (scaleV (ratioV (amaxV (rotB c i arg3 harg3 arg5 harg5 arg10 x0 x2 xt0 1 (by decide))) (kernelRun0_A.sl.r_1 c arg4 harg4 x1))) := by
  sl_kernel_rfl

/-- The quantised tokens of word 0 of block 1. -/
theorem pair_1_0 : (kernelRun0_A.sl.r_273 c i arg3 harg3 arg4 harg4 arg5 harg5 arg10 x0 x1 x2 xt0) = pairV (q (rotB c i arg3 harg3 arg5 harg5 arg10 x0 x2 xt0 1 (by decide)) (kernelRun0_A.sl.r_1 c arg4 harg4 x1) 0) (q (rotB c i arg3 harg3 arg5 harg5 arg10 x0 x2 xt0 1 (by decide)) (kernelRun0_A.sl.r_1 c arg4 harg4 x1) 4) (scaleV (ratioV (amaxV (rotB c i arg3 harg3 arg5 harg5 arg10 x0 x2 xt0 1 (by decide))) (kernelRun0_A.sl.r_1 c arg4 harg4 x1))) := by
  sl_kernel_rfl

/-- The quantised tokens of word 1 of block 1. -/
theorem pair_1_1 : (kernelRun0_A.sl.r_289 c i arg3 harg3 arg4 harg4 arg5 harg5 arg10 x0 x1 x2 xt0) = pairV (q (rotB c i arg3 harg3 arg5 harg5 arg10 x0 x2 xt0 1 (by decide)) (kernelRun0_A.sl.r_1 c arg4 harg4 x1) 1) (q (rotB c i arg3 harg3 arg5 harg5 arg10 x0 x2 xt0 1 (by decide)) (kernelRun0_A.sl.r_1 c arg4 harg4 x1) 5) (scaleV (ratioV (amaxV (rotB c i arg3 harg3 arg5 harg5 arg10 x0 x2 xt0 1 (by decide))) (kernelRun0_A.sl.r_1 c arg4 harg4 x1))) := by
  sl_kernel_rfl

/-- The quantised tokens of word 2 of block 1. -/
theorem pair_1_2 : (kernelRun0_A.sl.r_305 c i arg3 harg3 arg4 harg4 arg5 harg5 arg10 x0 x1 x2 xt0) = pairV (q (rotB c i arg3 harg3 arg5 harg5 arg10 x0 x2 xt0 1 (by decide)) (kernelRun0_A.sl.r_1 c arg4 harg4 x1) 2) (q (rotB c i arg3 harg3 arg5 harg5 arg10 x0 x2 xt0 1 (by decide)) (kernelRun0_A.sl.r_1 c arg4 harg4 x1) 6) (scaleV (ratioV (amaxV (rotB c i arg3 harg3 arg5 harg5 arg10 x0 x2 xt0 1 (by decide))) (kernelRun0_A.sl.r_1 c arg4 harg4 x1))) := by
  sl_kernel_rfl

/-- The quantised tokens of word 3 of block 1. -/
theorem pair_1_3 : (kernelRun0_A.sl.r_323 c i arg3 harg3 arg4 harg4 arg5 harg5 arg10 x0 x1 x2 xt0) = pairV (q (rotB c i arg3 harg3 arg5 harg5 arg10 x0 x2 xt0 1 (by decide)) (kernelRun0_A.sl.r_1 c arg4 harg4 x1) 3) (q (rotB c i arg3 harg3 arg5 harg5 arg10 x0 x2 xt0 1 (by decide)) (kernelRun0_A.sl.r_1 c arg4 harg4 x1) 7) (scaleV (ratioV (amaxV (rotB c i arg3 harg3 arg5 harg5 arg10 x0 x2 xt0 1 (by decide))) (kernelRun0_A.sl.r_1 c arg4 harg4 x1))) := by
  sl_kernel_rfl

/-- The quantised tokens of word 4 of block 1. -/
theorem pair_1_4 : (kernelRun0_A.sl.r_339 c i arg3 harg3 arg4 harg4 arg5 harg5 arg10 x0 x1 x2 xt0) = pairV (q (rotB c i arg3 harg3 arg5 harg5 arg10 x0 x2 xt0 1 (by decide)) (kernelRun0_A.sl.r_1 c arg4 harg4 x1) 8) (q (rotB c i arg3 harg3 arg5 harg5 arg10 x0 x2 xt0 1 (by decide)) (kernelRun0_A.sl.r_1 c arg4 harg4 x1) 12) (scaleV (ratioV (amaxV (rotB c i arg3 harg3 arg5 harg5 arg10 x0 x2 xt0 1 (by decide))) (kernelRun0_A.sl.r_1 c arg4 harg4 x1))) := by
  sl_kernel_rfl

/-- The quantised tokens of word 5 of block 1. -/
theorem pair_1_5 : (kernelRun0_A.sl.r_355 c i arg3 harg3 arg4 harg4 arg5 harg5 arg10 x0 x1 x2 xt0) = pairV (q (rotB c i arg3 harg3 arg5 harg5 arg10 x0 x2 xt0 1 (by decide)) (kernelRun0_A.sl.r_1 c arg4 harg4 x1) 9) (q (rotB c i arg3 harg3 arg5 harg5 arg10 x0 x2 xt0 1 (by decide)) (kernelRun0_A.sl.r_1 c arg4 harg4 x1) 13) (scaleV (ratioV (amaxV (rotB c i arg3 harg3 arg5 harg5 arg10 x0 x2 xt0 1 (by decide))) (kernelRun0_A.sl.r_1 c arg4 harg4 x1))) := by
  sl_kernel_rfl

/-- The quantised tokens of word 6 of block 1. -/
theorem pair_1_6 : (kernelRun0_A.sl.r_373 c i arg3 harg3 arg4 harg4 arg5 harg5 arg10 x0 x1 x2 xt0) = pairV (q (rotB c i arg3 harg3 arg5 harg5 arg10 x0 x2 xt0 1 (by decide)) (kernelRun0_A.sl.r_1 c arg4 harg4 x1) 10) (q (rotB c i arg3 harg3 arg5 harg5 arg10 x0 x2 xt0 1 (by decide)) (kernelRun0_A.sl.r_1 c arg4 harg4 x1) 14) (scaleV (ratioV (amaxV (rotB c i arg3 harg3 arg5 harg5 arg10 x0 x2 xt0 1 (by decide))) (kernelRun0_A.sl.r_1 c arg4 harg4 x1))) := by
  sl_kernel_rfl

/-- The quantised tokens of word 7 of block 1. -/
theorem pair_1_7 : (kernelRun0_A.sl.r_387 c i arg3 harg3 arg4 harg4 arg5 harg5 arg10 x0 x1 x2 xt0) = pairV (q (rotB c i arg3 harg3 arg5 harg5 arg10 x0 x2 xt0 1 (by decide)) (kernelRun0_A.sl.r_1 c arg4 harg4 x1) 11) (q (rotB c i arg3 harg3 arg5 harg5 arg10 x0 x2 xt0 1 (by decide)) (kernelRun0_A.sl.r_1 c arg4 harg4 x1) 15) (scaleV (ratioV (amaxV (rotB c i arg3 harg3 arg5 harg5 arg10 x0 x2 xt0 1 (by decide))) (kernelRun0_A.sl.r_1 c arg4 harg4 x1))) := by
  sl_kernel_rfl

/-- The packed codes of half 0 of block 1. -/
theorem code_1_0 : k0_pay494 (kernelRun0_A.sl.r_332 c i arg3 harg3 arg4 harg4 arg5 harg5 arg10 x0 x1 x2 xt0) = shapeCast S8x128 (wordV (zV (q (rotB c i arg3 harg3 arg5 harg5 arg10 x0 x2 xt0 1 (by decide)) (kernelRun0_A.sl.r_1 c arg4 harg4 x1) 0) (q (rotB c i arg3 harg3 arg5 harg5 arg10 x0 x2 xt0 1 (by decide)) (kernelRun0_A.sl.r_1 c arg4 harg4 x1) 4)) (zV (q (rotB c i arg3 harg3 arg5 harg5 arg10 x0 x2 xt0 1 (by decide)) (kernelRun0_A.sl.r_1 c arg4 harg4 x1) 1) (q (rotB c i arg3 harg3 arg5 harg5 arg10 x0 x2 xt0 1 (by decide)) (kernelRun0_A.sl.r_1 c arg4 harg4 x1) 5)) (zV (q (rotB c i arg3 harg3 arg5 harg5 arg10 x0 x2 xt0 1 (by decide)) (kernelRun0_A.sl.r_1 c arg4 harg4 x1) 2) (q (rotB c i arg3 harg3 arg5 harg5 arg10 x0 x2 xt0 1 (by decide)) (kernelRun0_A.sl.r_1 c arg4 harg4 x1) 6)) (zV (q (rotB c i arg3 harg3 arg5 harg5 arg10 x0 x2 xt0 1 (by decide)) (kernelRun0_A.sl.r_1 c arg4 harg4 x1) 3) (q (rotB c i arg3 harg3 arg5 harg5 arg10 x0 x2 xt0 1 (by decide)) (kernelRun0_A.sl.r_1 c arg4 harg4 x1) 7))) shapeCasts_S8x128_S8x128 := by
  sl_kernel_rfl

/-- The packed codes of half 1 of block 1. -/
theorem code_1_1 : k0_pay495 (kernelRun0_A.sl.r_394 c i arg3 harg3 arg4 harg4 arg5 harg5 arg10 x0 x1 x2 xt0) = shapeCast S8x128 (wordV (zV (q (rotB c i arg3 harg3 arg5 harg5 arg10 x0 x2 xt0 1 (by decide)) (kernelRun0_A.sl.r_1 c arg4 harg4 x1) 8) (q (rotB c i arg3 harg3 arg5 harg5 arg10 x0 x2 xt0 1 (by decide)) (kernelRun0_A.sl.r_1 c arg4 harg4 x1) 12)) (zV (q (rotB c i arg3 harg3 arg5 harg5 arg10 x0 x2 xt0 1 (by decide)) (kernelRun0_A.sl.r_1 c arg4 harg4 x1) 9) (q (rotB c i arg3 harg3 arg5 harg5 arg10 x0 x2 xt0 1 (by decide)) (kernelRun0_A.sl.r_1 c arg4 harg4 x1) 13)) (zV (q (rotB c i arg3 harg3 arg5 harg5 arg10 x0 x2 xt0 1 (by decide)) (kernelRun0_A.sl.r_1 c arg4 harg4 x1) 10) (q (rotB c i arg3 harg3 arg5 harg5 arg10 x0 x2 xt0 1 (by decide)) (kernelRun0_A.sl.r_1 c arg4 harg4 x1) 14)) (zV (q (rotB c i arg3 harg3 arg5 harg5 arg10 x0 x2 xt0 1 (by decide)) (kernelRun0_A.sl.r_1 c arg4 harg4 x1) 11) (q (rotB c i arg3 harg3 arg5 harg5 arg10 x0 x2 xt0 1 (by decide)) (kernelRun0_A.sl.r_1 c arg4 harg4 x1) 15))) shapeCasts_S8x128_S8x128 := by
  sl_kernel_rfl

/-- The largest magnitudes of block 2. -/
theorem amax_2 : (kernelRun0_A.sl.r_450 c i arg3 harg3 arg5 harg5 arg10 x0 x2 xt0) = amaxV (rotB c i arg3 harg3 arg5 harg5 arg10 x0 x2 xt0 2 (by decide)) := by
  sl_kernel_rfl

/-- The scales of block 2. -/
theorem scale_2 : (kernelRun0_A.sl.r_451 c i arg3 harg3 arg4 harg4 arg5 harg5 arg10 x0 x1 x2 xt0) = (scaleV (ratioV (amaxV (rotB c i arg3 harg3 arg5 harg5 arg10 x0 x2 xt0 2 (by decide))) (kernelRun0_A.sl.r_1 c arg4 harg4 x1))) := by
  sl_kernel_rfl

/-- The quantised tokens of word 0 of block 2. -/
theorem pair_2_0 : (kernelRun0_A.sl.r_461 c i arg3 harg3 arg4 harg4 arg5 harg5 arg10 x0 x1 x2 xt0) = pairV (q (rotB c i arg3 harg3 arg5 harg5 arg10 x0 x2 xt0 2 (by decide)) (kernelRun0_A.sl.r_1 c arg4 harg4 x1) 0) (q (rotB c i arg3 harg3 arg5 harg5 arg10 x0 x2 xt0 2 (by decide)) (kernelRun0_A.sl.r_1 c arg4 harg4 x1) 4) (scaleV (ratioV (amaxV (rotB c i arg3 harg3 arg5 harg5 arg10 x0 x2 xt0 2 (by decide))) (kernelRun0_A.sl.r_1 c arg4 harg4 x1))) := by
  sl_kernel_rfl

/-- The quantised tokens of word 1 of block 2. -/
theorem pair_2_1 : (kernelRun0_A.sl.r_478 c i arg3 harg3 arg4 harg4 arg5 harg5 arg10 x0 x1 x2 xt0) = pairV (q (rotB c i arg3 harg3 arg5 harg5 arg10 x0 x2 xt0 2 (by decide)) (kernelRun0_A.sl.r_1 c arg4 harg4 x1) 1) (q (rotB c i arg3 harg3 arg5 harg5 arg10 x0 x2 xt0 2 (by decide)) (kernelRun0_A.sl.r_1 c arg4 harg4 x1) 5) (scaleV (ratioV (amaxV (rotB c i arg3 harg3 arg5 harg5 arg10 x0 x2 xt0 2 (by decide))) (kernelRun0_A.sl.r_1 c arg4 harg4 x1))) := by
  sl_kernel_rfl

/-- The quantised tokens of word 2 of block 2. -/
theorem pair_2_2 : (kernelRun0_A.sl.r_493 c i arg3 harg3 arg4 harg4 arg5 harg5 arg10 x0 x1 x2 xt0) = pairV (q (rotB c i arg3 harg3 arg5 harg5 arg10 x0 x2 xt0 2 (by decide)) (kernelRun0_A.sl.r_1 c arg4 harg4 x1) 2) (q (rotB c i arg3 harg3 arg5 harg5 arg10 x0 x2 xt0 2 (by decide)) (kernelRun0_A.sl.r_1 c arg4 harg4 x1) 6) (scaleV (ratioV (amaxV (rotB c i arg3 harg3 arg5 harg5 arg10 x0 x2 xt0 2 (by decide))) (kernelRun0_A.sl.r_1 c arg4 harg4 x1))) := by
  sl_kernel_rfl

/-- The quantised tokens of word 3 of block 2. -/
theorem pair_2_3 : (kernelRun0_A.sl.r_508 c i arg3 harg3 arg4 harg4 arg5 harg5 arg10 x0 x1 x2 xt0) = pairV (q (rotB c i arg3 harg3 arg5 harg5 arg10 x0 x2 xt0 2 (by decide)) (kernelRun0_A.sl.r_1 c arg4 harg4 x1) 3) (q (rotB c i arg3 harg3 arg5 harg5 arg10 x0 x2 xt0 2 (by decide)) (kernelRun0_A.sl.r_1 c arg4 harg4 x1) 7) (scaleV (ratioV (amaxV (rotB c i arg3 harg3 arg5 harg5 arg10 x0 x2 xt0 2 (by decide))) (kernelRun0_A.sl.r_1 c arg4 harg4 x1))) := by
  sl_kernel_rfl

/-- The quantised tokens of word 4 of block 2. -/
theorem pair_2_4 : (kernelRun0_A.sl.r_526 c i arg3 harg3 arg4 harg4 arg5 harg5 arg10 x0 x1 x2 xt0) = pairV (q (rotB c i arg3 harg3 arg5 harg5 arg10 x0 x2 xt0 2 (by decide)) (kernelRun0_A.sl.r_1 c arg4 harg4 x1) 8) (q (rotB c i arg3 harg3 arg5 harg5 arg10 x0 x2 xt0 2 (by decide)) (kernelRun0_A.sl.r_1 c arg4 harg4 x1) 12) (scaleV (ratioV (amaxV (rotB c i arg3 harg3 arg5 harg5 arg10 x0 x2 xt0 2 (by decide))) (kernelRun0_A.sl.r_1 c arg4 harg4 x1))) := by
  sl_kernel_rfl

/-- The quantised tokens of word 5 of block 2. -/
theorem pair_2_5 : (kernelRun0_A.sl.r_541 c i arg3 harg3 arg4 harg4 arg5 harg5 arg10 x0 x1 x2 xt0) = pairV (q (rotB c i arg3 harg3 arg5 harg5 arg10 x0 x2 xt0 2 (by decide)) (kernelRun0_A.sl.r_1 c arg4 harg4 x1) 9) (q (rotB c i arg3 harg3 arg5 harg5 arg10 x0 x2 xt0 2 (by decide)) (kernelRun0_A.sl.r_1 c arg4 harg4 x1) 13) (scaleV (ratioV (amaxV (rotB c i arg3 harg3 arg5 harg5 arg10 x0 x2 xt0 2 (by decide))) (kernelRun0_A.sl.r_1 c arg4 harg4 x1))) := by
  sl_kernel_rfl

/-- The quantised tokens of word 6 of block 2. -/
theorem pair_2_6 : (kernelRun0_A.sl.r_556 c i arg3 harg3 arg4 harg4 arg5 harg5 arg10 x0 x1 x2 xt0) = pairV (q (rotB c i arg3 harg3 arg5 harg5 arg10 x0 x2 xt0 2 (by decide)) (kernelRun0_A.sl.r_1 c arg4 harg4 x1) 10) (q (rotB c i arg3 harg3 arg5 harg5 arg10 x0 x2 xt0 2 (by decide)) (kernelRun0_A.sl.r_1 c arg4 harg4 x1) 14) (scaleV (ratioV (amaxV (rotB c i arg3 harg3 arg5 harg5 arg10 x0 x2 xt0 2 (by decide))) (kernelRun0_A.sl.r_1 c arg4 harg4 x1))) := by
  sl_kernel_rfl

/-- The quantised tokens of word 7 of block 2. -/
theorem pair_2_7 : (kernelRun0_A.sl.r_571 c i arg3 harg3 arg4 harg4 arg5 harg5 arg10 x0 x1 x2 xt0) = pairV (q (rotB c i arg3 harg3 arg5 harg5 arg10 x0 x2 xt0 2 (by decide)) (kernelRun0_A.sl.r_1 c arg4 harg4 x1) 11) (q (rotB c i arg3 harg3 arg5 harg5 arg10 x0 x2 xt0 2 (by decide)) (kernelRun0_A.sl.r_1 c arg4 harg4 x1) 15) (scaleV (ratioV (amaxV (rotB c i arg3 harg3 arg5 harg5 arg10 x0 x2 xt0 2 (by decide))) (kernelRun0_A.sl.r_1 c arg4 harg4 x1))) := by
  sl_kernel_rfl

/-- The packed codes of half 0 of block 2. -/
theorem code_2_0 : k0_pay748 (kernelRun0_A.sl.r_516 c i arg3 harg3 arg4 harg4 arg5 harg5 arg10 x0 x1 x2 xt0) = shapeCast S8x128 (wordV (zV (q (rotB c i arg3 harg3 arg5 harg5 arg10 x0 x2 xt0 2 (by decide)) (kernelRun0_A.sl.r_1 c arg4 harg4 x1) 0) (q (rotB c i arg3 harg3 arg5 harg5 arg10 x0 x2 xt0 2 (by decide)) (kernelRun0_A.sl.r_1 c arg4 harg4 x1) 4)) (zV (q (rotB c i arg3 harg3 arg5 harg5 arg10 x0 x2 xt0 2 (by decide)) (kernelRun0_A.sl.r_1 c arg4 harg4 x1) 1) (q (rotB c i arg3 harg3 arg5 harg5 arg10 x0 x2 xt0 2 (by decide)) (kernelRun0_A.sl.r_1 c arg4 harg4 x1) 5)) (zV (q (rotB c i arg3 harg3 arg5 harg5 arg10 x0 x2 xt0 2 (by decide)) (kernelRun0_A.sl.r_1 c arg4 harg4 x1) 2) (q (rotB c i arg3 harg3 arg5 harg5 arg10 x0 x2 xt0 2 (by decide)) (kernelRun0_A.sl.r_1 c arg4 harg4 x1) 6)) (zV (q (rotB c i arg3 harg3 arg5 harg5 arg10 x0 x2 xt0 2 (by decide)) (kernelRun0_A.sl.r_1 c arg4 harg4 x1) 3) (q (rotB c i arg3 harg3 arg5 harg5 arg10 x0 x2 xt0 2 (by decide)) (kernelRun0_A.sl.r_1 c arg4 harg4 x1) 7))) shapeCasts_S8x128_S8x128 := by
  sl_kernel_rfl

/-- The packed codes of half 1 of block 2. -/
theorem code_2_1 : k0_pay749 (kernelRun0_A.sl.r_533 c i arg3 harg3 arg4 harg4 arg5 harg5 arg10 x0 x1 x2 xt0) (kernelRun0_A.sl.r_548 c i arg3 harg3 arg4 harg4 arg5 harg5 arg10 x0 x1 x2 xt0) (kernelRun0_A.sl.r_564 c i arg3 harg3 arg4 harg4 arg5 harg5 arg10 x0 x1 x2 xt0) (kernelRun0_A.sl.r_576 c i arg3 harg3 arg4 harg4 arg5 harg5 arg10 x0 x1 x2 xt0) (kernelRun0_A.sl.r_577 c i arg3 harg3 arg4 harg4 arg5 harg5 arg10 x0 x1 x2 xt0) (kernelRun0_A.sl.r_578 c i arg3 harg3 arg4 harg4 arg5 harg5 arg10 x0 x1 x2 xt0) (kernelRun0_A.sl.r_579 c i arg3 harg3 arg4 harg4 arg5 harg5 arg10 x0 x1 x2 xt0) 1#32 = shapeCast S8x128 (wordV (zV (q (rotB c i arg3 harg3 arg5 harg5 arg10 x0 x2 xt0 2 (by decide)) (kernelRun0_A.sl.r_1 c arg4 harg4 x1) 8) (q (rotB c i arg3 harg3 arg5 harg5 arg10 x0 x2 xt0 2 (by decide)) (kernelRun0_A.sl.r_1 c arg4 harg4 x1) 12)) (zV (q (rotB c i arg3 harg3 arg5 harg5 arg10 x0 x2 xt0 2 (by decide)) (kernelRun0_A.sl.r_1 c arg4 harg4 x1) 9) (q (rotB c i arg3 harg3 arg5 harg5 arg10 x0 x2 xt0 2 (by decide)) (kernelRun0_A.sl.r_1 c arg4 harg4 x1) 13)) (zV (q (rotB c i arg3 harg3 arg5 harg5 arg10 x0 x2 xt0 2 (by decide)) (kernelRun0_A.sl.r_1 c arg4 harg4 x1) 10) (q (rotB c i arg3 harg3 arg5 harg5 arg10 x0 x2 xt0 2 (by decide)) (kernelRun0_A.sl.r_1 c arg4 harg4 x1) 14)) (zV (q (rotB c i arg3 harg3 arg5 harg5 arg10 x0 x2 xt0 2 (by decide)) (kernelRun0_A.sl.r_1 c arg4 harg4 x1) 11) (q (rotB c i arg3 harg3 arg5 harg5 arg10 x0 x2 xt0 2 (by decide)) (kernelRun0_A.sl.r_1 c arg4 harg4 x1) 15))) shapeCasts_S8x128_S8x128 := by
  sl_kernel_rfl

/-- The largest magnitudes of block 3. -/
theorem amax_3 : (kernelRun0_A.sl.r_638 c i arg3 harg3 arg5 harg5 arg10 x0 x2 xt0) = amaxV (rotB c i arg3 harg3 arg5 harg5 arg10 x0 x2 xt0 3 (by decide)) := by
  sl_kernel_rfl

/-- The scales of block 3. -/
theorem scale_3 : (kernelRun0_A.sl.r_639 c i arg3 harg3 arg4 harg4 arg5 harg5 arg10 x0 x1 x2 xt0) = (scaleV (ratioV (amaxV (rotB c i arg3 harg3 arg5 harg5 arg10 x0 x2 xt0 3 (by decide))) (kernelRun0_A.sl.r_1 c arg4 harg4 x1))) := by
  sl_kernel_rfl

/-- The quantised tokens of word 0 of block 3. -/
theorem pair_3_0 : (kernelRun0_A.sl.r_651 c i arg3 harg3 arg4 harg4 arg5 harg5 arg10 x0 x1 x2 xt0) = pairV (q (rotB c i arg3 harg3 arg5 harg5 arg10 x0 x2 xt0 3 (by decide)) (kernelRun0_A.sl.r_1 c arg4 harg4 x1) 0) (q (rotB c i arg3 harg3 arg5 harg5 arg10 x0 x2 xt0 3 (by decide)) (kernelRun0_A.sl.r_1 c arg4 harg4 x1) 4) (scaleV (ratioV (amaxV (rotB c i arg3 harg3 arg5 harg5 arg10 x0 x2 xt0 3 (by decide))) (kernelRun0_A.sl.r_1 c arg4 harg4 x1))) := by
  sl_kernel_rfl

/-- The quantised tokens of word 1 of block 3. -/
theorem pair_3_1 : (kernelRun0_A.sl.r_667 c i arg3 harg3 arg4 harg4 arg5 harg5 arg10 x0 x1 x2 xt0) = pairV (q (rotB c i arg3 harg3 arg5 harg5 arg10 x0 x2 xt0 3 (by decide)) (kernelRun0_A.sl.r_1 c arg4 harg4 x1) 1) (q (rotB c i arg3 harg3 arg5 harg5 arg10 x0 x2 xt0 3 (by decide)) (kernelRun0_A.sl.r_1 c arg4 harg4 x1) 5) (scaleV (ratioV (amaxV (rotB c i arg3 harg3 arg5 harg5 arg10 x0 x2 xt0 3 (by decide))) (kernelRun0_A.sl.r_1 c arg4 harg4 x1))) := by
  sl_kernel_rfl

/-- The quantised tokens of word 2 of block 3. -/
theorem pair_3_2 : (kernelRun0_A.sl.r_682 c i arg3 harg3 arg4 harg4 arg5 harg5 arg10 x0 x1 x2 xt0) = pairV (q (rotB c i arg3 harg3 arg5 harg5 arg10 x0 x2 xt0 3 (by decide)) (kernelRun0_A.sl.r_1 c arg4 harg4 x1) 2) (q (rotB c i arg3 harg3 arg5 harg5 arg10 x0 x2 xt0 3 (by decide)) (kernelRun0_A.sl.r_1 c arg4 harg4 x1) 6) (scaleV (ratioV (amaxV (rotB c i arg3 harg3 arg5 harg5 arg10 x0 x2 xt0 3 (by decide))) (kernelRun0_A.sl.r_1 c arg4 harg4 x1))) := by
  sl_kernel_rfl

/-- The quantised tokens of word 3 of block 3. -/
theorem pair_3_3 : (kernelRun0_A.sl.r_693 c i arg3 harg3 arg4 harg4 arg5 harg5 arg10 x0 x1 x2 xt0) = pairV (q (rotB c i arg3 harg3 arg5 harg5 arg10 x0 x2 xt0 3 (by decide)) (kernelRun0_A.sl.r_1 c arg4 harg4 x1) 3) (q (rotB c i arg3 harg3 arg5 harg5 arg10 x0 x2 xt0 3 (by decide)) (kernelRun0_A.sl.r_1 c arg4 harg4 x1) 7) (scaleV (ratioV (amaxV (rotB c i arg3 harg3 arg5 harg5 arg10 x0 x2 xt0 3 (by decide))) (kernelRun0_A.sl.r_1 c arg4 harg4 x1))) := by
  sl_kernel_rfl

/-- The quantised tokens of word 4 of block 3. -/
theorem pair_3_4 : (kernelRun0_A.sl.r_709 c i arg3 harg3 arg4 harg4 arg5 harg5 arg10 x0 x1 x2 xt0) = pairV (q (rotB c i arg3 harg3 arg5 harg5 arg10 x0 x2 xt0 3 (by decide)) (kernelRun0_A.sl.r_1 c arg4 harg4 x1) 8) (q (rotB c i arg3 harg3 arg5 harg5 arg10 x0 x2 xt0 3 (by decide)) (kernelRun0_A.sl.r_1 c arg4 harg4 x1) 12) (scaleV (ratioV (amaxV (rotB c i arg3 harg3 arg5 harg5 arg10 x0 x2 xt0 3 (by decide))) (kernelRun0_A.sl.r_1 c arg4 harg4 x1))) := by
  sl_kernel_rfl

/-- The quantised tokens of word 5 of block 3. -/
theorem pair_3_5 : (kernelRun0_A.sl.r_724 c i arg3 harg3 arg4 harg4 arg5 harg5 arg10 x0 x1 x2 xt0) = pairV (q (rotB c i arg3 harg3 arg5 harg5 arg10 x0 x2 xt0 3 (by decide)) (kernelRun0_A.sl.r_1 c arg4 harg4 x1) 9) (q (rotB c i arg3 harg3 arg5 harg5 arg10 x0 x2 xt0 3 (by decide)) (kernelRun0_A.sl.r_1 c arg4 harg4 x1) 13) (scaleV (ratioV (amaxV (rotB c i arg3 harg3 arg5 harg5 arg10 x0 x2 xt0 3 (by decide))) (kernelRun0_A.sl.r_1 c arg4 harg4 x1))) := by
  sl_kernel_rfl

/-- The quantised tokens of word 6 of block 3. -/
theorem pair_3_6 : (kernelRun0_A.sl.r_735 c i arg3 harg3 arg4 harg4 arg5 harg5 arg10 x0 x1 x2 xt0) = pairV (q (rotB c i arg3 harg3 arg5 harg5 arg10 x0 x2 xt0 3 (by decide)) (kernelRun0_A.sl.r_1 c arg4 harg4 x1) 10) (q (rotB c i arg3 harg3 arg5 harg5 arg10 x0 x2 xt0 3 (by decide)) (kernelRun0_A.sl.r_1 c arg4 harg4 x1) 14) (scaleV (ratioV (amaxV (rotB c i arg3 harg3 arg5 harg5 arg10 x0 x2 xt0 3 (by decide))) (kernelRun0_A.sl.r_1 c arg4 harg4 x1))) := by
  sl_kernel_rfl

/-- The quantised tokens of word 7 of block 3. -/
theorem pair_3_7 : (kernelRun0_A.sl.r_748 c i arg3 harg3 arg4 harg4 arg5 harg5 arg10 x0 x1 x2 xt0) = pairV (q (rotB c i arg3 harg3 arg5 harg5 arg10 x0 x2 xt0 3 (by decide)) (kernelRun0_A.sl.r_1 c arg4 harg4 x1) 11) (q (rotB c i arg3 harg3 arg5 harg5 arg10 x0 x2 xt0 3 (by decide)) (kernelRun0_A.sl.r_1 c arg4 harg4 x1) 15) (scaleV (ratioV (amaxV (rotB c i arg3 harg3 arg5 harg5 arg10 x0 x2 xt0 3 (by decide))) (kernelRun0_A.sl.r_1 c arg4 harg4 x1))) := by
  sl_kernel_rfl

/-- The packed codes of half 0 of block 3. -/
theorem code_3_0 : k0_pay992 (kernelRun0_A.sl.r_701 c i arg3 harg3 arg4 harg4 arg5 harg5 arg10 x0 x1 x2 xt0) = shapeCast S8x128 (wordV (zV (q (rotB c i arg3 harg3 arg5 harg5 arg10 x0 x2 xt0 3 (by decide)) (kernelRun0_A.sl.r_1 c arg4 harg4 x1) 0) (q (rotB c i arg3 harg3 arg5 harg5 arg10 x0 x2 xt0 3 (by decide)) (kernelRun0_A.sl.r_1 c arg4 harg4 x1) 4)) (zV (q (rotB c i arg3 harg3 arg5 harg5 arg10 x0 x2 xt0 3 (by decide)) (kernelRun0_A.sl.r_1 c arg4 harg4 x1) 1) (q (rotB c i arg3 harg3 arg5 harg5 arg10 x0 x2 xt0 3 (by decide)) (kernelRun0_A.sl.r_1 c arg4 harg4 x1) 5)) (zV (q (rotB c i arg3 harg3 arg5 harg5 arg10 x0 x2 xt0 3 (by decide)) (kernelRun0_A.sl.r_1 c arg4 harg4 x1) 2) (q (rotB c i arg3 harg3 arg5 harg5 arg10 x0 x2 xt0 3 (by decide)) (kernelRun0_A.sl.r_1 c arg4 harg4 x1) 6)) (zV (q (rotB c i arg3 harg3 arg5 harg5 arg10 x0 x2 xt0 3 (by decide)) (kernelRun0_A.sl.r_1 c arg4 harg4 x1) 3) (q (rotB c i arg3 harg3 arg5 harg5 arg10 x0 x2 xt0 3 (by decide)) (kernelRun0_A.sl.r_1 c arg4 harg4 x1) 7))) shapeCasts_S8x128_S8x128 := by
  sl_kernel_rfl

/-- The packed codes of half 1 of block 3. -/
theorem code_3_1 : k0_pay993 (kernelRun0_A.sl.r_717 c i arg3 harg3 arg4 harg4 arg5 harg5 arg10 x0 x1 x2 xt0) (kernelRun0_A.sl.r_732 c i arg3 harg3 arg4 harg4 arg5 harg5 arg10 x0 x1 x2 xt0) (kernelRun0_A.sl.r_743 c i arg3 harg3 arg4 harg4 arg5 harg5 arg10 x0 x1 x2 xt0) (kernelRun0_A.sl.r_752 c i arg3 harg3 arg4 harg4 arg5 harg5 arg10 x0 x1 x2 xt0) (kernelRun0_A.sl.r_756 c i arg3 harg3 arg4 harg4 arg5 harg5 arg10 x0 x1 x2 xt0) = shapeCast S8x128 (wordV (zV (q (rotB c i arg3 harg3 arg5 harg5 arg10 x0 x2 xt0 3 (by decide)) (kernelRun0_A.sl.r_1 c arg4 harg4 x1) 8) (q (rotB c i arg3 harg3 arg5 harg5 arg10 x0 x2 xt0 3 (by decide)) (kernelRun0_A.sl.r_1 c arg4 harg4 x1) 12)) (zV (q (rotB c i arg3 harg3 arg5 harg5 arg10 x0 x2 xt0 3 (by decide)) (kernelRun0_A.sl.r_1 c arg4 harg4 x1) 9) (q (rotB c i arg3 harg3 arg5 harg5 arg10 x0 x2 xt0 3 (by decide)) (kernelRun0_A.sl.r_1 c arg4 harg4 x1) 13)) (zV (q (rotB c i arg3 harg3 arg5 harg5 arg10 x0 x2 xt0 3 (by decide)) (kernelRun0_A.sl.r_1 c arg4 harg4 x1) 10) (q (rotB c i arg3 harg3 arg5 harg5 arg10 x0 x2 xt0 3 (by decide)) (kernelRun0_A.sl.r_1 c arg4 harg4 x1) 14)) (zV (q (rotB c i arg3 harg3 arg5 harg5 arg10 x0 x2 xt0 3 (by decide)) (kernelRun0_A.sl.r_1 c arg4 harg4 x1) 11) (q (rotB c i arg3 harg3 arg5 harg5 arg10 x0 x2 xt0 3 (by decide)) (kernelRun0_A.sl.r_1 c arg4 harg4 x1) 15))) shapeCasts_S8x128_S8x128 := by
  sl_kernel_rfl

end Cert.QuantDyIdeal.Words

end
-- ==== Proof.QuantDyTokens.lean ====
/- The tokens that the quantising kernel works on in one step of its grid. -/
module

public import proofs.«01_k».proof.Proof.QuantDyWords
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.QuantDyIdeal.Words

open Cert.QuantDyIdeal Cert.QuantDyIdeal.Gen

theorem lo_at (x : FVec Ideal S512x128 .bf16) (h : S512x128.Bitcasts 16 S256x128 32) (a : Fin 256) (l : Fin 128) :
    rowsOfParity 0 S256x128 x h (ix2 a l) = x (ix2 ⟨2 * a.val, by omega⟩ l) := by
  pointwise

theorem hi_at (x : FVec Ideal S512x128 .bf16) (h : S512x128.Bitcasts 16 S256x128 32) (a : Fin 256) (l : Fin 128) :
    rowsOfParity 1 S256x128 x h (ix2 a l) = x (ix2 ⟨2 * a.val + 1, by omega⟩ l) := by
  pointwise

theorem pay5_at (lo hi : FVec Ideal S256x128 .bf16) (a : Fin 256) (p : Fin 2) (l : Fin 128) :
    k0_pay4 (F := Ideal) lo hi (ix3 a p l) = if p.val = 0 then lo (ix2 a l) else hi (ix2 a l) := by
  fin_cases p <;> pointwise [k0_pay4]

theorem pay6_at (n : BitVec 32) (X : FVec Ideal S256x2x128 .bf16) (a : Fin 256) (p : Fin 2) (l : Fin 128) :
    k0_pay5 (F := Ideal) n X (ix3 a p l) = Scalar.select (IntOp.cmpi CmpIPredicate.slt (BitVec.ofNat 32 (2 * a.val + p.val)) n) (X (ix3 a p l)) 0 := by
  have e : IntOp.muli (BitVec.ofNat 32 a.val) 2#32 = BitVec.ofNat 32 (2 * a.val) := by
    show BitVec.ofNat 32 a.val * 2#32 = _
    rw [Nat.mul_comm, BitVec.ofNat_mul]
  have e1 : IntOp.addi (BitVec.ofNat 32 (2 * a.val)) 1#32 = BitVec.ofNat 32 (2 * a.val + 1) := by
    show BitVec.ofNat 32 _ + 1#32 = _
    rw [BitVec.ofNat_add]
  fin_cases p
  · pointwise [k0_pay5]
    rw [e]
  · pointwise [k0_pay5]
    rw [e, e1]

theorem tok_at (raw : Fin 8 → FVec Ideal S8x2x128 .bf16) (j : Fin 16) (s : Fin 8) (l : Fin 128) :
    tok (F := Ideal) raw j (ix2 s l) = raw ⟨j.val / 2, by omega⟩ (ix3 s ⟨j.val % 2, by omega⟩ l) := by
  fin_cases j <;> (pointwise [tok]) <;> rfl

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec Ideal S16 .f32) (x1 : Vec Ideal S8x128 .f32) (x2 : Vec Ideal S512x128 .bf16) (xt0 : TbBuf0 (F := Ideal) c tbM0_0)

theorem load_whole (y : S512x128.Idx) :
    View.readAt (Elt Ideal) arg5.view (Rect.unit (s := S512x128) ![0, 0] S512x128.size inb_S512x128_S512x128_0_0).toLoadRect (harg5.unread x2) y = x2 y := by
  rw [View.readAt_apply, harg5.read_unread]
  refine congrArg x2 (funext fun a => Fin.ext ?_)
  match a with
  | ⟨0, _⟩ => exact (by simp : 0 + 1 * (y 0).val = (y 0).val)
  | ⟨1, _⟩ => exact (by simp : 0 + 1 * (y 1).val = (y 1).val)

/-- The block of tokens as the kernel first stores it: the tokens themselves. -/
theorem first_at (a : Fin 256) (p : Fin 2) (l : Fin 128) :
    k0_pay4 (F := Ideal) (kernelRun0_A.sl.v32_lo c arg5 harg5 x2) (kernelRun0_A.sl.v32_hi c arg5 harg5 x2) (ix3 a p l) =
      (show FVec Ideal S512x128 .bf16 from x2) (ix2 ⟨2 * a.val + p.val, by omega⟩ l) := by
  rw [pay5_at]
  unfold kernelRun0_A.sl.v32_lo kernelRun0_A.sl.v32_hi
  split
  next h => rw [lo_at]; exact (load_whole _ _ _ _).trans (congrArg x2 (congrArg (fun z => ix2 z l) (Fin.ext (by simp [h]))))
  next h => rw [hi_at]; exact (load_whole _ _ _ _).trans (congrArg x2 (congrArg (fun z => ix2 z l) (Fin.ext (by simp only []; omega))))

theorem whole_emb (y : S256x2x128.Idx) : (Rect.unit (s := S256x2x128) ![0, 0, 0] S256x2x128.size inb_S256x2x128_S256x2x128_0_0_0).emb y = y := by
  refine funext fun a => Fin.ext ?_
  match a with
  | ⟨0, _⟩ => exact (by simp : 0 + 1 * (y 0).val = (y 0).val)
  | ⟨1, _⟩ => exact (by simp : 0 + 1 * (y 1).val = (y 1).val)
  | ⟨2, _⟩ => exact (by simp : 0 + 1 * (y 2).val = (y 2).val)

theorem read_head (v : View sig .tc .vmem S256x2x128 .bf16) (X : S256x2x128.Idx → Elt Ideal .bf16) (L : List (View.Piece (Elt Ideal) S256x2x128 .bf16))
    (B : LoadRect S256x2x128) (j : B.shape.Idx) (y : S256x2x128.Idx) (h : B.idx j = y) :
    v.readCov (⟨Rect.unit ![0, 0, 0] S256x2x128.size inb_S256x2x128_S256x2x128_0_0_0, X⟩ :: L) B j = X y := by
  unfold View.readCov
  rw [View.readAt_apply, h]
  refine Eq.trans ?_ (View.read_writes_cons_emb v v.junk (Rect.unit ![0, 0, 0] S256x2x128.size inb_S256x2x128_S256x2x128_0_0_0) X L y)
  rw [whole_emb]

/-- A token of the block as the kernel works on it: zero past the length. -/
def tokenAt (x2 : FVec Ideal S512x128 .bf16) (n : BitVec 32) (k : Fin 512) (l : Fin 128) : EReal :=
  Scalar.select (IntOp.cmpi CmpIPredicate.slt (BitVec.ofNat 32 k.val) n) (x2 (ix2 k l)) 0

theorem pairs_inb {b : Nat} (hb : b < 4) (k : Fin 8) : ∀ a, S8x2x128.size a = 0 ∨ (![64 * b + k.val, 0, 0] : Fin S256x2x128.rank → Nat) a + (![8, 1, 1] : Fin S256x2x128.rank → Nat) a * (S8x2x128.size a - 1) < S256x2x128.size a := by
  intro a; fin_cases a <;> simp [S8x2x128, S256x2x128] <;> omega

theorem pairs_idx {b : Nat} (hb : b < 4) (k : Fin 8) (s : Fin 8) (p : Fin 2) (l : Fin 128) :
    (show LoadRect S256x2x128 from { off := ![64 * b + k.val, 0, 0], size := S8x2x128.size, stride := ![8, 1, 1], inb := pairs_inb hb k }).idx (ix3 s p l : S8x2x128.Idx) =
      (ix3 ⟨64 * b + k.val + 8 * s.val, by omega⟩ p l : S256x2x128.Idx) := by
  refine funext fun a => Fin.ext ?_
  match a with
  | ⟨0, _⟩ => rfl
  | ⟨1, _⟩ => exact (by simp : 0 + 1 * p.val = p.val)
  | ⟨2, _⟩ => exact (by simp : 0 + 1 * l.val = l.val)

theorem pairs_read (v : View sig .tc .vmem S256x2x128 .bf16) (X : S256x2x128.Idx → Elt Ideal .bf16) (L : List (View.Piece (Elt Ideal) S256x2x128 .bf16))
    {b : Nat} (hb : b < 4) (k : Fin 8) (s : Fin 8) (p : Fin 2) (l : Fin 128) :
    v.readCov (⟨Rect.unit ![0, 0, 0] S256x2x128.size inb_S256x2x128_S256x2x128_0_0_0, X⟩ :: L)
      (show LoadRect S256x2x128 from { off := ![64 * b + k.val, 0, 0], size := S8x2x128.size, stride := ![8, 1, 1], inb := pairs_inb hb k }) (ix3 s p l : S8x2x128.Idx) =
      X (ix3 ⟨64 * b + k.val + 8 * s.val, by omega⟩ p l) :=
  read_head v X L _ _ _ (pairs_idx hb k s p l)

theorem whole_read (v : View sig .tc .vmem S256x2x128 .bf16) (X : S256x2x128.Idx → Elt Ideal .bf16) (L : List (View.Piece (Elt Ideal) S256x2x128 .bf16))
    (y : S256x2x128.Idx) :
    v.readCov (⟨Rect.unit ![0, 0, 0] S256x2x128.size inb_S256x2x128_S256x2x128_0_0_0, X⟩ :: L)
      (Rect.unit (s := S256x2x128) ![0, 0, 0] S256x2x128.size inb_S256x2x128_S256x2x128_0_0_0).toLoadRect y = X y :=
  read_head v X L _ _ _ (whole_emb y)

/-- The pairs of rows loaded, out of the block as stored. -/
theorem raw_read (b : Nat) (hb : b < 4) (k : Fin 8) (s : Fin 8) (p : Fin 2) (l : Fin 128) :
    (show FVec Ideal S8x2x128 .bf16 from raw c i arg5 harg5 arg10 x2 xt0 b hb k) (ix3 s p l) =
      k0_pay5 (F := Ideal) (kernelRun0_A.sl.v30 c i xt0) (kernelRun0_A.sl.v40_raw c arg5 harg5 arg10 x2) (ix3 ⟨64 * b + k.val + 8 * s.val, by omega⟩ p l) :=
  pairs_read arg10.view (k0_pay5 (F := Ideal) (kernelRun0_A.sl.v30 c i xt0) (kernelRun0_A.sl.v40_raw c arg5 harg5 arg10 x2)) (kernelRun0_A.sl.HS0_1 c arg5 harg5 x2) hb k s p l

theorem stored_read (y : S256x2x128.Idx) :
    kernelRun0_A.sl.v40_raw c arg5 harg5 arg10 x2 y = k0_pay4 (F := Ideal) (kernelRun0_A.sl.v32_lo c arg5 harg5 x2) (kernelRun0_A.sl.v32_hi c arg5 harg5 x2) y :=
  whole_read arg10.view (k0_pay4 (F := Ideal) (kernelRun0_A.sl.v32_lo c arg5 harg5 x2) (kernelRun0_A.sl.v32_hi c arg5 harg5 x2)) [] y

theorem raw_at (b : Nat) (hb : b < 4) (k : Fin 8) (s : Fin 8) (p : Fin 2) (l : Fin 128) :
    (show FVec Ideal S8x2x128 .bf16 from raw c i arg5 harg5 arg10 x2 xt0 b hb k) (ix3 s p l) =
      tokenAt x2 (kernelRun0_A.sl.v30 c i xt0) ⟨2 * (64 * b + k.val + 8 * s.val) + p.val, by omega⟩ l := by
  rw [raw_read, pay6_at, stored_read, first_at]
  rfl

/-- The tokens of place `j` of the groups of block `b`. -/
theorem token (b : Nat) (hb : b < 4) (j : Fin 16) (s : Fin 8) (l : Fin 128) :
    tok (F := Ideal) (raw c i arg5 harg5 arg10 x2 xt0 b hb) j (ix2 s l) =
      tokenAt x2 (kernelRun0_A.sl.v30 c i xt0) ⟨128 * b + 16 * s.val + j.val, by omega⟩ l := by
  rw [tok_at]
  refine (raw_at c i arg5 harg5 arg10 x2 xt0 b hb _ _ _ _).trans (congrArg (fun z => tokenAt x2 _ z l) (Fin.ext ?_))
  simp only []
  omega

/-- A sign that the kernel loads. -/
theorem sgn_at (j : Fin 16) : sgn (F := Ideal) arg3 harg3 x0 j = (show FVec Ideal S16 .f32 from x0) (ix1 j) := by
  unfold sgn
  rw [View.readAt_apply, harg3.read_unread]
  refine congrArg x0 (funext fun a => Fin.ext ?_)
  match a with
  | ⟨0, _⟩ => exact (by simp : j.val + 1 * 0 = j.val)

end Cert.QuantDyIdeal.Words

end
-- ==== Proof.QuantDyBlock.lean ====
/- The greatest absolute values and the scales that the quantising kernel leaves in one step of its grid. -/
module

public import proofs.«01_k».proof.Proof.QuantDyTokens
public import proofs.«01_k».proof.Proof.QuantScalar
public import Idealize.ShloMosaic.Lib.WritesUnit

@[expose] public section

set_option maxRecDepth 16384

noncomputable section

open Idealize.ShloMosaic Idealize.ShloMosaic.TcCoe Idealize.SL.Sem

namespace Cert.QuantDyIdeal.Words

open Cert.QuantDyIdeal Cert.QuantDyIdeal.Gen

theorem level_at (bit : Nat) (v : Fin 16 → FVec Ideal S8x128 .f32) (j : Fin 16) (y : S8x128.Idx) :
    level (F := Ideal) bit v j y = Rht.level bit (fun k => (v k y : EReal)) j := by
  unfold level Rht.level
  split <;> rfl

theorem had_at (v : Fin 16 → FVec Ideal S8x128 .f32) (j : Fin 16) (y : S8x128.Idx) :
    had (F := Ideal) v j y = Rht.had (fun k => (v k y : EReal)) j := by
  unfold had Rht.had
  rw [level_at]
  refine congrArg (fun f => Rht.level 8 f j) (funext fun k => ?_)
  rw [level_at]
  refine congrArg (fun f => Rht.level 4 f k) (funext fun k => ?_)
  rw [level_at]
  refine congrArg (fun f => Rht.level 2 f k) (funext fun k => ?_)
  exact level_at 1 v k y

theorem amaxV_at (v : Fin 16 → FVec Ideal S8x128 .f32) (y : S8x128.Idx) : amaxV (F := Ideal) v y = Rht.gmax (fun k => (v k y : EReal)) :=
  Rht.max_chain (fun r => FloatOps.absf (F := Ideal) (φ := .f32) (v r y))

theorem scaleV_at (a g : FVec Ideal S8x128 .f32) (y : S8x128.Idx) : scaleV (F := Ideal) (ratioV a g) y = Rht.scale (a y) (g y) := rfl

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec Ideal S16 .f32) (x1 : Vec Ideal S8x128 .f32) (x2 : Vec Ideal S512x128 .bf16) (xt0 : TbBuf0 (F := Ideal) c tbM0_0)

/-- A group of tokens of the block, rotated. -/
def group (S : FVec Ideal S16 .f32) (X : FVec Ideal S512x128 .bf16) (n : BitVec 32) (ρ : Fin 32) (l : Fin 128) : Fin 16 → EReal :=
  Rht.had fun j => tokenAt X n ⟨16 * ρ.val + j.val, by omega⟩ l * S (ix1 j)

theorem rotB_at (b : Nat) (hb : b < 4) (j : Fin 16) (s : Fin 8) (l : Fin 128) :
    (rotB c i arg3 harg3 arg5 harg5 arg10 x0 x2 xt0 b hb j (ix2 s l) : EReal) =
      group x0 x2 (kernelRun0_A.sl.v30 c i xt0) ⟨8 * b + s.val, by omega⟩ l j := by
  unfold rotB rot group
  rw [had_at]
  refine congrArg (fun f => Rht.had f j) (funext fun k => ?_)
  show (tok (F := Ideal) (raw c i arg5 harg5 arg10 x2 xt0 b hb) k (ix2 s l) : EReal) * sgn (F := Ideal) arg3 harg3 x0 k = _
  rw [token, sgn_at]
  exact congrArg (fun z => tokenAt x2 (kernelRun0_A.sl.v30 c i xt0) z l * _) (Fin.ext (by simp only []; omega))

/-- What a block's greatest absolute values are. -/
theorem amaxB_at (b : Nat) (hb : b < 4) (s : Fin 8) (l : Fin 128) :
    (amaxV (rotB c i arg3 harg3 arg5 harg5 arg10 x0 x2 xt0 b hb) (ix2 s l) : EReal) =
      Rht.gmax (group x0 x2 (kernelRun0_A.sl.v30 c i xt0) ⟨8 * b + s.val, by omega⟩ l) := by
  rw [amaxV_at]
  exact congrArg Rht.gmax (funext fun k => rotB_at c i arg3 harg3 arg5 harg5 arg10 x0 x2 xt0 b hb k s l)

theorem load_scale (y : S8x128.Idx) : kernelRun0_A.sl.r_1 (F := Ideal) c arg4 harg4 x1 y = x1 y := by
  unfold kernelRun0_A.sl.r_1
  rw [View.readAt_apply, harg4.read_unread]
  refine congrArg x1 (funext fun a => Fin.ext ?_)
  match a with
  | ⟨0, _⟩ => exact (by simp : 0 + 1 * (y 0).val = (y 0).val)
  | ⟨1, _⟩ => exact (by simp : 0 + 1 * (y 1).val = (y 1).val)

/-- What a block's scales are. -/
theorem scaleB_at (b : Nat) (hb : b < 4) (s : Fin 8) (l : Fin 128) :
    (scaleV (ratioV (amaxV (rotB c i arg3 harg3 arg5 harg5 arg10 x0 x2 xt0 b hb)) (kernelRun0_A.sl.r_1 c arg4 harg4 x1)) (ix2 s l) : EReal) =
      Rht.scale (Rht.gmax (group x0 x2 (kernelRun0_A.sl.v30 c i xt0) ⟨8 * b + s.val, by omega⟩ l)) ((show FVec Ideal S8x128 .f32 from x1) (ix2 s l)) := by
  rw [scaleV_at, amaxB_at, load_scale]

/-- Four blocks of rows stored one after another, at an index. -/
theorem rows_at (v : View sig .tc .vmem S32x128 .f32) (P : Fin 4 → FVec Ideal S8x128 .f32) (ρ : Fin 32) (l : Fin 128) :
    v.read (Elt Ideal) (v.writes (Elt Ideal) v.junk [
      (⟨Rect.unit (s := S32x128) ![24, 0] S8x128.size inb_S32x128_S8x128_24_0, P 3⟩ : View.Piece (Elt Ideal) S32x128 .f32),
      ⟨Rect.unit ![16, 0] S8x128.size inb_S32x128_S8x128_16_0, P 2⟩,
      ⟨Rect.unit ![8, 0] S8x128.size inb_S32x128_S8x128_8_0, P 1⟩,
      ⟨Rect.unit ![0, 0] S8x128.size inb_S32x128_S8x128_0_0, P 0⟩]) (ix2 ρ l) =
      P ⟨ρ.val / 8, by omega⟩ (ix2 ⟨ρ.val % 8, by omega⟩ l) := by
  have e : ∀ (b : Fin 4), ρ.val / 8 = b.val → P ⟨ρ.val / 8, by omega⟩ = P b := fun b h => congrArg P (Fin.ext h)
  rcases (by omega : ρ.val / 8 = 3 ∨ ρ.val / 8 = 2 ∨ ρ.val / 8 = 1 ∨ ρ.val / 8 = 0) with h | h | h | h
  · rw [e 3 h]
    exact View.read_writes_cons_rows_of_mem v _ _ _ _ (ix2 ρ l) (ix2 ⟨ρ.val % 8, by omega⟩ l) rfl (by show ρ.val = 24 + ρ.val % 8; omega) rfl
  · rw [e 2 h, View.read_writes_cons_rows_of_not_mem v _ _ _ _ (ix2 ρ l) (o := 24) (W := 8) rfl rfl (by left; show ρ.val < 24; omega)]
    exact View.read_writes_cons_rows_of_mem v _ _ _ _ (ix2 ρ l) (ix2 ⟨ρ.val % 8, by omega⟩ l) rfl (by show ρ.val = 16 + ρ.val % 8; omega) rfl
  · rw [e 1 h, View.read_writes_cons_rows_of_not_mem v _ _ _ _ (ix2 ρ l) (o := 24) (W := 8) rfl rfl (by left; show ρ.val < 24; omega),
      View.read_writes_cons_rows_of_not_mem v _ _ _ _ (ix2 ρ l) (o := 16) (W := 8) rfl rfl (by left; show ρ.val < 16; omega)]
    exact View.read_writes_cons_rows_of_mem v _ _ _ _ (ix2 ρ l) (ix2 ⟨ρ.val % 8, by omega⟩ l) rfl (by show ρ.val = 8 + ρ.val % 8; omega) rfl
  · rw [e 0 h, View.read_writes_cons_rows_of_not_mem v _ _ _ _ (ix2 ρ l) (o := 24) (W := 8) rfl rfl (by left; show ρ.val < 24; omega),
      View.read_writes_cons_rows_of_not_mem v _ _ _ _ (ix2 ρ l) (o := 16) (W := 8) rfl rfl (by left; show ρ.val < 16; omega),
      View.read_writes_cons_rows_of_not_mem v _ _ _ _ (ix2 ρ l) (o := 8) (W := 8) rfl rfl (by left; show ρ.val < 8; omega)]
    exact View.read_writes_cons_rows_of_mem v _ _ _ _ (ix2 ρ l) (ix2 ⟨ρ.val % 8, by omega⟩ l) rfl (by show ρ.val = 0 + ρ.val % 8; omega) rfl

/-- Four blocks of rows put one after another, at an index. -/
theorem pay1_at (P : Fin 4 → FVec Ideal S8x128 .f32) (ρ : Fin 32) (l : Fin 128) :
    k0_pay996 (F := Ideal) (P 0) (P 1) (P 2) (P 3) (ix2 ρ l) = P ⟨ρ.val / 8, by omega⟩ (ix2 ⟨ρ.val % 8, by omega⟩ l) := by
  have e : ∀ (b : Fin 4) (s : Fin 8), ρ.val = 8 * b.val + s.val → P b (ix2 s l) = P ⟨ρ.val / 8, by omega⟩ (ix2 ⟨ρ.val % 8, by omega⟩ l) := by
    intro b s h
    rw [show (⟨ρ.val / 8, by omega⟩ : Fin 4) = b from Fin.ext (by simp only []; omega), show (⟨ρ.val % 8, by omega⟩ : Fin 8) = s from Fin.ext (by simp only []; omega)]
  pointwise [k0_pay996]
  by_cases h0 : ρ.val < 8
  · rw [dif_pos h0]
    exact e 0 ⟨ρ.val, h0⟩ (by show ρ.val = 8 * 0 + ρ.val; omega)
  rw [dif_neg h0]
  by_cases h1 : ρ.val - 8 < 8
  · rw [dif_pos h1]
    exact e 1 ⟨ρ.val - 8, h1⟩ (by show ρ.val = 8 * 1 + (ρ.val - 8); omega)
  rw [dif_neg h1]
  by_cases h2 : ρ.val - 8 - 8 < 8
  · rw [dif_pos h2]
    exact e 2 ⟨ρ.val - 8 - 8, h2⟩ (by show ρ.val = 8 * 2 + (ρ.val - 8 - 8); omega)
  rw [dif_neg h2]
  exact e 3 ⟨ρ.val - 8 - 8 - 8, by omega⟩ (by show ρ.val = 8 * 3 + (ρ.val - 8 - 8 - 8); omega)

/-- The greatest absolute values of the four blocks. -/
def amaxP (b : Fin 4) : FVec Ideal S8x128 .f32 :=
  match b with
  | 0 => kernelRun0_A.sl.r_81 c i arg3 harg3 arg5 harg5 arg10 x0 x2 xt0
  | 1 => kernelRun0_A.sl.r_263 c i arg3 harg3 arg5 harg5 arg10 x0 x2 xt0
  | 2 => kernelRun0_A.sl.r_450 c i arg3 harg3 arg5 harg5 arg10 x0 x2 xt0
  | 3 => kernelRun0_A.sl.r_638 c i arg3 harg3 arg5 harg5 arg10 x0 x2 xt0

theorem amaxP_eq (b : Fin 4) : amaxP c i arg3 harg3 arg5 harg5 arg10 x0 x2 xt0 b = amaxV (rotB c i arg3 harg3 arg5 harg5 arg10 x0 x2 xt0 b.val b.isLt) :=
  match b with
  | 0 => amax_0 c i arg3 harg3 arg5 harg5 arg10 x0 x2 xt0
  | 1 => amax_1 c i arg3 harg3 arg5 harg5 arg10 x0 x2 xt0
  | 2 => amax_2 c i arg3 harg3 arg5 harg5 arg10 x0 x2 xt0
  | 3 => amax_3 c i arg3 harg3 arg5 harg5 arg10 x0 x2 xt0

/-- The scales of the four blocks. -/
def scaleP (b : Fin 4) : FVec Ideal S8x128 .f32 :=
  match b with
  | 0 => kernelRun0_A.sl.r_83 c i arg3 harg3 arg4 harg4 arg5 harg5 arg10 x0 x1 x2 xt0
  | 1 => kernelRun0_A.sl.r_264 c i arg3 harg3 arg4 harg4 arg5 harg5 arg10 x0 x1 x2 xt0
  | 2 => kernelRun0_A.sl.r_451 c i arg3 harg3 arg4 harg4 arg5 harg5 arg10 x0 x1 x2 xt0
  | 3 => kernelRun0_A.sl.r_639 c i arg3 harg3 arg4 harg4 arg5 harg5 arg10 x0 x1 x2 xt0

theorem scaleP_eq (b : Fin 4) : scaleP c i arg3 harg3 arg4 harg4 arg5 harg5 arg10 x0 x1 x2 xt0 b = scaleV (ratioV (amaxV (rotB c i arg3 harg3 arg5 harg5 arg10 x0 x2 xt0 b.val b.isLt)) (kernelRun0_A.sl.r_1 c arg4 harg4 x1)) :=
  match b with
  | 0 => scale_0 c i arg3 harg3 arg4 harg4 arg5 harg5 arg10 x0 x1 x2 xt0
  | 1 => scale_1 c i arg3 harg3 arg4 harg4 arg5 harg5 arg10 x0 x1 x2 xt0
  | 2 => scale_2 c i arg3 harg3 arg4 harg4 arg5 harg5 arg10 x0 x1 x2 xt0
  | 3 => scale_3 c i arg3 harg3 arg4 harg4 arg5 harg5 arg10 x0 x1 x2 xt0

variable (arg6 : Memref sig .tc .vmem S512x128 .bf16) (harg6 : arg6.IsWhole) (arg7 : Memref sig .tc .vmem S256x128 .i8) (harg7 : arg7.IsWhole) (arg8 : Memref sig .tc .vmem S32x128 .fp8e4m3) (harg8 : arg8.IsWhole) (arg9 : Memref sig .tc .vmem S32x128 .f32) (harg9 : arg9.IsWhole) (harg10 : arg10.IsWhole) (arg11 : Memref sig .tc .vmem S64x128 .i32) (harg11 : arg11.IsWhole)

/-- The greatest absolute values that a step leaves. -/
theorem out6_at (ρ : Fin 32) (l : Fin 128) :
    (show FVec Ideal S32x128 .f32 from out0_A_6 c i arg3 harg3 arg4 harg4 arg5 harg5 arg6 harg6 arg7 harg7 arg8 harg8 arg9 harg9 arg10 harg10 arg11 harg11 x0 x1 x2 xt0) (ix2 ρ l) =
      Rht.gmax (group x0 x2 (kernelRun0_A.sl.v30 c i xt0) ρ l) := by
  refine Eq.trans ?_ ((rows_at VO0_6 (amaxP c i arg3 harg3 arg5 harg5 arg10 x0 x2 xt0) ρ l).trans ?_)
  · rfl
  rw [amaxP_eq]
  refine (amaxB_at c i arg3 harg3 arg5 harg5 arg10 x0 x2 xt0 _ _ _ _).trans ?_
  exact congrArg (fun z => Rht.gmax (group x0 x2 (kernelRun0_A.sl.v30 c i xt0) z l)) (Fin.ext (by simp only []; omega))

/-- The scales that a step leaves. -/
theorem out5_at (ρ : Fin 32) (l : Fin 128) :
    (show FVec Ideal S32x128 .fp8e4m3 from out0_A_5 c i arg3 harg3 arg4 harg4 arg5 harg5 arg6 harg6 arg7 harg7 arg8 harg8 arg9 harg9 arg10 harg10 arg11 harg11 x0 x1 x2 xt0) (ix2 ρ l) =
      Rht.scale (Rht.gmax (group x0 x2 (kernelRun0_A.sl.v30 c i xt0) ρ l)) ((show FVec Ideal S8x128 .f32 from x1) (ix2 ⟨ρ.val % 8, by omega⟩ l)) := by
  refine Eq.trans ?_ ((pay1_at (scaleP c i arg3 harg3 arg4 harg4 arg5 harg5 arg10 x0 x1 x2 xt0) ρ l).trans ?_)
  · exact View.read_writes_cons_unit_of_mem VO0_5 _ _ _ _ (ix2 ρ l) (ix2 ρ l) rfl (fun a => by match a with | ⟨0, _⟩ => exact (Nat.zero_add _).symm | ⟨1, _⟩ => exact (Nat.zero_add _).symm)
  rw [scaleP_eq]
  refine (scaleB_at c i arg3 harg3 arg4 harg4 arg5 harg5 arg10 x0 x1 x2 xt0 _ _ _ _).trans ?_
  exact congrArg (fun z => Rht.scale (Rht.gmax (group x0 x2 (kernelRun0_A.sl.v30 c i xt0) z l)) _) (Fin.ext (by simp only []; omega))

end Cert.QuantDyIdeal.Words

end
-- ==== Proof.QuantDyCodes.lean ====
/- The packed codes that the quantising kernel leaves in one step of its grid. -/
module

public import proofs.«01_k».proof.Proof.QuantDyBlock
public import proofs.«01_k».proof.Proof.QuantBytes
public import Idealize.ShloMosaic.Lib.Pipeline.ValueKit
public import Idealize.ShloMosaic.Lib.BitcastFour

@[expose] public section

set_option maxRecDepth 16384

noncomputable section

open Idealize.ShloMosaic Idealize.ShloMosaic.TcCoe Idealize.SL.Sem

namespace Cert.QuantDyIdeal.Words

open Cert.QuantDyIdeal Cert.QuantDyIdeal.Gen

theorem codeV_at (q : FVec Ideal S8x128 .f32) (y : S8x128.Idx) : codeV (F := Ideal) q y = Rht.kcode (q y) := by
  unfold Rht.kcode
  rw [← Ideal.ofBits_zero_f32]
  rfl

theorem q_at (v : Fin 16 → FVec Ideal S8x128 .f32) (sg : FVec Ideal S8x128 .f32) (j : Fin 16) (y : S8x128.Idx) :
    (q (F := Ideal) v sg j y : EReal) = Rht.kquant (Rht.kclip (v j y) (Rht.recip (scaleV (F := Ideal) (ratioV (amaxV v) sg) y * sg y))) := by
  unfold Rht.kquant Rht.kclip Rht.recip
  rw [← Ideal.ofBits_zero_f32]
  rfl

/-- The places of the eight tokens of one half of a group. -/
def place (h : Fin 2) (k : Fin 8) : Fin 16 := ⟨8 * h.val + k.val, by omega⟩

/-- The packed codes of one half of the groups of a block. -/
def half (v : Fin 16 → FVec Ideal S8x128 .f32) (sg : FVec Ideal S8x128 .f32) (h : Fin 2) : IVec S8x128 32 :=
  shapeCast S8x128 (wordV (zV (q v sg (place h 0)) (q v sg (place h 4))) (zV (q v sg (place h 1)) (q v sg (place h 5)))
    (zV (q v sg (place h 2)) (q v sg (place h 6))) (zV (q v sg (place h 3)) (q v sg (place h 7)))) shapeCasts_S8x128_S8x128

theorem cast_at (x : IVec S8x128 32) (s : Fin 8) (l : Fin 128) : shapeCast S8x128 x shapeCasts_S8x128_S8x128 (ix2 s l) = x (ix2 s l) := by
  pointwise

theorem half_at (v : Fin 16 → FVec Ideal S8x128 .f32) (sg : FVec Ideal S8x128 .f32) (h : Fin 2) (s : Fin 8) (l : Fin 128) :
    half v sg h (ix2 s l) = Rht.word fun k => Rht.kcode (q (F := Ideal) v sg (place h k) (ix2 s l)) := by
  unfold half
  rw [cast_at]
  simp only [← codeV_at]
  rfl

theorem hit_of {S : Shape} (r : Rect S) (x : r.shape.Idx) (y : S.Idx) (h : r.emb x = y) : y ∈ r.set := by
  subst h
  exact r.idx_mem x

/-- Eight blocks of every second row, at an index. -/
theorem strided_at (P : Fin 4 → Fin 2 → IVec S8x128 32) (row : Fin 64) (l : Fin 128) :
    View.canon [
      (⟨{ off := ![49, 0], size := S8x128.size, stride := ![2, 1], inb := inb_S64x128_S8x128_49_0_s_2_1, stride_pos := spos_2_1 }, P 3 1⟩ : View.Piece (Elt Ideal) S64x128 .i32),
      (⟨{ off := ![48, 0], size := S8x128.size, stride := ![2, 1], inb := inb_S64x128_S8x128_48_0_s_2_1, stride_pos := spos_2_1 }, P 3 0⟩ : View.Piece (Elt Ideal) S64x128 .i32),
      (⟨{ off := ![33, 0], size := S8x128.size, stride := ![2, 1], inb := inb_S64x128_S8x128_33_0_s_2_1, stride_pos := spos_2_1 }, P 2 1⟩ : View.Piece (Elt Ideal) S64x128 .i32),
      (⟨{ off := ![32, 0], size := S8x128.size, stride := ![2, 1], inb := inb_S64x128_S8x128_32_0_s_2_1, stride_pos := spos_2_1 }, P 2 0⟩ : View.Piece (Elt Ideal) S64x128 .i32),
      (⟨{ off := ![17, 0], size := S8x128.size, stride := ![2, 1], inb := inb_S64x128_S8x128_17_0_s_2_1, stride_pos := spos_2_1 }, P 1 1⟩ : View.Piece (Elt Ideal) S64x128 .i32),
      (⟨{ off := ![16, 0], size := S8x128.size, stride := ![2, 1], inb := inb_S64x128_S8x128_16_0_s_2_1, stride_pos := spos_2_1 }, P 1 0⟩ : View.Piece (Elt Ideal) S64x128 .i32),
      (⟨{ off := ![1, 0], size := S8x128.size, stride := ![2, 1], inb := inb_S64x128_S8x128_1_0_s_2_1, stride_pos := spos_2_1 }, P 0 1⟩ : View.Piece (Elt Ideal) S64x128 .i32),
      (⟨{ off := ![0, 0], size := S8x128.size, stride := ![2, 1], inb := inb_S64x128_S8x128_0_0_s_2_1, stride_pos := spos_2_1 }, P 0 0⟩ : View.Piece (Elt Ideal) S64x128 .i32)] (ix2 row l) =
      P ⟨row.val / 16, by omega⟩ ⟨row.val % 2, by omega⟩ (ix2 ⟨row.val % 16 / 2, by omega⟩ l) := by
  have e : ∀ (b : Fin 4) (h : Fin 2) (x : S8x128.Idx), row.val = 16 * b.val + h.val + 2 * (x 0).val → l.val = 0 + 1 * (x 1).val →
      P b h x = P ⟨row.val / 16, by omega⟩ ⟨row.val % 2, by omega⟩ (ix2 ⟨row.val % 16 / 2, by omega⟩ l) := by
    intro b h x h0 h1
    obtain ⟨s, k, rfl⟩ : ∃ (s : Fin 8) (k : Fin 128), x = ix2 s k := ⟨x (0 : Fin 2), x (1 : Fin 2), eq_ix2 x⟩
    have h0' : row.val = 16 * b.val + h.val + 2 * s.val := h0
    have h1' : l.val = 0 + 1 * k.val := h1
    rw [show (⟨row.val / 16, by omega⟩ : Fin 4) = b from Fin.ext (by simp only []; omega), show (⟨row.val % 2, by omega⟩ : Fin 2) = h from Fin.ext (by simp only []; omega),
      show (⟨row.val % 16 / 2, by omega⟩ : Fin 8) = s from Fin.ext (by simp only []; omega), show k = l from Fin.ext (by omega)]
  refine View.canon_eq_of_allAt _ _ _ ?_ ?_
  · have hr : row.val = 16 * (row.val / 16) + row.val % 2 + 2 * (row.val % 16 / 2) := by omega
    rcases (by omega : row.val / 16 = 0 ∨ row.val / 16 = 1 ∨ row.val / 16 = 2 ∨ row.val / 16 = 3) with hb | hb | hb | hb <;>
      rcases (by omega : row.val % 2 = 0 ∨ row.val % 2 = 1) with hh | hh <;> rw [hb, hh] at hr
    · exact ⟨_, .tail _ (.tail _ (.tail _ (.tail _ (.tail _ (.tail _ (.tail _ (.head _))))))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.tail _ (.tail _ (.tail _ (.head _)))))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.tail _ (.tail _ (.head _))))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.tail _ (.head _)))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.tail _ (.head _))), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.tail _ (.head _)), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .tail _ (.head _), hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
    · exact ⟨_, .head _, hit_of _ (ix2 ⟨row.val % 16 / 2, by omega⟩ l) (ix2 row l) (funext fun a => Fin.ext (by
        match a with
        | ⟨0, _⟩ => exact hr.symm
        | ⟨1, _⟩ => exact (by simp : 0 + 1 * l.val = l.val)))⟩
  · refine View.allAt_cons _ _ _ (fun x hx => e 3 1 x (congrArg (fun z : S64x128.Idx => (z 0).val) hx).symm (congrArg (fun z : S64x128.Idx => (z 1).val) hx).symm) ?_
    refine View.allAt_cons _ _ _ (fun x hx => e 3 0 x (congrArg (fun z : S64x128.Idx => (z 0).val) hx).symm (congrArg (fun z : S64x128.Idx => (z 1).val) hx).symm) ?_
    refine View.allAt_cons _ _ _ (fun x hx => e 2 1 x (congrArg (fun z : S64x128.Idx => (z 0).val) hx).symm (congrArg (fun z : S64x128.Idx => (z 1).val) hx).symm) ?_
    refine View.allAt_cons _ _ _ (fun x hx => e 2 0 x (congrArg (fun z : S64x128.Idx => (z 0).val) hx).symm (congrArg (fun z : S64x128.Idx => (z 1).val) hx).symm) ?_
    refine View.allAt_cons _ _ _ (fun x hx => e 1 1 x (congrArg (fun z : S64x128.Idx => (z 0).val) hx).symm (congrArg (fun z : S64x128.Idx => (z 1).val) hx).symm) ?_
    refine View.allAt_cons _ _ _ (fun x hx => e 1 0 x (congrArg (fun z : S64x128.Idx => (z 0).val) hx).symm (congrArg (fun z : S64x128.Idx => (z 1).val) hx).symm) ?_
    refine View.allAt_cons _ _ _ (fun x hx => e 0 1 x (congrArg (fun z : S64x128.Idx => (z 0).val) hx).symm (congrArg (fun z : S64x128.Idx => (z 1).val) hx).symm) ?_
    refine View.allAt_cons _ _ _ (fun x hx => e 0 0 x (congrArg (fun z : S64x128.Idx => (z 0).val) hx).symm (congrArg (fun z : S64x128.Idx => (z 1).val) hx).symm) ?_
    exact View.allAt_nil _ _

variable (c : Dev nD) (i : grid0.Coords) (arg3 : Memref sig .tc .smem S16 .f32) (harg3 : arg3.IsWhole) (arg4 : Memref sig .tc .vmem S8x128 .f32) (harg4 : arg4.IsWhole) (arg5 : Memref sig .tc .vmem S512x128 .bf16) (harg5 : arg5.IsWhole) (arg10 : Memref sig .tc .vmem S256x2x128 .bf16)
  (x0 : Vec Ideal S16 .f32) (x1 : Vec Ideal S8x128 .f32) (x2 : Vec Ideal S512x128 .bf16) (xt0 : TbBuf0 (F := Ideal) c tbM0_0)

/-- The packed codes of the halves of the four blocks. -/
def codeP (b : Fin 4) (h : Fin 2) : IVec S8x128 32 :=
  match b, h with
  | 0, 0 => k0_pay247 (kernelRun0_A.sl.r_145 c i arg3 harg3 arg4 harg4 arg5 harg5 arg10 x0 x1 x2 xt0)
  | 0, 1 => k0_pay248 (kernelRun0_A.sl.r_203 c i arg3 harg3 arg4 harg4 arg5 harg5 arg10 x0 x1 x2 xt0) (kernelRun0_A.sl.r_204 c i arg3 harg3 arg4 harg4 arg5 harg5 arg10 x0 x1 x2 xt0) (kernelRun0_A.sl.r_205 c i arg3 harg3 arg4 harg4 arg5 harg5 arg10 x0 x1 x2 xt0) 983055#32
  | 1, 0 => k0_pay494 (kernelRun0_A.sl.r_332 c i arg3 harg3 arg4 harg4 arg5 harg5 arg10 x0 x1 x2 xt0)
  | 1, 1 => k0_pay495 (kernelRun0_A.sl.r_394 c i arg3 harg3 arg4 harg4 arg5 harg5 arg10 x0 x1 x2 xt0)
  | 2, 0 => k0_pay748 (kernelRun0_A.sl.r_516 c i arg3 harg3 arg4 harg4 arg5 harg5 arg10 x0 x1 x2 xt0)
  | 2, 1 => k0_pay749 (kernelRun0_A.sl.r_533 c i arg3 harg3 arg4 harg4 arg5 harg5 arg10 x0 x1 x2 xt0) (kernelRun0_A.sl.r_548 c i arg3 harg3 arg4 harg4 arg5 harg5 arg10 x0 x1 x2 xt0) (kernelRun0_A.sl.r_564 c i arg3 harg3 arg4 harg4 arg5 harg5 arg10 x0 x1 x2 xt0) (kernelRun0_A.sl.r_576 c i arg3 harg3 arg4 harg4 arg5 harg5 arg10 x0 x1 x2 xt0) (kernelRun0_A.sl.r_577 c i arg3 harg3 arg4 harg4 arg5 harg5 arg10 x0 x1 x2 xt0) (kernelRun0_A.sl.r_578 c i arg3 harg3 arg4 harg4 arg5 harg5 arg10 x0 x1 x2 xt0) (kernelRun0_A.sl.r_579 c i arg3 harg3 arg4 harg4 arg5 harg5 arg10 x0 x1 x2 xt0) 1#32
  | 3, 0 => k0_pay992 (kernelRun0_A.sl.r_701 c i arg3 harg3 arg4 harg4 arg5 harg5 arg10 x0 x1 x2 xt0)
  | 3, 1 => k0_pay993 (kernelRun0_A.sl.r_717 c i arg3 harg3 arg4 harg4 arg5 harg5 arg10 x0 x1 x2 xt0) (kernelRun0_A.sl.r_732 c i arg3 harg3 arg4 harg4 arg5 harg5 arg10 x0 x1 x2 xt0) (kernelRun0_A.sl.r_743 c i arg3 harg3 arg4 harg4 arg5 harg5 arg10 x0 x1 x2 xt0) (kernelRun0_A.sl.r_752 c i arg3 harg3 arg4 harg4 arg5 harg5 arg10 x0 x1 x2 xt0) (kernelRun0_A.sl.r_756 c i arg3 harg3 arg4 harg4 arg5 harg5 arg10 x0 x1 x2 xt0)

theorem codeP_eq (b : Fin 4) (h : Fin 2) : codeP c i arg3 harg3 arg4 harg4 arg5 harg5 arg10 x0 x1 x2 xt0 b h =
    half (rotB c i arg3 harg3 arg5 harg5 arg10 x0 x2 xt0 b.val b.isLt) (kernelRun0_A.sl.r_1 c arg4 harg4 x1) h :=
  match b, h with
  | 0, 0 => code_0_0 c i arg3 harg3 arg4 harg4 arg5 harg5 arg10 x0 x1 x2 xt0
  | 0, 1 => code_0_1 c i arg3 harg3 arg4 harg4 arg5 harg5 arg10 x0 x1 x2 xt0
  | 1, 0 => code_1_0 c i arg3 harg3 arg4 harg4 arg5 harg5 arg10 x0 x1 x2 xt0
  | 1, 1 => code_1_1 c i arg3 harg3 arg4 harg4 arg5 harg5 arg10 x0 x1 x2 xt0
  | 2, 0 => code_2_0 c i arg3 harg3 arg4 harg4 arg5 harg5 arg10 x0 x1 x2 xt0
  | 2, 1 => code_2_1 c i arg3 harg3 arg4 harg4 arg5 harg5 arg10 x0 x1 x2 xt0
  | 3, 0 => code_3_0 c i arg3 harg3 arg4 harg4 arg5 harg5 arg10 x0 x1 x2 xt0
  | 3, 1 => code_3_1 c i arg3 harg3 arg4 harg4 arg5 harg5 arg10 x0 x1 x2 xt0

/-- The code of one token of the block. -/
def tokCode (ρ : Fin 32) (l : Fin 128) (j : Fin 16) : BitVec 32 :=
  Rht.kcode (Rht.kquant (Rht.kclip (group x0 x2 (kernelRun0_A.sl.v30 c i xt0) ρ l j)
    (Rht.recip (Rht.scale (Rht.gmax (group x0 x2 (kernelRun0_A.sl.v30 c i xt0) ρ l)) ((show FVec Ideal S8x128 .f32 from x1) (ix2 ⟨ρ.val % 8, by omega⟩ l)) *
      (show FVec Ideal S8x128 .f32 from x1) (ix2 ⟨ρ.val % 8, by omega⟩ l)))))

theorem codeP_at (b : Fin 4) (h : Fin 2) (s : Fin 8) (l : Fin 128) : codeP c i arg3 harg3 arg4 harg4 arg5 harg5 arg10 x0 x1 x2 xt0 b h (ix2 s l) =
    Rht.word fun k => tokCode c i x0 x1 x2 xt0 ⟨8 * b.val + s.val, by omega⟩ l (place h k) := by
  rw [codeP_eq, half_at]
  refine congrArg Rht.word (funext fun k => congrArg Rht.kcode ?_)
  rw [q_at, scaleB_at, load_scale, rotB_at]
  have hs : (⟨(8 * b.val + s.val) % 8, by omega⟩ : Fin 8) = s := Fin.ext (by simp only []; omega)
  simp only [hs]

theorem bytes_at (x : Vec Ideal S64x128 .i32) (ρ : Fin 256) (l : Fin 128) (k : Fin 8) :
    (k0_pay995 (F := Ideal) x (ix2 ρ l)).getLsbD k.val = ((show IVec S64x128 32 from x) (ix2 ⟨ρ.val / 4, by omega⟩ l)).getLsbD (8 * (ρ.val % 4) + k.val) := by
  unfold k0_pay995
  refine (bitcast_getLsbD (show IVec S64x128 32 from x) bitcasts_S64x128_w32_S256x128_w8 (ix2 ρ l) k.val k.isLt (by decide)).trans ?_
  have hrow : S256x128.row (ix2 ρ l) = ρ.val := rfl
  rw [show (S256x128.row (ix2 ρ l) * 8 + k.val) % 32 = 8 * (ρ.val % 4) + k.val by rw [hrow]; omega]
  refine congrArg (fun z => ((show IVec S64x128 32 from x) z).getLsbD _) (funext fun a => Fin.ext ?_)
  match a with
  | ⟨0, _⟩ => exact (bitcasts_S64x128_w32_S256x128_w8.srcIdx_row _ _ _ ⟨0, Nat.zero_lt_two⟩ rfl).trans (by rw [hrow]; show _ = ρ.val / 4; omega)
  | ⟨1, _⟩ => exact bitcasts_S64x128_w32_S256x128_w8.srcIdx_other _ _ _ ⟨1, Nat.one_lt_two⟩ (by show ¬ 1 + 2 = 2; omega)

variable (arg6 : Memref sig .tc .vmem S512x128 .bf16) (harg6 : arg6.IsWhole) (arg7 : Memref sig .tc .vmem S256x128 .i8) (harg7 : arg7.IsWhole) (arg8 : Memref sig .tc .vmem S32x128 .fp8e4m3) (harg8 : arg8.IsWhole) (arg9 : Memref sig .tc .vmem S32x128 .f32) (harg9 : arg9.IsWhole) (harg10 : arg10.IsWhole) (arg11 : Memref sig .tc .vmem S64x128 .i32) (harg11 : arg11.IsWhole)

/-- The packed codes as the step's last lines load them. -/
theorem load_at (row : Fin 64) (l : Fin 128) : (show IVec S64x128 32 from kernelRun0_A.sl.v6244 c i arg3 harg3 arg4 harg4 arg5 harg5 arg10 arg11 x0 x1 x2 xt0) (ix2 row l) =
    Rht.word fun k => tokCode c i x0 x1 x2 xt0 ⟨row.val / 2, by omega⟩ l (place ⟨row.val % 2, by omega⟩ k) := by
  unfold kernelRun0_A.sl.v6244
  rw [View.readCov_eq_canon']
  have hy : (Rect.unit (s := S64x128) ![0, 0] S64x128.size inb_S64x128_S64x128_0_0).toLoadRect.idx (ix2 row l) = (ix2 row l : S64x128.Idx) := by
    refine funext fun a => Fin.ext ?_
    match a with
    | ⟨0, _⟩ => exact (by simp : 0 + 1 * row.val = row.val)
    | ⟨1, _⟩ => exact (by simp : 0 + 1 * l.val = l.val)
  refine (congrArg (View.canon _) hy).trans ?_
  refine Eq.trans ?_ ((strided_at (codeP c i arg3 harg3 arg4 harg4 arg5 harg5 arg10 x0 x1 x2 xt0) row l).trans ?_)
  · rfl
  rw [codeP_at]
  have hg : (⟨8 * (row.val / 16) + row.val % 16 / 2, by omega⟩ : Fin 32) = ⟨row.val / 2, by omega⟩ := Fin.ext (by simp only []; omega)
  simp only [hg]

/-- The packed codes that a step leaves, when each code is one of four bits. -/
theorem out4_at (ρ : Fin 256) (l : Fin 128) (hb : ∀ j, ∃ a : BitVec 4, tokCode c i x0 x1 x2 xt0 ⟨ρ.val / 8, by omega⟩ l j = a.setWidth 32) :
    (show IVec S256x128 8 from out0_A_4 c i arg3 harg3 arg4 harg4 arg5 harg5 arg6 harg6 arg7 harg7 arg8 harg8 arg9 harg9 arg10 harg10 arg11 harg11 x0 x1 x2 xt0) (ix2 ρ l) =
      Rht.byte (tokCode c i x0 x1 x2 xt0 ⟨ρ.val / 8, by omega⟩ l ⟨ρ.val % 8 * 2, by omega⟩) (tokCode c i x0 x1 x2 xt0 ⟨ρ.val / 8, by omega⟩ l ⟨ρ.val % 8 * 2 + 1, by omega⟩) := by
  have h : (show IVec S256x128 8 from out0_A_4 c i arg3 harg3 arg4 harg4 arg5 harg5 arg6 harg6 arg7 harg7 arg8 harg8 arg9 harg9 arg10 harg10 arg11 harg11 x0 x1 x2 xt0) (ix2 ρ l) =
      k0_pay995 (kernelRun0_A.sl.v6244 c i arg3 harg3 arg4 harg4 arg5 harg5 arg10 arg11 x0 x1 x2 xt0) (ix2 ρ l) :=
    View.read_writes_cons_unit_of_mem VO0_4 _ _ _ _ (ix2 ρ l) (ix2 ρ l) rfl (fun a => by match a with | ⟨0, _⟩ => exact (Nat.zero_add _).symm | ⟨1, _⟩ => exact (Nat.zero_add _).symm)
  have hg : (⟨ρ.val / 4 / 2, by omega⟩ : Fin 32) = ⟨ρ.val / 8, by omega⟩ := Fin.ext (by simp only []; omega)
  have e := Rht.byte_word (fun k => tokCode c i x0 x1 x2 xt0 ⟨ρ.val / 8, by omega⟩ l (place ⟨ρ.val / 4 % 2, by omega⟩ k)) (fun k => hb _) ⟨ρ.val % 4, by omega⟩
    (k0_pay995 (F := Ideal) (kernelRun0_A.sl.v6244 c i arg3 harg3 arg4 harg4 arg5 harg5 arg10 arg11 x0 x1 x2 xt0) (ix2 ρ l)) (fun k => by
      refine (bytes_at _ ρ l k).trans (congrArg (fun z : BitVec 32 => z.getLsbD _) ((load_at c i arg3 harg3 arg4 harg4 arg5 harg5 arg10 x0 x1 x2 xt0 arg11 ⟨ρ.val / 4, by omega⟩ l).trans ?_))
      simp only [hg])
  refine h.trans (e.trans (congrArg₂ (fun a b => Rht.byte (tokCode c i x0 x1 x2 xt0 ⟨ρ.val / 8, by omega⟩ l a) (tokCode c i x0 x1 x2 xt0 ⟨ρ.val / 8, by omega⟩ l b)) (Fin.ext ?_) (Fin.ext ?_)))
  · show 8 * (ρ.val / 4 % 2) + 2 * (ρ.val % 4) = ρ.val % 8 * 2
    omega
  · show 8 * (ρ.val / 4 % 2) + (2 * (ρ.val % 4) + 1) = ρ.val % 8 * 2 + 1
    omega

end Cert.QuantDyIdeal.Words

end
-- ==== Proof.QuantDyValue.lean ====
/- What the quantising kernel's grid leaves in its result arrays. -/
module

public import proofs.«01_k».proof.Defs
public import proofs.«01_k».proof.Proof.QuantDyBlock
public import proofs.«01_k».proof.Proof.QuantDyCodes
public import Idealize.ShloMosaic.Lib.Pipeline.ValueKit
public import Idealize.ShloMosaic.Lib.Pointwise
public import Idealize.ShloMosaic.Lib.StableHlo.ReadAt
public import Idealize.ShloMosaic.Lib.Claim
public import Idealize.ShloMosaic.Lib.Pipeline.ReadBack
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.QuantDyIdeal.Value

open Cert.QuantDyIdeal Cert.QuantDyIdeal.Gen

variable (m : (ℓ : Loc nD τ sig) → Buf (Elt Ideal) ℓ)

theorem ok : Ok m := by
  trivial

/-- The tokens, the signs, the lengths and the array's scale, as the kernel is given them. -/
abbrev TOK (c : Dev nD) (b : Fin 4) (s : Fin 2048) (k : Fin 18944) : EReal := (show FVec Ideal S4x2048x18944 .bf16 from m ((c : Thread nD τ).loc main_arg0)) (ix3 b s k)
abbrev SGN (c : Dev nD) (i : Fin 16) : EReal := (show FVec Ideal S16 .f32 from m ((c : Thread nD τ).loc main_arg1)) (ix1 i)
abbrev LEN (c : Dev nD) (b : Fin 4) : BitVec 32 := (show IVec S4 32 from m ((c : Thread nD τ).loc main_arg2)) (ix1 b)
abbrev SCL (c : Dev nD) (a : Fin 8) (b : Fin 128) : EReal := (show FVec Ideal S8x128 .f32 from m ((c : Thread nD τ).loc main_arg3)) (ix2 a b)

/-- The tokens and the signs are finite, no length is negative, and the array's scale is one number. -/
structure Good : Prop where
  tok : ∀ c b s k, ∃ x : ℝ, TOK m c b s k = (x : EReal)
  sgn : ∀ c i, ∃ x : ℝ, SGN m c i = (x : EReal)
  len : ∀ c b, 0 ≤ (LEN m c b).toInt
  scl : ∀ c a b, SCL m c a b = SCL m c 0 0

theorem sval (c : Dev nD) (i : Fin 16) : V m c main_v25 (ix1 i) = SGN m c i * Ideal.ofBits FTy.f32 1048576000#32 := by
  simp only [V, hostOps0, hostOps0_1, hostOps0_2, hostOps0_3, hostOps0_4, List.flatten_cons, List.flatten_nil, List.append_nil, List.cons_append, List.nil_append]
  after_reads_at

theorem xval (c : Dev nD) (a : Fin 8192) (b : Fin 18944) : V m c main_v26 (ix2 a b) = TOK m c ⟨a.val / 2048, by omega⟩ ⟨a.val % 2048, by omega⟩ b := by
  simp only [V, hostOps0, hostOps0_1, hostOps0_2, hostOps0_3, hostOps0_4, List.flatten_cons, List.flatten_nil, List.append_nil, List.cons_append, List.nil_append]
  after_reads_at

theorem offs : ∀ t : Fin grid0.N, kernelRun0_A.sl.v29 (grid0.coords t) = BitVec.ofNat 32 (t.val % 16 % 4 * 512) := by decide +kernel
theorem word_at : ∀ t : Fin grid0.N, k0_off1 (grid0.coords t) = ![t.val % 16 / 4] := by decide +kernel

theorem lt_N (hO : Ok m) (t : Fin (cfgM m hO).N) : t.val < 2368 := lt_of_lt_of_eq t.isLt N_0

theorem word_gen (t : Fin grid0.N) (X : tbM0_0.view.ty.Contents (Elt Ideal)) :
    tbM0_0.view.readAt (Elt Ideal) (Rect.unit (s := S4) (k0_off1 (grid0.coords t)) S1.size (k0_off1_inb (grid0.coords t))).toLoadRect X (Shape.Idx.first (numel1_S1.symm ▸ Nat.one_pos)) =
      (show IVec S4 32 from X) (ix1 ⟨t.val % 16 / 4, by omega⟩) := by
  rw [View.readAt_apply]
  refine congrArg (show IVec S4 32 from X) (funext fun a => Fin.ext ?_)
  have ha : a = (0 : Fin 1) := Subsingleton.elim (α := Fin 1) _ _
  subst ha
  refine Eq.trans ?_ (congrFun (word_at t) 0)
  simp

/-- How many of the step's tokens count. -/
theorem count (c : Dev nD) (t : Fin grid0.N) : kernelRun0_A.sl.v30 (F := Ideal) c (grid0.coords t) (tbl m 0) =
    LEN m c ⟨t.val % 16 / 4, by omega⟩ - BitVec.ofNat 32 (t.val % 16 % 4 * 512) := by
  obtain rfl : c = 0 := Subsingleton.elim _ _
  unfold kernelRun0_A.sl.v30
  rw [offs]
  refine congrArg (· - _) ((word_gen t (tbl m 0)).trans ?_)
  show (show IVec S4 32 from V m 0 main_arg2) _ = _
  simp only [V, hostOps0, hostOps0_1, hostOps0_2, hostOps0_3, hostOps0_4, List.flatten_cons, List.flatten_nil, List.append_nil, List.cons_append, List.nil_append]
  after_reads_at

theorem idx0 : ∀ t : Fin grid0.N, cc0_transform_0 (grid0.coords t) = ![0] := by decide +kernel
theorem idx1 : ∀ t : Fin grid0.N, cc0_transform_1 (grid0.coords t) = ![0, 0] := by decide +kernel
theorem idx2 : ∀ t : Fin grid0.N, cc0_transform_2 (grid0.coords t) = ![t.val % 16, t.val / 16] := by decide +kernel
theorem idx3 : ∀ t : Fin grid0.N, cc0_transform_3 (grid0.coords t) = ![t.val % 16, t.val / 16] := by decide +kernel
theorem idx4 : ∀ t : Fin grid0.N, cc0_transform_4 (grid0.coords t) = ![t.val % 16, t.val / 16] := by decide +kernel
theorem idx5 : ∀ t : Fin grid0.N, cc0_transform_5 (grid0.coords t) = ![t.val % 16, t.val / 16] := by decide +kernel
theorem idx6 : ∀ t : Fin grid0.N, cc0_transform_6 (grid0.coords t) = ![t.val % 16, t.val / 16] := by decide +kernel

theorem row_lt (n : Nat) (k : Fin 512) : n % 16 * 512 + k.val < 8192 := by omega
theorem col_lt {n : Nat} (h : n < 2368) (k : Fin 128) : n / 16 * 128 + k.val < 18944 := by omega
theorem grp_lt (n : Nat) (k : Fin 32) : n % 16 * 32 + k.val < 512 := by omega

theorem widx0 (hO : Ok m) (t : Fin (cfgM m hO).N) : ((pcfg0 (F := Ideal)).win (adm m hO) 0).index t = ![0] := idx0 t
theorem widx1 (hO : Ok m) (t : Fin (cfgM m hO).N) : ((pcfg0 (F := Ideal)).win (adm m hO) 1).index t = ![0, 0] := idx1 t
theorem widx2 (hO : Ok m) (t : Fin (cfgM m hO).N) : ((pcfg0 (F := Ideal)).win (adm m hO) 2).index t = ![t.val % 16, t.val / 16] := idx2 t
theorem widx3 (hO : Ok m) (t : Fin (cfgM m hO).N) : ((pcfg0 (F := Ideal)).win (adm m hO) 3).index t = ![t.val % 16, t.val / 16] := idx3 t
theorem widx4 (hO : Ok m) (t : Fin (cfgM m hO).N) : ((pcfg0 (F := Ideal)).win (adm m hO) 4).index t = ![t.val % 16, t.val / 16] := idx4 t
theorem widx5 (hO : Ok m) (t : Fin (cfgM m hO).N) : ((pcfg0 (F := Ideal)).win (adm m hO) 5).index t = ![t.val % 16, t.val / 16] := idx5 t
theorem widx6 (hO : Ok m) (t : Fin (cfgM m hO).N) : ((pcfg0 (F := Ideal)).win (adm m hO) 6).index t = ![t.val % 16, t.val / 16] := idx6 t

theorem sblk (hO : Ok m) (c : Dev nD) (t : Fin (cfgM m hO).N) (i : Fin 16) :
    (show FVec Ideal S16 .f32 from iblk m hO c 0 t) (ix1 i) = V m c main_v25 (ix1 i) := by
  blk_ext [iblk]
  have e : ((pcfg0 (F := Ideal)).win (adm m hO) 0).index t 0 = 0 := congrFun (widx0 m hO t) 0
  exact (congrArg (· * 16 + i.val) e).trans (by simp)
theorem gblk (hO : Ok m) (c : Dev nD) (t : Fin (cfgM m hO).N) (k : Fin 8) (l : Fin 128) :
    (show FVec Ideal S8x128 .f32 from iblk m hO c 1 t) (ix2 k l) = V m c main_arg3 (ix2 k l) := by
  blk_ext [iblk]
  · have e : ((pcfg0 (F := Ideal)).win (adm m hO) 1).index t 0 = 0 := congrFun (widx1 m hO t) 0
    exact (congrArg (· * 8 + k.val) e).trans (by simp)
  · have e : ((pcfg0 (F := Ideal)).win (adm m hO) 1).index t 1 = 0 := congrFun (widx1 m hO t) 1
    exact (congrArg (· * 128 + l.val) e).trans (by simp)
theorem xblk (hO : Ok m) (c : Dev nD) (t : Fin (cfgM m hO).N) (k : Fin 512) (l : Fin 128) :
    (show FVec Ideal S512x128 .bf16 from iblk m hO c 2 t) (ix2 k l) = V m c main_v26 (ix2 ⟨t.val % 16 * 512 + k.val, row_lt t.val k⟩ ⟨t.val / 16 * 128 + l.val, col_lt (lt_N m hO t) l⟩) := by
  blk_ext [iblk]
  · have e : ((pcfg0 (F := Ideal)).win (adm m hO) 2).index t 0 = t.val % 16 := congrFun (widx2 m hO t) 0
    exact congrArg (· * 512 + k.val) e
  · have e : ((pcfg0 (F := Ideal)).win (adm m hO) 2).index t 1 = t.val / 16 := congrFun (widx2 m hO t) 1
    exact congrArg (· * 128 + l.val) e

/-- A group of sixteen tokens of one channel, rotated. -/
abbrev ROT (c : Dev nD) (g : Fin 512) (k : Fin 18944) : Fin 16 → EReal := Rht.rot (fun b s => TOK m c b s k) (SGN m c) (LEN m c) g

theorem grp_div (n : Nat) (ρ : Fin 32) : n % 16 / 4 = (n % 16 * 32 + ρ.val) / 128 := by omega
theorem grp_mod (n : Nat) (ρ : Fin 32) (i : Fin 16) : n % 16 % 4 * 512 + (16 * ρ.val + i.val) = (n % 16 * 32 + ρ.val) % 128 * 16 + i.val := by omega
theorem tok_div (n : Nat) (ρ : Fin 32) (i : Fin 16) : (n % 16 * 512 + (16 * ρ.val + i.val)) / 2048 = (n % 16 * 32 + ρ.val) / 128 := by omega
theorem tok_mod (n : Nat) (ρ : Fin 32) (i : Fin 16) : (n % 16 * 512 + (16 * ρ.val + i.val)) % 2048 = (n % 16 * 32 + ρ.val) % 128 * 16 + i.val := by omega
theorem off_lt (n : Nat) : n % 16 % 4 * 512 < 2048 := by omega
theorem in_lt (ρ : Fin 32) (i : Fin 16) : 16 * ρ.val + i.val < 2048 := by omega

/-- The groups that a step rotates are the array's. -/
theorem group_eq (hG : Good m) (hO : Ok m) (c : Dev nD) (t : Fin (cfgM m hO).N) (ρ : Fin 32) (l : Fin 128) :
    Words.group (iblk m hO c 0 t) (iblk m hO c 2 t) (kernelRun0_A.sl.v30 (F := Ideal) c (grid0.coords t) (tbl m 0)) ρ l =
      ROT m c ⟨t.val % 16 * 32 + ρ.val, grp_lt t.val ρ⟩ ⟨t.val / 16 * 128 + l.val, col_lt (lt_N m hO t) l⟩ := by
  choose X hX using hG.tok
  choose S hS using hG.sgn
  funext r
  have h := Rht.had_rot (fun i => Rht.valid (LEN m c ⟨(t.val % 16 * 32 + ρ.val) / 128, by omega⟩) ((t.val % 16 * 32 + ρ.val) % 128 * 16 + i.val))
    (fun i => X c ⟨(t.val % 16 * 32 + ρ.val) / 128, by omega⟩ ⟨(t.val % 16 * 32 + ρ.val) % 128 * 16 + i.val, by omega⟩ ⟨t.val / 16 * 128 + l.val, col_lt (lt_N m hO t) l⟩)
    (S c) r
  simp only [← hX, ← hS] at h
  refine Eq.trans ?_ h
  unfold Words.group
  refine congrFun (congrArg Rht.had (funext fun i => ?_)) r
  unfold Words.tokenAt
  refine congrArg₂ (fun a b : EReal => a * b) (congr (congr (congrArg Scalar.select ?_) ?_) rfl) ((sblk m hO c t i).trans (sval m c i))
  · refine (congrArg (IntOp.cmpi CmpIPredicate.slt _) (count m c t)).trans ((Rht.valid_sub _ (hG.len _ _) _ _ (off_lt _) (in_lt ρ i)).trans ?_)
    exact congr (congrArg Rht.valid (congrArg (LEN m c) (Fin.ext (grp_div t.val ρ)))) (grp_mod t.val ρ i)
  · refine (xblk m hO c t _ l).trans ((xval m c _ _).trans ?_)
    exact congr (congr (congrArg (TOK m c) (Fin.ext (tok_div t.val ρ i))) (Fin.ext (tok_mod t.val ρ i))) rfl

/-- The greatest absolute value of a group, and its scale. -/
abbrev AMAX (c : Dev nD) (g : Fin 512) (k : Fin 18944) : EReal := Rht.gmax (ROT m c g k)
abbrev SB (c : Dev nD) (g : Fin 512) (k : Fin 18944) : EReal := Rht.scale (AMAX m c g k) (SCL m c 0 0)

theorem after6 (hG : Good m) (hO : Ok m) (c : Dev nD) (t : Fin (cfgM m hO).N) (ρ : Fin 32) (l : Fin 128) :
    (show FVec Ideal S32x128 .f32 from (dats m hO 0 c).after 6 t) (ix2 ρ l) =
      AMAX m c ⟨t.val % 16 * 32 + ρ.val, grp_lt t.val ρ⟩ ⟨t.val / 16 * 128 + l.val, col_lt (lt_N m hO t) l⟩ := by
  rw [after0_6]
  refine Eq.trans ?_ (congrArg Rht.gmax (group_eq m hG hO c t ρ l))
  exact Words.out6_at c (grid0.coords t) (ms0_0 m hO t) (hs0_0 m hO t) (ms0_1 m hO t) (hs0_1 m hO t) (ms0_2 m hO t) (hs0_2 m hO t) scM0_0 (iblk m hO c 0 t) (iblk m hO c 1 t) (iblk m hO c 2 t) (tbl m 0) (ms0_3 m hO t) (hs0_3 m hO t) (ms0_4 m hO t) (hs0_4 m hO t) (ms0_5 m hO t) (hs0_5 m hO t) (ms0_6 m hO t) (hs0_6 m hO t) (Memref.isWhole_whole _) scM0_1 (Memref.isWhole_whole _) ρ l

theorem after5 (hG : Good m) (hO : Ok m) (c : Dev nD) (t : Fin (cfgM m hO).N) (ρ : Fin 32) (l : Fin 128) :
    (show FVec Ideal S32x128 .fp8e4m3 from (dats m hO 0 c).after 5 t) (ix2 ρ l) =
      SB m c ⟨t.val % 16 * 32 + ρ.val, grp_lt t.val ρ⟩ ⟨t.val / 16 * 128 + l.val, col_lt (lt_N m hO t) l⟩ := by
  rw [after0_5]
  refine Eq.trans ?_ (congrArg₂ Rht.scale (congrArg Rht.gmax (group_eq m hG hO c t ρ l)) ((gblk m hO c t ⟨ρ.val % 8, by omega⟩ l).trans ?_))
  · exact Words.out5_at c (grid0.coords t) (ms0_0 m hO t) (hs0_0 m hO t) (ms0_1 m hO t) (hs0_1 m hO t) (ms0_2 m hO t) (hs0_2 m hO t) scM0_0 (iblk m hO c 0 t) (iblk m hO c 1 t) (iblk m hO c 2 t) (tbl m 0) (ms0_3 m hO t) (hs0_3 m hO t) (ms0_4 m hO t) (hs0_4 m hO t) (ms0_5 m hO t) (hs0_5 m hO t) (ms0_6 m hO t) (hs0_6 m hO t) (Memref.isWhole_whole _) scM0_1 (Memref.isWhole_whole _) ρ l
  · rw [V_main_arg3]; exact hG.scl c _ _

/-- The rotated tokens are finite. -/
theorem rot_real (hG : Good m) (c : Dev nD) (g : Fin 512) (k : Fin 18944) (j : Fin 16) : ∃ z : ℝ, ROT m c g k j = (z : EReal) := by
  choose X hX using hG.tok
  choose S hS using hG.sgn
  obtain ⟨z, hz⟩ := Rht.rot_real (fun i => Rht.valid (LEN m c ⟨g.val / 128, by omega⟩) (g.val % 128 * 16 + i.val))
    (fun i => X c ⟨g.val / 128, by omega⟩ ⟨g.val % 128 * 16 + i.val, by omega⟩ k) (S c) j
  refine ⟨z, Eq.trans ?_ hz⟩
  simp only [← hX, ← hS]
  rfl

/-- A token's code, and the two codes of a byte. -/
abbrev CODE (c : Dev nD) (g : Fin 512) (k : Fin 18944) (j : Fin 16) : BitVec 32 := Rht.rcode (Rht.rclip (ROT m c g k j) (SB m c g k * SCL m c 0 0))
abbrev BYTE (c : Dev nD) (p : Fin 4096) (k : Fin 18944) : BitVec 8 :=
  Rht.byte (CODE m c ⟨p.val / 8, by omega⟩ k ⟨p.val % 8 * 2, by omega⟩) (CODE m c ⟨p.val / 8, by omega⟩ k ⟨p.val % 8 * 2 + 1, by omega⟩)

theorem code_eq (hG : Good m) (hO : Ok m) (c : Dev nD) (t : Fin (cfgM m hO).N) (ρ : Fin 32) (l : Fin 128) (j : Fin 16) :
    Words.tokCode c (grid0.coords t) (iblk m hO c 0 t) (iblk m hO c 1 t) (iblk m hO c 2 t) (tbl m 0) ρ l j =
      CODE m c ⟨t.val % 16 * 32 + ρ.val, grp_lt t.val ρ⟩ ⟨t.val / 16 * 128 + l.val, col_lt (lt_N m hO t) l⟩ j ∧
    ∃ a : BitVec 4, Words.tokCode c (grid0.coords t) (iblk m hO c 0 t) (iblk m hO c 1 t) (iblk m hO c 2 t) (tbl m 0) ρ l j = a.setWidth 32 := by
  have hs : (show FVec Ideal S8x128 .f32 from iblk m hO c 1 t) (ix2 ⟨ρ.val % 8, by omega⟩ l) = SCL m c 0 0 :=
    (gblk m hO c t _ l).trans ((congrFun (V_main_arg3 m c) _).trans (hG.scl c _ _))
  have e : Words.tokCode c (grid0.coords t) (iblk m hO c 0 t) (iblk m hO c 1 t) (iblk m hO c 2 t) (tbl m 0) ρ l j =
      Rht.kcode (Rht.kquant (Rht.kclip (ROT m c ⟨t.val % 16 * 32 + ρ.val, grp_lt t.val ρ⟩ ⟨t.val / 16 * 128 + l.val, col_lt (lt_N m hO t) l⟩ j)
        (Rht.recip (SB m c ⟨t.val % 16 * 32 + ρ.val, grp_lt t.val ρ⟩ ⟨t.val / 16 * 128 + l.val, col_lt (lt_N m hO t) l⟩ * SCL m c 0 0)))) := by
    unfold Words.tokCode
    rw [group_eq m hG hO c t ρ l, hs]
  obtain ⟨z, hz⟩ := rot_real m hG c ⟨t.val % 16 * 32 + ρ.val, grp_lt t.val ρ⟩ ⟨t.val / 16 * 128 + l.val, col_lt (lt_N m hO t) l⟩ j
  obtain ⟨k, s, -, h1, h2⟩ := Rht.quant_eq z (SB m c ⟨t.val % 16 * 32 + ρ.val, grp_lt t.val ρ⟩ ⟨t.val / 16 * 128 + l.val, col_lt (lt_N m hO t) l⟩ * SCL m c 0 0)
  rw [← hz] at h1 h2
  obtain ⟨a, ha⟩ := Rht.nib_bits k s
  exact ⟨e.trans (h1.trans h2.symm), a, e.trans (h1.trans ha)⟩

theorem byte_div (n : Nat) (ρ : Fin 256) : n % 16 * 32 + ρ.val / 8 = (n % 16 * 256 + ρ.val) / 8 := by omega
theorem byte_mod (n : Nat) (ρ : Fin 256) : ρ.val % 8 * 2 = (n % 16 * 256 + ρ.val) % 8 * 2 := by omega
theorem byte_lt (n : Nat) (ρ : Fin 256) : n % 16 * 256 + ρ.val < 4096 := by omega
theorem byte_grp (ρ : Fin 256) : ρ.val / 8 < 32 := by omega
theorem byte_lo (ρ : Fin 256) : ρ.val % 8 * 2 < 16 := by omega
theorem byte_hi (ρ : Fin 256) : ρ.val % 8 * 2 + 1 < 16 := by omega

theorem after4 (hG : Good m) (hO : Ok m) (c : Dev nD) (t : Fin (cfgM m hO).N) (ρ : Fin 256) (l : Fin 128) :
    (show IVec S256x128 8 from (dats m hO 0 c).after 4 t) (ix2 ρ l) =
      BYTE m c ⟨t.val % 16 * 256 + ρ.val, byte_lt t.val ρ⟩ ⟨t.val / 16 * 128 + l.val, col_lt (lt_N m hO t) l⟩ := by
  rw [after0_4]
  have e : ∀ j : Fin 16, ∀ j' : Fin 16, j.val = j'.val → Words.tokCode c (grid0.coords t) (iblk m hO c 0 t) (iblk m hO c 1 t) (iblk m hO c 2 t) (tbl m 0) ⟨ρ.val / 8, byte_grp ρ⟩ l j =
      CODE m c ⟨(t.val % 16 * 256 + ρ.val) / 8, (Nat.div_lt_iff_lt_mul (by decide)).2 (byte_lt t.val ρ)⟩ ⟨t.val / 16 * 128 + l.val, col_lt (lt_N m hO t) l⟩ j' := fun j j' hj =>
    (code_eq m hG hO c t ⟨ρ.val / 8, byte_grp ρ⟩ l j).1.trans (congrArg₂ (fun g i => CODE m c g ⟨t.val / 16 * 128 + l.val, col_lt (lt_N m hO t) l⟩ i) (Fin.ext (byte_div t.val ρ)) (Fin.ext hj))
  have h := Words.out4_at c (grid0.coords t) (ms0_0 m hO t) (hs0_0 m hO t) (ms0_1 m hO t) (hs0_1 m hO t) (ms0_2 m hO t) (hs0_2 m hO t) scM0_0 (iblk m hO c 0 t) (iblk m hO c 1 t) (iblk m hO c 2 t) (tbl m 0) (ms0_3 m hO t) (hs0_3 m hO t) (ms0_4 m hO t) (hs0_4 m hO t) (ms0_5 m hO t) (hs0_5 m hO t) (ms0_6 m hO t) (hs0_6 m hO t) (Memref.isWhole_whole _) scM0_1 (Memref.isWhole_whole _) ρ l (fun j => (code_eq m hG hO c t ⟨ρ.val / 8, byte_grp ρ⟩ l j).2)
  refine Eq.trans ?_ (h.trans ?_)
  · rfl
  · exact congrArg₂ Rht.byte (e ⟨ρ.val % 8 * 2, byte_lo ρ⟩ _ (byte_mod t.val ρ)) (e ⟨ρ.val % 8 * 2 + 1, byte_hi ρ⟩ _ (congrArg (· + 1) (byte_mod t.val ρ)))

theorem step_lt {a b : Nat} (ha : a < 16) (hb : b < 148) : b * 16 + a < 2368 := by omega
theorem step_mod {a b : Nat} (ha : a < 16) : (b * 16 + a) % 16 = a := by omega
theorem step_div {a b : Nat} (ha : a < 16) : (b * 16 + a) / 16 = b := by omega

theorem grids3 : (8192 + 512 - 1) / 512 = 16 ∧ (18944 + 128 - 1) / 128 = 148 := by decide +kernel
theorem covers3 (hO : Ok m) : ((cfgM m hO).win 3).Covers := by
  refine Pipeline.Window.covers_of_index_surj _ rfl ?_ fun β => ?_
  · intro a; match a with
    | ⟨0, _⟩ => exact (by decide : 0 < 512)
    | ⟨1, _⟩ => exact (by decide : 0 < 128)
  · have h0 : (β (0 : Fin 2)).val < 16 := lt_of_lt_of_eq (β (0 : Fin 2)).isLt grids3.1
    have h1 : (β (1 : Fin 2)).val < 148 := lt_of_lt_of_eq (β (1 : Fin 2)).isLt grids3.2
    refine ⟨⟨(β (1 : Fin 2)).val * 16 + (β (0 : Fin 2)).val, lt_of_lt_of_eq (step_lt h0 h1) N_0.symm⟩, fun a => (congrFun (widx3 m hO _) a).trans ?_⟩
    match a with
    | ⟨0, h⟩ => exact step_mod h0
    | ⟨1, h⟩ => exact step_div h0

theorem grids4 : (4096 + 256 - 1) / 256 = 16 ∧ (18944 + 128 - 1) / 128 = 148 := by decide +kernel
theorem covers4 (hO : Ok m) : ((cfgM m hO).win 4).Covers := by
  refine Pipeline.Window.covers_of_index_surj _ rfl ?_ fun β => ?_
  · intro a; match a with
    | ⟨0, _⟩ => exact (by decide : 0 < 256)
    | ⟨1, _⟩ => exact (by decide : 0 < 128)
  · have h0 : (β (0 : Fin 2)).val < 16 := lt_of_lt_of_eq (β (0 : Fin 2)).isLt grids4.1
    have h1 : (β (1 : Fin 2)).val < 148 := lt_of_lt_of_eq (β (1 : Fin 2)).isLt grids4.2
    refine ⟨⟨(β (1 : Fin 2)).val * 16 + (β (0 : Fin 2)).val, lt_of_lt_of_eq (step_lt h0 h1) N_0.symm⟩, fun a => (congrFun (widx4 m hO _) a).trans ?_⟩
    match a with
    | ⟨0, h⟩ => exact step_mod h0
    | ⟨1, h⟩ => exact step_div h0

theorem grids5 : (512 + 32 - 1) / 32 = 16 ∧ (18944 + 128 - 1) / 128 = 148 := by decide +kernel
theorem covers5 (hO : Ok m) : ((cfgM m hO).win 5).Covers := by
  refine Pipeline.Window.covers_of_index_surj _ rfl ?_ fun β => ?_
  · intro a; match a with
    | ⟨0, _⟩ => exact (by decide : 0 < 32)
    | ⟨1, _⟩ => exact (by decide : 0 < 128)
  · have h0 : (β (0 : Fin 2)).val < 16 := lt_of_lt_of_eq (β (0 : Fin 2)).isLt grids5.1
    have h1 : (β (1 : Fin 2)).val < 148 := lt_of_lt_of_eq (β (1 : Fin 2)).isLt grids5.2
    refine ⟨⟨(β (1 : Fin 2)).val * 16 + (β (0 : Fin 2)).val, lt_of_lt_of_eq (step_lt h0 h1) N_0.symm⟩, fun a => (congrFun (widx5 m hO _) a).trans ?_⟩
    match a with
    | ⟨0, h⟩ => exact step_mod h0
    | ⟨1, h⟩ => exact step_div h0

theorem grids6 : (512 + 32 - 1) / 32 = 16 ∧ (18944 + 128 - 1) / 128 = 148 := by decide +kernel
theorem covers6 (hO : Ok m) : ((cfgM m hO).win 6).Covers := by
  refine Pipeline.Window.covers_of_index_surj _ rfl ?_ fun β => ?_
  · intro a; match a with
    | ⟨0, _⟩ => exact (by decide : 0 < 32)
    | ⟨1, _⟩ => exact (by decide : 0 < 128)
  · have h0 : (β (0 : Fin 2)).val < 16 := lt_of_lt_of_eq (β (0 : Fin 2)).isLt grids6.1
    have h1 : (β (1 : Fin 2)).val < 148 := lt_of_lt_of_eq (β (1 : Fin 2)).isLt grids6.2
    refine ⟨⟨(β (1 : Fin 2)).val * 16 + (β (0 : Fin 2)).val, lt_of_lt_of_eq (step_lt h0 h1) N_0.symm⟩, fun a => (congrFun (widx6 m hO _) a).trans ?_⟩
    match a with
    | ⟨0, h⟩ => exact step_mod h0
    | ⟨1, h⟩ => exact step_div h0

theorem final6 (hG : Good m) (hO : Ok m) (c : Dev nD) : (dats m hO 0 c).arrAt 6 (cfgM m hO).N =
    ((fun j => AMAX m c (j 0) (j 1)) : FVec Ideal S512x18944 .f32) := by
  refine (dats m hO 0 c).arrAt_eq_of_covers 6 _ (covers6 m hO) fun t hf y => ?_
  obtain ⟨ρ, l, rfl⟩ : ∃ (ρ : Fin 32) (l : Fin 128), y = ix2 ρ l := ⟨y (0 : Fin 2), y (1 : Fin 2), eq_ix2 y⟩
  refine (after6 m hG hO c t ρ l).trans (congrArg₂ (AMAX m c) (Fin.ext ?_) (Fin.ext ?_))
  · have e : ((pcfg0 (F := Ideal)).win (adm m hO) 6).index t 0 = t.val % 16 := congrFun (widx6 m hO t) 0
    exact ((congrArg (· * 32 + ρ.val) e).symm).trans (by blk_simp; rfl)
  · have e : ((pcfg0 (F := Ideal)).win (adm m hO) 6).index t 1 = t.val / 16 := congrFun (widx6 m hO t) 1
    exact ((congrArg (· * 128 + l.val) e).symm).trans (by blk_simp; rfl)

theorem final5 (hG : Good m) (hO : Ok m) (c : Dev nD) : (dats m hO 0 c).arrAt 5 (cfgM m hO).N =
    ((fun j => SB m c (j 0) (j 1)) : FVec Ideal S512x18944 .fp8e4m3) := by
  refine (dats m hO 0 c).arrAt_eq_of_covers 5 _ (covers5 m hO) fun t hf y => ?_
  obtain ⟨ρ, l, rfl⟩ : ∃ (ρ : Fin 32) (l : Fin 128), y = ix2 ρ l := ⟨y (0 : Fin 2), y (1 : Fin 2), eq_ix2 y⟩
  refine (after5 m hG hO c t ρ l).trans (congrArg₂ (SB m c) (Fin.ext ?_) (Fin.ext ?_))
  · have e : ((pcfg0 (F := Ideal)).win (adm m hO) 5).index t 0 = t.val % 16 := congrFun (widx5 m hO t) 0
    exact ((congrArg (· * 32 + ρ.val) e).symm).trans (by blk_simp; rfl)
  · have e : ((pcfg0 (F := Ideal)).win (adm m hO) 5).index t 1 = t.val / 16 := congrFun (widx5 m hO t) 1
    exact ((congrArg (· * 128 + l.val) e).symm).trans (by blk_simp; rfl)

theorem final4 (hG : Good m) (hO : Ok m) (c : Dev nD) : (dats m hO 0 c).arrAt 4 (cfgM m hO).N =
    ((fun j => BYTE m c (j 0) (j 1)) : IVec S4096x18944 8) := by
  refine (dats m hO 0 c).arrAt_eq_of_covers 4 _ (covers4 m hO) fun t hf y => ?_
  obtain ⟨ρ, l, rfl⟩ : ∃ (ρ : Fin 256) (l : Fin 128), y = ix2 ρ l := ⟨y (0 : Fin 2), y (1 : Fin 2), eq_ix2 y⟩
  refine (after4 m hG hO c t ρ l).trans (congrArg₂ (BYTE m c) (Fin.ext ?_) (Fin.ext ?_))
  · have e : ((pcfg0 (F := Ideal)).win (adm m hO) 4).index t 0 = t.val % 16 := congrFun (widx4 m hO t) 0
    exact ((congrArg (· * 256 + ρ.val) e).symm).trans (by blk_simp; rfl)
  · have e : ((pcfg0 (F := Ideal)).win (adm m hO) 4).index t 1 = t.val / 16 := congrFun (widx4 m hO t) 1
    exact ((congrArg (· * 128 + l.val) e).symm).trans (by blk_simp; rfl)

/-- The kernel's run: its codes, its scales and its greatest absolute values, its arguments unchanged. -/
theorem run (hG : Good m) (g : Dev nD → PrngReg) :
    θ_run (defs (F := Ideal)) (onTc (τ := τ) (main (F := Ideal))) ⟨m, fun _ => 0, g⟩ fun r => ∀ c : Dev nD,
      r.2.mem ((c.tc : Thread nD τ).loc main_v27_1) = ((fun j => BYTE m c (j 0) (j 1)) : IVec S4096x18944 8)
      ∧ r.2.mem ((c.tc : Thread nD τ).loc main_v27_2) = ((fun j => SB m c (j 0) (j 1)) : FVec Ideal S512x18944 .fp8e4m3)
      ∧ r.2.mem ((c.tc : Thread nD τ).loc main_v27_3) = ((fun j => AMAX m c (j 0) (j 1)) : FVec Ideal S512x18944 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h := θ_run_and (Cert.QuantDyIdeal.Gen.run_main m g (ok m)) (Cert.QuantDyIdeal.Gen.unchanged m g (ok m))
  refine (θ_run _ _ _).mono (fun r hr c => ⟨?_, ?_, ?_, hr.2 c⟩) h
  · exact ((hr.1 c).1 4).trans (final4 m hG (ok m) c)
  · exact ((hr.1 c).1 5).trans (final5 m hG (ok m) c)
  · exact ((hr.1 c).1 6).trans (final6 m hG (ok m) c)

end Cert.QuantDyIdeal.Value

end
-- ==== Proof.QuantDyStages.lean ====
/- The reference of the quantising call over the extended reals. -/
module

public import proofs.«01_k».proof.Defs
public import proofs.«01_k».proof.Proof.Rotation
public import proofs.«01_k».proof.Proof.QuantScalar
public import proofs.«01_k».proof.Proof.QuantCore
public import proofs.«01_k».proof.Proof.Gen.QuantDyReferenceIdeal
public import Idealize.ShloMosaic.Adequacy
public import Idealize.ShloMosaic.Init
public import Idealize.ShloMosaic.Lib.Claim
public import Idealize.ShloMosaic.Lib.Pointwise
public import Idealize.ShloMosaic.Lib.StableHlo.ReadAt

@[expose] public section

set_option maxRecDepth 16384

noncomputable section

open Idealize.ShloMosaic Idealize.SL.Sem

namespace Cert.QuantDyReferenceIdeal.Value

open Cert.QuantDyReferenceIdeal Cert.QuantDyReferenceIdeal.Gen

/-- The scaled, signed Hadamard matrix. -/
def MAT (S : FVec Ideal S16 .f32) : FVec Ideal S16x16 .bf16 :=
  truncf .bf16 (mulf (mulf (id (select (cmpi .eq (andi (ctpop (andi
      (broadcastInDim S16x16 ![0, 1] bcast_S16x1_S16x16_0_1 (broadcastInDim S16x1 ![0] bcast_S16_S16x1_0 (iotaInDim S16 32 0)))
      (broadcastInDim S16x16 ![0, 1] bcast_S1x16_S16x16_0_1 (broadcastInDim S1x16 ![1] bcast_S16_S1x16_1 (iotaInDim S16 32 0)))))
      (broadcastInDim S16x16 ![] bcast_S_S16x16 (constantI S_ 32 1#32))) (broadcastInDim S16x16 ![] bcast_S_S16x16 (constantI S_ 32 1#32)))
      (broadcastInDim S16x16 ![] bcast_S_S16x16 (constant (F := Ideal) S_ .f32 0xBF800000#32))
      (broadcastInDim S16x16 ![] bcast_S_S16x16 (constant (F := Ideal) S_ .f32 0x3F800000#32))))
    (broadcastInDim S16x16 ![0, 1] bcast_S1x16_S16x16_0_1 (broadcastInDim S1x16 ![1] bcast_S16_S1x16_1 S)))
    (broadcastInDim S16x16 ![] bcast_S_S16x16 (constant (F := Ideal) S_ .f32 0x3E800000#32))) bitsLt_bf16_f32

/-- The tokens, zero past the lengths, in groups of sixteen. -/
def MSK (X : FVec Ideal S4x2048x18944 .bf16) (L : IVec S4 32) : FVec Ideal S512x16x18944 .bf16 :=
  shapeCast S512x16x18944 (select (broadcastInDim S4x2048x18944 ![0, 1, 2] bcast_S4x2048x1_S4x2048x18944_0_1_2
      (broadcastInDim S4x2048x1 ![0, 1] bcast_S4x2048_S4x2048x1_0_1
        (cmpi .slt (broadcastInDim S4x2048 ![0, 1] bcast_S1x2048_S4x2048_0_1 (broadcastInDim S1x2048 ![1] bcast_S2048_S1x2048_1 (iotaInDim S2048 32 0)))
          (broadcastInDim S4x2048 ![0, 1] bcast_S4x1_S4x2048_0_1 (broadcastInDim S4x1 ![0] bcast_S4_S4x1_0 L)))))
    X (broadcastInDim S4x2048x18944 ![] bcast_S_S4x2048x18944 (constant (F := Ideal) S_ .bf16 0x0000#16))) shapeCasts_S4x2048x18944_S512x16x18944

/-- The rotated groups. -/
def ROT (B : FVec Ideal S512x16x18944 .bf16) (M : FVec Ideal S16x16 .bf16) : FVec Ideal S512x16x18944 .f32 :=
  transpose S512x16x18944 [0, 2, 1] (Host.dotGeneral dot_S512x16x18944_S16x16_S512x18944x16_1_1_02_0_n_n none B M) transposes_S512x18944x16_S512x16x18944_0_2_1

/-- The greatest absolute value of each group. -/
def GRP (R : FVec Ideal S512x16x18944 .f32) : FVec Ideal S512x18944 .f32 :=
  Host.reduce FloatOps.maximumf (Host.absf R) (constant (F := Ideal) S_ .f32 0xFF800000#32) reducesTo_S512x16x18944_S512x18944_d1 h_S_

/-- The stored scale of each group. -/
def SBS (A : FVec Ideal S512x18944 .f32) (G : FVec Ideal S8x128 .f32) : FVec Ideal S512x18944 .fp8e4m3 :=
  Host.convertf .fp8e4m3 (minimumf (broadcastInDim S512x18944 ![] bcast_S_S512x18944 (id (constant (F := Ideal) S_ .f32 0x43E00000#32)))
    (maximumf (broadcastInDim S512x18944 ![] bcast_S_S512x18944 (id (constant (F := Ideal) S_ .f32 0x00000000#32)))
      (Host.divf (Host.divf (mulf A (broadcastInDim S512x18944 ![] bcast_S_S512x18944 (constant (F := Ideal) S_ .f32 0x3F800800#32)))
          (broadcastInDim S512x18944 ![] bcast_S_S512x18944 (constant (F := Ideal) S_ .f32 0x40C00000#32)))
        (broadcastInDim S512x18944 ![0, 1] bcast_S1x1_S512x18944_0_1 (broadcastInDim S1x1 ![1] bcast_S1_S1x1_1
          (shapeCast S1 (shapeCast S_ (extractStridedSlice S1x1 ![0, 0] G slices_S8x128_S1x1_0_0) shapeCasts_S1x1_S_) shapeCasts_S_S1))))))

theorem mat_at (S : FVec Ideal S16 .f32) (r i : Fin 16) : MAT S (ix2 r i) = Rht.entry (fun i => S (ix1 i)) r i := by
  simp only [MAT, id_eq]
  pointwise
  rfl

theorem msk_at (X : FVec Ideal S4x2048x18944 .bf16) (L : IVec S4 32) (g : Fin 512) (i : Fin 16) (col : Fin 18944) :
    MSK X L (ix3 g i col) = Scalar.select (Rht.valid (L (ix1 ⟨g.val / 128, by omega⟩)) (g.val % 128 * 16 + i.val))
      (X (ix3 ⟨g.val / 128, by omega⟩ ⟨g.val % 128 * 16 + i.val, by omega⟩ col)) 0 := by
  pointwise [MSK]
  rfl

theorem rot_at (B : FVec Ideal S512x16x18944 .bf16) (M : FVec Ideal S16x16 .bf16) (g : Fin 512) (r : Fin 16) (col : Fin 18944) :
    ROT B M (ix3 g r col) = ∑ i : Fin 16, B (ix3 g i col) * M (ix2 r i) := by
  pointwise [ROT]

theorem grp_at (R : FVec Ideal S512x16x18944 .f32) (g : Fin 512) (col : Fin 18944) :
    GRP R (ix2 g col) = Finset.fold max (Ideal.ofBits FTy.f32 4286578688#32) (fun r : Fin 16 => FloatOps.absf (F := Ideal) (φ := .f32) (R (ix3 g r col))) Finset.univ := by
  pointwise [GRP]

theorem sbs_at (A : FVec Ideal S512x18944 .f32) (G : FVec Ideal S8x128 .f32) (g : Fin 512) (col : Fin 18944) :
    SBS A G (ix2 g col) = Rht.scale (A (ix2 g col)) (G (ix2 0 0)) := by
  simp only [SBS, id_eq]
  pointwise
  rw [Rht.scale, Ideal.ofBits_zero_f32]

/-- A rotated group, at an index. -/
theorem rotated_at (X : FVec Ideal S4x2048x18944 .bf16) (S : FVec Ideal S16 .f32) (L : IVec S4 32) (g : Fin 512) (r : Fin 16) (col : Fin 18944) :
    ROT (MSK X L) (MAT S) (ix3 g r col) = Rht.rot (fun b s => X (ix3 b s col)) (fun i => S (ix1 i)) (fun b => L (ix1 b)) g r := by
  rw [rot_at]
  refine Finset.sum_congr rfl fun i _ => ?_
  rw [msk_at, mat_at]
  unfold Scalar.select
  split
  · rfl
  · exact zero_mul _

/-- The greatest absolute value of a group, at an index. -/
theorem amax_at (X : FVec Ideal S4x2048x18944 .bf16) (S : FVec Ideal S16 .f32) (L : IVec S4 32) (g : Fin 512) (col : Fin 18944) :
    GRP (ROT (MSK X L) (MAT S)) (ix2 g col) = Rht.gmax (Rht.rot (fun b s => X (ix3 b s col)) (fun i => S (ix1 i)) (fun b => L (ix1 b)) g) := by
  rw [grp_at]
  exact Finset.fold_congr fun r _ => congrArg _ (rotated_at X S L g r col)

/-- The stored scale of a group, at an index. -/
theorem sb_at (X : FVec Ideal S4x2048x18944 .bf16) (S : FVec Ideal S16 .f32) (L : IVec S4 32) (G : FVec Ideal S8x128 .f32) (g : Fin 512) (col : Fin 18944) :
    SBS (GRP (ROT (MSK X L) (MAT S))) G (ix2 g col) =
      Rht.scale (Rht.gmax (Rht.rot (fun b s => X (ix3 b s col)) (fun i => S (ix1 i)) (fun b => L (ix1 b)) g)) (G (ix2 0 0)) := by
  rw [sbs_at, amax_at]

/-- The array's scale, out of the array of equal entries. -/
def SGV (G : FVec Ideal S8x128 .f32) : FVec Ideal S1 .f32 :=
  shapeCast S1 (shapeCast S_ (extractStridedSlice S1x1 ![0, 0] G slices_S8x128_S1x1_0_0) shapeCasts_S1x1_S_) shapeCasts_S_S1

/-- The product of the two scales. -/
def DEN (B : FVec Ideal S512x18944 .f32) (g : FVec Ideal S1 .f32) : FVec Ideal S512x18944 .f32 :=
  mulf B (broadcastInDim S512x18944 ![0, 1] bcast_S1x1_S512x18944_0_1 (broadcastInDim S1x1 ![1] bcast_S1_S1x1_1 g))

/-- The scaled and clipped tokens. -/
def CLP (R : FVec Ideal S512x16x18944 .f32) (D : FVec Ideal S512x18944 .f32) : FVec Ideal S512x16x18944 .f32 :=
  minimumf (broadcastInDim S512x16x18944 ![] bcast_S_S512x16x18944 (id (constant (F := Ideal) S_ .f32 0x40C00000#32)))
    (maximumf (broadcastInDim S512x16x18944 ![] bcast_S_S512x16x18944 (id (constant (F := Ideal) S_ .f32 0xC0C00000#32)))
      (select (broadcastInDim S512x16x18944 ![0, 1, 2] bcast_S512x1x18944_S512x16x18944_0_1_2 (broadcastInDim S512x1x18944 ![0, 2] bcast_S512x18944_S512x1x18944_0_2
          (cmpf .ogt D (broadcastInDim S512x18944 ![] bcast_S_S512x18944 (constant (F := Ideal) S_ .f32 0x00000000#32)))))
        (Host.divf R (broadcastInDim S512x16x18944 ![0, 1, 2] bcast_S512x1x18944_S512x16x18944_0_1_2 (broadcastInDim S512x1x18944 ![0, 2] bcast_S512x18944_S512x1x18944_0_2
          (select (cmpf .ogt D (broadcastInDim S512x18944 ![] bcast_S_S512x18944 (constant (F := Ideal) S_ .f32 0x00000000#32))) D
            (broadcastInDim S512x18944 ![] bcast_S_S512x18944 (id (constant (F := Ideal) S_ .f32 0x3F800000#32)))))))
        (broadcastInDim S512x16x18944 ![] bcast_S_S512x16x18944 (id (constant (F := Ideal) S_ .f32 0x00000000#32)))))

/-- This number in every place. -/
abbrev bc3 (b : BitVec 32) : FVec Ideal S512x16x18944 .f32 := broadcastInDim S512x16x18944 ![] bcast_S_S512x16x18944 (constant (F := Ideal) S_ .f32 b)

/-- The magnitudes rounded to the values of the four-bit format. -/
def QNT (P : FVec Ideal S512x16x18944 .f32) : FVec Ideal S512x16x18944 .f32 :=
  select (cmpf .olt P (bc3 0x40000000#32)) (mulf (Host.roundeven (mulf (bc3 0x40000000#32) P)) (bc3 0x3F000000#32))
    (select (cmpf .olt P (bc3 0x40800000#32)) (Host.roundeven P) (mulf (bc3 0x40000000#32) (Host.roundeven (mulf P (bc3 0x3F000000#32)))))

/-- The codes of the magnitudes. -/
def KIX (Q : FVec Ideal S512x16x18944 .f32) : FVec Ideal S512x16x18944 .f32 :=
  select (cmpf .olt Q (bc3 0x40000000#32)) (mulf (bc3 0x40000000#32) Q)
    (select (cmpf .olt Q (bc3 0x40800000#32)) (addf Q (bc3 0x40000000#32)) (addf (mulf Q (bc3 0x3F000000#32)) (bc3 0x40800000#32)))

/-- The codes, with the sign. -/
def NBL (W Q : FVec Ideal S512x16x18944 .f32) : IVec S512x16x18944 32 :=
  addi (fptosi 32 (KIX Q)) (select (andi (cmpf .olt W (bc3 0x00000000#32)) (cmpf .ogt Q (bc3 0x00000000#32)))
    (broadcastInDim S512x16x18944 ![] bcast_S_S512x16x18944 (constantI S_ 32 8#32)) (broadcastInDim S512x16x18944 ![] bcast_S_S512x16x18944 (constantI S_ 32 0#32)))

/-- Two codes to a byte. -/
def PCK (N : IVec S512x16x18944 32) : IVec S4096x18944 8 :=
  trunci 8 (ori (shapeCast S4096x18944 (extractStridedSlice S4096x1x18944 ![0, 0, 0] (shapeCast S4096x2x18944 (shapeCast S8192x18944 N shapeCasts_S512x16x18944_S8192x18944) shapeCasts_S8192x18944_S4096x2x18944) slices_S4096x2x18944_S4096x1x18944_0_0_0) shapeCasts_S4096x1x18944_S4096x18944)
    (Host.shli (shapeCast S4096x18944 (extractStridedSlice S4096x1x18944 ![0, 1, 0] (shapeCast S4096x2x18944 (shapeCast S8192x18944 N shapeCasts_S512x16x18944_S8192x18944) shapeCasts_S8192x18944_S4096x2x18944) slices_S4096x2x18944_S4096x1x18944_0_1_0) shapeCasts_S4096x1x18944_S4096x18944)
      (broadcastInDim S4096x18944 ![] bcast_S_S4096x18944 (constantI S_ 32 4#32)))) natLt_8_32

theorem sgv_at (G : FVec Ideal S8x128 .f32) (i : Fin 1) : SGV G (ix1 i) = G (ix2 0 0) := by
  pointwise [SGV]

theorem den_at (B : FVec Ideal S512x18944 .f32) (G : FVec Ideal S8x128 .f32) (g : Fin 512) (col : Fin 18944) :
    DEN B (SGV G) (ix2 g col) = B (ix2 g col) * G (ix2 0 0) := by
  pointwise [DEN]
  rw [sgv_at]

theorem clp_at (R : FVec Ideal S512x16x18944 .f32) (D : FVec Ideal S512x18944 .f32) (g : Fin 512) (i : Fin 16) (col : Fin 18944) :
    CLP R D (ix3 g i col) = Rht.rclip (R (ix3 g i col)) (D (ix2 g col)) := by
  simp only [CLP, id_eq]
  pointwise
  simp only [Rht.rclip, Rht.gt_bits, Rht.sel, Rht.f1]

theorem qnt_at (W : FVec Ideal S512x16x18944 .f32) (g : Fin 512) (i : Fin 16) (col : Fin 18944) :
    QNT (Host.absf W) (ix3 g i col) = Rht.rquant (W (ix3 g i col)) := by
  pointwise [QNT]
  simp only [Rht.rquant, Rht.lt_bits, Rht.sel]

theorem kix_at (Q : FVec Ideal S512x16x18944 .f32) (g : Fin 512) (i : Fin 16) (col : Fin 18944) :
    KIX Q (ix3 g i col) = Rht.rindex (Q (ix3 g i col)) := by
  pointwise [KIX]
  simp only [Rht.rindex, Rht.lt_bits, Rht.sel]

theorem nbl_at (W : FVec Ideal S512x16x18944 .f32) (g : Fin 512) (i : Fin 16) (col : Fin 18944) :
    NBL W (QNT (Host.absf W)) (ix3 g i col) = Rht.rcode (W (ix3 g i col)) := by
  pointwise [NBL]
  rw [kix_at, qnt_at]
  rfl

theorem pck_at (N : IVec S512x16x18944 32) (j : Fin 4096) (col : Fin 18944) :
    PCK N (ix2 j col) = Rht.byte (N (ix3 ⟨j.val / 8, by omega⟩ ⟨j.val % 8 * 2, by omega⟩ col)) (N (ix3 ⟨j.val / 8, by omega⟩ ⟨j.val % 8 * 2 + 1, by omega⟩ col)) := by
  pointwise [PCK]
  rfl

end Cert.QuantDyReferenceIdeal.Value

end
-- ==== Proof.QuantDyRef.lean ====
/- The quantising reference's run over the extended reals. -/
module

public import proofs.«01_k».proof.Defs
public import proofs.«01_k».proof.Proof.QuantDyStages
public import Idealize.ShloMosaic.Adequacy
public import Idealize.ShloMosaic.Init
public import Idealize.ShloMosaic.Lib.Claim
public import Idealize.ShloMosaic.Lib.Pointwise
public import Idealize.ShloMosaic.Lib.StableHlo.ReadAt
public import Idealize.ShloMosaic.Lib.Pipeline.ValueKit
public import Idealize.ShloMosaic.Lib.Pipeline.Covers
public import Idealize.ShloMosaic.Lib.Pipeline.ReadBack
public import proofs.«01_k».proof.Proof.Gen.QuantDyReferenceIdeal.Frame

@[expose] public section

set_option maxRecDepth 16384

noncomputable section

open Idealize.ShloMosaic Idealize.ShloMosaic.TcCoe Idealize.SL.Sem

namespace Cert.QuantDyReferenceIdeal.Value

open Cert.QuantDyReferenceIdeal Cert.QuantDyReferenceIdeal.Gen

variable (m : (ℓ : Loc nD τ sig) → Buf (Elt Ideal) ℓ)

/-- The reference's rotated tokens and greatest absolute values, of its arguments. -/
abbrev RR (c : Dev nD) : FVec Ideal S512x16x18944 .f32 :=
  ROT (MSK (m ((c.tc : Thread nD τ).loc main_arg0)) (m ((c.tc : Thread nD τ).loc main_arg2))) (MAT (m ((c.tc : Thread nD τ).loc main_arg1)))
abbrev RA (c : Dev nD) : FVec Ideal S512x18944 .f32 := GRP (RR m c)
abbrev RS (c : Dev nD) : FVec Ideal S512x18944 .fp8e4m3 := SBS (RA m c) (m ((c.tc : Thread nD τ).loc main_arg3))

theorem v30 (c : Dev nD) : V m c main_v30 = RR m c := by
  simp only [V, hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  rfl

theorem v32 (c : Dev nD) : V m c main_v32 = RA m c := by
  simp only [V, hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  rfl

theorem v35 (c : Dev nD) : V m c main_v35 = SGV (m ((c.tc : Thread nD τ).loc main_arg3)) := by
  simp only [V, hostOps0, hostOps0_1, hostOps0_2, hostOps0_3, hostOps0_4, hostOps0_5, hostOps0_6, List.flatten_cons, List.flatten_nil, List.append_nil, List.cons_append, List.nil_append]
  after_reads_simp
  rfl

theorem v44 (c : Dev nD) : V m c main_v44 = RS m c := by
  simp only [V, hostOps0, hostOps0_1, hostOps0_2, hostOps0_3, hostOps0_4, hostOps0_5, hostOps0_6, List.flatten_cons, List.flatten_nil, List.append_nil, List.cons_append, List.nil_append]
  after_reads_simp
  simp -implicitDefEqProofs only [StableHlo.TRef.toBuf, StableHlo.TRef.ofBuf, cast_cast, cast_eq]
  rfl

theorem idx0 : ∀ t : Fin cfg0.N, (cfg0.win 0).index t = fun _ => 0 := by decide +kernel
theorem idx1 : ∀ t : Fin cfg0.N, (cfg0.win 1).index t = fun _ => 0 := by decide +kernel

theorem grids1 : (512 + 512 - 1) / 512 = 1 ∧ (18944 + 18944 - 1) / 18944 = 1 := by decide +kernel
theorem covers1 : (cfg0.win 1).Covers := by
  refine Pipeline.Window.covers_of_index_surj _ rfl ?_ fun β => ?_
  · intro a; match a with
    | ⟨0, _⟩ => exact (by decide : 0 < 512)
    | ⟨1, _⟩ => exact (by decide : 0 < 18944)
  · have h0 : (β (0 : Fin 2)).val < 1 := lt_of_lt_of_eq (β (0 : Fin 2)).isLt grids1.1
    have h1 : (β (1 : Fin 2)).val < 1 := lt_of_lt_of_eq (β (1 : Fin 2)).isLt grids1.2
    refine ⟨⟨0, by decide⟩, fun a => (congrFun (idx1 _) a).trans ?_⟩
    match a with
    | ⟨0, h⟩ => exact (Nat.lt_one_iff.mp h0).symm
    | ⟨1, h⟩ => exact (Nat.lt_one_iff.mp h1).symm

theorem sblk (c : Dev nD) (t : Fin cfg0.N) (k : Fin 512) (l : Fin 18944) :
    (show FVec Ideal S512x18944 .fp8e4m3 from iblk m c 0 t) (ix2 k l) = V m c main_v44 (ix2 k l) := by
  blk_ext [iblk]
  · have e : (cfg0.win 0).index t 0 = 0 := congrFun (idx0 t) 0
    exact (congrArg (· * 512 + k.val) e).trans (by simp)
  · have e : (cfg0.win 0).index t 1 = 0 := congrFun (idx0 t) 1
    exact (congrArg (· * 18944 + l.val) e).trans (by simp)

theorem pay1_at (X : FVec Ideal S512x18944 .fp8e4m3) (k : Fin 512) (l : Fin 18944) : k0_pay1 (F := Ideal) X (ix2 k l) = X (ix2 k l) := by
  pointwise [k0_pay1]

theorem out_at (X : FVec Ideal S512x18944 .fp8e4m3) (k : Fin 512) (l : Fin 18944) : out0_1 (F := Ideal) X (ix2 k l) = X (ix2 k l) := by
  have hz : (![0, 0] : Fin S512x18944.rank → Nat) = fun _ => 0 := by decide
  unfold out0_1
  rw [View.canon_unit_zero (S := S512x18944) hz, pay1_at]
  exact congrFun (View.ld_unit_zero (Val := Elt Ideal) (S := S512x18944) (e := .fp8e4m3) hz _ X) (ix2 k l)

theorem after1 (c : Dev nD) (t : Fin cfg0.N) (k : Fin 512) (l : Fin 18944) :
    (show FVec Ideal S512x18944 .f32 from (dats m 0 c).after 1 t) (ix2 k l) = RS m c (ix2 k l) := by
  rw [after0_1]
  exact (out_at (show FVec Ideal S512x18944 .fp8e4m3 from iblk m c 0 t) k l).trans ((sblk m c t k l).trans (congrFun (v44 m c) _))

/-- The widened scales are the scales. -/
theorem wide (c : Dev nD) : (dats m 0 c).arrAt 1 cfg0.N = ((fun j => RS m c (ix2 (j 0) (j 1))) : FVec Ideal S512x18944 .f32) := by
  refine (dats m 0 c).arrAt_eq_of_covers 1 _ covers1 fun t hf y => ?_
  obtain ⟨k, l, rfl⟩ : ∃ (k : Fin 512) (l : Fin 18944), y = ix2 k l := ⟨y (0 : Fin 2), y (1 : Fin 2), eq_ix2 y⟩
  refine (after1 m c t k l).trans (congrArg₂ (fun a b => RS m c (ix2 a b)) (Fin.ext ?_) (Fin.ext ?_))
  · have e : (cfg0.win 1).index t 0 = 0 := congrFun (idx1 t) 0
    exact ((by simp : 0 * 512 + k.val = k.val).symm.trans (congrArg (· * 512 + k.val) e).symm).trans (by blk_simp)
  · have e : (cfg0.win 1).index t 1 = 0 := congrFun (idx1 t) 1
    exact ((by simp : 0 * 18944 + l.val = l.val).symm.trans (congrArg (· * 18944 + l.val) e).symm).trans (by blk_simp)

theorem arr_inj : Function.Injective (Pipeline.arrRef (sig := sig) spec0) := by decide +kernel
theorem rest32 : main_v32 ∈ Pipeline.restRefs sig spec0 := by decide +kernel
theorem rest107 : main_v107 ∈ Pipeline.restRefs sig spec0 := by decide +kernel

/-- The clipped tokens of the reference. -/
abbrev RW (c : Dev nD) : FVec Ideal S512x16x18944 .f32 := CLP (RR m c) (DEN (fun j => RS m c (ix2 (j 0) (j 1))) (SGV (m ((c.tc : Thread nD τ).loc main_arg3))))

/-- The clipped tokens, out of what the lines after the widening find. -/
abbrev TW (X : Valuation τ sig (Elt Ideal)) : FVec Ideal S512x16x18944 .f32 :=
  CLP (X (Proc.tc.devRef main_v30)) (DEN (X (Proc.tc.devRef main_v45)) (X (Proc.tc.devRef main_v35)))

/-- The codes, out of what the lines after the widening find. -/
theorem tail (X : Valuation τ sig (Elt Ideal)) :
    StableHlo.after (List.flatten [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16, hostOps1_17, hostOps1_18, hostOps1_19, hostOps1_20]) X (Proc.tc.devRef main_v107) =
      PCK (NBL (TW X) (QNT (Host.absf (TW X)))) := by
  after_reads_simp
  simp -implicitDefEqProofs only [StableHlo.TRef.toBuf, StableHlo.TRef.ofBuf, cast_cast, cast_eq]
  rfl

/-- The reference ends with the codes, the stored scales and the greatest absolute values, its arguments unchanged. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v107) = PCK (NBL (RW m c) (QNT (Host.absf (RW m c))))
      ∧ r.2.mem ((c.tc : Thread nD τ).loc main_v44) = RS m c
      ∧ r.2.mem ((c.tc : Thread nD τ).loc main_v32) = RA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  have h := θ_run_and (Cert.QuantDyReferenceIdeal.Gen.run_main m g) (Cert.QuantDyReferenceIdeal.Gen.unchanged m g)
  refine (θ_run _ _ _).mono (fun r hr c => ⟨?_, ?_, ?_, hr.2 c⟩) h
  · refine ((hr.1 c).2 main_v107 rest107).trans ?_
    have e30 := (Pipeline.withArrays_of_ne spec0 c (V0 m c) (fun w => (dats m 0 c).arrAt w cfg0.N) main_v30 (by exact (by decide : ∀ w, Pipeline.arrRef spec0 w ≠ main_v30))).trans (v30 m c)
    have e35 := (Pipeline.withArrays_of_ne spec0 c (V0 m c) (fun w => (dats m 0 c).arrAt w cfg0.N) main_v35 (by exact (by decide : ∀ w, Pipeline.arrRef spec0 w ≠ main_v35))).trans (v35 m c)
    have e45 := (Pipeline.withArrays_arr (τ := τ) (Val := Elt Ideal) spec0 arr_inj c (V0 m c) (fun w => (dats m 0 c).arrAt w cfg0.N) 1).trans (wide m c)
    unfold Pipeline.afterTail₀
    refine Eq.trans (tail _) ?_
    refine congrArg PCK ?_
    have e : CLP (Pipeline.withArrays spec0 c (V0 m c) (fun w => (dats m 0 c).arrAt w cfg0.N) (Proc.tc.devRef main_v30))
        (DEN (Pipeline.withArrays spec0 c (V0 m c) (fun w => (dats m 0 c).arrAt w cfg0.N) (Proc.tc.devRef main_v45))
          (Pipeline.withArrays spec0 c (V0 m c) (fun w => (dats m 0 c).arrAt w cfg0.N) (Proc.tc.devRef main_v35))) = RW m c :=
      (congr (congrArg CLP e30) (congr (congrArg DEN e45) e35))
    exact congrArg (fun W => NBL W (QNT (Host.absf W))) e
  · refine ((hr.1 c).1 0).trans (((dats m 0 c).arrAt_in 0 rfl _).trans ((A_eq m c 0).trans (v44 m c)))
  · refine ((hr.1 c).2 main_v32 rest32).trans ?_
    unfold Pipeline.afterTail₀
    after_reads_simp
    exact (Pipeline.withArrays_of_ne _ c (V0 m c) _ main_v32 (by exact (by decide : ∀ w, Pipeline.arrRef spec0 w ≠ main_v32))).trans (v32 m c)

/-- The reference's codes at an index. -/
theorem codes_at (c : Dev nD) (p : Fin 4096) (k : Fin 18944) : PCK (NBL (RW m c) (QNT (Host.absf (RW m c)))) (ix2 p k) =
    Rht.byte (Rht.rcode (RW m c (ix3 ⟨p.val / 8, by omega⟩ ⟨p.val % 8 * 2, by omega⟩ k))) (Rht.rcode (RW m c (ix3 ⟨p.val / 8, by omega⟩ ⟨p.val % 8 * 2 + 1, by omega⟩ k))) := by
  rw [pck_at, nbl_at, nbl_at]

/-- A clipped token of the reference. -/
theorem clipped_at (c : Dev nD) (g : Fin 512) (i : Fin 16) (k : Fin 18944) : RW m c (ix3 g i k) =
    Rht.rclip (Rht.rot (fun b s => (show FVec Ideal S4x2048x18944 .bf16 from m ((c.tc : Thread nD τ).loc main_arg0)) (ix3 b s k)) (fun i => (show FVec Ideal S16 .f32 from m ((c.tc : Thread nD τ).loc main_arg1)) (ix1 i))
        (fun b => (show IVec S4 32 from m ((c.tc : Thread nD τ).loc main_arg2)) (ix1 b)) g i)
      (RS m c (ix2 g k) * (show FVec Ideal S8x128 .f32 from m ((c.tc : Thread nD τ).loc main_arg3)) (ix2 0 0)) := by
  refine (clp_at _ _ g i k).trans ?_
  rw [den_at]
  exact congrArg₂ Rht.rclip (rotated_at _ _ _ g i k) rfl

end Cert.QuantDyReferenceIdeal.Value

end
-- ==== Proof.QuantDyClaim.lean ====
/- Quantising dy: the kernel's run against the reference's. -/
module

public import proofs.«01_k».proof.Defs
public import proofs.«01_k».proof.Proof.QuantDyValue
public import proofs.«01_k».proof.Proof.QuantDyRef
public import Idealize.ShloMosaic.Adequacy
public import Idealize.ShloMosaic.Init
public import Idealize.ShloMosaic.Lib.Claim
public import Idealize.ShloMosaic.Lib.Quiescent
public import Idealize.ShloMosaic.Lib.Pointwise
public import Idealize.ShloMosaic.Lib.Bf16Pair
public import Idealize.ShloMosaic.Lib.Bf16PairInverse

@[expose] public section

set_option maxRecDepth 16384

noncomputable section

namespace Cert.QuantDyClaim

open Idealize.ShloMosaic Idealize.ShloMosaic.TcCoe Idealize.SL.Sem

/-- The side conditions of the precondition. -/
theorem pre_facts : Cert.Pre_finite_dy_of_sequences.Facts := by constructor <;> decide

local instance : Cert.Pre_finite_dy_of_sequences.Facts := pre_facts

theorem of_bool {b : Bool} (h : BitVec.ofBool b = 1#1) : b = true := by
  cases b
  · exact absurd h (by decide)
  · rfl

theorem inf_bf16 : Ideal.ofBits .bf16 0x7F80#16 = ⊤ := by simp [Ideal.ofBits, Ideal.ieee]
theorem inf_f32 : Ideal.ofBits .f32 0x7F800000#32 = ⊤ := by simp [Ideal.ofBits, Ideal.ieee]

theorem finite_of {x : EReal} (h : Ideal.cmp .olt (max x (-x)) ⊤ = 1#1) : ∃ r : ℝ, x = (r : EReal) := by
  have h1 : max x (-x) < ⊤ := by simpa using of_bool h
  induction x with
  | bot => simp at h1
  | top => simp at h1
  | coe r => exact ⟨r, rfl⟩

theorem eq_of {x y : EReal} (h : Ideal.cmp .oeq x y = 1#1) : x = y := by simpa using of_bool h

theorem sge_zero {n : BitVec 32} (h : Scalar.cmpi .sge n 0#32 = 1#1) : 0 ≤ n.toInt := by
  have h1 : (0#32).sle n = true := of_bool h
  simpa [BitVec.sle] using h1

theorem corner (X : FVec Ideal Cert.Pre_finite_dy_of_sequences.S4x2048x18944 .bf16) (S : FVec Ideal Cert.Pre_finite_dy_of_sequences.S16 .f32) (L : IVec Cert.Pre_finite_dy_of_sequences.S4 32)
    (G : FVec Ideal Cert.Pre_finite_dy_of_sequences.S8x128 .f32) (a : Fin 8) (b : Fin 128) :
    (Cert.Pre_finite_dy_of_sequences.fn X S L G).2.2.2 (ix2 a b) = Ideal.cmp .oeq (G (ix2 a b)) (G (ix2 0 0)) := by
  pointwise [Cert.Pre_finite_dy_of_sequences.fn]

open Cert.QuantDyIdeal in
/-- What the precondition says. -/
theorem good (m : (ℓ : Loc nD τ sig) → Buf (Elt Ideal) ℓ) (h : Cert.Pre_QuantDyIdeal_finite_dy_of_sequences m) : Cert.QuantDyIdeal.Value.Good m := by
  refine ⟨fun c b s k => finite_of ?_, fun c i => finite_of ?_, fun c b => sge_zero ?_, fun c a b => eq_of ?_⟩
  · refine Eq.trans ?_ (congrFun (h c).1 (ix3 b s k))
    rw [← inf_bf16]
    rfl
  · refine Eq.trans ?_ (congrFun (h c).2.1 (ix1 i))
    rw [← inf_f32]
    rfl
  · exact congrFun (h c).2.2.1 (ix1 b)
  · exact (corner _ _ _ _ a b).symm.trans (congrFun (h c).2.2.2 (ix2 a b))

/-- The kernel's results are the reference's, from the same arguments. -/
theorem algebraic : Cert.algebraic_QuantDyIdeal_QuantDyReferenceIdeal_pre_finite_dy_of_sequences := by
  intro m g m' g' hpre hagree
  refine ⟨_, _, _, Cert.QuantDyIdeal.Value.run m (good m hpre) g, ?_⟩
  refine (θ_run Cert.QuantDyReferenceIdeal.defs _ _).mono (fun r h c => ⟨(h c).1.trans ?_, (h c).2.1.trans ?_, (h c).2.2.1.trans ?_, (h c).2.2.2⟩)
    (Cert.QuantDyReferenceIdeal.Value.run m' g')
  all_goals
    obtain ⟨h0, h1, h2, h3⟩ := hagree c
    refine funext fun j => ?_
  · obtain ⟨a, b, rfl⟩ : ∃ (a : Fin 4096) (b : Fin 18944), j = ix2 a b := ⟨j (0 : Fin 2), j (1 : Fin 2), eq_ix2 j⟩
    have e : ∀ (g : Fin 512) (i : Fin 16), Rht.rcode (Cert.QuantDyReferenceIdeal.Value.RW m' c (ix3 g i b)) = Cert.QuantDyIdeal.Value.CODE m c g b i := fun g i => by
      refine congrArg Rht.rcode ((Cert.QuantDyReferenceIdeal.Value.clipped_at m' c g i b).trans ?_)
      have hs : Cert.QuantDyReferenceIdeal.Value.RS m' c (ix2 g b) = Cert.QuantDyIdeal.Value.SB m c g b := by
        refine (Cert.QuantDyReferenceIdeal.Value.sb_at _ _ _ _ g b).trans ?_
        rw [h0, h1, h2, h3]
      rw [hs, h0, h1, h2, h3]
    exact (Cert.QuantDyReferenceIdeal.Value.codes_at m' c a b).trans (congrArg₂ Rht.byte (e _ _) (e _ _))
  · obtain ⟨a, b, rfl⟩ : ∃ (a : Fin 512) (b : Fin 18944), j = ix2 a b := ⟨j (0 : Fin 2), j (1 : Fin 2), eq_ix2 j⟩
    refine (Cert.QuantDyReferenceIdeal.Value.sb_at _ _ _ _ a b).trans ?_
    rw [h0, h1, h2, h3]
    rfl
  · obtain ⟨a, b, rfl⟩ : ∃ (a : Fin 512) (b : Fin 18944), j = ix2 a b := ⟨j (0 : Fin 2), j (1 : Fin 2), eq_ix2 j⟩
    refine (Cert.QuantDyReferenceIdeal.Value.amax_at _ _ _ a b).trans ?_
    rw [h0, h1, h2]
    rfl

/-- The reference runs, leaves its arguments alone and every semaphore counter at zero. -/
theorem reference_frame : Cert.quiescent_QuantDyReferenceIdeal := fun m ρ _ => Cert.QuantDyReferenceIdeal.Gen.frame m ρ

/-- The same of the claim that states the precondition. -/
theorem reference_frame_pre : Cert.quiescent_QuantDyReferenceIdeal_pre_finite_dy_of_sequences := fun m ρ _ =>
  Cert.QuantDyReferenceIdeal.Gen.frame m ρ

/-- Every reading of packed words that the exact kernel rests on. -/
theorem preserves : Cert.preserves_QuantDy_QuantDyIdeal := by
  refine ⟨IdealRules.bf16_pair.bufferStatement _ _, IdealRules.bf16_pair.statement _ _, IdealRules.bf16_pair.statement _ _,
    IdealRules.bf16_pair.selectZeroStatement _, IdealRules.bf16_pair.statement _ _, IdealRules.bf16_pair.statement _ _, IdealRules.bf16_pair.packStatement _⟩

end Cert.QuantDyClaim

end
-- ==== Proof.lean ====
/- The certificate of the weight-gradient product and of the two global scales and the two quantise calls: the generated frames, and the value
   modules' equations. -/
module

public import proofs.«01_k».proof.Defs
public import proofs.«01_k».proof.Proof.Gen.Matmul
public import proofs.«01_k».proof.Proof.Gen.Matmul.Skeleton
public import proofs.«01_k».proof.Proof.Gen.Matmul.Launch
public import proofs.«01_k».proof.Proof.Gen.Matmul.Points
public import proofs.«01_k».proof.Proof.Gen.Matmul.Frame
public import proofs.«01_k».proof.Proof.Gen.MatmulIdeal
public import proofs.«01_k».proof.Proof.Gen.MatmulIdeal.Skeleton
public import proofs.«01_k».proof.Proof.Gen.MatmulIdeal.Launch
public import proofs.«01_k».proof.Proof.Gen.MatmulIdeal.Points
public import proofs.«01_k».proof.Proof.Gen.MatmulIdeal.Frame
public import proofs.«01_k».proof.Proof.Gen.MatmulReferenceIdeal
public import proofs.«01_k».proof.Proof.Gen.MatmulReferenceIdeal.Run
public import proofs.«01_k».proof.Proof.Gen.AmaxX.Frame
public import proofs.«01_k».proof.Proof.Gen.AmaxXIdeal.Frame
public import proofs.«01_k».proof.Proof.Gen.AmaxXReferenceIdeal
public import proofs.«01_k».proof.Proof.Gen.AmaxDyReferenceIdeal
public import proofs.«01_k».proof.Proof.Gen.AmaxDy.Frame
public import proofs.«01_k».proof.Proof.Gen.AmaxDyIdeal.Frame
public import proofs.«01_k».proof.Proof.MatmulValue
public import proofs.«01_k».proof.Proof.AmaxXClaim
public import proofs.«01_k».proof.Proof.AmaxDyClaim
public import proofs.«01_k».proof.Proof.Gen.QuantX.Frame
public import proofs.«01_k».proof.Proof.Gen.QuantXIdeal.Frame
public import proofs.«01_k».proof.Proof.Gen.QuantXReferenceIdeal.Frame
public import proofs.«01_k».proof.Proof.Gen.QuantDyReferenceIdeal.Frame
public import proofs.«01_k».proof.Proof.Gen.QuantDy.Frame
public import proofs.«01_k».proof.Proof.Gen.QuantDyIdeal.Frame
public import proofs.«01_k».proof.Proof.QuantXClaim
public import proofs.«01_k».proof.Proof.QuantDyClaim
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.SL.Sem Cert.Matmul

/-- The matmul kernel's result array is the reference's product of the same arguments. -/
theorem algebraic : Cert.algebraic_MatmulIdeal_MatmulReferenceIdeal := by
  pair_intro
  · run_from Cert.MatmulIdeal.Gen.run_main m g
  · run_from Cert.MatmulReferenceIdeal.Value.run m' g'
    exact (Cert.MatmulIdeal.Value.final m c).symm

/-- The reference runs, leaves its arguments alone and every semaphore counter at zero (it declares none). -/
theorem reference_frame : Cert.quiescent_MatmulReferenceIdeal := fun m ρ _ =>
  (θ_run Cert.MatmulReferenceIdeal.defs _ _).mono (fun r h => ⟨fun c => (h c).2,
      Idealize.ShloMosaic.sem_eq_zero_of_no_sems (by decide) r.2⟩)
    (Cert.MatmulReferenceIdeal.Value.run (F := Ideal) m ρ)

theorem claim : Cert.Claim := ⟨Cert.Matmul.Gen.facts, Cert.MatmulIdeal.Gen.facts, Cert.MatmulReferenceIdeal.Gen.facts,
  Cert.AmaxX.Gen.facts, Cert.AmaxXIdeal.Gen.facts, Cert.AmaxXReferenceIdeal.Gen.facts,
  Cert.AmaxDy.Gen.facts, Cert.AmaxDyIdeal.Gen.facts, Cert.AmaxDyReferenceIdeal.Gen.facts,
  Cert.QuantX.Gen.facts, Cert.QuantXIdeal.Gen.facts, Cert.QuantXReferenceIdeal.Gen.facts,
  Cert.QuantDy.Gen.facts, Cert.QuantDyIdeal.Gen.facts, Cert.QuantDyReferenceIdeal.Gen.facts,
  Cert.AmaxXClaim.pre_facts, Cert.AmaxDyClaim.pre_facts, Cert.QuantXClaim.pre_facts, Cert.QuantDyClaim.pre_facts,
  fun m ρ _ => Cert.Matmul.Gen.frame m ρ, fun m ρ _ => Cert.MatmulIdeal.Gen.frame m ρ, reference_frame,
  fun m ρ _ => Cert.AmaxX.Gen.frame m ρ trivial, fun m ρ _ => Cert.AmaxXIdeal.Gen.frame m ρ trivial,
  fun m ρ _ => Cert.AmaxXIdeal.Gen.frame m ρ trivial, Cert.AmaxXClaim.reference_frame, Cert.AmaxXClaim.reference_frame_pre,
  fun m ρ _ => Cert.AmaxDy.Gen.frame m ρ trivial, fun m ρ _ => Cert.AmaxDyIdeal.Gen.frame m ρ trivial,
  fun m ρ _ => Cert.AmaxDyIdeal.Gen.frame m ρ trivial, Cert.AmaxDyClaim.reference_frame, Cert.AmaxDyClaim.reference_frame_pre,
  fun m ρ _ => Cert.QuantX.Gen.frame m ρ trivial, fun m ρ _ => Cert.QuantXIdeal.Gen.frame m ρ trivial,
  fun m ρ _ => Cert.QuantXIdeal.Gen.frame m ρ trivial, Cert.QuantXClaim.reference_frame, Cert.QuantXClaim.reference_frame_pre,
  fun m ρ _ => Cert.QuantDy.Gen.frame m ρ trivial, fun m ρ _ => Cert.QuantDyIdeal.Gen.frame m ρ trivial,
  fun m ρ _ => Cert.QuantDyIdeal.Gen.frame m ρ trivial, Cert.QuantDyClaim.reference_frame, Cert.QuantDyClaim.reference_frame_pre,
  trivial, algebraic, trivial, Cert.AmaxXClaim.algebraic, trivial, Cert.AmaxDyClaim.algebraic,
  Cert.QuantXClaim.preserves, Cert.QuantXClaim.algebraic, Cert.QuantDyClaim.preserves, Cert.QuantDyClaim.algebraic⟩

end Cert.Proof

end
